-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnReferenceIdeal (m : (ℓ : Loc Cert.GdnReferenceIdeal.nD Cert.GdnReferenceIdeal.τ Cert.GdnReferenceIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaReferenceIdeal (m : (ℓ : Loc Cert.GlaReferenceIdeal.nD Cert.GlaReferenceIdeal.τ Cert.GlaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6)
      ∧ r.2.mem ((c.tc : Thread Cert.Gdn.nD Cert.Gdn.τ).loc Cert.Gdn.main_arg7) = m ((c.tc : Thread Cert.Gdn.nD Cert.Gdn.τ).loc Cert.Gdn.main_arg7)
      ∧ r.2.mem ((c.tc : Thread Cert.Gdn.nD Cert.Gdn.τ).loc Cert.Gdn.main_arg8) = m ((c.tc : Thread Cert.Gdn.nD Cert.Gdn.τ).loc Cert.Gdn.main_arg8)
      ∧ r.2.mem ((c.tc : Thread Cert.Gdn.nD Cert.Gdn.τ).loc Cert.Gdn.main_arg9) = m ((c.tc : Thread Cert.Gdn.nD Cert.Gdn.τ).loc Cert.Gdn.main_arg9)
      ∧ r.2.mem ((c.tc : Thread Cert.Gdn.nD Cert.Gdn.τ).loc Cert.Gdn.main_arg10) = m ((c.tc : Thread Cert.Gdn.nD Cert.Gdn.τ).loc Cert.Gdn.main_arg10)
      ∧ r.2.mem ((c.tc : Thread Cert.Gdn.nD Cert.Gdn.τ).loc Cert.Gdn.main_arg11) = m ((c.tc : Thread Cert.Gdn.nD Cert.Gdn.τ).loc Cert.Gdn.main_arg11)
      ∧ r.2.mem ((c.tc : Thread Cert.Gdn.nD Cert.Gdn.τ).loc Cert.Gdn.main_arg12) = m ((c.tc : Thread Cert.Gdn.nD Cert.Gdn.τ).loc Cert.Gdn.main_arg12))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
      ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8)
      ∧ r.2.mem ((c.tc : Thread Cert.GdnIdeal.nD Cert.GdnIdeal.τ).loc Cert.GdnIdeal.main_arg9) = m ((c.tc : Thread Cert.GdnIdeal.nD Cert.GdnIdeal.τ).loc Cert.GdnIdeal.main_arg9)
      ∧ r.2.mem ((c.tc : Thread Cert.GdnIdeal.nD Cert.GdnIdeal.τ).loc Cert.GdnIdeal.main_arg10) = m ((c.tc : Thread Cert.GdnIdeal.nD Cert.GdnIdeal.τ).loc Cert.GdnIdeal.main_arg10)
      ∧ r.2.mem ((c.tc : Thread Cert.GdnIdeal.nD Cert.GdnIdeal.τ).loc Cert.GdnIdeal.main_arg11) = m ((c.tc : Thread Cert.GdnIdeal.nD Cert.GdnIdeal.τ).loc Cert.GdnIdeal.main_arg11)
      ∧ r.2.mem ((c.tc : Thread Cert.GdnIdeal.nD Cert.GdnIdeal.τ).loc Cert.GdnIdeal.main_arg12) = m ((c.tc : Thread Cert.GdnIdeal.nD Cert.GdnIdeal.τ).loc Cert.GdnIdeal.main_arg12))
      ∧ r.2.sem = fun _ => 0)

def quiescent_GdnReferenceIdeal [hGdnReferenceIdeal : Cert.GdnReferenceIdeal.Facts] : Prop :=
  ∀ (m : (ℓ : Loc Cert.GdnReferenceIdeal.nD Cert.GdnReferenceIdeal.τ Cert.GdnReferenceIdeal.sig) → Buf (Elt Ideal) ℓ) (g : Dev Cert.GdnReferenceIdeal.nD → PrngReg), Pre_GdnReferenceIdeal m →
    θ_run (Cert.GdnReferenceIdeal.defs (F := Ideal)) (onTc (τ := Cert.GdnReferenceIdeal.τ) (Cert.GdnReferenceIdeal.main (F := Ideal))) ⟨m, fun _ => 0, g⟩ (fun r => (∀ c : Dev Cert.GdnReferenceIdeal.nD,
      r.2.mem ((c.tc : Thread Cert.GdnReferenceIdeal.nD Cert.GdnReferenceIdeal.τ).loc Cert.GdnReferenceIdeal.main_arg0) = m ((c.tc : Thread Cert.GdnReferenceIdeal.nD Cert.GdnReferenceIdeal.τ).loc Cert.GdnReferenceIdeal.main_arg0)
      ∧ r.2.mem ((c.tc : Thread Cert.GdnReferenceIdeal.nD Cert.GdnReferenceIdeal.τ).loc Cert.GdnReferenceIdeal.main_arg1) = m ((c.tc : Thread Cert.GdnReferenceIdeal.nD Cert.GdnReferenceIdeal.τ).loc Cert.GdnReferenceIdeal.main_arg1)
      ∧ r.2.mem ((c.tc : Thread Cert.GdnReferenceIdeal.nD Cert.GdnReferenceIdeal.τ).loc Cert.GdnReferenceIdeal.main_arg2) = m ((c.tc : Thread Cert.GdnReferenceIdeal.nD Cert.GdnReferenceIdeal.τ).loc Cert.GdnReferenceIdeal.main_arg2)
      ∧ r.2.mem ((c.tc : Thread Cert.GdnReferenceIdeal.nD Cert.GdnReferenceIdeal.τ).loc Cert.GdnReferenceIdeal.main_arg3) = m ((c.tc : Thread Cert.GdnReferenceIdeal.nD Cert.GdnReferenceIdeal.τ).loc Cert.GdnReferenceIdeal.main_arg3)
      ∧ r.2.mem ((c.tc : Thread Cert.GdnReferenceIdeal.nD Cert.GdnReferenceIdeal.τ).loc Cert.GdnReferenceIdeal.main_arg4) = m ((c.tc : Thread Cert.GdnReferenceIdeal.nD Cert.GdnReferenceIdeal.τ).loc Cert.GdnReferenceIdeal.main_arg4)
      ∧ r.2.mem ((c.tc : Thread Cert.GdnReferenceIdeal.nD Cert.GdnReferenceIdeal.τ).loc Cert.GdnReferenceIdeal.main_arg5) = m ((c.tc : Thread Cert.GdnReferenceIdeal.nD Cert.GdnReferenceIdeal.τ).loc Cert.GdnReferenceIdeal.main_arg5)
      ∧ r.2.mem ((c.tc : Thread Cert.GdnReferenceIdeal.nD Cert.GdnReferenceIdeal.τ).loc Cert.GdnReferenceIdeal.main_arg6) = m ((c.tc : Thread Cert.GdnReferenceIdeal.nD Cert.GdnReferenceIdeal.τ).loc Cert.GdnReferenceIdeal.main_arg6)
      ∧ r.2.mem ((c.tc : Thread Cert.GdnReferenceIdeal.nD Cert.GdnReferenceIdeal.τ).loc Cert.GdnReferenceIdeal.main_arg7) = m ((c.tc : Thread Cert.GdnReferenceIdeal.nD Cert.GdnReferenceIdeal.τ).loc Cert.GdnReferenceIdeal.main_arg7)
      ∧ r.2.mem ((c.tc : Thread Cert.GdnReferenceIdeal.nD Cert.GdnReferenceIdeal.τ).loc Cert.GdnReferenceIdeal.main_arg8) = m ((c.tc : Thread Cert.GdnReferenceIdeal.nD Cert.GdnReferenceIdeal.τ).loc Cert.GdnReferenceIdeal.main_arg8)
      ∧ r.2.mem ((c.tc : Thread Cert.GdnReferenceIdeal.nD Cert.GdnReferenceIdeal.τ).loc Cert.GdnReferenceIdeal.main_arg9) = m ((c.tc : Thread Cert.GdnReferenceIdeal.nD Cert.GdnReferenceIdeal.τ).loc Cert.GdnReferenceIdeal.main_arg9)
      ∧ r.2.mem ((c.tc : Thread Cert.GdnReferenceIdeal.nD Cert.GdnReferenceIdeal.τ).loc Cert.GdnReferenceIdeal.main_arg10) = m ((c.tc : Thread Cert.GdnReferenceIdeal.nD Cert.GdnReferenceIdeal.τ).loc Cert.GdnReferenceIdeal.main_arg10)
      ∧ r.2.mem ((c.tc : Thread Cert.GdnReferenceIdeal.nD Cert.GdnReferenceIdeal.τ).loc Cert.GdnReferenceIdeal.main_arg11) = m ((c.tc : Thread Cert.GdnReferenceIdeal.nD Cert.GdnReferenceIdeal.τ).loc Cert.GdnReferenceIdeal.main_arg11)
      ∧ r.2.mem ((c.tc : Thread Cert.GdnReferenceIdeal.nD Cert.GdnReferenceIdeal.τ).loc Cert.GdnReferenceIdeal.main_arg12) = m ((c.tc : Thread Cert.GdnReferenceIdeal.nD Cert.GdnReferenceIdeal.τ).loc Cert.GdnReferenceIdeal.main_arg12))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7)
      ∧ r.2.mem ((c.tc : Thread Cert.Gla.nD Cert.Gla.τ).loc Cert.Gla.main_arg8) = m ((c.tc : Thread Cert.Gla.nD Cert.Gla.τ).loc Cert.Gla.main_arg8)
      ∧ r.2.mem ((c.tc : Thread Cert.Gla.nD Cert.Gla.τ).loc Cert.Gla.main_arg9) = m ((c.tc : Thread Cert.Gla.nD Cert.Gla.τ).loc Cert.Gla.main_arg9)
      ∧ r.2.mem ((c.tc : Thread Cert.Gla.nD Cert.Gla.τ).loc Cert.Gla.main_arg10) = m ((c.tc : Thread Cert.Gla.nD Cert.Gla.τ).loc Cert.Gla.main_arg10)
      ∧ r.2.mem ((c.tc : Thread Cert.Gla.nD Cert.Gla.τ).loc Cert.Gla.main_arg11) = m ((c.tc : Thread Cert.Gla.nD Cert.Gla.τ).loc Cert.Gla.main_arg11)
      ∧ r.2.mem ((c.tc : Thread Cert.Gla.nD Cert.Gla.τ).loc Cert.Gla.main_arg12) = m ((c.tc : Thread Cert.Gla.nD Cert.Gla.τ).loc Cert.Gla.main_arg12))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
      ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
      ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9)
      ∧ r.2.mem ((c.tc : Thread Cert.GlaIdeal.nD Cert.GlaIdeal.τ).loc Cert.GlaIdeal.main_arg10) = m ((c.tc : Thread Cert.GlaIdeal.nD Cert.GlaIdeal.τ).loc Cert.GlaIdeal.main_arg10)
      ∧ r.2.mem ((c.tc : Thread Cert.GlaIdeal.nD Cert.GlaIdeal.τ).loc Cert.GlaIdeal.main_arg11) = m ((c.tc : Thread Cert.GlaIdeal.nD Cert.GlaIdeal.τ).loc Cert.GlaIdeal.main_arg11)
      ∧ r.2.mem ((c.tc : Thread Cert.GlaIdeal.nD Cert.GlaIdeal.τ).loc Cert.GlaIdeal.main_arg12) = m ((c.tc : Thread Cert.GlaIdeal.nD Cert.GlaIdeal.τ).loc Cert.GlaIdeal.main_arg12))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6)
      ∧ r.2.mem ((c.tc : Thread Cert.GlaReferenceIdeal.nD Cert.GlaReferenceIdeal.τ).loc Cert.GlaReferenceIdeal.main_arg7) = m ((c.tc : Thread Cert.GlaReferenceIdeal.nD Cert.GlaReferenceIdeal.τ).loc Cert.GlaReferenceIdeal.main_arg7)
      ∧ r.2.mem ((c.tc : Thread Cert.GlaReferenceIdeal.nD Cert.GlaReferenceIdeal.τ).loc Cert.GlaReferenceIdeal.main_arg8) = m ((c.tc : Thread Cert.GlaReferenceIdeal.nD Cert.GlaReferenceIdeal.τ).loc Cert.GlaReferenceIdeal.main_arg8)
      ∧ r.2.mem ((c.tc : Thread Cert.GlaReferenceIdeal.nD Cert.GlaReferenceIdeal.τ).loc Cert.GlaReferenceIdeal.main_arg9) = m ((c.tc : Thread Cert.GlaReferenceIdeal.nD Cert.GlaReferenceIdeal.τ).loc Cert.GlaReferenceIdeal.main_arg9)
      ∧ r.2.mem ((c.tc : Thread Cert.GlaReferenceIdeal.nD Cert.GlaReferenceIdeal.τ).loc Cert.GlaReferenceIdeal.main_arg10) = m ((c.tc : Thread Cert.GlaReferenceIdeal.nD Cert.GlaReferenceIdeal.τ).loc Cert.GlaReferenceIdeal.main_arg10)
      ∧ r.2.mem ((c.tc : Thread Cert.GlaReferenceIdeal.nD Cert.GlaReferenceIdeal.τ).loc Cert.GlaReferenceIdeal.main_arg11) = m ((c.tc : Thread Cert.GlaReferenceIdeal.nD Cert.GlaReferenceIdeal.τ).loc Cert.GlaReferenceIdeal.main_arg11)
      ∧ r.2.mem ((c.tc : Thread Cert.GlaReferenceIdeal.nD Cert.GlaReferenceIdeal.τ).loc Cert.GlaReferenceIdeal.main_arg12) = m ((c.tc : Thread Cert.GlaReferenceIdeal.nD Cert.GlaReferenceIdeal.τ).loc Cert.GlaReferenceIdeal.main_arg12))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v17)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v17) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v112) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_Gdn_GdnIdeal : Prop :=
  True

def algebraic_GdnIdeal_GdnReferenceIdeal [hGdnIdeal : Cert.GdnIdeal.Facts] [hGdnReferenceIdeal : Cert.GdnReferenceIdeal.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnReferenceIdeal.nD Cert.GdnReferenceIdeal.τ Cert.GdnReferenceIdeal.sig) → Buf (Elt Ideal) ℓ) (g' : Dev Cert.GdnReferenceIdeal.nD → PrngReg), Pre_GdnIdeal m →
    (∀ c : Dev Cert.GdnIdeal.nD,
      m' ((c.tc : Thread Cert.GdnReferenceIdeal.nD Cert.GdnReferenceIdeal.τ).loc Cert.GdnReferenceIdeal.main_arg0) = m ((c.tc : Thread Cert.GdnIdeal.nD Cert.GdnIdeal.τ).loc Cert.GdnIdeal.main_arg0)
      ∧ m' ((c.tc : Thread Cert.GdnReferenceIdeal.nD Cert.GdnReferenceIdeal.τ).loc Cert.GdnReferenceIdeal.main_arg1) = m ((c.tc : Thread Cert.GdnIdeal.nD Cert.GdnIdeal.τ).loc Cert.GdnIdeal.main_arg1)
      ∧ m' ((c.tc : Thread Cert.GdnReferenceIdeal.nD Cert.GdnReferenceIdeal.τ).loc Cert.GdnReferenceIdeal.main_arg2) = m ((c.tc : Thread Cert.GdnIdeal.nD Cert.GdnIdeal.τ).loc Cert.GdnIdeal.main_arg2)
      ∧ m' ((c.tc : Thread Cert.GdnReferenceIdeal.nD Cert.GdnReferenceIdeal.τ).loc Cert.GdnReferenceIdeal.main_arg3) = m ((c.tc : Thread Cert.GdnIdeal.nD Cert.GdnIdeal.τ).loc Cert.GdnIdeal.main_arg3)
      ∧ m' ((c.tc : Thread Cert.GdnReferenceIdeal.nD Cert.GdnReferenceIdeal.τ).loc Cert.GdnReferenceIdeal.main_arg4) = m ((c.tc : Thread Cert.GdnIdeal.nD Cert.GdnIdeal.τ).loc Cert.GdnIdeal.main_arg4)
      ∧ m' ((c.tc : Thread Cert.GdnReferenceIdeal.nD Cert.GdnReferenceIdeal.τ).loc Cert.GdnReferenceIdeal.main_arg5) = m ((c.tc : Thread Cert.GdnIdeal.nD Cert.GdnIdeal.τ).loc Cert.GdnIdeal.main_arg5)
      ∧ m' ((c.tc : Thread Cert.GdnReferenceIdeal.nD Cert.GdnReferenceIdeal.τ).loc Cert.GdnReferenceIdeal.main_arg6) = m ((c.tc : Thread Cert.GdnIdeal.nD Cert.GdnIdeal.τ).loc Cert.GdnIdeal.main_arg6)
      ∧ m' ((c.tc : Thread Cert.GdnReferenceIdeal.nD Cert.GdnReferenceIdeal.τ).loc Cert.GdnReferenceIdeal.main_arg7) = m ((c.tc : Thread Cert.GdnIdeal.nD Cert.GdnIdeal.τ).loc Cert.GdnIdeal.main_arg7)
      ∧ m' ((c.tc : Thread Cert.GdnReferenceIdeal.nD Cert.GdnReferenceIdeal.τ).loc Cert.GdnReferenceIdeal.main_arg8) = m ((c.tc : Thread Cert.GdnIdeal.nD Cert.GdnIdeal.τ).loc Cert.GdnIdeal.main_arg8)
      ∧ m' ((c.tc : Thread Cert.GdnReferenceIdeal.nD Cert.GdnReferenceIdeal.τ).loc Cert.GdnReferenceIdeal.main_arg9) = m ((c.tc : Thread Cert.GdnIdeal.nD Cert.GdnIdeal.τ).loc Cert.GdnIdeal.main_arg9)
      ∧ m' ((c.tc : Thread Cert.GdnReferenceIdeal.nD Cert.GdnReferenceIdeal.τ).loc Cert.GdnReferenceIdeal.main_arg10) = m ((c.tc : Thread Cert.GdnIdeal.nD Cert.GdnIdeal.τ).loc Cert.GdnIdeal.main_arg10)
      ∧ m' ((c.tc : Thread Cert.GdnReferenceIdeal.nD Cert.GdnReferenceIdeal.τ).loc Cert.GdnReferenceIdeal.main_arg11) = m ((c.tc : Thread Cert.GdnIdeal.nD Cert.GdnIdeal.τ).loc Cert.GdnIdeal.main_arg11)
      ∧ m' ((c.tc : Thread Cert.GdnReferenceIdeal.nD Cert.GdnReferenceIdeal.τ).loc Cert.GdnReferenceIdeal.main_arg12) = m ((c.tc : Thread Cert.GdnIdeal.nD Cert.GdnIdeal.τ).loc Cert.GdnIdeal.main_arg12)) →
    ∃ (v0 : (c : Dev Cert.GdnIdeal.nD) → Buf (Elt Ideal) ((c.tc : Thread Cert.GdnIdeal.nD Cert.GdnIdeal.τ).loc Cert.GdnIdeal.main_v18)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v18) = v0 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
          ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
          ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
          ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
          ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8)
          ∧ r.2.mem ((c.tc : Thread Cert.GdnIdeal.nD Cert.GdnIdeal.τ).loc Cert.GdnIdeal.main_arg9) = m ((c.tc : Thread Cert.GdnIdeal.nD Cert.GdnIdeal.τ).loc Cert.GdnIdeal.main_arg9)
          ∧ r.2.mem ((c.tc : Thread Cert.GdnIdeal.nD Cert.GdnIdeal.τ).loc Cert.GdnIdeal.main_arg10) = m ((c.tc : Thread Cert.GdnIdeal.nD Cert.GdnIdeal.τ).loc Cert.GdnIdeal.main_arg10)
          ∧ r.2.mem ((c.tc : Thread Cert.GdnIdeal.nD Cert.GdnIdeal.τ).loc Cert.GdnIdeal.main_arg11) = m ((c.tc : Thread Cert.GdnIdeal.nD Cert.GdnIdeal.τ).loc Cert.GdnIdeal.main_arg11)
          ∧ r.2.mem ((c.tc : Thread Cert.GdnIdeal.nD Cert.GdnIdeal.τ).loc Cert.GdnIdeal.main_arg12) = m ((c.tc : Thread Cert.GdnIdeal.nD Cert.GdnIdeal.τ).loc Cert.GdnIdeal.main_arg12))
      ∧ θ_run (Cert.GdnReferenceIdeal.defs (F := Ideal)) (onTc (τ := Cert.GdnReferenceIdeal.τ) (Cert.GdnReferenceIdeal.main (F := Ideal))) ⟨m', fun _ => 0, g'⟩ (fun r => ∀ c : Dev Cert.GdnReferenceIdeal.nD,
          r.2.mem ((c.tc : Thread Cert.GdnReferenceIdeal.nD Cert.GdnReferenceIdeal.τ).loc Cert.GdnReferenceIdeal.main_v133) = v0 c
          ∧ r.2.mem ((c.tc : Thread Cert.GdnReferenceIdeal.nD Cert.GdnReferenceIdeal.τ).loc Cert.GdnReferenceIdeal.main_arg0) = m' ((c.tc : Thread Cert.GdnReferenceIdeal.nD Cert.GdnReferenceIdeal.τ).loc Cert.GdnReferenceIdeal.main_arg0)
          ∧ r.2.mem ((c.tc : Thread Cert.GdnReferenceIdeal.nD Cert.GdnReferenceIdeal.τ).loc Cert.GdnReferenceIdeal.main_arg1) = m' ((c.tc : Thread Cert.GdnReferenceIdeal.nD Cert.GdnReferenceIdeal.τ).loc Cert.GdnReferenceIdeal.main_arg1)
          ∧ r.2.mem ((c.tc : Thread Cert.GdnReferenceIdeal.nD Cert.GdnReferenceIdeal.τ).loc Cert.GdnReferenceIdeal.main_arg2) = m' ((c.tc : Thread Cert.GdnReferenceIdeal.nD Cert.GdnReferenceIdeal.τ).loc Cert.GdnReferenceIdeal.main_arg2)
          ∧ r.2.mem ((c.tc : Thread Cert.GdnReferenceIdeal.nD Cert.GdnReferenceIdeal.τ).loc Cert.GdnReferenceIdeal.main_arg3) = m' ((c.tc : Thread Cert.GdnReferenceIdeal.nD Cert.GdnReferenceIdeal.τ).loc Cert.GdnReferenceIdeal.main_arg3)
          ∧ r.2.mem ((c.tc : Thread Cert.GdnReferenceIdeal.nD Cert.GdnReferenceIdeal.τ).loc Cert.GdnReferenceIdeal.main_arg4) = m' ((c.tc : Thread Cert.GdnReferenceIdeal.nD Cert.GdnReferenceIdeal.τ).loc Cert.GdnReferenceIdeal.main_arg4)
          ∧ r.2.mem ((c.tc : Thread Cert.GdnReferenceIdeal.nD Cert.GdnReferenceIdeal.τ).loc Cert.GdnReferenceIdeal.main_arg5) = m' ((c.tc : Thread Cert.GdnReferenceIdeal.nD Cert.GdnReferenceIdeal.τ).loc Cert.GdnReferenceIdeal.main_arg5)
          ∧ r.2.mem ((c.tc : Thread Cert.GdnReferenceIdeal.nD Cert.GdnReferenceIdeal.τ).loc Cert.GdnReferenceIdeal.main_arg6) = m' ((c.tc : Thread Cert.GdnReferenceIdeal.nD Cert.GdnReferenceIdeal.τ).loc Cert.GdnReferenceIdeal.main_arg6)
          ∧ r.2.mem ((c.tc : Thread Cert.GdnReferenceIdeal.nD Cert.GdnReferenceIdeal.τ).loc Cert.GdnReferenceIdeal.main_arg7) = m' ((c.tc : Thread Cert.GdnReferenceIdeal.nD Cert.GdnReferenceIdeal.τ).loc Cert.GdnReferenceIdeal.main_arg7)
          ∧ r.2.mem ((c.tc : Thread Cert.GdnReferenceIdeal.nD Cert.GdnReferenceIdeal.τ).loc Cert.GdnReferenceIdeal.main_arg8) = m' ((c.tc : Thread Cert.GdnReferenceIdeal.nD Cert.GdnReferenceIdeal.τ).loc Cert.GdnReferenceIdeal.main_arg8)
          ∧ r.2.mem ((c.tc : Thread Cert.GdnReferenceIdeal.nD Cert.GdnReferenceIdeal.τ).loc Cert.GdnReferenceIdeal.main_arg9) = m' ((c.tc : Thread Cert.GdnReferenceIdeal.nD Cert.GdnReferenceIdeal.τ).loc Cert.GdnReferenceIdeal.main_arg9)
          ∧ r.2.mem ((c.tc : Thread Cert.GdnReferenceIdeal.nD Cert.GdnReferenceIdeal.τ).loc Cert.GdnReferenceIdeal.main_arg10) = m' ((c.tc : Thread Cert.GdnReferenceIdeal.nD Cert.GdnReferenceIdeal.τ).loc Cert.GdnReferenceIdeal.main_arg10)
          ∧ r.2.mem ((c.tc : Thread Cert.GdnReferenceIdeal.nD Cert.GdnReferenceIdeal.τ).loc Cert.GdnReferenceIdeal.main_arg11) = m' ((c.tc : Thread Cert.GdnReferenceIdeal.nD Cert.GdnReferenceIdeal.τ).loc Cert.GdnReferenceIdeal.main_arg11)
          ∧ r.2.mem ((c.tc : Thread Cert.GdnReferenceIdeal.nD Cert.GdnReferenceIdeal.τ).loc Cert.GdnReferenceIdeal.main_arg12) = m' ((c.tc : Thread Cert.GdnReferenceIdeal.nD Cert.GdnReferenceIdeal.τ).loc Cert.GdnReferenceIdeal.main_arg12))

def preserves_Gla_GlaIdeal : Prop :=
  True

def algebraic_GlaIdeal_GlaReferenceIdeal [hGlaIdeal : Cert.GlaIdeal.Facts] [hGlaReferenceIdeal : Cert.GlaReferenceIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)
      ∧ m' ((c.tc : Thread Cert.GlaReferenceIdeal.nD Cert.GlaReferenceIdeal.τ).loc Cert.GlaReferenceIdeal.main_arg4) = m ((c.tc : Thread Cert.GlaIdeal.nD Cert.GlaIdeal.τ).loc Cert.GlaIdeal.main_arg4)
      ∧ m' ((c.tc : Thread Cert.GlaReferenceIdeal.nD Cert.GlaReferenceIdeal.τ).loc Cert.GlaReferenceIdeal.main_arg5) = m ((c.tc : Thread Cert.GlaIdeal.nD Cert.GlaIdeal.τ).loc Cert.GlaIdeal.main_arg5)
      ∧ m' ((c.tc : Thread Cert.GlaReferenceIdeal.nD Cert.GlaReferenceIdeal.τ).loc Cert.GlaReferenceIdeal.main_arg6) = m ((c.tc : Thread Cert.GlaIdeal.nD Cert.GlaIdeal.τ).loc Cert.GlaIdeal.main_arg6)
      ∧ m' ((c.tc : Thread Cert.GlaReferenceIdeal.nD Cert.GlaReferenceIdeal.τ).loc Cert.GlaReferenceIdeal.main_arg7) = m ((c.tc : Thread Cert.GlaIdeal.nD Cert.GlaIdeal.τ).loc Cert.GlaIdeal.main_arg7)
      ∧ m' ((c.tc : Thread Cert.GlaReferenceIdeal.nD Cert.GlaReferenceIdeal.τ).loc Cert.GlaReferenceIdeal.main_arg8) = m ((c.tc : Thread Cert.GlaIdeal.nD Cert.GlaIdeal.τ).loc Cert.GlaIdeal.main_arg8)
      ∧ m' ((c.tc : Thread Cert.GlaReferenceIdeal.nD Cert.GlaReferenceIdeal.τ).loc Cert.GlaReferenceIdeal.main_arg9) = m ((c.tc : Thread Cert.GlaIdeal.nD Cert.GlaIdeal.τ).loc Cert.GlaIdeal.main_arg9)
      ∧ m' ((c.tc : Thread Cert.GlaReferenceIdeal.nD Cert.GlaReferenceIdeal.τ).loc Cert.GlaReferenceIdeal.main_arg10) = m ((c.tc : Thread Cert.GlaIdeal.nD Cert.GlaIdeal.τ).loc Cert.GlaIdeal.main_arg10)
      ∧ m' ((c.tc : Thread Cert.GlaReferenceIdeal.nD Cert.GlaReferenceIdeal.τ).loc Cert.GlaReferenceIdeal.main_arg11) = m ((c.tc : Thread Cert.GlaIdeal.nD Cert.GlaIdeal.τ).loc Cert.GlaIdeal.main_arg11)
      ∧ m' ((c.tc : Thread Cert.GlaReferenceIdeal.nD Cert.GlaReferenceIdeal.τ).loc Cert.GlaReferenceIdeal.main_arg12) = m ((c.tc : Thread Cert.GlaIdeal.nD Cert.GlaIdeal.τ).loc Cert.GlaIdeal.main_arg12)) →
    ∃ (v0 : (c : Dev Cert.GlaIdeal.nD) → Buf (Elt Ideal) ((c.tc : Thread Cert.GlaIdeal.nD Cert.GlaIdeal.τ).loc Cert.GlaIdeal.main_v18)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v18) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7)
          ∧ r.2.mem ((c.tc : Thread Cert.GlaIdeal.nD Cert.GlaIdeal.τ).loc Cert.GlaIdeal.main_arg8) = m ((c.tc : Thread Cert.GlaIdeal.nD Cert.GlaIdeal.τ).loc Cert.GlaIdeal.main_arg8)
          ∧ r.2.mem ((c.tc : Thread Cert.GlaIdeal.nD Cert.GlaIdeal.τ).loc Cert.GlaIdeal.main_arg9) = m ((c.tc : Thread Cert.GlaIdeal.nD Cert.GlaIdeal.τ).loc Cert.GlaIdeal.main_arg9)
          ∧ r.2.mem ((c.tc : Thread Cert.GlaIdeal.nD Cert.GlaIdeal.τ).loc Cert.GlaIdeal.main_arg10) = m ((c.tc : Thread Cert.GlaIdeal.nD Cert.GlaIdeal.τ).loc Cert.GlaIdeal.main_arg10)
          ∧ r.2.mem ((c.tc : Thread Cert.GlaIdeal.nD Cert.GlaIdeal.τ).loc Cert.GlaIdeal.main_arg11) = m ((c.tc : Thread Cert.GlaIdeal.nD Cert.GlaIdeal.τ).loc Cert.GlaIdeal.main_arg11)
          ∧ r.2.mem ((c.tc : Thread Cert.GlaIdeal.nD Cert.GlaIdeal.τ).loc Cert.GlaIdeal.main_arg12) = m ((c.tc : Thread Cert.GlaIdeal.nD Cert.GlaIdeal.τ).loc Cert.GlaIdeal.main_arg12))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v133) = v0 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4)
          ∧ r.2.mem ((c.tc : Thread Cert.GlaReferenceIdeal.nD Cert.GlaReferenceIdeal.τ).loc Cert.GlaReferenceIdeal.main_arg5) = m' ((c.tc : Thread Cert.GlaReferenceIdeal.nD Cert.GlaReferenceIdeal.τ).loc Cert.GlaReferenceIdeal.main_arg5)
          ∧ r.2.mem ((c.tc : Thread Cert.GlaReferenceIdeal.nD Cert.GlaReferenceIdeal.τ).loc Cert.GlaReferenceIdeal.main_arg6) = m' ((c.tc : Thread Cert.GlaReferenceIdeal.nD Cert.GlaReferenceIdeal.τ).loc Cert.GlaReferenceIdeal.main_arg6)
          ∧ r.2.mem ((c.tc : Thread Cert.GlaReferenceIdeal.nD Cert.GlaReferenceIdeal.τ).loc Cert.GlaReferenceIdeal.main_arg7) = m' ((c.tc : Thread Cert.GlaReferenceIdeal.nD Cert.GlaReferenceIdeal.τ).loc Cert.GlaReferenceIdeal.main_arg7)
          ∧ r.2.mem ((c.tc : Thread Cert.GlaReferenceIdeal.nD Cert.GlaReferenceIdeal.τ).loc Cert.GlaReferenceIdeal.main_arg8) = m' ((c.tc : Thread Cert.GlaReferenceIdeal.nD Cert.GlaReferenceIdeal.τ).loc Cert.GlaReferenceIdeal.main_arg8)
          ∧ r.2.mem ((c.tc : Thread Cert.GlaReferenceIdeal.nD Cert.GlaReferenceIdeal.τ).loc Cert.GlaReferenceIdeal.main_arg9) = m' ((c.tc : Thread Cert.GlaReferenceIdeal.nD Cert.GlaReferenceIdeal.τ).loc Cert.GlaReferenceIdeal.main_arg9)
          ∧ r.2.mem ((c.tc : Thread Cert.GlaReferenceIdeal.nD Cert.GlaReferenceIdeal.τ).loc Cert.GlaReferenceIdeal.main_arg10) = m' ((c.tc : Thread Cert.GlaReferenceIdeal.nD Cert.GlaReferenceIdeal.τ).loc Cert.GlaReferenceIdeal.main_arg10)
          ∧ r.2.mem ((c.tc : Thread Cert.GlaReferenceIdeal.nD Cert.GlaReferenceIdeal.τ).loc Cert.GlaReferenceIdeal.main_arg11) = m' ((c.tc : Thread Cert.GlaReferenceIdeal.nD Cert.GlaReferenceIdeal.τ).loc Cert.GlaReferenceIdeal.main_arg11)
          ∧ r.2.mem ((c.tc : Thread Cert.GlaReferenceIdeal.nD Cert.GlaReferenceIdeal.τ).loc Cert.GlaReferenceIdeal.main_arg12) = m' ((c.tc : Thread Cert.GlaReferenceIdeal.nD Cert.GlaReferenceIdeal.τ).loc Cert.GlaReferenceIdeal.main_arg12))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hGdn : Cert.Gdn.Facts) (hGdnIdeal : Cert.GdnIdeal.Facts) (hGdnReferenceIdeal : Cert.GdnReferenceIdeal.Facts) (hGla : Cert.Gla.Facts) (hGlaIdeal : Cert.GlaIdeal.Facts) (hGlaReferenceIdeal : Cert.GlaReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mix (hMix := hMix)
    ∧ quiescent_MixIdeal (hMixIdeal := hMixIdeal)
    ∧ quiescent_MixReferenceIdeal (hMixReferenceIdeal := hMixReferenceIdeal)
    ∧ quiescent_Gdn (hGdn := hGdn)
    ∧ quiescent_GdnIdeal (hGdnIdeal := hGdnIdeal)
    ∧ quiescent_GdnReferenceIdeal (hGdnReferenceIdeal := hGdnReferenceIdeal)
    ∧ quiescent_Gla (hGla := hGla)
    ∧ quiescent_GlaIdeal (hGlaIdeal := hGlaIdeal)
    ∧ quiescent_GlaReferenceIdeal (hGlaReferenceIdeal := hGlaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mix_MixIdeal
    ∧ algebraic_MixIdeal_MixReferenceIdeal (hMixIdeal := hMixIdeal) (hMixReferenceIdeal := hMixReferenceIdeal)
    ∧ preserves_Gdn_GdnIdeal
    ∧ algebraic_GdnIdeal_GdnReferenceIdeal (hGdnIdeal := hGdnIdeal) (hGdnReferenceIdeal := hGdnReferenceIdeal)
    ∧ preserves_Gla_GlaIdeal
    ∧ algebraic_GlaIdeal_GlaReferenceIdeal (hGlaIdeal := hGlaIdeal) (hGlaReferenceIdeal := hGlaReferenceIdeal)
-- ==== Pre_finite.lean ====
abbrev S8x1024x8192 : Shape := ⟨3, ![8, 1024, 8192]⟩
abbrev S65536x256 : Shape := ⟨2, ![65536, 256]⟩
abbrev S8x256x8192 : Shape := ⟨3, ![8, 256, 8192]⟩
abbrev S2048x256 : Shape := ⟨2, ![2048, 256]⟩
abbrev S8x256x256 : Shape := ⟨3, ![8, 256, 256]⟩
abbrev S16 : Shape := ⟨1, ![16]⟩
abbrev S_ : Shape := ⟨0, ![]⟩

class Facts : Prop where
  bitsLt_bf16_f32 : FTy.bits .bf16 < FTy.bits .f32
  bcast_S_S8x1024x8192 : S_.BroadcastsInDim S8x1024x8192 (![] : Fin 0 → Fin S8x1024x8192.rank)
  bcast_S_S65536x256 : S_.BroadcastsInDim S65536x256 (![] : Fin 0 → Fin S65536x256.rank)
  bcast_S_S2048x256 : S_.BroadcastsInDim S2048x256 (![] : Fin 0 → Fin S2048x256.rank)
  bcast_S_S16 : S_.BroadcastsInDim S16 (![] : Fin 0 → Fin S16.rank)

variable [Facts]

def fn {F : FTy → Type} [FloatOps F] (main_arg0 : FVec F S8x1024x8192 .bf16) (main_arg1 : FVec F S65536x256 .bf16) (main_arg2 : FVec F S8x256x8192 .bf16) (main_arg3 : FVec F S2048x256 .bf16) (main_arg4 : FVec F S8x256x256 .bf16) (main_arg5 : FVec F S16 .f32) : IVec S8x1024x8192 1 × IVec S65536x256 1 × IVec S2048x256 1 × IVec S16 1 :=
  let main_v0 : FVec F S8x1024x8192 .f32 := (extf .f32 · bitsLt_bf16_f32) main_arg0
  let main_v1 : FVec F S8x1024x8192 .f32 := Host.absf main_v0
  let main_cst : FVec F S_ .f32 := constant S_ .f32 0x7F800000#32
  let main_v2 : FVec F S8x1024x8192 .f32 := broadcastInDim S8x1024x8192 ![] bcast_S_S8x1024x8192 main_cst
  let main_v3 : IVec S8x1024x8192 1 := cmpf .olt main_v1 main_v2
  let main_v4 : FVec F S65536x256 .f32 := (extf .f32 · bitsLt_bf16_f32) main_arg1
  let main_v5 : FVec F S65536x256 .f32 := Host.absf main_v4
  let main_cst_0 : FVec F S_ .f32 := constant S_ .f32 0x7F800000#32
  let main_v6 : FVec F S65536x256 .f32 := broadcastInDim S65536x256 ![] bcast_S_S65536x256 main_cst_0
  let main_v7 : IVec S65536x256 1 := cmpf .olt main_v5 main_v6
  let main_v8 : FVec F S2048x256 .f32 := (extf .f32 · bitsLt_bf16_f32) main_arg3
  let main_v9 : FVec F S2048x256 .f32 := Host.absf main_v8
  let main_cst_1 : FVec F S_ .f32 := constant S_ .f32 0x7F800000#32
  let main_v10 : FVec F S2048x256 .f32 := broadcastInDim S2048x256 ![] bcast_S_S2048x256 main_cst_1
  let main_v11 : IVec S2048x256 1 := cmpf .olt main_v9 main_v10
  let main_v12 : FVec F S16 .f32 := Host.absf main_arg5
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  (main_v3, main_v7, main_v11, main_v14)
-- ==== Kernel.lean ====
abbrev S8x1024x8192 : Shape := ⟨3, ![8, 1024, 8192]⟩
abbrev S65536x256 : Shape := ⟨2, ![65536, 256]⟩
abbrev S8x256x8192 : Shape := ⟨3, ![8, 256, 8192]⟩
abbrev S2048x256 : Shape := ⟨2, ![2048, 256]⟩
abbrev S8x256x256 : Shape := ⟨3, ![8, 256, 256]⟩
abbrev S16 : Shape := ⟨1, ![16]⟩
abbrev S1x1024x128 : Shape := ⟨3, ![1, 1024, 128]⟩
abbrev S128x256 : Shape := ⟨2, ![128, 256]⟩
abbrev S1x256x128 : Shape := ⟨3, ![1, 256, 128]⟩
abbrev S256x256 : Shape := ⟨2, ![256, 256]⟩
abbrev S1x256x256 : Shape := ⟨3, ![1, 256, 256]⟩
abbrev S128x512 : Shape := ⟨2, ![128, 512]⟩
abbrev S1x64x128 : Shape := ⟨3, ![1, 64, 128]⟩
abbrev S64x128 : Shape := ⟨2, ![64, 128]⟩
abbrev S64x512 : Shape := ⟨2, ![64, 512]⟩
abbrev S1 : Shape := ⟨1, ![1]⟩
abbrev S1x128 : Shape := ⟨2, ![1, 128]⟩
abbrev S1x512 : Shape := ⟨2, ![1, 512]⟩
abbrev S128x64 : Shape := ⟨2, ![128, 64]⟩
abbrev S256x64 : Shape := ⟨2, ![256, 64]⟩
abbrev S640x64 : Shape := ⟨2, ![640, 64]⟩
abbrev S1x64x256 : Shape := ⟨3, ![1, 64, 256]⟩
abbrev S64x256 : Shape := ⟨2, ![64, 256]⟩
abbrev S64x640 : Shape := ⟨2, ![64, 640]⟩
abbrev S640x512 : Shape := ⟨2, ![640, 512]⟩
abbrev S256x512 : Shape := ⟨2, ![256, 512]⟩
abbrev S512 : Shape := ⟨1, ![512]⟩

abbrev nBuf : Space → Nat
  | .hbm => 7
  | .vmem => 20
  | .smem => 1
  | _ => 0

abbrev bufTy : (tb : Table) → Fin (tcTables nBuf tb) → BufTy
  | .hbm, ⟨0, _⟩ => ⟨S8x1024x8192, .bf16⟩
  | .hbm, ⟨1, _⟩ => ⟨S65536x256, .bf16⟩
  | .hbm, ⟨2, _⟩ => ⟨S8x256x8192, .bf16⟩
  | .hbm, ⟨3, _⟩ => ⟨S2048x256, .bf16⟩
  | .hbm, ⟨4, _⟩ => ⟨S8x256x256, .bf16⟩
  | .hbm, ⟨5, _⟩ => ⟨S16, .f32⟩
  | .hbm, ⟨6, _⟩ => ⟨S8x1024x8192, .bf16⟩
  | .local _ .vmem, ⟨0, _⟩ => ⟨S1x1024x128, .bf16⟩
  | .local _ .vmem, ⟨1, _⟩ => ⟨S1x1024x128, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S256x256, .bf16⟩
  | .local _ .vmem, ⟨15, _⟩ => ⟨S256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x1024x128, .bf16⟩
  | .local _ .vmem, ⟨19, _⟩ => ⟨S1x1024x128, .bf16⟩
  | .local _ .smem, ⟨0, _⟩ => ⟨S16, .f32⟩
  | _, _ => ⟨S8x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c63_i32 : BitVec 32 := 63#32
  let v2 : BitVec 32 := Scalar.minsi v1 c63_i32
  let v3 : BitVec 32 := Scalar.addi v0 v2
  let c0_i32 : BitVec 32 := 0#32
  let c0_i32_0 : BitVec 32 := 0#32
  ![v3.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, c0_i32.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x1024x8192 : Shape := ⟨3, ![8, 1024, 8192]⟩
abbrev S65536x256 : Shape := ⟨2, ![65536, 256]⟩
abbrev S8x256x8192 : Shape := ⟨3, ![8, 256, 8192]⟩
abbrev S2048x256 : Shape := ⟨2, ![2048, 256]⟩
abbrev S8x256x256 : Shape := ⟨3, ![8, 256, 256]⟩
abbrev S16 : Shape := ⟨1, ![16]⟩
abbrev S_ : Shape := ⟨0, ![]⟩
abbrev S8x4x4x64x8192 : Shape := ⟨5, ![8, 4, 4, 64, 8192]⟩
abbrev S8x8192x4x64 : Shape := ⟨4, ![8, 8192, 4, 64]⟩
abbrev S8x4x64x8192 : Shape := ⟨4, ![8, 4, 64, 8192]⟩
abbrev S8x256x4x64 : Shape := ⟨4, ![8, 256, 4, 64]⟩
abbrev S8x4x64x256 : Shape := ⟨4, ![8, 4, 64, 256]⟩
abbrev S4x4 : Shape := ⟨2, ![4, 4]⟩
abbrev S8192x8192 : Shape := ⟨2, ![8192, 8192]⟩
abbrev S8x4x4x8192x8192 : Shape := ⟨5, ![8, 4, 4, 8192, 8192]⟩
abbrev S8x4x4x8192x256 : Shape := ⟨5, ![8, 4, 4, 8192, 256]⟩
abbrev S1x4x4x1x1 : Shape := ⟨5, ![1, 4, 4, 1, 1]⟩
abbrev S8x4x4x8192x1 : Shape := ⟨5, ![8, 4, 4, 8192, 1]⟩
abbrev S8x4x4x8192x8449 : Shape := ⟨5, ![8, 4, 4, 8192, 8449]⟩
abbrev S8x4x4x8192 : Shape := ⟨4, ![8, 4, 4, 8192]⟩
abbrev S8x4x64x4x8192 : Shape := ⟨5, ![8, 4, 64, 4, 8192]⟩

abbrev nBuf : Space → Nat
  | .hbm => 65
  | .vmem => 0
  | .smem => 0
  | _ => 0

abbrev bufTy : (tb : Table) → Fin (tcTables nBuf tb) → BufTy
  | .hbm, ⟨0, _⟩ => ⟨S8x1024x8192, .bf16⟩
  | .hbm, ⟨1, _⟩ => ⟨S65536x256, .bf16⟩
  | .hbm, ⟨2, _⟩ => ⟨S8x256x8192, .bf16⟩
  | .hbm, ⟨3, _⟩ => ⟨S2048x256, .bf16⟩
  | .hbm, ⟨4, _⟩ => ⟨S8x256x256, .bf16⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S8x1024x8192, .f32⟩
  | .hbm, ⟨9, _⟩ => ⟨S8x4x4x64x8192, .f32⟩
  | .hbm, ⟨10, _⟩ => ⟨S8x4x4x64x8192, .f32⟩
  | .hbm, ⟨11, _⟩ => ⟨S8x4x4x64x8192, .f32⟩
  | .hbm, ⟨12, _⟩ => ⟨S65536x256, .f32⟩
  | .hbm, ⟨13, _⟩ => ⟨S8x8192x4x64, .f32⟩
  | .hbm, ⟨14, _⟩ => ⟨S8x256x8192, .f32⟩
  | .hbm, ⟨15, _⟩ => ⟨S8x4x64x8192, .f32⟩
  | .hbm, ⟨16, _⟩ => ⟨S2048x256, .f32⟩
  | .hbm, ⟨17, _⟩ => ⟨S8x256x4x64, .f32⟩
  | .hbm, ⟨18, _⟩ => ⟨S8x256x256, .f32⟩
  | .hbm, ⟨19, _⟩ => ⟨S8x4x64x256, .f32⟩
  | .hbm, ⟨20, _⟩ => ⟨S4x4, .f32⟩
  | .hbm, ⟨21, _⟩ => ⟨S8192x8192, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i1⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i1⟩
  | .hbm, ⟨31, _⟩ => ⟨S8192x8192, .i1⟩
  | .hbm, ⟨32, _⟩ => ⟨S8x4x4x8192x8192, .f32⟩
  | .hbm, ⟨33, _⟩ => ⟨S_, .f32⟩
  | .hbm, ⟨34, _⟩ => ⟨S_, .f32⟩
  | .hbm, ⟨35, _⟩ => ⟨S8x4x4x8192x8192, .i1⟩
  | .hbm, ⟨36, _⟩ => ⟨S8x4x4x8192x8192, .f32⟩
  | .hbm, ⟨37, _⟩ => ⟨S8x4x4x8192x8192, .f32⟩
  | .hbm, ⟨38, _⟩ => ⟨S8x4x4x8192x256, .f32⟩
  | .hbm, ⟨39, _⟩ => ⟨S1x4x4x1x1, .f32⟩
  | .hbm, ⟨40, _⟩ => ⟨S8x4x4x8192x1, .f32⟩
  | .hbm, ⟨41, _⟩ => ⟨S8x4x4x8192x8449, .f32⟩
  | .hbm, ⟨42, _⟩ => ⟨S_, .f32⟩
  | .hbm, ⟨43, _⟩ => ⟨S8x4x4x8192, .f32⟩
  | .hbm, ⟨44, _⟩ => ⟨S_, .f32⟩
  | .hbm, ⟨45, _⟩ => ⟨S8x4x4x8192, .f32⟩
  | .hbm, ⟨46, _⟩ => ⟨S8x4x4x8192, .f32⟩
  | .hbm, ⟨47, _⟩ => ⟨S8x4x4x8192x1, .f32⟩
  | .hbm, ⟨48, _⟩ => ⟨S8x4x4x8192x8449, .f32⟩
  | .hbm, ⟨49, _⟩ => ⟨S8x4x4x8192x8449, .f32⟩
  | .hbm, ⟨50, _⟩ => ⟨S8x4x4x8192x8449, .f32⟩
  | .hbm, ⟨51, _⟩ => ⟨S_, .f32⟩
  | .hbm, ⟨52, _⟩ => ⟨S8x4x4x8192, .f32⟩
  | .hbm, ⟨53, _⟩ => ⟨S8x4x4x8192x1, .f32⟩
  | .hbm, ⟨54, _⟩ => ⟨S8x4x4x8192x8449, .f32⟩
  | .hbm, ⟨55, _⟩ => ⟨S8x4x4x8192x8449, .f32⟩
  | .hbm, ⟨56, _⟩ => ⟨S8x4x4x8192x8192, .f32⟩
  | .hbm, ⟨57, _⟩ => ⟨S8x4x64x4x8192, .f32⟩
  | .hbm, ⟨58, _⟩ => ⟨S8x4x4x64x8192, .f32⟩
  | .hbm, ⟨59, _⟩ => ⟨S8x4x4x8192x256, .f32⟩
  | .hbm, ⟨60, _⟩ => ⟨S8x4x64x4x8192, .f32⟩
  | .hbm, ⟨61, _⟩ => ⟨S8x4x4x64x8192, .f32⟩
  | .hbm, ⟨62, _⟩ => ⟨S8x4x4x64x8192, .f32⟩
  | .hbm, ⟨63, _⟩ => ⟨S8x1024x8192, .f32⟩
  | .hbm, ⟨64, _⟩ => ⟨S8x1024x8192, .bf16⟩
  | _, _ => ⟨S8x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Mix.lean ====
abbrev S8x1024x8192 : Shape := ⟨3, ![8, 1024, 8192]⟩
abbrev S8x8192x1024 : Shape := ⟨3, ![8, 8192, 1024]⟩
abbrev S8x6x1024 : Shape := ⟨3, ![8, 6, 1024]⟩
abbrev S1024x1024 : Shape := ⟨2, ![1024, 1024]⟩
abbrev S2x1024 : Shape := ⟨2, ![2, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S65536x1024 : Shape := ⟨2, ![65536, 1024]⟩
abbrev S1x1024 : Shape := ⟨2, ![1, 1024]⟩
abbrev S1024 : Shape := ⟨1, ![1024]⟩
abbrev S1x2816 : Shape := ⟨2, ![1, 2816]⟩
abbrev S1x1024x512 : Shape := ⟨3, ![1, 1024, 512]⟩
abbrev S1x1024x128 : Shape := ⟨3, ![1, 1024, 128]⟩
abbrev S512x1024 : Shape := ⟨2, ![512, 1024]⟩
abbrev S8x1024 : Shape := ⟨2, ![8, 1024]⟩
abbrev S1x6x1024 : Shape := ⟨3, ![1, 6, 1024]⟩
abbrev S528x1024 : Shape := ⟨2, ![528, 1024]⟩
abbrev S512x2816 : Shape := ⟨2, ![512, 2816]⟩
abbrev S1024x512 : Shape := ⟨2, ![1024, 512]⟩
abbrev S1024x128 : Shape := ⟨2, ![1024, 128]⟩
abbrev S128x1024 : Shape := ⟨2, ![128, 1024]⟩
abbrev S1x1x1024 : Shape := ⟨3, ![1, 1, 1024]⟩
abbrev S528 : Shape := ⟨1, ![528]⟩
abbrev S528x1 : Shape := ⟨2, ![528, 1]⟩
abbrev S1024x256 : Shape := ⟨2, ![1024, 256]⟩
abbrev S512x256 : Shape := ⟨2, ![512, 256]⟩
abbrev S528x256 : Shape := ⟨2, ![528, 256]⟩
abbrev S1x256 : Shape := ⟨2, ![1, 256]⟩
abbrev S512 : Shape := ⟨1, ![512]⟩
abbrev S512x1 : Shape := ⟨2, ![512, 1]⟩

abbrev nBuf : Space → Nat
  | .hbm => 28
  | .vmem => 29
  | .smem => 0
  | _ => 0

abbrev bufTy : (tb : Table) → Fin (tcTables nBuf tb) → BufTy
  | .hbm, ⟨0, _⟩ => ⟨S8x1024x8192, .bf16⟩
  | .hbm, ⟨1, _⟩ => ⟨S8x8192x1024, .f32⟩
  | .hbm, ⟨2, _⟩ => ⟨S8x6x1024, .f32⟩
  | .hbm, ⟨3, _⟩ => ⟨S1024x1024, .f32⟩
  | .hbm, ⟨4, _⟩ => ⟨S2x1024, .f32⟩
  | .hbm, ⟨5, _⟩ => ⟨S2x1024, .f32⟩
  | .hbm, ⟨6, _⟩ => ⟨S1024x5632, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S65536x1024, .f32⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x2816, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S65536x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S1x6x1024, .f32⟩
  | .local _ .vmem, ⟨14, _⟩ => ⟨S1x6x1024, .f32⟩
  | .local _ .vmem, ⟨15, _⟩ => ⟨S1x1024, .f32⟩
  | .local _ .vmem, ⟨16, _⟩ => ⟨S1x1024, .f32⟩
  | .local _ .vmem, ⟨17, _⟩ => ⟨S1024x5632, .bf16⟩
  | .local _ .vmem, ⟨18, _⟩ => ⟨S3x2816, .f32⟩
  | .local _ .vmem, ⟨19, _⟩ => ⟨S1x2816, .f32⟩
  | .local _ .vmem, ⟨20, _⟩ => ⟨S2816x1024, .bf16⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S528x1024, .bf16⟩
  | .local _ .vmem, ⟨26, _⟩ => ⟨S528x1024, .f32⟩
  | .local _ .vmem, ⟨27, _⟩ => ⟨S528x1024, .bf16⟩
  | .local _ .vmem, ⟨28, _⟩ => ⟨S512x2816, .bf16⟩
  | _, _ => ⟨S8x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v26 c4_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  ![v16.toNat, c0_i32_12.toNat, v29.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c4_i32 : BitVec 32 := 4#32
  let v28 : BitVec 32 := Scalar.muli v27 c4_i32
  let c63_i32 : BitVec 32 := 63#32
  let v29 : BitVec 32 := Scalar.minsi v28 c63_i32
  let c0_i32_11 : BitVec 32 := 0#32
  let c0_i32_12 : BitVec 32 := 0#32
  ![v16.toNat, c0_i32_11.toNat, v29.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixReferenceIdeal.lean ====
abbrev S8x1024x8192 : Shape := ⟨3, ![8, 1024, 8192]⟩
abbrev S8x8192x1024 : Shape := ⟨3, ![8, 8192, 1024]⟩
abbrev S8x6x1024 : Shape := ⟨3, ![8, 6, 1024]⟩
abbrev S1024x1024 : Shape := ⟨2, ![1024, 1024]⟩
abbrev S2x1024 : Shape := ⟨2, ![2, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x6x1x1024 : Shape := ⟨4, ![8, 6, 1, 1024]⟩
abbrev S_ : Shape := ⟨0, ![]⟩
abbrev S8x1x1x1024 : Shape := ⟨4, ![8, 1, 1, 1024]⟩
abbrev S8x1x1024 : Shape := ⟨3, ![8, 1, 1024]⟩
abbrev S1x1024 : Shape := ⟨2, ![1, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S8x8194x2816 : Shape := ⟨3, ![8, 8194, 2816]⟩
abbrev S1x2816 : Shape := ⟨2, ![1, 2816]⟩
abbrev S1x1x2816 : Shape := ⟨3, ![1, 1, 2816]⟩
abbrev S65536x1024 : Shape := ⟨2, ![65536, 1024]⟩

abbrev nBuf : Space → Nat
  | .hbm => 146
  | .vmem => 0
  | .smem => 0
  | _ => 0

abbrev hbmTy0_0 (i : Nat) : BufTy := match i % 128 with
  | 0 => ⟨S8x1024x8192, .bf16⟩
  | 1 => ⟨S8x8192x1024, .f32⟩
  | 2 => ⟨S8x6x1024, .f32⟩
  | 3 => ⟨S1024x1024, .f32⟩
  | 4 => ⟨S2x1024, .f32⟩
  | 5 => ⟨S2x1024, .f32⟩
  | 6 => ⟨S1024x5632, .f32⟩
  | 7 => ⟨S3x2816, .f32⟩
  | 8 => ⟨S2816, .f32⟩
  | 9 => ⟨S2816x1024, .f32⟩
  | 10 => ⟨S8x6x1x1024, .f32⟩
  | 11 => ⟨S8x1024x8192, .f32⟩
  | 12 => ⟨S8x8192x1024, .f32⟩
  | 13 => ⟨S_, .f32⟩
  | 14 => ⟨S8x8192x1024, .f32⟩
  | 15 => ⟨S8x8192x1024, .f32⟩
  | 16 => ⟨S8x1x1x1024, .f32⟩
  | 17 => ⟨S8x1x1024, .f32⟩
  | 18 => ⟨S8x8192x1024, .f32⟩
  | 19 => ⟨S8x8192x1024, .f32⟩
  | 20 => ⟨S8x8192x1024, .f32⟩
  | 21 => ⟨S1x1024, .f32⟩
  | 22 => ⟨S1024, .f32⟩
  | 23 => ⟨S1x1024, .f32⟩
  | 24 => ⟨S1024, .f32⟩
  | 25 => ⟨S_, .f32⟩
  | 26 => ⟨S8x8192, .f32⟩
  | 27 => ⟨S8x8192x1, .f32⟩
  | 28 => ⟨S_, .f32⟩
  | 29 => ⟨S8x8192x1, .f32⟩
  | 30 => ⟨S8x8192x1, .f32⟩
  | 31 => ⟨S8x8192x1024, .f32⟩
  | 32 => ⟨S8x8192x1024, .f32⟩
  | 33 => ⟨S8x8192x1024, .f32⟩
  | 34 => ⟨S_, .f32⟩
  | 35 => ⟨S8x8192, .f32⟩
  | 36 => ⟨S8x8192x1, .f32⟩
  | 37 => ⟨S_, .f32⟩
  | 38 => ⟨S8x8192x1, .f32⟩
  | 39 => ⟨S8x8192x1, .f32⟩
  | 40 => ⟨S8x8192x1024, .f32⟩
  | 41 => ⟨S8x8192x1024, .f32⟩
  | 42 => ⟨S_, .f32⟩
  | 43 => ⟨S8x8192x1, .f32⟩
  | 44 => ⟨S8x8192x1, .f32⟩
  | 45 => ⟨S8x8192x1, .f32⟩
  | 46 => ⟨S8x8192x1024, .f32⟩
  | 47 => ⟨S8x8192x1024, .f32⟩
  | 48 => ⟨S1x1x1024, .f32⟩
  | 49 => ⟨S8x8192x1024, .f32⟩
  | 50 => ⟨S8x8192x1024, .f32⟩
  | 51 => ⟨S1x1x1024, .f32⟩
  | 52 => ⟨S8x8192x1024, .f32⟩
  | 53 => ⟨S8x8192x1024, .f32⟩
  | 54 => ⟨S8x1x1x1024, .f32⟩
  | 55 => ⟨S8x1x1024, .f32⟩
  | 56 => ⟨S8x1x1x1024, .f32⟩
  | 57 => ⟨S8x1x1024, .f32⟩
  | 58 => ⟨S_, .f32⟩
  | 59 => ⟨S8x1x1024, .f32⟩
  | 60 => ⟨S8x1x1024, .f32⟩
  | 61 => ⟨S8x8192x1024, .f32⟩
  | 62 => ⟨S8x8192x1024, .f32⟩
  | 63 => ⟨S8x8192x1024, .f32⟩
  | 64 => ⟨S8x8192x1024, .f32⟩
  | 65 => ⟨S8x8192x5632, .f32⟩
  | 66 => ⟨S8x8192x2816, .f32⟩
  | 67 => ⟨S8x8192x2816, .f32⟩
  | 68 => ⟨S_, .i32⟩
  | 69 => ⟨S_, .f32⟩
  | 70 => ⟨S8x8194x2816, .f32⟩
  | 71 => ⟨S8x8192x2816, .f32⟩
  | 72 => ⟨S1x2816, .f32⟩
  | 73 => ⟨S2816, .f32⟩
  | 74 => ⟨S1x1x2816, .f32⟩
  | 75 => ⟨S8x8192x2816, .f32⟩
  | 76 => ⟨S8x8192x2816, .f32⟩
  | 77 => ⟨S1x2816, .f32⟩
  | 78 => ⟨S2816, .f32⟩
  | 79 => ⟨S1x1x2816, .f32⟩
  | 80 => ⟨S8x8192x2816, .f32⟩
  | 81 => ⟨S8x8192x2816, .f32⟩
  | 82 => ⟨S8x8192x2816, .f32⟩
  | 83 => ⟨S8x8192x2816, .f32⟩
  | 84 => ⟨S1x2816, .f32⟩
  | 85 => ⟨S2816, .f32⟩
  | 86 => ⟨S1x1x2816, .f32⟩
  | 87 => ⟨S8x8192x2816, .f32⟩
  | 88 => ⟨S8x8192x2816, .f32⟩
  | 89 => ⟨S8x8192x2816, .f32⟩
  | 90 => ⟨S1x1x2816, .f32⟩
  | 91 => ⟨S8x8192x2816, .f32⟩
  | 92 => ⟨S8x8192x2816, .f32⟩
  | 93 => ⟨S8x8192x2816, .f32⟩
  | 94 => ⟨S8x8192x2816, .f32⟩
  | 95 => ⟨S_, .f32⟩
  | 96 => ⟨S8x8192x2816, .f32⟩
  | 97 => ⟨S8x8192x2816, .f32⟩
  | 98 => ⟨S_, .f32⟩
  | 99 => ⟨S8x8192x2816, .f32⟩
  | 100 => ⟨S8x8192x2816, .f32⟩
  | 101 => ⟨S8x8192x2816, .f32⟩
  | 102 => ⟨S8x8192x2816, .f32⟩
  | 103 => ⟨S8x8192x1024, .f32⟩
  | 104 => ⟨S_, .f32⟩
  | 105 => ⟨S8x8192x1024, .f32⟩
  | 106 => ⟨S8x8192x1024, .f32⟩
  | 107 => ⟨S8x1x1x1024, .f32⟩
  | 108 => ⟨S8x1x1024, .f32⟩
  | 109 => ⟨S8x8192x1024, .f32⟩
  | 110 => ⟨S8x8192x1024, .f32⟩
  | 111 => ⟨S8x8192x1024, .f32⟩
  | 112 => ⟨S1x1024, .f32⟩
  | 113 => ⟨S1024, .f32⟩
  | 114 => ⟨S1x1024, .f32⟩
  | 115 => ⟨S1024, .f32⟩
  | 116 => ⟨S_, .f32⟩
  | 117 => ⟨S8x8192, .f32⟩
  | 118 => ⟨S8x8192x1, .f32⟩
  | 119 => ⟨S_, .f32⟩
  | 120 => ⟨S8x8192x1, .f32⟩
  | 121 => ⟨S8x8192x1, .f32⟩
  | 122 => ⟨S8x8192x1024, .f32⟩
  | 123 => ⟨S8x8192x1024, .f32⟩
  | 124 => ⟨S8x8192x1024, .f32⟩
  | 125 => ⟨S_, .f32⟩
  | 126 => ⟨S8x8192, .f32⟩
  | 127 => ⟨S8x8192x1, .f32⟩
  | _ => ⟨S8x1024x8192, .bf16⟩

abbrev hbmTy0_1 (i : Nat) : BufTy := match i % 128 with
  | 0 => ⟨S_, .f32⟩
  | 1 => ⟨S8x8192x1, .f32⟩
  | 2 => ⟨S8x8192x1, .f32⟩
  | 3 => ⟨S8x8192x1024, .f32⟩
  | 4 => ⟨S8x8192x1024, .f32⟩
  | 5 => ⟨S_, .f32⟩
  | 6 => ⟨S8x8192x1, .f32⟩
  | 7 => ⟨S8x8192x1, .f32⟩
  | 8 => ⟨S8x8192x1, .f32⟩
  | 9 => ⟨S8x8192x1024, .f32⟩
  | 10 => ⟨S8x8192x1024, .f32⟩
  | 11 => ⟨S1x1x1024, .f32⟩
  | 12 => ⟨S8x8192x1024, .f32⟩
  | 13 => ⟨S8x8192x1024, .f32⟩
  | 14 => ⟨S1x1x1024, .f32⟩
  | 15 => ⟨S8x8192x1024, .f32⟩
  | 16 => ⟨S8x8192x1024, .f32⟩
  | 17 => ⟨S65536x1024, .f32⟩
  | _ => ⟨S8x1024x8192, .bf16⟩

abbrev hbmTy (i : Nat) : BufTy := match i / 128 with
  | 0 => hbmTy0_0 i
  | 1 => hbmTy0_1 i
  | _ => ⟨S8x1024x8192, .bf16⟩

abbrev bufTy : (tb : Table) → Fin (tcTables nBuf tb) → BufTy
  | .hbm, ⟨i, _⟩ => hbmTy i
  | _, _ => ⟨S8x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_6 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_7 : Ref sig .tc := ⟨.hbm, 116, rfl⟩
abbrev main_v88 : Ref sig .tc := ⟨.hbm, 117, rfl⟩
abbrev main_v89 : Ref sig .tc := ⟨.hbm, 118, rfl⟩
abbrev main_cst_8 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_9 : Ref sig .tc := ⟨.hbm, 125, rfl⟩
abbrev main_v95 : Ref sig .tc := ⟨.hbm, 126, rfl⟩
abbrev main_v96 : Ref sig .tc := ⟨.hbm, 127, rfl⟩
abbrev main_cst_10 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_11 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]
-- ==== Gdn.lean ====
abbrev S8x8x8192x128 : Shape := ⟨4, ![8, 8, 8192, 128]⟩
abbrev S65536x1024 : Shape := ⟨2, ![65536, 1024]⟩
abbrev S128 : Shape := ⟨1, ![128]⟩
abbrev S8x8192x1024 : Shape := ⟨3, ![8, 8192, 1024]⟩
abbrev S8x6x1024 : Shape := ⟨3, ![8, 6, 1024]⟩
abbrev S1024x1024 : Shape := ⟨2, ![1024, 1024]⟩
abbrev S2x1024 : Shape := ⟨2, ![2, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x128 : Shape := ⟨2, ![1, 128]⟩
abbrev S1x1024 : Shape := ⟨2, ![1, 1024]⟩
abbrev S1024 : Shape := ⟨1, ![1024]⟩
abbrev S1x2816 : Shape := ⟨2, ![1, 2816]⟩
abbrev S1x8x512x128 : Shape := ⟨4, ![1, 8, 512, 128]⟩
abbrev S1x8x8x128 : Shape := ⟨4, ![1, 8, 8, 128]⟩
abbrev S512x1024 : Shape := ⟨2, ![512, 1024]⟩
abbrev S8x1024 : Shape := ⟨2, ![8, 1024]⟩
abbrev S1x6x1024 : Shape := ⟨3, ![1, 6, 1024]⟩
abbrev S528x1024 : Shape := ⟨2, ![528, 1024]⟩
abbrev S512x2816 : Shape := ⟨2, ![512, 2816]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x1x8x128 : Shape := ⟨4, ![1, 1, 8, 128]⟩
abbrev S8x128 : Shape := ⟨2, ![8, 128]⟩
abbrev S8 : Shape := ⟨1, ![8]⟩
abbrev S8x1 : Shape := ⟨2, ![8, 1]⟩
abbrev S1x1x1024 : Shape := ⟨3, ![1, 1, 1024]⟩
abbrev S528 : Shape := ⟨1, ![528]⟩
abbrev S528x1 : Shape := ⟨2, ![528, 1]⟩
abbrev S1024x256 : Shape := ⟨2, ![1024, 256]⟩
abbrev S512x256 : Shape := ⟨2, ![512, 256]⟩
abbrev S528x256 : Shape := ⟨2, ![528, 256]⟩
abbrev S1x256 : Shape := ⟨2, ![1, 256]⟩

abbrev nBuf : Space → Nat
  | .hbm => 32
  | .vmem => 42
  | .smem => 0
  | _ => 0

abbrev bufTy : (tb : Table) → Fin (tcTables nBuf tb) → BufTy
  | .hbm, ⟨0, _⟩ => ⟨S8x8x8192x128, .bf16⟩
  | .hbm, ⟨1, _⟩ => ⟨S8x8x8192x128, .bf16⟩
  | .hbm, ⟨2, _⟩ => ⟨S65536x1024, .bf16⟩
  | .hbm, ⟨3, _⟩ => ⟨S128, .f32⟩
  | .hbm, ⟨4, _⟩ => ⟨S8x8192x1024, .f32⟩
  | .hbm, ⟨5, _⟩ => ⟨S8x6x1024, .f32⟩
  | .hbm, ⟨6, _⟩ => ⟨S1024x1024, .f32⟩
  | .hbm, ⟨7, _⟩ => ⟨S2x1024, .f32⟩
  | .hbm, ⟨8, _⟩ => ⟨S2x1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S65536x1024, .f32⟩
  | .hbm, ⟨14, _⟩ => ⟨S1024x1024, .bf16⟩
  | .hbm, ⟨15, _⟩ => ⟨S1024x5632, .bf16⟩
  | .hbm, ⟨16, _⟩ => ⟨S2816x1024, .bf16⟩
  | .hbm, ⟨17, _⟩ => ⟨S1x128, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x2816, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S65536x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x8x128, .bf16⟩
  | .local _ .vmem, ⟨3, _⟩ => ⟨S1x8x8x128, .bf16⟩
  | .local _ .vmem, ⟨4, _⟩ => ⟨S1x8x8x128, .bf16⟩
  | .local _ .vmem, ⟨5, _⟩ => ⟨S1x8x8x128, .bf16⟩
  | .local _ .vmem, ⟨6, _⟩ => ⟨S1x8x512x128, .bf16⟩
  | .local _ .vmem, ⟨7, _⟩ => ⟨S1x8x512x128, .bf16⟩
  | .local _ .vmem, ⟨8, _⟩ => ⟨S1x8x8x128, .bf16⟩
  | .local _ .vmem, ⟨9, _⟩ => ⟨S1x8x8x128, .bf16⟩
  | .local _ .vmem, ⟨10, _⟩ => ⟨S1x8x8x128, .bf16⟩
  | .local _ .vmem, ⟨11, _⟩ => ⟨S1x8x8x128, .bf16⟩
  | .local _ .vmem, ⟨12, _⟩ => ⟨S512x1024, .bf16⟩
  | .local _ .vmem, ⟨13, _⟩ => ⟨S512x1024, .bf16⟩
  | .local _ .vmem, ⟨14, _⟩ => ⟨S8x1024, .bf16⟩
  | .local _ .vmem, ⟨15, _⟩ => ⟨S8x1024, .bf16⟩
  | .local _ .vmem, ⟨16, _⟩ => ⟨S8x1024, .bf16⟩
  | .local _ .vmem, ⟨17, _⟩ => ⟨S8x1024, .bf16⟩
  | .local _ .vmem, ⟨18, _⟩ => ⟨S1x128, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | .local _ .vmem, ⟨26, _⟩ => ⟨S1x6x1024, .f32⟩
  | .local _ .vmem, ⟨27, _⟩ => ⟨S1x6x1024, .f32⟩
  | .local _ .vmem, ⟨28, _⟩ => ⟨S1x1024, .f32⟩
  | .local _ .vmem, ⟨29, _⟩ => ⟨S1x1024, .f32⟩
  | .local _ .vmem, ⟨30, _⟩ => ⟨S1024x5632, .bf16⟩
  | .local _ .vmem, ⟨31, _⟩ => ⟨S3x2816, .f32⟩
  | .local _ .vmem, ⟨32, _⟩ => ⟨S1x2816, .f32⟩
  | .local _ .vmem, ⟨33, _⟩ => ⟨S2816x1024, .bf16⟩
  | .local _ .vmem, ⟨34, _⟩ => ⟨S1x1024, .f32⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | .local _ .vmem, ⟨38, _⟩ => ⟨S528x1024, .bf16⟩
  | .local _ .vmem, ⟨39, _⟩ => ⟨S528x1024, .f32⟩
  | .local _ .vmem, ⟨40, _⟩ => ⟨S528x1024, .bf16⟩
  | .local _ .vmem, ⟨41, _⟩ => ⟨S512x2816, .bf16⟩
  | _, _ => ⟨S8x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg23_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32 : BitVec 32 := 64#32
  let v27 : BitVec 32 := Scalar.muli v26 c64_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  let c0_i32_14 : BitVec 32 := 0#32
  ![v16.toNat, c0_i32_12.toNat, v29.toNat, c0_i32_13.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c64_i32 : BitVec 32 := 64#32
  let v28 : BitVec 32 := Scalar.muli v27 c64_i32
  let c1023_i32 : BitVec 32 := 1023#32
  let v29 : BitVec 32 := Scalar.minsi v28 c1023_i32
  let c0_i32_11 : BitVec 32 := 0#32
  let c0_i32_12 : BitVec 32 := 0#32
  let c0_i32_13 : BitVec 32 := 0#32
  ![v16.toNat, c0_i32_11.toNat, v29.toNat, c0_i32_12.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32 : BitVec 32 := 64#32
  let v27 : BitVec 32 := Scalar.muli v26 c64_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  let c0_i32_14 : BitVec 32 := 0#32
  ![v16.toNat, c0_i32_12.toNat, v29.toNat, c0_i32_13.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c64_i32 : BitVec 32 := 64#32
  let v28 : BitVec 32 := Scalar.muli v27 c64_i32
  let c1023_i32 : BitVec 32 := 1023#32
  let v29 : BitVec 32 := Scalar.minsi v28 c1023_i32
  let c0_i32_11 : BitVec 32 := 0#32
  let c0_i32_12 : BitVec 32 := 0#32
  let c0_i32_13 : BitVec 32 := 0#32
  ![v16.toNat, c0_i32_11.toNat, v29.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x6x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x5632 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2816 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2816x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== GdnIdeal.lean ====
abbrev S8x8x8192x128 : Shape := ⟨4, ![8, 8, 8192, 128]⟩
abbrev S65536x1024 : Shape := ⟨2, ![65536, 1024]⟩
abbrev S128 : Shape := ⟨1, ![128]⟩
abbrev S8x8192x1024 : Shape := ⟨3, ![8, 8192, 1024]⟩
abbrev S8x6x1024 : Shape := ⟨3, ![8, 6, 1024]⟩
abbrev S1024x1024 : Shape := ⟨2, ![1024, 1024]⟩
abbrev S2x1024 : Shape := ⟨2, ![2, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x128 : Shape := ⟨2, ![1, 128]⟩
abbrev S1x1024 : Shape := ⟨2, ![1, 1024]⟩
abbrev S1024 : Shape := ⟨1, ![1024]⟩
abbrev S1x2816 : Shape := ⟨2, ![1, 2816]⟩
abbrev S1x8x512x128 : Shape := ⟨4, ![1, 8, 512, 128]⟩
abbrev S1x8x8x128 : Shape := ⟨4, ![1, 8, 8, 128]⟩
abbrev S512x1024 : Shape := ⟨2, ![512, 1024]⟩
abbrev S8x1024 : Shape := ⟨2, ![8, 1024]⟩
abbrev S1x6x1024 : Shape := ⟨3, ![1, 6, 1024]⟩
abbrev S528x1024 : Shape := ⟨2, ![528, 1024]⟩
abbrev S512x2816 : Shape := ⟨2, ![512, 2816]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x1x8x128 : Shape := ⟨4, ![1, 1, 8, 128]⟩
abbrev S8x128 : Shape := ⟨2, ![8, 128]⟩
abbrev S8 : Shape := ⟨1, ![8]⟩
abbrev S8x1 : Shape := ⟨2, ![8, 1]⟩
abbrev S1x1x1024 : Shape := ⟨3, ![1, 1, 1024]⟩
abbrev S528 : Shape := ⟨1, ![528]⟩
abbrev S528x1 : Shape := ⟨2, ![528, 1]⟩
abbrev S1024x256 : Shape := ⟨2, ![1024, 256]⟩
abbrev S512x256 : Shape := ⟨2, ![512, 256]⟩
abbrev S528x256 : Shape := ⟨2, ![528, 256]⟩
abbrev S1x256 : Shape := ⟨2, ![1, 256]⟩

abbrev nBuf : Space → Nat
  | .hbm => 32
  | .vmem => 42
  | .smem => 0
  | _ => 0

abbrev bufTy : (tb : Table) → Fin (tcTables nBuf tb) → BufTy
  | .hbm, ⟨0, _⟩ => ⟨S8x8x8192x128, .bf16⟩
  | .hbm, ⟨1, _⟩ => ⟨S8x8x8192x128, .bf16⟩
  | .hbm, ⟨2, _⟩ => ⟨S65536x1024, .bf16⟩
  | .hbm, ⟨3, _⟩ => ⟨S128, .f32⟩
  | .hbm, ⟨4, _⟩ => ⟨S8x8192x1024, .f32⟩
  | .hbm, ⟨5, _⟩ => ⟨S8x6x1024, .f32⟩
  | .hbm, ⟨6, _⟩ => ⟨S1024x1024, .f32⟩
  | .hbm, ⟨7, _⟩ => ⟨S2x1024, .f32⟩
  | .hbm, ⟨8, _⟩ => ⟨S2x1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S65536x1024, .f32⟩
  | .hbm, ⟨14, _⟩ => ⟨S1024x1024, .bf16⟩
  | .hbm, ⟨15, _⟩ => ⟨S1024x5632, .bf16⟩
  | .hbm, ⟨16, _⟩ => ⟨S2816x1024, .bf16⟩
  | .hbm, ⟨17, _⟩ => ⟨S1x128, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x2816, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S65536x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x8x128, .bf16⟩
  | .local _ .vmem, ⟨3, _⟩ => ⟨S1x8x8x128, .bf16⟩
  | .local _ .vmem, ⟨4, _⟩ => ⟨S1x8x8x128, .bf16⟩
  | .local _ .vmem, ⟨5, _⟩ => ⟨S1x8x8x128, .bf16⟩
  | .local _ .vmem, ⟨6, _⟩ => ⟨S1x8x512x128, .bf16⟩
  | .local _ .vmem, ⟨7, _⟩ => ⟨S1x8x512x128, .bf16⟩
  | .local _ .vmem, ⟨8, _⟩ => ⟨S1x8x8x128, .bf16⟩
  | .local _ .vmem, ⟨9, _⟩ => ⟨S1x8x8x128, .bf16⟩
  | .local _ .vmem, ⟨10, _⟩ => ⟨S1x8x8x128, .bf16⟩
  | .local _ .vmem, ⟨11, _⟩ => ⟨S1x8x8x128, .bf16⟩
  | .local _ .vmem, ⟨12, _⟩ => ⟨S512x1024, .bf16⟩
  | .local _ .vmem, ⟨13, _⟩ => ⟨S512x1024, .bf16⟩
  | .local _ .vmem, ⟨14, _⟩ => ⟨S8x1024, .bf16⟩
  | .local _ .vmem, ⟨15, _⟩ => ⟨S8x1024, .bf16⟩
  | .local _ .vmem, ⟨16, _⟩ => ⟨S8x1024, .bf16⟩
  | .local _ .vmem, ⟨17, _⟩ => ⟨S8x1024, .bf16⟩
  | .local _ .vmem, ⟨18, _⟩ => ⟨S1x128, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | .local _ .vmem, ⟨26, _⟩ => ⟨S1x6x1024, .f32⟩
  | .local _ .vmem, ⟨27, _⟩ => ⟨S1x6x1024, .f32⟩
  | .local _ .vmem, ⟨28, _⟩ => ⟨S1x1024, .f32⟩
  | .local _ .vmem, ⟨29, _⟩ => ⟨S1x1024, .f32⟩
  | .local _ .vmem, ⟨30, _⟩ => ⟨S1024x5632, .bf16⟩
  | .local _ .vmem, ⟨31, _⟩ => ⟨S3x2816, .f32⟩
  | .local _ .vmem, ⟨32, _⟩ => ⟨S1x2816, .f32⟩
  | .local _ .vmem, ⟨33, _⟩ => ⟨S2816x1024, .bf16⟩
  | .local _ .vmem, ⟨34, _⟩ => ⟨S1x1024, .f32⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | .local _ .vmem, ⟨38, _⟩ => ⟨S528x1024, .bf16⟩
  | .local _ .vmem, ⟨39, _⟩ => ⟨S528x1024, .f32⟩
  | .local _ .vmem, ⟨40, _⟩ => ⟨S528x1024, .bf16⟩
  | .local _ .vmem, ⟨41, _⟩ => ⟨S512x2816, .bf16⟩
  | _, _ => ⟨S8x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg23_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32 : BitVec 32 := 64#32
  let v27 : BitVec 32 := Scalar.muli v26 c64_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  let c0_i32_14 : BitVec 32 := 0#32
  ![v16.toNat, c0_i32_12.toNat, v29.toNat, c0_i32_13.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c64_i32 : BitVec 32 := 64#32
  let v28 : BitVec 32 := Scalar.muli v27 c64_i32
  let c1023_i32 : BitVec 32 := 1023#32
  let v29 : BitVec 32 := Scalar.minsi v28 c1023_i32
  let c0_i32_11 : BitVec 32 := 0#32
  let c0_i32_12 : BitVec 32 := 0#32
  let c0_i32_13 : BitVec 32 := 0#32
  ![v16.toNat, c0_i32_11.toNat, v29.toNat, c0_i32_12.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32 : BitVec 32 := 64#32
  let v27 : BitVec 32 := Scalar.muli v26 c64_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  let c0_i32_14 : BitVec 32 := 0#32
  ![v16.toNat, c0_i32_12.toNat, v29.toNat, c0_i32_13.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c64_i32 : BitVec 32 := 64#32
  let v28 : BitVec 32 := Scalar.muli v27 c64_i32
  let c1023_i32 : BitVec 32 := 1023#32
  let v29 : BitVec 32 := Scalar.minsi v28 c1023_i32
  let c0_i32_11 : BitVec 32 := 0#32
  let c0_i32_12 : BitVec 32 := 0#32
  let c0_i32_13 : BitVec 32 := 0#32
  ![v16.toNat, c0_i32_11.toNat, v29.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x6x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x5632 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2816 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2816x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== GdnReferenceIdeal.lean ====
abbrev S8x8x8192x128 : Shape := ⟨4, ![8, 8, 8192, 128]⟩
abbrev S65536x1024 : Shape := ⟨2, ![65536, 1024]⟩
abbrev S128 : Shape := ⟨1, ![128]⟩
abbrev S8x8192x1024 : Shape := ⟨3, ![8, 8192, 1024]⟩
abbrev S8x6x1024 : Shape := ⟨3, ![8, 6, 1024]⟩
abbrev S1024x1024 : Shape := ⟨2, ![1024, 1024]⟩
abbrev S2x1024 : Shape := ⟨2, ![2, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x8192x8x128 : Shape := ⟨4, ![8, 8192, 8, 128]⟩
abbrev S_ : Shape := ⟨0, ![]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S8x8194x2816 : Shape := ⟨3, ![8, 8194, 2816]⟩
abbrev S1x2816 : Shape := ⟨2, ![1, 2816]⟩
abbrev S1x1x2816 : Shape := ⟨3, ![1, 1, 2816]⟩

abbrev nBuf : Space → Nat
  | .hbm => 181
  | .vmem => 0
  | .smem => 0
  | _ => 0

abbrev hbmTy0_0 (i : Nat) : BufTy := match i % 128 with
  | 0 => ⟨S8x8x8192x128, .bf16⟩
  | 1 => ⟨S8x8x8192x128, .bf16⟩
  | 2 => ⟨S65536x1024, .bf16⟩
  | 3 => ⟨S128, .f32⟩
  | 4 => ⟨S8x8192x1024, .f32⟩
  | 5 => ⟨S8x6x1024, .f32⟩
  | 6 => ⟨S1024x1024, .f32⟩
  | 7 => ⟨S2x1024, .f32⟩
  | 8 => ⟨S2x1024, .f32⟩
  | 9 => ⟨S1024x5632, .f32⟩
  | 10 => ⟨S3x2816, .f32⟩
  | 11 => ⟨S2816, .f32⟩
  | 12 => ⟨S2816x1024, .f32⟩
  | 13 => ⟨S8x8x8192x128, .f32⟩
  | 14 => ⟨S8x8x8192x128, .f32⟩
  | 15 => ⟨S8x8x8192x128, .f32⟩
  | 16 => ⟨S8x8192x8x128, .f32⟩
  | 17 => ⟨S8x8192x8x128, .f32⟩
  | 18 => ⟨S_, .f32⟩
  | 19 => ⟨S8x8192x8, .f32⟩
  | 20 => ⟨S8x8192x8x1, .f32⟩
  | 21 => ⟨S_, .f32⟩
  | 22 => ⟨S8x8192x8x1, .f32⟩
  | 23 => ⟨S8x8192x8x1, .f32⟩
  | 24 => ⟨S_, .f32⟩
  | 25 => ⟨S8x8192x8x1, .f32⟩
  | 26 => ⟨S8x8192x8x1, .f32⟩
  | 27 => ⟨S8x8192x8x1, .f32⟩
  | 28 => ⟨S8x8192x8x128, .f32⟩
  | 29 => ⟨S8x8192x8x128, .f32⟩
  | 30 => ⟨S1x1x1x128, .f32⟩
  | 31 => ⟨S8x8192x8x128, .f32⟩
  | 32 => ⟨S8x8192x8x128, .f32⟩
  | 33 => ⟨S65536x1024, .f32⟩
  | 34 => ⟨S8x8192x8x128, .f32⟩
  | 35 => ⟨S8x8192x8x128, .f32⟩
  | 36 => ⟨S8x8192x8x128, .f32⟩
  | 37 => ⟨S_, .f32⟩
  | 38 => ⟨S8x8192x8x128, .f32⟩
  | 39 => ⟨S8x8192x8x128, .f32⟩
  | 40 => ⟨S_, .f32⟩
  | 41 => ⟨S8x8192x8x128, .f32⟩
  | 42 => ⟨S8x8192x8x128, .f32⟩
  | 43 => ⟨S8x8192x8x128, .f32⟩
  | 44 => ⟨S8x8192x8x128, .f32⟩
  | 45 => ⟨S8x6x1x1024, .f32⟩
  | 46 => ⟨S8x8192x1024, .f32⟩
  | 47 => ⟨S8x8192x1024, .f32⟩
  | 48 => ⟨S_, .f32⟩
  | 49 => ⟨S8x8192x1024, .f32⟩
  | 50 => ⟨S8x8192x1024, .f32⟩
  | 51 => ⟨S8x1x1x1024, .f32⟩
  | 52 => ⟨S8x1x1024, .f32⟩
  | 53 => ⟨S8x8192x1024, .f32⟩
  | 54 => ⟨S8x8192x1024, .f32⟩
  | 55 => ⟨S8x8192x1024, .f32⟩
  | 56 => ⟨S1x1024, .f32⟩
  | 57 => ⟨S1024, .f32⟩
  | 58 => ⟨S1x1024, .f32⟩
  | 59 => ⟨S1024, .f32⟩
  | 60 => ⟨S_, .f32⟩
  | 61 => ⟨S8x8192, .f32⟩
  | 62 => ⟨S8x8192x1, .f32⟩
  | 63 => ⟨S_, .f32⟩
  | 64 => ⟨S8x8192x1, .f32⟩
  | 65 => ⟨S8x8192x1, .f32⟩
  | 66 => ⟨S8x8192x1024, .f32⟩
  | 67 => ⟨S8x8192x1024, .f32⟩
  | 68 => ⟨S8x8192x1024, .f32⟩
  | 69 => ⟨S_, .f32⟩
  | 70 => ⟨S8x8192, .f32⟩
  | 71 => ⟨S8x8192x1, .f32⟩
  | 72 => ⟨S_, .f32⟩
  | 73 => ⟨S8x8192x1, .f32⟩
  | 74 => ⟨S8x8192x1, .f32⟩
  | 75 => ⟨S8x8192x1024, .f32⟩
  | 76 => ⟨S8x8192x1024, .f32⟩
  | 77 => ⟨S_, .f32⟩
  | 78 => ⟨S8x8192x1, .f32⟩
  | 79 => ⟨S8x8192x1, .f32⟩
  | 80 => ⟨S8x8192x1, .f32⟩
  | 81 => ⟨S8x8192x1024, .f32⟩
  | 82 => ⟨S8x8192x1024, .f32⟩
  | 83 => ⟨S1x1x1024, .f32⟩
  | 84 => ⟨S8x8192x1024, .f32⟩
  | 85 => ⟨S8x8192x1024, .f32⟩
  | 86 => ⟨S1x1x1024, .f32⟩
  | 87 => ⟨S8x8192x1024, .f32⟩
  | 88 => ⟨S8x8192x1024, .f32⟩
  | 89 => ⟨S8x1x1x1024, .f32⟩
  | 90 => ⟨S8x1x1024, .f32⟩
  | 91 => ⟨S8x1x1x1024, .f32⟩
  | 92 => ⟨S8x1x1024, .f32⟩
  | 93 => ⟨S_, .f32⟩
  | 94 => ⟨S8x1x1024, .f32⟩
  | 95 => ⟨S8x1x1024, .f32⟩
  | 96 => ⟨S8x8192x1024, .f32⟩
  | 97 => ⟨S8x8192x1024, .f32⟩
  | 98 => ⟨S8x8192x1024, .f32⟩
  | 99 => ⟨S8x8192x1024, .f32⟩
  | 100 => ⟨S8x8192x5632, .f32⟩
  | 101 => ⟨S8x8192x2816, .f32⟩
  | 102 => ⟨S8x8192x2816, .f32⟩
  | 103 => ⟨S_, .i32⟩
  | 104 => ⟨S_, .f32⟩
  | 105 => ⟨S8x8194x2816, .f32⟩
  | 106 => ⟨S8x8192x2816, .f32⟩
  | 107 => ⟨S1x2816, .f32⟩
  | 108 => ⟨S2816, .f32⟩
  | 109 => ⟨S1x1x2816, .f32⟩
  | 110 => ⟨S8x8192x2816, .f32⟩
  | 111 => ⟨S8x8192x2816, .f32⟩
  | 112 => ⟨S1x2816, .f32⟩
  | 113 => ⟨S2816, .f32⟩
  | 114 => ⟨S1x1x2816, .f32⟩
  | 115 => ⟨S8x8192x2816, .f32⟩
  | 116 => ⟨S8x8192x2816, .f32⟩
  | 117 => ⟨S8x8192x2816, .f32⟩
  | 118 => ⟨S8x8192x2816, .f32⟩
  | 119 => ⟨S1x2816, .f32⟩
  | 120 => ⟨S2816, .f32⟩
  | 121 => ⟨S1x1x2816, .f32⟩
  | 122 => ⟨S8x8192x2816, .f32⟩
  | 123 => ⟨S8x8192x2816, .f32⟩
  | 124 => ⟨S8x8192x2816, .f32⟩
  | 125 => ⟨S1x1x2816, .f32⟩
  | 126 => ⟨S8x8192x2816, .f32⟩
  | 127 => ⟨S8x8192x2816, .f32⟩
  | _ => ⟨S8x8x8192x128, .bf16⟩

abbrev hbmTy0_1 (i : Nat) : BufTy := match i % 128 with
  | 0 => ⟨S8x8192x2816, .f32⟩
  | 1 => ⟨S8x8192x2816, .f32⟩
  | 2 => ⟨S_, .f32⟩
  | 3 => ⟨S8x8192x2816, .f32⟩
  | 4 => ⟨S8x8192x2816, .f32⟩
  | 5 => ⟨S_, .f32⟩
  | 6 => ⟨S8x8192x2816, .f32⟩
  | 7 => ⟨S8x8192x2816, .f32⟩
  | 8 => ⟨S8x8192x2816, .f32⟩
  | 9 => ⟨S8x8192x2816, .f32⟩
  | 10 => ⟨S8x8192x1024, .f32⟩
  | 11 => ⟨S_, .f32⟩
  | 12 => ⟨S8x8192x1024, .f32⟩
  | 13 => ⟨S8x8192x1024, .f32⟩
  | 14 => ⟨S8x1x1x1024, .f32⟩
  | 15 => ⟨S8x1x1024, .f32⟩
  | 16 => ⟨S8x8192x1024, .f32⟩
  | 17 => ⟨S8x8192x1024, .f32⟩
  | 18 => ⟨S8x8192x1024, .f32⟩
  | 19 => ⟨S1x1024, .f32⟩
  | 20 => ⟨S1024, .f32⟩
  | 21 => ⟨S1x1024, .f32⟩
  | 22 => ⟨S1024, .f32⟩
  | 23 => ⟨S_, .f32⟩
  | 24 => ⟨S8x8192, .f32⟩
  | 25 => ⟨S8x8192x1, .f32⟩
  | 26 => ⟨S_, .f32⟩
  | 27 => ⟨S8x8192x1, .f32⟩
  | 28 => ⟨S8x8192x1, .f32⟩
  | 29 => ⟨S8x8192x1024, .f32⟩
  | 30 => ⟨S8x8192x1024, .f32⟩
  | 31 => ⟨S8x8192x1024, .f32⟩
  | 32 => ⟨S_, .f32⟩
  | 33 => ⟨S8x8192, .f32⟩
  | 34 => ⟨S8x8192x1, .f32⟩
  | 35 => ⟨S_, .f32⟩
  | 36 => ⟨S8x8192x1, .f32⟩
  | 37 => ⟨S8x8192x1, .f32⟩
  | 38 => ⟨S8x8192x1024, .f32⟩
  | 39 => ⟨S8x8192x1024, .f32⟩
  | 40 => ⟨S_, .f32⟩
  | 41 => ⟨S8x8192x1, .f32⟩
  | 42 => ⟨S8x8192x1, .f32⟩
  | 43 => ⟨S8x8192x1, .f32⟩
  | 44 => ⟨S8x8192x1024, .f32⟩
  | 45 => ⟨S8x8192x1024, .f32⟩
  | 46 => ⟨S1x1x1024, .f32⟩
  | 47 => ⟨S8x8192x1024, .f32⟩
  | 48 => ⟨S8x8192x1024, .f32⟩
  | 49 => ⟨S1x1x1024, .f32⟩
  | 50 => ⟨S8x8192x1024, .f32⟩
  | 51 => ⟨S8x8192x1024, .f32⟩
  | 52 => ⟨S65536x1024, .f32⟩
  | _ => ⟨S8x8x8192x128, .bf16⟩

abbrev hbmTy (i : Nat) : BufTy := match i / 128 with
  | 0 => hbmTy0_0 i
  | 1 => hbmTy0_1 i
  | _ => ⟨S8x8x8192x128, .bf16⟩

abbrev bufTy : (tb : Table) → Fin (tcTables nBuf tb) → BufTy
  | .hbm, ⟨i, _⟩ => hbmTy i
  | _, _ => ⟨S8x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_8 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c : Ref sig .tc := ⟨.hbm, 103, rfl⟩
abbrev main_call1_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call2_v0 : Ref sig .tc := ⟨.hbm, 128, rfl⟩
abbrev main_call2_v1 : Ref sig .tc := ⟨.hbm, 129, rfl⟩
abbrev main_call2_cst : Ref sig .tc := ⟨.hbm, 130, rfl⟩
abbrev main_call2_v2 : Ref sig .tc := ⟨.hbm, 131, rfl⟩
abbrev main_call2_v3 : Ref sig .tc := ⟨.hbm, 132, rfl⟩
abbrev main_call2_cst_0 : Ref sig .tc := ⟨.hbm, 133, rfl⟩
abbrev main_call2_v4 : Ref sig .tc := ⟨.hbm, 134, rfl⟩
abbrev main_call2_v5 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_9 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_10 : Ref sig .tc := ⟨.hbm, 151, rfl⟩
abbrev main_v109 : Ref sig .tc := ⟨.hbm, 152, rfl⟩
abbrev main_v110 : Ref sig .tc := ⟨.hbm, 153, rfl⟩
abbrev main_cst_11 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_12 : Ref sig .tc := ⟨.hbm, 160, rfl⟩
abbrev main_v116 : Ref sig .tc := ⟨.hbm, 161, rfl⟩
abbrev main_v117 : Ref sig .tc := ⟨.hbm, 162, rfl⟩
abbrev main_cst_13 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_14 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩

abbrev nD : Nat := 1
abbrev τ : Topo := Topo.v7x

variable {F : FTy → Type} [FloatOps F]
-- ==== Gla.lean ====
abbrev S8x4x8192x256 : Shape := ⟨4, ![8, 4, 8192, 256]⟩
abbrev S65536x1024 : Shape := ⟨2, ![65536, 1024]⟩
abbrev S256 : Shape := ⟨1, ![256]⟩
abbrev S8x8192x1024 : Shape := ⟨3, ![8, 8192, 1024]⟩
abbrev S8x6x1024 : Shape := ⟨3, ![8, 6, 1024]⟩
abbrev S1024x1024 : Shape := ⟨2, ![1024, 1024]⟩
abbrev S2x1024 : Shape := ⟨2, ![2, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x256 : Shape := ⟨2, ![1, 256]⟩
abbrev S1x1024 : Shape := ⟨2, ![1, 1024]⟩
abbrev S1024 : Shape := ⟨1, ![1024]⟩
abbrev S1x2816 : Shape := ⟨2, ![1, 2816]⟩
abbrev S1x4x512x256 : Shape := ⟨4, ![1, 4, 512, 256]⟩
abbrev S1x4x8x256 : Shape := ⟨4, ![1, 4, 8, 256]⟩
abbrev S512x1024 : Shape := ⟨2, ![512, 1024]⟩
abbrev S8x1024 : Shape := ⟨2, ![8, 1024]⟩
abbrev S1x6x1024 : Shape := ⟨3, ![1, 6, 1024]⟩
abbrev S528x1024 : Shape := ⟨2, ![528, 1024]⟩
abbrev S512x2816 : Shape := ⟨2, ![512, 2816]⟩
abbrev S1x1x512x256 : Shape := ⟨4, ![1, 1, 512, 256]⟩
abbrev S512x256 : Shape := ⟨2, ![512, 256]⟩
abbrev S512 : Shape := ⟨1, ![512]⟩
abbrev S512x1 : Shape := ⟨2, ![512, 1]⟩
abbrev S1x1x8x256 : Shape := ⟨4, ![1, 1, 8, 256]⟩
abbrev S8x256 : Shape := ⟨2, ![8, 256]⟩
abbrev S8 : Shape := ⟨1, ![8]⟩
abbrev S8x1 : Shape := ⟨2, ![8, 1]⟩
abbrev S1x1x1024 : Shape := ⟨3, ![1, 1, 1024]⟩
abbrev S528 : Shape := ⟨1, ![528]⟩
abbrev S528x1 : Shape := ⟨2, ![528, 1]⟩
abbrev S1024x256 : Shape := ⟨2, ![1024, 256]⟩
abbrev S528x256 : Shape := ⟨2, ![528, 256]⟩

abbrev nBuf : Space → Nat
  | .hbm => 32
  | .vmem => 42
  | .smem => 0
  | _ => 0

abbrev bufTy : (tb : Table) → Fin (tcTables nBuf tb) → BufTy
  | .hbm, ⟨0, _⟩ => ⟨S8x4x8192x256, .bf16⟩
  | .hbm, ⟨1, _⟩ => ⟨S8x4x8192x256, .bf16⟩
  | .hbm, ⟨2, _⟩ => ⟨S65536x1024, .bf16⟩
  | .hbm, ⟨3, _⟩ => ⟨S256, .f32⟩
  | .hbm, ⟨4, _⟩ => ⟨S8x8192x1024, .f32⟩
  | .hbm, ⟨5, _⟩ => ⟨S8x6x1024, .f32⟩
  | .hbm, ⟨6, _⟩ => ⟨S1024x1024, .f32⟩
  | .hbm, ⟨7, _⟩ => ⟨S2x1024, .f32⟩
  | .hbm, ⟨8, _⟩ => ⟨S2x1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S65536x1024, .f32⟩
  | .hbm, ⟨14, _⟩ => ⟨S1024x1024, .bf16⟩
  | .hbm, ⟨15, _⟩ => ⟨S1024x5632, .bf16⟩
  | .hbm, ⟨16, _⟩ => ⟨S2816x1024, .bf16⟩
  | .hbm, ⟨17, _⟩ => ⟨S1x256, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x2816, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S65536x1024, .f32⟩
  | .local _ .vmem, ⟨0, _⟩ => ⟨S1x4x512x256, .bf16⟩
  | .local _ .vmem, ⟨1, _⟩ => ⟨S1x4x512x256, .bf16⟩
  | .local _ .vmem, ⟨2, _⟩ => ⟨S1x4x8x256, .bf16⟩
  | .local _ .vmem, ⟨3, _⟩ => ⟨S1x4x8x256, .bf16⟩
  | .local _ .vmem, ⟨4, _⟩ => ⟨S1x4x8x256, .bf16⟩
  | .local _ .vmem, ⟨5, _⟩ => ⟨S1x4x8x256, .bf16⟩
  | .local _ .vmem, ⟨6, _⟩ => ⟨S1x4x512x256, .bf16⟩
  | .local _ .vmem, ⟨7, _⟩ => ⟨S1x4x512x256, .bf16⟩
  | .local _ .vmem, ⟨8, _⟩ => ⟨S1x4x8x256, .bf16⟩
  | .local _ .vmem, ⟨9, _⟩ => ⟨S1x4x8x256, .bf16⟩
  | .local _ .vmem, ⟨10, _⟩ => ⟨S1x4x8x256, .bf16⟩
  | .local _ .vmem, ⟨11, _⟩ => ⟨S1x4x8x256, .bf16⟩
  | .local _ .vmem, ⟨12, _⟩ => ⟨S512x1024, .bf16⟩
  | .local _ .vmem, ⟨13, _⟩ => ⟨S512x1024, .bf16⟩
  | .local _ .vmem, ⟨14, _⟩ => ⟨S8x1024, .bf16⟩
  | .local _ .vmem, ⟨15, _⟩ => ⟨S8x1024, .bf16⟩
  | .local _ .vmem, ⟨16, _⟩ => ⟨S8x1024, .bf16⟩
  | .local _ .vmem, ⟨17, _⟩ => ⟨S8x1024, .bf16⟩
  | .local _ .vmem, ⟨18, _⟩ => ⟨S1x256, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | .local _ .vmem, ⟨26, _⟩ => ⟨S1x6x1024, .f32⟩
  | .local _ .vmem, ⟨27, _⟩ => ⟨S1x6x1024, .f32⟩
  | .local _ .vmem, ⟨28, _⟩ => ⟨S1x1024, .f32⟩
  | .local _ .vmem, ⟨29, _⟩ => ⟨S1x1024, .f32⟩
  | .local _ .vmem, ⟨30, _⟩ => ⟨S1024x5632, .bf16⟩
  | .local _ .vmem, ⟨31, _⟩ => ⟨S3x2816, .f32⟩
  | .local _ .vmem, ⟨32, _⟩ => ⟨S1x2816, .f32⟩
  | .local _ .vmem, ⟨33, _⟩ => ⟨S2816x1024, .bf16⟩
  | .local _ .vmem, ⟨34, _⟩ => ⟨S1x1024, .f32⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | .local _ .vmem, ⟨38, _⟩ => ⟨S528x1024, .bf16⟩
  | .local _ .vmem, ⟨39, _⟩ => ⟨S528x1024, .f32⟩
  | .local _ .vmem, ⟨40, _⟩ => ⟨S528x1024, .bf16⟩
  | .local _ .vmem, ⟨41, _⟩ => ⟨S512x2816, .bf16⟩
  | _, _ => ⟨S8x4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg23_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32 : BitVec 32 := 64#32
  let v27 : BitVec 32 := Scalar.muli v26 c64_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  let c0_i32_14 : BitVec 32 := 0#32
  ![v16.toNat, c0_i32_12.toNat, v29.toNat, c0_i32_13.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c64_i32 : BitVec 32 := 64#32
  let v28 : BitVec 32 := Scalar.muli v27 c64_i32
  let c1023_i32 : BitVec 32 := 1023#32
  let v29 : BitVec 32 := Scalar.minsi v28 c1023_i32
  let c0_i32_11 : BitVec 32 := 0#32
  let c0_i32_12 : BitVec 32 := 0#32
  let c0_i32_13 : BitVec 32 := 0#32
  ![v16.toNat, c0_i32_11.toNat, v29.toNat, c0_i32_12.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c64_i32 : BitVec 32 := 64#32
  let v27 : BitVec 32 := Scalar.muli v26 c64_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  let c0_i32_14 : BitVec 32 := 0#32
  ![v16.toNat, c0_i32_12.toNat, v29.toNat, c0_i32_13.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c64_i32 : BitVec 32 := 64#32
  let v28 : BitVec 32 := Scalar.muli v27 c64_i32
  let c1023_i32 : BitVec 32 := 1023#32
  let v29 : BitVec 32 := Scalar.minsi v28 c1023_i32
  let c0_i32_11 : BitVec 32 := 0#32
  let c0_i32_12 : BitVec 32 := 0#32
  let c0_i32_13 : BitVec 32 := 0#32
  ![v16.toNat, c0_i32_11.toNat, v29.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x8x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x6x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x5632 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2816 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2816x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== GlaReferenceIdeal.lean ====
abbrev S8x4x8192x256 : Shape := ⟨4, ![8, 4, 8192, 256]⟩
abbrev S65536x1024 : Shape := ⟨2, ![65536, 1024]⟩
abbrev S256 : Shape := ⟨1, ![256]⟩
abbrev S8x8192x1024 : Shape := ⟨3, ![8, 8192, 1024]⟩
abbrev S8x6x1024 : Shape := ⟨3, ![8, 6, 1024]⟩
abbrev S1024x1024 : Shape := ⟨2, ![1024, 1024]⟩
abbrev S2x1024 : Shape := ⟨2, ![2, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x8192x4x256 : Shape := ⟨4, ![8, 8192, 4, 256]⟩
abbrev S_ : Shape := ⟨0, ![]⟩
abbrev S8x8192x4 : Shape := ⟨3, ![8, 8192, 4]⟩
abbrev S8x8192x4x1 : Shape := ⟨4, ![8, 8192, 4, 1]⟩
abbrev S1x1x1x256 : Shape := ⟨4, ![1, 1, 1, 256]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S8x8194x2816 : Shape := ⟨3, ![8, 8194, 2816]⟩
abbrev S1x2816 : Shape := ⟨2, ![1, 2816]⟩
abbrev S1x1x2816 : Shape := ⟨3, ![1, 1, 2816]⟩

abbrev nBuf : Space → Nat
  | .hbm => 181
  | .vmem => 0
  | .smem => 0
  | _ => 0

abbrev hbmTy0_0 (i : Nat) : BufTy := match i % 128 with
  | 0 => ⟨S8x4x8192x256, .bf16⟩
  | 1 => ⟨S8x4x8192x256, .bf16⟩
  | 2 => ⟨S65536x1024, .bf16⟩
  | 3 => ⟨S256, .f32⟩
  | 4 => ⟨S8x8192x1024, .f32⟩
  | 5 => ⟨S8x6x1024, .f32⟩
  | 6 => ⟨S1024x1024, .f32⟩
  | 7 => ⟨S2x1024, .f32⟩
  | 8 => ⟨S2x1024, .f32⟩
  | 9 => ⟨S1024x5632, .f32⟩
  | 10 => ⟨S3x2816, .f32⟩
  | 11 => ⟨S2816, .f32⟩
  | 12 => ⟨S2816x1024, .f32⟩
  | 13 => ⟨S8x4x8192x256, .f32⟩
  | 14 => ⟨S8x4x8192x256, .f32⟩
  | 15 => ⟨S8x4x8192x256, .f32⟩
  | 16 => ⟨S8x8192x4x256, .f32⟩
  | 17 => ⟨S8x8192x4x256, .f32⟩
  | 18 => ⟨S_, .f32⟩
  | 19 => ⟨S8x8192x4, .f32⟩
  | 20 => ⟨S8x8192x4x1, .f32⟩
  | 21 => ⟨S_, .f32⟩
  | 22 => ⟨S8x8192x4x1, .f32⟩
  | 23 => ⟨S8x8192x4x1, .f32⟩
  | 24 => ⟨S_, .f32⟩
  | 25 => ⟨S8x8192x4x1, .f32⟩
  | 26 => ⟨S8x8192x4x1, .f32⟩
  | 27 => ⟨S8x8192x4x1, .f32⟩
  | 28 => ⟨S8x8192x4x256, .f32⟩
  | 29 => ⟨S8x8192x4x256, .f32⟩
  | 30 => ⟨S1x1x1x256, .f32⟩
  | 31 => ⟨S8x8192x4x256, .f32⟩
  | 32 => ⟨S8x8192x4x256, .f32⟩
  | 33 => ⟨S65536x1024, .f32⟩
  | 34 => ⟨S8x8192x4x256, .f32⟩
  | 35 => ⟨S8x8192x4x256, .f32⟩
  | 36 => ⟨S8x8192x4x256, .f32⟩
  | 37 => ⟨S_, .f32⟩
  | 38 => ⟨S8x8192x4x256, .f32⟩
  | 39 => ⟨S8x8192x4x256, .f32⟩
  | 40 => ⟨S_, .f32⟩
  | 41 => ⟨S8x8192x4x256, .f32⟩
  | 42 => ⟨S8x8192x4x256, .f32⟩
  | 43 => ⟨S8x8192x4x256, .f32⟩
  | 44 => ⟨S8x8192x4x256, .f32⟩
  | 45 => ⟨S8x6x1x1024, .f32⟩
  | 46 => ⟨S8x8192x1024, .f32⟩
  | 47 => ⟨S8x8192x1024, .f32⟩
  | 48 => ⟨S_, .f32⟩
  | 49 => ⟨S8x8192x1024, .f32⟩
  | 50 => ⟨S8x8192x1024, .f32⟩
  | 51 => ⟨S8x1x1x1024, .f32⟩
  | 52 => ⟨S8x1x1024, .f32⟩
  | 53 => ⟨S8x8192x1024, .f32⟩
  | 54 => ⟨S8x8192x1024, .f32⟩
  | 55 => ⟨S8x8192x1024, .f32⟩
  | 56 => ⟨S1x1024, .f32⟩
  | 57 => ⟨S1024, .f32⟩
  | 58 => ⟨S1x1024, .f32⟩
  | 59 => ⟨S1024, .f32⟩
  | 60 => ⟨S_, .f32⟩
  | 61 => ⟨S8x8192, .f32⟩
  | 62 => ⟨S8x8192x1, .f32⟩
  | 63 => ⟨S_, .f32⟩
  | 64 => ⟨S8x8192x1, .f32⟩
  | 65 => ⟨S8x8192x1, .f32⟩
  | 66 => ⟨S8x8192x1024, .f32⟩
  | 67 => ⟨S8x8192x1024, .f32⟩
  | 68 => ⟨S8x8192x1024, .f32⟩
  | 69 => ⟨S_, .f32⟩
  | 70 => ⟨S8x8192, .f32⟩
  | 71 => ⟨S8x8192x1, .f32⟩
  | 72 => ⟨S_, .f32⟩
  | 73 => ⟨S8x8192x1, .f32⟩
  | 74 => ⟨S8x8192x1, .f32⟩
  | 75 => ⟨S8x8192x1024, .f32⟩
  | 76 => ⟨S8x8192x1024, .f32⟩
  | 77 => ⟨S_, .f32⟩
  | 78 => ⟨S8x8192x1, .f32⟩
  | 79 => ⟨S8x8192x1, .f32⟩
  | 80 => ⟨S8x8192x1, .f32⟩
  | 81 => ⟨S8x8192x1024, .f32⟩
  | 82 => ⟨S8x8192x1024, .f32⟩
  | 83 => ⟨S1x1x1024, .f32⟩
  | 84 => ⟨S8x8192x1024, .f32⟩
  | 85 => ⟨S8x8192x1024, .f32⟩
  | 86 => ⟨S1x1x1024, .f32⟩
  | 87 => ⟨S8x8192x1024, .f32⟩
  | 88 => ⟨S8x8192x1024, .f32⟩
  | 89 => ⟨S8x1x1x1024, .f32⟩
  | 90 => ⟨S8x1x1024, .f32⟩
  | 91 => ⟨S8x1x1x1024, .f32⟩
  | 92 => ⟨S8x1x1024, .f32⟩
  | 93 => ⟨S_, .f32⟩
  | 94 => ⟨S8x1x1024, .f32⟩
  | 95 => ⟨S8x1x1024, .f32⟩
  | 96 => ⟨S8x8192x1024, .f32⟩
  | 97 => ⟨S8x8192x1024, .f32⟩
  | 98 => ⟨S8x8192x1024, .f32⟩
  | 99 => ⟨S8x8192x1024, .f32⟩
  | 100 => ⟨S8x8192x5632, .f32⟩
  | 101 => ⟨S8x8192x2816, .f32⟩
  | 102 => ⟨S8x8192x2816, .f32⟩
  | 103 => ⟨S_, .i32⟩
  | 104 => ⟨S_, .f32⟩
  | 105 => ⟨S8x8194x2816, .f32⟩
  | 106 => ⟨S8x8192x2816, .f32⟩
  | 107 => ⟨S1x2816, .f32⟩
  | 108 => ⟨S2816, .f32⟩
  | 109 => ⟨S1x1x2816, .f32⟩
  | 110 => ⟨S8x8192x2816, .f32⟩
  | 111 => ⟨S8x8192x2816, .f32⟩
  | 112 => ⟨S1x2816, .f32⟩
  | 113 => ⟨S2816, .f32⟩
  | 114 => ⟨S1x1x2816, .f32⟩
  | 115 => ⟨S8x8192x2816, .f32⟩
  | 116 => ⟨S8x8192x2816, .f32⟩
  | 117 => ⟨S8x8192x2816, .f32⟩
  | 118 => ⟨S8x8192x2816, .f32⟩
  | 119 => ⟨S1x2816, .f32⟩
  | 120 => ⟨S2816, .f32⟩
  | 121 => ⟨S1x1x2816, .f32⟩
  | 122 => ⟨S8x8192x2816, .f32⟩
  | 123 => ⟨S8x8192x2816, .f32⟩
  | 124 => ⟨S8x8192x2816, .f32⟩
  | 125 => ⟨S1x1x2816, .f32⟩
  | 126 => ⟨S8x8192x2816, .f32⟩
  | 127 => ⟨S8x8192x2816, .f32⟩
  | _ => ⟨S8x4x8192x256, .bf16⟩

abbrev hbmTy0_1 (i : Nat) : BufTy := match i % 128 with
  | 0 => ⟨S8x8192x2816, .f32⟩
  | 1 => ⟨S8x8192x2816, .f32⟩
  | 2 => ⟨S_, .f32⟩
  | 3 => ⟨S8x8192x2816, .f32⟩
  | 4 => ⟨S8x8192x2816, .f32⟩
  | 5 => ⟨S_, .f32⟩
  | 6 => ⟨S8x8192x2816, .f32⟩
  | 7 => ⟨S8x8192x2816, .f32⟩
  | 8 => ⟨S8x8192x2816, .f32⟩
  | 9 => ⟨S8x8192x2816, .f32⟩
  | 10 => ⟨S8x8192x1024, .f32⟩
  | 11 => ⟨S_, .f32⟩
  | 12 => ⟨S8x8192x1024, .f32⟩
  | 13 => ⟨S8x8192x1024, .f32⟩
  | 14 => ⟨S8x1x1x1024, .f32⟩
  | 15 => ⟨S8x1x1024, .f32⟩
  | 16 => ⟨S8x8192x1024, .f32⟩
  | 17 => ⟨S8x8192x1024, .f32⟩
  | 18 => ⟨S8x8192x1024, .f32⟩
  | 19 => ⟨S1x1024, .f32⟩
  | 20 => ⟨S1024, .f32⟩
  | 21 => ⟨S1x1024, .f32⟩
  | 22 => ⟨S1024, .f32⟩
  | 23 => ⟨S_, .f32⟩
  | 24 => ⟨S8x8192, .f32⟩
  | 25 => ⟨S8x8192x1, .f32⟩
  | 26 => ⟨S_, .f32⟩
  | 27 => ⟨S8x8192x1, .f32⟩
  | 28 => ⟨S8x8192x1, .f32⟩
  | 29 => ⟨S8x8192x1024, .f32⟩
  | 30 => ⟨S8x8192x1024, .f32⟩
  | 31 => ⟨S8x8192x1024, .f32⟩
  | 32 => ⟨S_, .f32⟩
  | 33 => ⟨S8x8192, .f32⟩
  | 34 => ⟨S8x8192x1, .f32⟩
  | 35 => ⟨S_, .f32⟩
  | 36 => ⟨S8x8192x1, .f32⟩
  | 37 => ⟨S8x8192x1, .f32⟩
  | 38 => ⟨S8x8192x1024, .f32⟩
  | 39 => ⟨S8x8192x1024, .f32⟩
  | 40 => ⟨S_, .f32⟩
  | 41 => ⟨S8x8192x1, .f32⟩
  | 42 => ⟨S8x8192x1, .f32⟩
  | 43 => ⟨S8x8192x1, .f32⟩
  | 44 => ⟨S8x8192x1024, .f32⟩
  | 45 => ⟨S8x8192x1024, .f32⟩
  | 46 => ⟨S1x1x1024, .f32⟩
  | 47 => ⟨S8x8192x1024, .f32⟩
  | 48 => ⟨S8x8192x1024, .f32⟩
  | 49 => ⟨S1x1x1024, .f32⟩
  | 50 => ⟨S8x8192x1024, .f32⟩
  | 51 => ⟨S8x8192x1024, .f32⟩
  | 52 => ⟨S65536x1024, .f32⟩
  | _ => ⟨S8x4x8192x256, .bf16⟩

abbrev hbmTy (i : Nat) : BufTy := match i / 128 with
  | 0 => hbmTy0_0 i
  | 1 => hbmTy0_1 i
  | _ => ⟨S8x4x8192x256, .bf16⟩

abbrev bufTy : (tb : Table) → Fin (tcTables nBuf tb) → BufTy
  | .hbm, ⟨i, _⟩ => hbmTy i
  | _, _ => ⟨S8x4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_8 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c : Ref sig .tc := ⟨.hbm, 103, rfl⟩
abbrev main_call1_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call2_v0 : Ref sig .tc := ⟨.hbm, 128, rfl⟩
abbrev main_call2_v1 : Ref sig .tc := ⟨.hbm, 129, rfl⟩
abbrev main_call2_cst : Ref sig .tc := ⟨.hbm, 130, rfl⟩
abbrev main_call2_v2 : Ref sig .tc := ⟨.hbm, 131, rfl⟩
abbrev main_call2_v3 : Ref sig .tc := ⟨.hbm, 132, rfl⟩
abbrev main_call2_cst_0 : Ref sig .tc := ⟨.hbm, 133, rfl⟩
abbrev main_call2_v4 : Ref sig .tc := ⟨.hbm, 134, rfl⟩
abbrev main_call2_v5 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_9 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_10 : Ref sig .tc := ⟨.hbm, 151, rfl⟩
abbrev main_v109 : Ref sig .tc := ⟨.hbm, 152, rfl⟩
abbrev main_v110 : Ref sig .tc := ⟨.hbm, 153, rfl⟩
abbrev main_cst_11 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_12 : Ref sig .tc := ⟨.hbm, 160, rfl⟩
abbrev main_v116 : Ref sig .tc := ⟨.hbm, 161, rfl⟩
abbrev main_v117 : Ref sig .tc := ⟨.hbm, 162, rfl⟩
abbrev main_cst_13 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_14 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩

abbrev nD : Nat := 1
abbrev τ : Topo := Topo.v7x

variable {F : FTy → Type} [FloatOps F]
-- ==== Proof.GlaRunIdeal.lean ====
/- The run of the whole body of the idealized step after the gated attention: the generated module's text, its one long
   run given a larger heartbeat budget. -/
module

public import proofs.«01_k».proof.Proof.Gen.GlaIdeal.Frame.Runs

@[expose] public section

-- the extents of the arrays are large
set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x4x512x256 .bf16) (harg1 : arg1.IsWhole) (arg2 : Memref sig .tc .vmem S1x4x8x256 .bf16) (harg2 : arg2.IsWhole) (arg3 : Memref sig .tc .vmem S1x4x8x256 .bf16) (harg3 : arg3.IsWhole) (arg4 : Memref sig .tc .vmem S1x4x512x256 .bf16) (harg4 : arg4.IsWhole) (arg5 : Memref sig .tc .vmem S1x4x8x256 .bf16) (harg5 : arg5.IsWhole) (arg6 : Memref sig .tc .vmem S1x4x8x256 .bf16) (harg6 : arg6.IsWhole) (arg7 : Memref sig .tc .vmem S512x1024 .bf16) (harg7 : arg7.IsWhole) (arg8 : Memref sig .tc .vmem S8x1024 .bf16) (harg8 : arg8.IsWhole) (arg9 : Memref sig .tc .vmem S8x1024 .bf16) (harg9 : arg9.IsWhole) (arg10 : Memref sig .tc .vmem S1x256 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S1x6x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1024x5632 .bf16) (harg18 : arg18.IsWhole) (arg19 : Memref sig .tc .vmem S3x2816 .f32) (harg19 : arg19.IsWhole) (arg20 : Memref sig .tc .vmem S1x2816 .f32) (harg20 : arg20.IsWhole) (arg21 : Memref sig .tc .vmem S2816x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S512x1024 .f32) (harg24 : arg24.IsWhole) (arg25 : Memref sig .tc .vmem S528x1024 .bf16) (harg25 : arg25.IsWhole) (arg26 : Memref sig .tc .vmem S528x1024 .f32) (harg26 : arg26.IsWhole) (arg27 : Memref sig .tc .vmem S528x1024 .bf16) (harg27 : arg27.IsWhole) (arg28 : Memref sig .tc .vmem S512x2816 .bf16) (harg28 : arg28.IsWhole)
    (x0 : Vec F S1x4x512x256 .bf16) (x1 : Vec F S1x4x8x256 .bf16) (x2 : Vec F S1x4x8x256 .bf16) (x3 : Vec F S1x4x512x256 .bf16) (x4 : Vec F S1x4x8x256 .bf16) (x5 : Vec F S1x4x8x256 .bf16) (x6 : Vec F S512x1024 .bf16) (x7 : Vec F S8x1024 .bf16) (x8 : Vec F S8x1024 .bf16) (x9 : Vec F S1x256 .f32) (x10 : Vec F S1024x1024 .bf16) (x11 : Vec F S512x1024 .f32) (x12 : Vec F S8x1024 .f32) (x13 : Vec F S8x1024 .f32) (x14 : Vec F S1x6x1024 .f32) (x15 : Vec F S1x1024 .f32) (x16 : Vec F S1x1024 .f32) (x17 : Vec F S1024x5632 .bf16) (x18 : Vec F S3x2816 .f32) (x19 : Vec F S1x2816 .f32) (x20 : Vec F S2816x1024 .bf16) (x21 : Vec F S1x1024 .f32) (x22 : Vec F S1x1024 .f32) :
    Σ' (L23 : List (View.Piece (Elt F) S512x1024 .f32)), Σ' (LT0 : List (View.Piece (Elt F) S528x1024 .bf16)), Σ' (LT1 : List (View.Piece (Elt F) S528x1024 .f32)), Σ' (LT2 : List (View.Piece (Elt F) S528x1024 .bf16)), { LT3 : List (View.Piece (Elt F) S512x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f LT0) ∗ (∃ f, arg26.view.loc (c : Thread nD τ) ↦[arg26.view.set]{fullShare} arg26.view.writes (Elt F) f LT1) ∗ (∃ f, arg27.view.loc (c : Thread nD τ) ↦[arg27.view.set]{fullShare} arg27.view.writes (Elt F) f LT2) ∗ (∃ f, arg28.view.loc (c : Thread nD τ) ↦[arg28.view.set]{fullShare} arg28.view.writes (Elt F) f LT3)) -∗ K ⟨⟩))
          ⊢ wp frame (wpE (defs₀ (F := F)) Variants.none c none) E (cc0_mix_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, fun E K => ?run⟩
  case run =>
    simp only [cc0_mix_ffn_eq_skeleton]; unfold cc0_mix_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]; · iexists _; iexact H23
    isplitl [HS0]; · iexists _; iexact HS0
    isplitl [HS1]; · iexists _; iexact HS1
    isplitl [HS2]; · iexists _; iexact HS2
    iexists _; iexact HS3

end Cert.GlaIdeal.Gen

end
-- ==== Proof.GlaFrameIdeal.lean ====
/- The frame of the idealized step after the gated attention: the generated module's text over the run of
   GlaRunIdeal.lean. -/
module

public import proofs.«01_k».proof.Proof.GlaRunIdeal
public import Idealize.ShloMosaic.Lib.Claim

@[expose] public section

-- the extents of the arrays are large
set_option maxRecDepth 16384

noncomputable section

namespace Cert.GlaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 23 tile its block (1 store of `S512x1024`), so they cover it. -/
theorem cover0_A_23 (c : Dev nD) (i : grid0.Coords) (arg1 : Memref sig .tc .vmem S1x4x512x256 .bf16) (harg1 : arg1.IsWhole) (arg2 : Memref sig .tc .vmem S1x4x8x256 .bf16) (harg2 : arg2.IsWhole) (arg3 : Memref sig .tc .vmem S1x4x8x256 .bf16) (harg3 : arg3.IsWhole) (arg4 : Memref sig .tc .vmem S1x4x512x256 .bf16) (harg4 : arg4.IsWhole) (arg5 : Memref sig .tc .vmem S1x4x8x256 .bf16) (harg5 : arg5.IsWhole) (arg6 : Memref sig .tc .vmem S1x4x8x256 .bf16) (harg6 : arg6.IsWhole) (arg7 : Memref sig .tc .vmem S512x1024 .bf16) (harg7 : arg7.IsWhole) (arg8 : Memref sig .tc .vmem S8x1024 .bf16) (harg8 : arg8.IsWhole) (arg9 : Memref sig .tc .vmem S8x1024 .bf16) (harg9 : arg9.IsWhole) (arg10 : Memref sig .tc .vmem S1x256 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S1x6x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1024x5632 .bf16) (harg18 : arg18.IsWhole) (arg19 : Memref sig .tc .vmem S3x2816 .f32) (harg19 : arg19.IsWhole) (arg20 : Memref sig .tc .vmem S1x2816 .f32) (harg20 : arg20.IsWhole) (arg21 : Memref sig .tc .vmem S2816x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S512x1024 .f32) (harg24 : arg24.IsWhole) (arg25 : Memref sig .tc .vmem S528x1024 .bf16) (harg25 : arg25.IsWhole) (arg26 : Memref sig .tc .vmem S528x1024 .f32) (harg26 : arg26.IsWhole) (arg27 : Memref sig .tc .vmem S528x1024 .bf16) (harg27 : arg27.IsWhole) (arg28 : Memref sig .tc .vmem S512x2816 .bf16) (harg28 : arg28.IsWhole)
    (x0 : Vec F S1x4x512x256 .bf16) (x1 : Vec F S1x4x8x256 .bf16) (x2 : Vec F S1x4x8x256 .bf16) (x3 : Vec F S1x4x512x256 .bf16) (x4 : Vec F S1x4x8x256 .bf16) (x5 : Vec F S1x4x8x256 .bf16) (x6 : Vec F S512x1024 .bf16) (x7 : Vec F S8x1024 .bf16) (x8 : Vec F S8x1024 .bf16) (x9 : Vec F S1x256 .f32) (x10 : Vec F S1024x1024 .bf16) (x11 : Vec F S512x1024 .f32) (x12 : Vec F S8x1024 .f32) (x13 : Vec F S8x1024 .f32) (x14 : Vec F S1x6x1024 .f32) (x15 : Vec F S1x1024 .f32) (x16 : Vec F S1x1024 .f32) (x17 : Vec F S1024x5632 .bf16) (x18 : Vec F S3x2816 .f32) (x19 : Vec F S1x2816 .f32) (x20 : Vec F S2816x1024 .bf16) (x21 : Vec F S1x1024 .f32) (x22 : Vec F S1x1024 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).1 S512x1024.size (by sl_kernel_rfl) y

/-- What the run leaves in output 23's staging buffer: its pieces read back over junk. -/
def out0_A_23 (c : Dev nD) (i : grid0.Coords) (arg1 : Memref sig .tc .vmem S1x4x512x256 .bf16) (harg1 : arg1.IsWhole) (arg2 : Memref sig .tc .vmem S1x4x8x256 .bf16) (harg2 : arg2.IsWhole) (arg3 : Memref sig .tc .vmem S1x4x8x256 .bf16) (harg3 : arg3.IsWhole) (arg4 : Memref sig .tc .vmem S1x4x512x256 .bf16) (harg4 : arg4.IsWhole) (arg5 : Memref sig .tc .vmem S1x4x8x256 .bf16) (harg5 : arg5.IsWhole) (arg6 : Memref sig .tc .vmem S1x4x8x256 .bf16) (harg6 : arg6.IsWhole) (arg7 : Memref sig .tc .vmem S512x1024 .bf16) (harg7 : arg7.IsWhole) (arg8 : Memref sig .tc .vmem S8x1024 .bf16) (harg8 : arg8.IsWhole) (arg9 : Memref sig .tc .vmem S8x1024 .bf16) (harg9 : arg9.IsWhole) (arg10 : Memref sig .tc .vmem S1x256 .f32) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S1x6x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1024x5632 .bf16) (harg18 : arg18.IsWhole) (arg19 : Memref sig .tc .vmem S3x2816 .f32) (harg19 : arg19.IsWhole) (arg20 : Memref sig .tc .vmem S1x2816 .f32) (harg20 : arg20.IsWhole) (arg21 : Memref sig .tc .vmem S2816x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S512x1024 .f32) (harg24 : arg24.IsWhole) (arg25 : Memref sig .tc .vmem S528x1024 .bf16) (harg25 : arg25.IsWhole) (arg26 : Memref sig .tc .vmem S528x1024 .f32) (harg26 : arg26.IsWhole) (arg27 : Memref sig .tc .vmem S528x1024 .bf16) (harg27 : arg27.IsWhole) (arg28 : Memref sig .tc .vmem S512x2816 .bf16) (harg28 : arg28.IsWhole)
    (x0 : Vec F S1x4x512x256 .bf16) (x1 : Vec F S1x4x8x256 .bf16) (x2 : Vec F S1x4x8x256 .bf16) (x3 : Vec F S1x4x512x256 .bf16) (x4 : Vec F S1x4x8x256 .bf16) (x5 : Vec F S1x4x8x256 .bf16) (x6 : Vec F S512x1024 .bf16) (x7 : Vec F S8x1024 .bf16) (x8 : Vec F S8x1024 .bf16) (x9 : Vec F S1x256 .f32) (x10 : Vec F S1024x1024 .bf16) (x11 : Vec F S512x1024 .f32) (x12 : Vec F S8x1024 .f32) (x13 : Vec F S8x1024 .f32) (x14 : Vec F S1x6x1024 .f32) (x15 : Vec F S1x1024 .f32) (x16 : Vec F S1x1024 .f32) (x17 : Vec F S1024x5632 .bf16) (x18 : Vec F S3x2816 .f32) (x19 : Vec F S1x2816 .f32) (x20 : Vec F S2816x1024 .bf16) (x21 : Vec F S1x1024 .f32) (x22 : Vec F S1x1024 .f32) : Vec F S512x1024 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22).1)

/-! ## What the outputs hold after each point -/

/-- What the outputs' staging buffers hold after the body at point `t`: the run's contents at
    the point's memrefs and input blocks. -/
def outsAt0 (c : Dev nD) (t : Fin cfg0.N) : Vec F S512x1024 .f32 :=
  out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t)
    | ⟨_ + 24, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0
  unfold out0_A_23
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, H22, ⟨%e23, H23⟩, ⟨%fT0, HS0⟩, ⟨%fT1, HS1⟩, ⟨%fT2, HS2⟩, ⟨%fT3, HS3⟩⟩
  isplitl [HS0 HS1 HS2 HS3 Hg]
  · isplitl [HS0 HS1 HS2 HS3]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      iexists _; unfold owns; iexists _; isplitr
      swap; · iexact HS3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_GlaIdeal`'s statement (Defs.lean) at any `F` — Proof.lean cites it at `Bits`:
    `theorem Cert.Proof.claim : Cert.Claim := ⟨Cert.GlaIdeal.Gen.facts, fun m ρ _ => Cert.GlaIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.GlaIdeal.Gen

end
-- ==== Proof.GlaValueIdeal.lean ====
/- What the run of the idealized step after the gated attention leaves in its output: the generated module's text over
   the frame of GlaFrameIdeal.lean. -/
module

public import proofs.«01_k».proof.Proof.GlaFrameIdeal
public import Idealize.ShloMosaic.Lib.Pipeline.Value

@[expose] public section

noncomputable section

namespace Cert.GlaIdeal.Value

open Cert.GlaIdeal Cert.GlaIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 23's array: the run's contents for that window after the body (`Gen.outsAt0`), read through the window's block. -/
theorem flushed23 (c : Dev nD) (t : Fin cfg0.N) :
    (dats m 0 c).flushed 23 t = (cfg0.win 23).cut (grid0.coords t) (outsAt0 m c t) := by
  show (cfg0.win 23).cut (grid0.coords t) ((dats m 0 c).after 23 t) = _
  rw [after0_23]

/-- … so at a point where case A runs, what its write-back would write is that case's NAMED TERM for the window (`Gen.out0_A_23`: the pieces
    its run found, read back) at the point's memrefs and input blocks, and for an output the case reads back what the point before left (`Gen.outsAt0` at `t - 1`) — the kernel's one case, `Gen.outsAt0` by definition. -/
theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  simp only [flushed23, outsAt0]

/-- The index map sends distinct grid points to distinct block indices (decided over the 128 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S65536x1024.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v18) = (dats m 0 c).arrAt 23 cfg0.N :=
  (h c).1 23

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 5 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- After the frame run, argument `main_arg2` is as launched: input window 8 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 8).trans (((dats m 0 c).arrAt_in 8 rfl _).trans ((A_eq m c 8).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 14 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 14).trans (((dats m 0 c).arrAt_in 14 rfl _).trans ((A_eq m c 14).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 18 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 18).trans (((dats m 0 c).arrAt_in 18 rfl _).trans ((A_eq m c 18).trans (V_main_arg10 m c)))

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v18) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.GlaIdeal.Value

end
-- ==== Proof.AttnMath.lean ====
module

public import Idealize.ShloMosaic.Lib.Pointwise
public import Idealize.ShloMosaic.PureOps.Ideal.Laws
public import Mathlib.Analysis.SpecialFunctions.Pow.Real

@[expose] public section

set_option maxRecDepth 16384

noncomputable section

namespace Cert.AttnMath

open Idealize.ShloMosaic

/-- One row of masked scores becomes one element of the attention's result, as the kernel computes it: the scores `S` over
    the 640 keys, the sink's score `s`, the values `v` of one coordinate; the largest score subtracted, powers of two
    taken, the weighted sum of the values divided by the sum of all weights. -/
def attnEl (S : Fin 640 → EReal) (v : Fin 640 → EReal) (s : EReal) : EReal :=
  Ideal.div (∑ n, v n * Ideal.exp2 (S n - max (Finset.univ.fold max ⊥ S) s))
    ((∑ n, Ideal.exp2 (S n - max (Finset.univ.fold max ⊥ S) s)) + Ideal.exp2 (s - max (Finset.univ.fold max ⊥ S) s))

/-- A score is masked (then its weight is zero), or a real number whose exponential is its weight. -/
def Score (x : EReal) (g : ℝ) : Prop := (x = ⊥ ∧ g = 0) ∨ ∃ a : ℝ, x = (a : EReal) ∧ g = Real.exp a

/-- The same, where the score counts in powers of two. -/
def Score2 (x : EReal) (g : ℝ) : Prop := (x = ⊥ ∧ g = 0) ∨ ∃ a : ℝ, x = (a : EReal) ∧ g = Real.exp (a * Real.log 2)

/-- A sum of extended reals times a real number that is not negative, term by term. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A sum of real numbers read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of scores none of which is `⊤` is not `⊤`. -/
theorem fold_max_ne_top {ι : Type*} (s : Finset ι) (f : ι → EReal) (h : ∀ i, f i ≠ ⊤) : s.fold max ⊥ f ≠ ⊤ := by
  classical
  induction s using Finset.induction_on with
  | empty => simp
  | insert a s ha ih =>
    rw [Finset.fold_insert ha]
    rcases max_choice (f a) (s.fold max ⊥ f) with h' | h' <;> rw [h']
    · exact h a
    · exact ih

theorem Score2.ne_top {x : EReal} {g : ℝ} (h : Score2 x g) : x ≠ ⊤ := by
  rcases h with ⟨rfl, _⟩ | ⟨a, rfl, _⟩
  · exact bot_ne_top
  · exact EReal.coe_ne_top a

theorem Score.ne_top {x : EReal} {g : ℝ} (h : Score x g) : x ≠ ⊤ := by
  rcases h with ⟨rfl, _⟩ | ⟨a, rfl, _⟩
  · exact bot_ne_top
  · exact EReal.coe_ne_top a

/-- A power of two of a score less a real number is the score's weight times a factor that does not depend on the score. -/
theorem exp2_score {x : EReal} {g : ℝ} (h : Score2 x g) (M : ℝ) :
    Ideal.exp2 (x - (M : EReal)) = ((g * Real.exp (-(M * Real.log 2)) : ℝ) : EReal) := by
  rcases h with ⟨rfl, rfl⟩ | ⟨a, rfl, rfl⟩
  · rw [EReal.bot_sub, Ideal.exp2_bot]; simp
  · rw [← EReal.coe_sub, Ideal.exp2_coe, ← Real.exp_add]
    congr 1
    show (2 : ℝ) ^ (a - M) = _
    rw [Real.rpow_def_of_pos (by norm_num)]
    congr 1; ring

/-- An exponential of a score less a real number is the score's weight times a factor that does not depend on the score. -/
theorem exp_score {x : EReal} {g : ℝ} (h : Score x g) (M : ℝ) :
    Ideal.exp (x - (M : EReal)) = ((g * Real.exp (-M) : ℝ) : EReal) := by
  rcases h with ⟨rfl, rfl⟩ | ⟨a, rfl, rfl⟩
  · rw [EReal.bot_sub, Ideal.exp_bot]; simp
  · rw [← EReal.coe_sub, Ideal.exp_coe, ← Real.exp_add]
    congr 1

theorem Score2.nonneg {x : EReal} {g : ℝ} (h : Score2 x g) : 0 ≤ g := by
  rcases h with ⟨_, rfl⟩ | ⟨a, _, rfl⟩
  · exact le_refl 0
  · exact (Real.exp_pos _).le

theorem Score.nonneg {x : EReal} {g : ℝ} (h : Score x g) : 0 ≤ g := by
  rcases h with ⟨_, rfl⟩ | ⟨a, _, rfl⟩
  · exact le_refl 0
  · exact (Real.exp_pos _).le

/-- The kernel's element: the weighted sum of the values times the reciprocal of the sum of the weights. -/
theorem attnEl_eq (S v : Fin 640 → EReal) (s : ℝ) (g : Fin 640 → ℝ) (h : ∀ n, Score2 (S n) (g n)) :
    attnEl S v (s : EReal) = (∑ n, v n * (g n : EReal)) * (((∑ n, g n + Real.exp (s * Real.log 2))⁻¹ : ℝ) : EReal) := by
  have hM : max (Finset.univ.fold max ⊥ S) (s : EReal) ≠ ⊤ := by
    rcases max_choice (Finset.univ.fold max ⊥ S) (s : EReal) with h' | h' <;> rw [h']
    · exact fold_max_ne_top _ _ fun n => (h n).ne_top
    · exact EReal.coe_ne_top s
  have hM' : max (Finset.univ.fold max ⊥ S) (s : EReal) ≠ ⊥ :=
    ne_of_gt (lt_of_lt_of_le (EReal.bot_lt_coe s) (le_max_right _ _))
  unfold attnEl
  generalize max (Finset.univ.fold max ⊥ S) (s : EReal) = M at hM hM'
  lift M to ℝ using ⟨hM, hM'⟩
  have hs : Score2 (s : EReal) (Real.exp (s * Real.log 2)) := Or.inr ⟨s, rfl, rfl⟩
  set c := Real.exp (-(M * Real.log 2)) with hc
  have hcpos : 0 < c := Real.exp_pos _
  have hG : 0 < ∑ n, g n + Real.exp (s * Real.log 2) :=
    add_pos_of_nonneg_of_pos (Finset.sum_nonneg fun n _ => (h n).nonneg) (Real.exp_pos _)
  have hden : (∑ n, Ideal.exp2 (S n - (M : EReal))) + Ideal.exp2 ((s : EReal) - (M : EReal))
      = (((∑ n, g n + Real.exp (s * Real.log 2)) * c : ℝ) : EReal) := by
    rw [exp2_score hs, add_mul, EReal.coe_add, Finset.sum_mul, coe_sum]
    refine congrArg (· + _) (Finset.sum_congr rfl fun n _ => exp2_score (h n) M)
  have hnum : (∑ n, v n * Ideal.exp2 (S n - (M : EReal))) = (∑ n, v n * (g n : EReal)) * (c : EReal) := by
    rw [sum_mul_coe _ _ _ hcpos.le]
    refine Finset.sum_congr rfl fun n _ => ?_
    rw [exp2_score (h n), EReal.coe_mul, mul_assoc]
  rw [hden, hnum, Ideal.div_coe (mul_pos hG hcpos).ne', mul_assoc, ← EReal.coe_mul]
  congr 2
  field_simp

/-- One weight of the reference's softmax: the score's weight over the sum of the weights. -/
theorem softmax_eq {N : ℕ} (R : Fin N → EReal) (g : Fin N → ℝ) (h : ∀ j, Score (R j) (g j)) (j₀ : Fin N) (h₀ : R j₀ ≠ ⊥)
    (M : EReal) (hM : M = Finset.univ.fold max ⊥ R) (j : Fin N) :
    Ideal.div (Ideal.exp (R j - M)) (∑ k, Ideal.exp (R k - M)) = ((g j * (∑ k, g k)⁻¹ : ℝ) : EReal) := by
  have hM1 : M ≠ ⊤ := by rw [hM]; exact fold_max_ne_top _ _ fun n => (h n).ne_top
  have hM2 : M ≠ ⊥ := by
    have hle : R j₀ ≤ M := by
      rw [hM, Finset.le_fold_max]; exact Or.inr ⟨j₀, Finset.mem_univ _, le_refl _⟩
    exact fun e => h₀ (le_bot_iff.mp (e ▸ hle))
  clear hM
  lift M to ℝ using ⟨hM1, hM2⟩
  have hcpos : 0 < Real.exp (-M) := Real.exp_pos _
  have hg₀ : 0 < g j₀ := by
    rcases h j₀ with ⟨e, _⟩ | ⟨a, _, e⟩
    · exact absurd e h₀
    · rw [e]; exact Real.exp_pos _
  have hG : 0 < ∑ k, g k :=
    lt_of_lt_of_le hg₀ (Finset.single_le_sum (f := g) (fun k _ => (h k).nonneg) (Finset.mem_univ j₀))
  have hden : (∑ k, Ideal.exp (R k - (M : EReal))) = (((∑ k, g k) * Real.exp (-M) : ℝ) : EReal) := by
    rw [Finset.sum_mul, coe_sum]
    exact Finset.sum_congr rfl fun n _ => exp_score (h n) M
  rw [hden, exp_score (h j), Ideal.div_coe (mul_pos hG hcpos).ne', ← EReal.coe_mul]
  congr 1
  field_simp

end Cert.AttnMath
end
-- ==== Proof.AttnHead.lean ====
module

public import proofs.«01_k».proof.Proof.Gen.KernelIdeal.Skeleton
public import proofs.«01_k».proof.Proof.AttnMath
public import Idealize.ShloMosaic.Lib.Tactic.WordOmega
public import Idealize.ShloMosaic.Lib.WordCmp

@[expose] public section

set_option maxRecDepth 16384

noncomputable section

namespace Cert.AttnHead

open Idealize.ShloMosaic Cert.KernelIdeal Cert.KernelIdeal.Gen Cert.AttnMath

/-- The bits of the kernel's starting value for a maximum are minus infinity. -/
theorem ofBits_ninf : Ideal.ofBits .f32 0xFF800000#32 = ⊥ := by
  show Ideal.ieee 8 23 (0xFF800000#32 : BitVec 32) = ⊥
  unfold Ideal.ieee
  rw [if_pos (by decide), if_pos (by decide), if_pos (by decide)]

/-- One key-value head of one grid point, its four query heads side by side: what the kernel computes before it stores. -/
def headO (m0 m1 : FVec Ideal S128x512 .f32) (q : FVec Ideal S64x512 .bf16) (k : FVec Ideal S640x64 .bf16)
    (v : FVec Ideal S64x640 .bf16) (s : FVec Ideal S1x512 .f32) : FVec Ideal S64x512 .f32 :=
  k0_pay53 v (k0_pay46 s (k0_pay33 m0 m1 q k)) (k0_pay50 s (k0_pay33 m0 m1 q k))

/-- The masked scores of one head at a key and a query: the product of key and query; on the first 128 keys and on the third
    128 keys a mask is added. -/
theorem scores_apply (m0 m1 : FVec Ideal S128x512 .f32) (q : FVec Ideal S64x512 .bf16) (k : FVec Ideal S640x64 .bf16)
    (n : Fin 640) (c : Fin 512) :
    k0_pay33 m0 m1 q k (ix2 n c) = (∑ e : Fin 64, k (ix2 n e) * q (ix2 e c))
      + (if h : n.val < 128 then m0 (ix2 ⟨n.val, h⟩ c)
         else if h : 256 ≤ n.val ∧ n.val - 256 < 128 then m1 (ix2 ⟨n.val - 256, h.2⟩ c) else 0) := by
  pointwise [k0_pay33]
  by_cases h1 : n.val < 128
  · rw [dif_pos h1, dif_pos h1]
  rw [dif_neg h1, dif_neg h1]
  by_cases h2 : n.val - 128 < 128
  · rw [dif_pos h2, dif_neg (by omega), add_zero]
    have e : (⟨128 + (n.val - 128), by omega⟩ : Fin 640) = n := Fin.ext (by show 128 + (n.val - 128) = n.val; omega)
    rw [e]
  rw [dif_neg h2]
  by_cases h3 : n.val - 128 - 128 < 128
  · rw [dif_pos h3, dif_pos (by omega)]
    have e : (⟨256 + (n.val - 128 - 128), by omega⟩ : Fin 640) = n := Fin.ext (by show 256 + (n.val - 128 - 128) = n.val; omega)
    have e' : (⟨n.val - 128 - 128, by omega⟩ : Fin 128) = ⟨n.val - 256, by omega⟩ := Fin.ext (by show n.val - 128 - 128 = n.val - 256; omega)
    rw [e, e']
  · rw [dif_neg h3, dif_neg (by omega), add_zero]
    have e : (⟨384 + (n.val - 128 - 128 - 128), by omega⟩ : Fin 640) = n := Fin.ext (by show 384 + (n.val - 128 - 128 - 128) = n.val; omega)
    rw [e]

/-- A head's element, from its scores, its values and its sink. -/
theorem headO_apply (m0 m1 : FVec Ideal S128x512 .f32) (q : FVec Ideal S64x512 .bf16) (k : FVec Ideal S640x64 .bf16)
    (v : FVec Ideal S64x640 .bf16) (s : FVec Ideal S1x512 .f32) (d : Fin 64) (c : Fin 512) :
    headO m0 m1 q k v s (ix2 d c) = attnEl (fun n => k0_pay33 m0 m1 q k (ix2 n c)) (fun n => v (ix2 d n)) (s (ix2 0 c)) := by
  unfold headO
  generalize k0_pay33 m0 m1 q k = S
  pointwise [attnEl, k0_pay53, k0_pay46, k0_pay50, k0_pay42, k0_pay38]
  rw [ofBits_ninf]
  rfl

/-- The low seven bits of a lane's number are the lane within its group of 128. -/
theorem and127 (c : Fin 512) : IntOp.andi (BitVec.ofNat 32 c.val) 127#32 = BitVec.ofNat 32 (c.val % 128) := by
  revert c; decide +kernel

/-- The first mask: key `n` of the block before is seen by query `c` when `n ≥ c` within the block, and there is a block
    before. -/
theorem mask0_apply (i : grid0.Coords) (n : Fin 128) (c : Fin 512) :
    k0_pay8 (F := Ideal) i (ix2 n c) = if c.val % 128 ≤ n.val ∧ 0 < (i 1).val then 0 else ⊥ := by
  have hi : (i 1).val < 64 := (i 1).isLt
  have hc := and127 c
  pointwise [k0_pay8, k0_pay7]
  rw [show (Named.named κ "mask" 4048155338#32 : Ideal .f32) = ⊥ from IdealRules.named_const.ideal_named_scalar _ _ _ _ rfl, hc]
  have h1 := c.isLt; have h2 := n.isLt; have h3 := Nat.mod_lt c.val (show 128 > 0 by decide)
  by_cases h : c.val % 128 ≤ n.val ∧ 0 < (i 1).val
  · rw [if_pos h]; simp only [Scalar.select]; rw [if_pos]; word_omega
  · rw [if_neg h]; simp only [Scalar.select]; rw [if_neg]; word_omega

/-- The second mask: key `n` of the block after is seen by query `c` when `n ≤ c` within the block, and there is a block
    after. -/
theorem mask1_apply (i : grid0.Coords) (n : Fin 128) (c : Fin 512) :
    k0_pay9 (F := Ideal) i (ix2 n c) = if n.val ≤ c.val % 128 ∧ (i 1).val < 63 then 0 else ⊥ := by
  have hi : (i 1).val < 64 := (i 1).isLt
  have hc := and127 c
  pointwise [k0_pay9, k0_pay7]
  rw [show (Named.named κ "mask" 4048155338#32 : Ideal .f32) = ⊥ from IdealRules.named_const.ideal_named_scalar _ _ _ _ rfl, hc]
  have h1 := c.isLt; have h2 := n.isLt; have h3 := Nat.mod_lt c.val (show 128 > 0 by decide)
  by_cases h : n.val ≤ c.val % 128 ∧ (i 1).val < 63
  · rw [if_pos h]; simp only [Scalar.select]; rw [if_pos]; word_omega
  · rw [if_neg h]; simp only [Scalar.select]; rw [if_neg]; word_omega

/-- One stored piece is a column block of a head, at an index. -/
theorem piece (o : ℕ) (g : Fin 4) (ho : o = 128 * g.val) (X : FVec Ideal S64x512 .f32)
    (hs : S64x512.Slices ![0, o] S64x128) (x : S1x64x128.Idx) :
    shapeCast S1x64x128 (truncf .bf16 (extractStridedSlice S64x128 ![0, o] X hs) bitsLt_bf16_f32) shapeCasts_S64x128_S1x64x128 x
      = X (ix2 (x 1) ⟨128 * g.val + (x 2).val, by have := g.isLt; have : (x 2).val < 128 := (x 2).isLt; omega⟩) := by
  subst ho
  pointwise

end Cert.AttnHead
end
-- ==== Proof.AttnRef.lean ====
module

public import proofs.«01_k».proof.Proof.Gen.ReferenceIdeal.Read
public import proofs.«01_k».proof.Proof.AttnMath
public import proofs.«01_k».proof.Proof.AttnHead
public import Idealize.ShloMosaic.Lib.Pointwise

@[expose] public section

set_option maxRecDepth 16384

noncomputable section

namespace Cert.AttnRef

open Idealize.ShloMosaic Cert.ReferenceIdeal Cert.ReferenceIdeal.Read Cert.AttnMath

variable (x0 : FVec Ideal S8x1024x8192 .bf16) (x1 : FVec Ideal S65536x256 .bf16) (x2 : FVec Ideal S8x256x8192 .bf16)
  (x3 : FVec Ideal S2048x256 .bf16) (x4 : FVec Ideal S8x256x256 .bf16) (x5 : FVec Ideal S16 .f32)

/-- The logits of one row are read at its head, its token and a slot `s` over the 8449 columns. -/
theorem max_apply (b : Fin 8) (kv g : Fin 4) (i : Fin 8192) :
    val_main_v29 (F := Ideal) x0 x1 x3 x5 (ix4 b kv g i) =
      Finset.fold max (⊥ : EReal) (fun s => val_main_v28 (F := Ideal) x0 x1 x3 x5 (ix5 b kv g i s)) Finset.univ := by
  unfold val_main_v29
  generalize val_main_v28 (F := Ideal) x0 x1 x3 x5 = y
  pointwise
  rw [val_main_cst_2_apply]
  refine congrArg (fun z => Finset.fold max z (fun s => y (ix5 b kv g i s)) Finset.univ) ?_
  exact AttnHead.ofBits_ninf

theorem max_ops (x y : EReal) : FloatOps.maximumf (F := Ideal) (φ := .f32) x y = max x y := rfl
theorem sub_ops (x y : EReal) : FloatOps.subf (F := Ideal) (φ := .f32) x y = x - y := rfl
theorem exp_ops (x : EReal) : FloatOps.hostUnary (F := Ideal) (φ := .f32) .exp x = Ideal.exp x := rfl
theorem div_ops (x y : EReal) : FloatOps.hostDivf (F := Ideal) (φ := .f32) x y = Ideal.div x y := rfl
theorem lit_ops (w : BitVec 32) : FloatOps.ofBits (F := Ideal) .f32 w = Ideal.ofBits .f32 w := rfl

theorem row_ix (b : Fin 8) (kv g : Fin 4) (i : Fin 8192) (s : Fin 8449) :
    idx_main_v32 (idx_main_v33 (ix5 b kv g i s)) = ix4 b kv g i :=
  funext fun a => match a with | ⟨0, _⟩ => rfl | ⟨1, _⟩ => rfl | ⟨2, _⟩ => rfl | ⟨3, _⟩ => rfl

theorem row_ix' (b : Fin 8) (kv g : Fin 4) (i : Fin 8192) (s : Fin 8449) :
    idx_main_v37 (idx_main_v38 (ix5 b kv g i s)) = ix4 b kv g i :=
  funext fun a => match a with | ⟨0, _⟩ => rfl | ⟨1, _⟩ => rfl | ⟨2, _⟩ => rfl | ⟨3, _⟩ => rfl

theorem col_ix (b : Fin 8) (kv g : Fin 4) (i : Fin 8192) (s : Fin 8449) :
    idx_main_v36 (ix4 b kv g i) s = ix5 b kv g i s :=
  funext fun a => match a with | ⟨0, _⟩ => rfl | ⟨1, _⟩ => rfl | ⟨2, _⟩ => rfl | ⟨3, _⟩ => rfl | ⟨4, _⟩ => rfl

theorem expo_apply (b : Fin 8) (kv g : Fin 4) (i : Fin 8192) (s : Fin 8449) :
    val_main_v35 (F := Ideal) x0 x1 x3 x5 (ix5 b kv g i s) =
      Ideal.exp (val_main_v28 (F := Ideal) x0 x1 x3 x5 (ix5 b kv g i s) -
        Finset.fold max (⊥ : EReal) (fun s => val_main_v28 (F := Ideal) x0 x1 x3 x5 (ix5 b kv g i s)) Finset.univ) := by
  rw [val_main_v35_apply, val_main_v34_apply, val_main_v33_apply, val_main_v32_apply, row_ix, val_main_v31_apply, val_main_v30_apply,
    max_apply, val_main_cst_3_apply, exp_ops, sub_ops, max_ops, lit_ops, AttnHead.ofBits_ninf, max_bot_left]

theorem prob_apply (b : Fin 8) (kv g : Fin 4) (i : Fin 8192) (s : Fin 8449) :
    val_main_v39 (F := Ideal) x0 x1 x3 x5 (ix5 b kv g i s) =
      Ideal.div (val_main_v35 (F := Ideal) x0 x1 x3 x5 (ix5 b kv g i s))
        (∑ k : Fin 8449, val_main_v35 (F := Ideal) x0 x1 x3 x5 (ix5 b kv g i k)) := by
  rw [val_main_v39_apply, val_main_v38_apply, val_main_v37_apply, row_ix', val_main_v36_apply, val_main_cst_4_apply, lit_ops, div_ops]
  simp only [col_ix]
  rw [show Ideal.ofBits .f32 0x00000000#32 = (0 : EReal) by simp, zero_add]
-- ==== Proof.AttnBlock.lean ====
module

public import proofs.«01_k».proof.Proof.Gen.KernelIdeal.Value
public import proofs.«01_k».proof.Proof.AttnHead
public import Idealize.ShloMosaic.Lib.Pipeline.ValueKit
public import Idealize.ShloMosaic.Lib.Pointwise

@[expose] public section

set_option maxRecDepth 16384

noncomputable section

namespace Cert.AttnBlock

open Idealize.ShloMosaic Cert.KernelIdeal Cert.KernelIdeal.Gen Cert.AttnMath Cert.AttnHead

/-- The queries of key-value head `kv` at one grid point: channel `e` of query head `l / 128` at row `l % 128`. -/
def blkQ (x1 : Vec Ideal S1x1024x128 .bf16) (kv : Fin 4) (e : Fin 64) (l : Fin 512) : EReal :=
  x1 (ix3 0 ⟨256 * kv.val + 64 * (l.val / 128) + e.val, by omega⟩ ⟨l.val % 128, by omega⟩)

/-- The 640 keys of key-value head `kv`: three blocks of 128 rows and the 256 rows of the context. -/
def blkK (x2 x3 x4 : Vec Ideal S128x256 .bf16) (x8 : Vec Ideal S256x256 .bf16) (kv : Fin 4) (n : Fin 640) (e : Fin 64) : EReal :=
  if h : n.val < 128 then x2 (ix2 ⟨n.val, h⟩ ⟨64 * kv.val + e.val, by omega⟩)
  else if h : n.val - 128 < 128 then x3 (ix2 ⟨n.val - 128, h⟩ ⟨64 * kv.val + e.val, by omega⟩)
  else if h : n.val - 128 - 128 < 128 then x4 (ix2 ⟨n.val - 128 - 128, h⟩ ⟨64 * kv.val + e.val, by omega⟩)
  else x8 (ix2 ⟨n.val - 128 - 128 - 128, by omega⟩ ⟨64 * kv.val + e.val, by omega⟩)

/-- The 640 values of key-value head `kv`, in the keys' order. -/
def blkV (x5 x6 x7 : Vec Ideal S1x256x128 .bf16) (x9 : Vec Ideal S1x256x256 .bf16) (kv : Fin 4) (d : Fin 64) (n : Fin 640) : EReal :=
  if h : n.val < 128 then x5 (ix3 0 ⟨64 * kv.val + d.val, by omega⟩ ⟨n.val, h⟩)
  else if h : n.val - 128 < 128 then x6 (ix3 0 ⟨64 * kv.val + d.val, by omega⟩ ⟨n.val - 128, h⟩)
  else if h : n.val - 128 - 128 < 128 then x7 (ix3 0 ⟨64 * kv.val + d.val, by omega⟩ ⟨n.val - 128 - 128, h⟩)
  else x9 (ix3 0 ⟨64 * kv.val + d.val, by omega⟩ ⟨n.val - 128 - 128 - 128, by omega⟩)

/-- The sinks of key-value head `kv`'s four query heads, each over its 128 lanes, times the base-two logarithm of `e`. -/
def blkS (x0 : Vec Ideal S16 .f32) (kv : Fin 4) (l : Fin 512) : EReal :=
  x0 (ix1 ⟨4 * kv.val + l.val / 128, by omega⟩) * (((Real.log 2)⁻¹ : ℝ) : EReal)

/-- A lane of 512 read through four slabs of 128 lanes. -/
theorem ladder (l : Fin 512) (f : Fin 4 → Fin 128 → EReal) :
    (if h : l.val < 128 then f 0 ⟨l.val, h⟩ else if h : l.val - 128 < 128 then f 1 ⟨l.val - 128, h⟩
      else if h : l.val - 128 - 128 < 128 then f 2 ⟨l.val - 128 - 128, h⟩ else f 3 ⟨l.val - 128 - 128 - 128, by omega⟩)
      = f ⟨l.val / 128, by omega⟩ ⟨l.val % 128, by omega⟩ := by
  have hl := l.isLt
  split_ifs with h1 h2 h3
  all_goals congr 1 <;> apply Fin.ext <;> simp <;> omega

/-- Four slabs side by side are the queries of head `kv` when each slab is. -/
theorem q_of (a b c d : Vec Ideal S1x64x128 .bf16) (x1 : Vec Ideal S1x1024x128 .bf16) (kv : Fin 4)
    (ha : ∀ e l, a (ix3 0 e l) = x1 (ix3 0 ⟨256 * kv.val + 64 * 0 + e.val, by omega⟩ l))
    (hb : ∀ e l, b (ix3 0 e l) = x1 (ix3 0 ⟨256 * kv.val + 64 * 1 + e.val, by omega⟩ l))
    (hc : ∀ e l, c (ix3 0 e l) = x1 (ix3 0 ⟨256 * kv.val + 64 * 2 + e.val, by omega⟩ l))
    (hd : ∀ e l, d (ix3 0 e l) = x1 (ix3 0 ⟨256 * kv.val + 64 * 3 + e.val, by omega⟩ l)) (e : Fin 64) (l : Fin 512) :
    k0_pay10 a b c d (ix2 e l) = blkQ x1 kv e l := by
  pointwise [k0_pay10]
  simp only [ha, hb, hc, hd]
  exact ladder l fun g r => x1 (ix3 0 ⟨256 * kv.val + 64 * g.val + e.val, by omega⟩ r)

/-- Four scaled sinks side by side. -/
theorem s_of (x0 : Vec Ideal S16 .f32) (kv : Fin 4) (a b c d : EReal)
    (ha : a = x0 (ix1 ⟨4 * kv.val + 0, by omega⟩)) (hb : b = x0 (ix1 ⟨4 * kv.val + 1, by omega⟩))
    (hc : c = x0 (ix1 ⟨4 * kv.val + 2, by omega⟩)) (hd : d = x0 (ix1 ⟨4 * kv.val + 3, by omega⟩)) (z : Fin 1) (l : Fin 512) :
    k0_pay19 (F := Ideal) a b c d (ix2 z l) = blkS x0 kv l := by
  subst ha hb hc hd
  pointwise [k0_pay19]
  rw [show (Named.named κ "log2e" 1069066811#32 : Ideal .f32) = (((Real.log 2)⁻¹ : ℝ) : EReal) from
    IdealRules.named_const.ideal_named_scalar _ _ _ _ rfl]
  exact ladder l fun g _ => x0 (ix1 ⟨4 * kv.val + g.val, by omega⟩) * (((Real.log 2)⁻¹ : ℝ) : EReal)

/-- Four blocks of rows are the keys of head `kv` when each is its head's columns. -/
theorem k_of (a b c : Vec Ideal S128x64 .bf16) (d : Vec Ideal S256x64 .bf16) (x2 x3 x4 : Vec Ideal S128x256 .bf16)
    (x8 : Vec Ideal S256x256 .bf16) (kv : Fin 4)
    (ha : ∀ n e, a (ix2 n e) = x2 (ix2 n ⟨64 * kv.val + e.val, by omega⟩))
    (hb : ∀ n e, b (ix2 n e) = x3 (ix2 n ⟨64 * kv.val + e.val, by omega⟩))
    (hc : ∀ n e, c (ix2 n e) = x4 (ix2 n ⟨64 * kv.val + e.val, by omega⟩))
    (hd : ∀ n e, d (ix2 n e) = x8 (ix2 n ⟨64 * kv.val + e.val, by omega⟩)) (n : Fin 640) (e : Fin 64) :
    k0_pay23 a b c d (ix2 n e) = blkK x2 x3 x4 x8 kv n e := by
  pointwise [k0_pay23]
  simp only [ha, hb, hc, hd]
  rfl

/-- Four blocks of columns are the values of head `kv` when each is its head's rows. -/
theorem v_of (a b c : Vec Ideal S1x64x128 .bf16) (d : Vec Ideal S1x64x256 .bf16) (x5 x6 x7 : Vec Ideal S1x256x128 .bf16)
    (x9 : Vec Ideal S1x256x256 .bf16) (kv : Fin 4)
    (ha : ∀ e n, a (ix3 0 e n) = x5 (ix3 0 ⟨64 * kv.val + e.val, by omega⟩ n))
    (hb : ∀ e n, b (ix3 0 e n) = x6 (ix3 0 ⟨64 * kv.val + e.val, by omega⟩ n))
    (hc : ∀ e n, c (ix3 0 e n) = x7 (ix3 0 ⟨64 * kv.val + e.val, by omega⟩ n))
    (hd : ∀ e n, d (ix3 0 e n) = x9 (ix3 0 ⟨64 * kv.val + e.val, by omega⟩ n)) (e : Fin 64) (n : Fin 640) :
    k0_pay27 a b c d (ix2 e n) = blkV x5 x6 x7 x9 kv e n := by
  pointwise [k0_pay27]
  simp only [ha, hb, hc, hd]
  rfl

/-- The queries of one head as a vector of the kernel. -/
def vecQ (x1 : Vec Ideal S1x1024x128 .bf16) (kv : Fin 4) : FVec Ideal S64x512 .bf16 := fun i => blkQ x1 kv (i 0) (i 1)
/-- The keys of one head as a vector of the kernel. -/
def vecK (x2 x3 x4 : Vec Ideal S128x256 .bf16) (x8 : Vec Ideal S256x256 .bf16) (kv : Fin 4) : FVec Ideal S640x64 .bf16 :=
  fun i => blkK x2 x3 x4 x8 kv (i 0) (i 1)
/-- The values of one head as a vector of the kernel. -/
def vecV (x5 x6 x7 : Vec Ideal S1x256x128 .bf16) (x9 : Vec Ideal S1x256x256 .bf16) (kv : Fin 4) : FVec Ideal S64x640 .bf16 :=
  fun i => blkV x5 x6 x7 x9 kv (i 0) (i 1)
/-- The sinks of one head as a vector of the kernel. -/
def vecS (x0 : Vec Ideal S16 .f32) (kv : Fin 4) : FVec Ideal S1x512 .f32 := fun i => blkS x0 kv (i 1)

/-- Head 0's queries, as the body gathers them. -/
theorem q0 (x1 : Vec Ideal S1x1024x128 .bf16) : k0_pay10 (View.ld x1 (Rect.unit ![0, 0, 0] ![1, 64, 128] inb_S1x1024x128_S1x64x128_0_0_0)) (View.ld x1 (Rect.unit ![0, 64, 0] ![1, 64, 128] inb_S1x1024x128_S1x64x128_0_64_0)) (View.ld x1 (Rect.unit ![0, 128, 0] ![1, 64, 128] inb_S1x1024x128_S1x64x128_0_128_0)) (View.ld x1 (Rect.unit ![0, 192, 0] ![1, 64, 128] inb_S1x1024x128_S1x64x128_0_192_0)) = vecQ x1 0 := by
  funext i
  rw [eq_ix2 i]
  refine q_of _ _ _ _ x1 0 ?_ ?_ ?_ ?_ _ _ <;> (intro e l; pointwise)

/-- Head 0's keys, as the body gathers them. -/
theorem k0 (x2 x3 x4 : Vec Ideal S128x256 .bf16) (x8 : Vec Ideal S256x256 .bf16) :
    k0_pay23 (View.ld x2 (Rect.unit ![0, 0] ![128, 64] inb_S128x256_S128x64_0_0)) (View.ld x3 (Rect.unit ![0, 0] ![128, 64] inb_S128x256_S128x64_0_0)) (View.ld x4 (Rect.unit ![0, 0] ![128, 64] inb_S128x256_S128x64_0_0)) (View.ld x8 (Rect.unit ![0, 0] ![256, 64] inb_S256x256_S256x64_0_0)) = vecK x2 x3 x4 x8 0 := by
  funext i
  rw [eq_ix2 i]
  refine k_of _ _ _ _ x2 x3 x4 x8 0 ?_ ?_ ?_ ?_ _ _ <;> (intro e l; pointwise)

/-- Head 0's values, as the body gathers them. -/
theorem v0 (x5 x6 x7 : Vec Ideal S1x256x128 .bf16) (x9 : Vec Ideal S1x256x256 .bf16) :
    k0_pay27 (View.ld x5 (Rect.unit ![0, 0, 0] ![1, 64, 128] inb_S1x256x128_S1x64x128_0_0_0)) (View.ld x6 (Rect.unit ![0, 0, 0] ![1, 64, 128] inb_S1x256x128_S1x64x128_0_0_0)) (View.ld x7 (Rect.unit ![0, 0, 0] ![1, 64, 128] inb_S1x256x128_S1x64x128_0_0_0)) (View.ld x9 (Rect.unit ![0, 0, 0] ![1, 64, 256] inb_S1x256x256_S1x64x256_0_0_0)) = vecV x5 x6 x7 x9 0 := by
  funext i
  rw [eq_ix2 i]
  refine v_of _ _ _ _ x5 x6 x7 x9 0 ?_ ?_ ?_ ?_ _ _ <;> (intro e l; pointwise)

/-- Head 0's sinks, as the body gathers them. -/
theorem s0 (x0 : Vec Ideal S16 .f32) (h : 0 < S1.numel) : k0_pay18 (k0_pay16 (View.ld x0 (Rect.unit ![0] ![1] inb_S16_S1_0) (Shape.Idx.first h))) (k0_pay17 (View.ld x0 (Rect.unit ![1] ![1] inb_S16_S1_1) (Shape.Idx.first h))) (View.ld x0 (Rect.unit ![2] ![1] inb_S16_S1_2) (Shape.Idx.first h)) (View.ld x0 (Rect.unit ![3] ![1] inb_S16_S1_3) (Shape.Idx.first h)) = vecS x0 0 := by
  funext i
  rw [eq_ix2 i]
  refine s_of x0 0 _ _ _ _ ?_ ?_ ?_ ?_ _ _ <;> pointwise

/-- Head 1's queries, as the body gathers them. -/
theorem q1 (x1 : Vec Ideal S1x1024x128 .bf16) : k0_pay13 (k0_pay11 (View.ld x1 (Rect.unit ![0, 256, 0] ![1, 64, 128] inb_S1x1024x128_S1x64x128_0_256_0))) (k0_pay12 (View.ld x1 (Rect.unit ![0, 320, 0] ![1, 64, 128] inb_S1x1024x128_S1x64x128_0_320_0))) (View.ld x1 (Rect.unit ![0, 384, 0] ![1, 64, 128] inb_S1x1024x128_S1x64x128_0_384_0)) (View.ld x1 (Rect.unit ![0, 448, 0] ![1, 64, 128] inb_S1x1024x128_S1x64x128_0_448_0)) = vecQ x1 1 := by
  funext i
  rw [eq_ix2 i]
  refine q_of _ _ _ _ x1 1 ?_ ?_ ?_ ?_ _ _ <;> (intro e l; pointwise)

/-- Head 1's keys, as the body gathers them. -/
theorem k1 (x2 x3 x4 : Vec Ideal S128x256 .bf16) (x8 : Vec Ideal S256x256 .bf16) :
    k0_pay24 (View.ld x2 (Rect.unit ![0, 64] ![128, 64] inb_S128x256_S128x64_0_64)) (View.ld x3 (Rect.unit ![0, 64] ![128, 64] inb_S128x256_S128x64_0_64)) (View.ld x4 (Rect.unit ![0, 64] ![128, 64] inb_S128x256_S128x64_0_64)) (View.ld x8 (Rect.unit ![0, 64] ![256, 64] inb_S256x256_S256x64_0_64)) = vecK x2 x3 x4 x8 1 := by
  funext i
  rw [eq_ix2 i]
  refine k_of _ _ _ _ x2 x3 x4 x8 1 ?_ ?_ ?_ ?_ _ _ <;> (intro e l; pointwise)

/-- Head 1's values, as the body gathers them. -/
theorem v1 (x5 x6 x7 : Vec Ideal S1x256x128 .bf16) (x9 : Vec Ideal S1x256x256 .bf16) :
    k0_pay28 (View.ld x5 (Rect.unit ![0, 64, 0] ![1, 64, 128] inb_S1x256x128_S1x64x128_0_64_0)) (View.ld x6 (Rect.unit ![0, 64, 0] ![1, 64, 128] inb_S1x256x128_S1x64x128_0_64_0)) (View.ld x7 (Rect.unit ![0, 64, 0] ![1, 64, 128] inb_S1x256x128_S1x64x128_0_64_0)) (View.ld x9 (Rect.unit ![0, 64, 0] ![1, 64, 256] inb_S1x256x256_S1x64x256_0_64_0)) = vecV x5 x6 x7 x9 1 := by
  funext i
  rw [eq_ix2 i]
  refine v_of _ _ _ _ x5 x6 x7 x9 1 ?_ ?_ ?_ ?_ _ _ <;> (intro e l; pointwise)

/-- Head 1's sinks, as the body gathers them. -/
theorem s1 (x0 : Vec Ideal S16 .f32) (h : 0 < S1.numel) : k0_pay19 (View.ld x0 (Rect.unit ![4] ![1] inb_S16_S1_4) (Shape.Idx.first h)) (View.ld x0 (Rect.unit ![5] ![1] inb_S16_S1_5) (Shape.Idx.first h)) (View.ld x0 (Rect.unit ![6] ![1] inb_S16_S1_6) (Shape.Idx.first h)) (View.ld x0 (Rect.unit ![7] ![1] inb_S16_S1_7) (Shape.Idx.first h)) = vecS x0 1 := by
  funext i
  rw [eq_ix2 i]
  refine s_of x0 1 _ _ _ _ ?_ ?_ ?_ ?_ _ _ <;> pointwise

/-- Head 2's queries, as the body gathers them. -/
theorem q2 (x1 : Vec Ideal S1x1024x128 .bf16) : k0_pay14 (View.ld x1 (Rect.unit ![0, 512, 0] ![1, 64, 128] inb_S1x1024x128_S1x64x128_0_512_0)) (View.ld x1 (Rect.unit ![0, 576, 0] ![1, 64, 128] inb_S1x1024x128_S1x64x128_0_576_0)) (View.ld x1 (Rect.unit ![0, 640, 0] ![1, 64, 128] inb_S1x1024x128_S1x64x128_0_640_0)) (View.ld x1 (Rect.unit ![0, 704, 0] ![1, 64, 128] inb_S1x1024x128_S1x64x128_0_704_0)) = vecQ x1 2 := by
  funext i
  rw [eq_ix2 i]
  refine q_of _ _ _ _ x1 2 ?_ ?_ ?_ ?_ _ _ <;> (intro e l; pointwise)

/-- Head 2's keys, as the body gathers them. -/
theorem k2 (x2 x3 x4 : Vec Ideal S128x256 .bf16) (x8 : Vec Ideal S256x256 .bf16) :
    k0_pay25 (View.ld x2 (Rect.unit ![0, 128] ![128, 64] inb_S128x256_S128x64_0_128)) (View.ld x3 (Rect.unit ![0, 128] ![128, 64] inb_S128x256_S128x64_0_128)) (View.ld x4 (Rect.unit ![0, 128] ![128, 64] inb_S128x256_S128x64_0_128)) (View.ld x8 (Rect.unit ![0, 128] ![256, 64] inb_S256x256_S256x64_0_128)) = vecK x2 x3 x4 x8 2 := by
  funext i
  rw [eq_ix2 i]
  refine k_of _ _ _ _ x2 x3 x4 x8 2 ?_ ?_ ?_ ?_ _ _ <;> (intro e l; pointwise)

/-- Head 2's values, as the body gathers them. -/
theorem v2 (x5 x6 x7 : Vec Ideal S1x256x128 .bf16) (x9 : Vec Ideal S1x256x256 .bf16) :
    k0_pay31 (k0_pay29 (View.ld x5 (Rect.unit ![0, 128, 0] ![1, 64, 128] inb_S1x256x128_S1x64x128_0_128_0))) (k0_pay30 (View.ld x6 (Rect.unit ![0, 128, 0] ![1, 64, 128] inb_S1x256x128_S1x64x128_0_128_0))) (View.ld x7 (Rect.unit ![0, 128, 0] ![1, 64, 128] inb_S1x256x128_S1x64x128_0_128_0)) (View.ld x9 (Rect.unit ![0, 128, 0] ![1, 64, 256] inb_S1x256x256_S1x64x256_0_128_0)) = vecV x5 x6 x7 x9 2 := by
  funext i
  rw [eq_ix2 i]
  refine v_of _ _ _ _ x5 x6 x7 x9 2 ?_ ?_ ?_ ?_ _ _ <;> (intro e l; pointwise)

/-- Head 2's sinks, as the body gathers them. -/
theorem s2 (x0 : Vec Ideal S16 .f32) (h : 0 < S1.numel) : k0_pay20 (View.ld x0 (Rect.unit ![8] ![1] inb_S16_S1_8) (Shape.Idx.first h)) (View.ld x0 (Rect.unit ![9] ![1] inb_S16_S1_9) (Shape.Idx.first h)) (View.ld x0 (Rect.unit ![10] ![1] inb_S16_S1_10) (Shape.Idx.first h)) (View.ld x0 (Rect.unit ![11] ![1] inb_S16_S1_11) (Shape.Idx.first h)) = vecS x0 2 := by
  funext i
  rw [eq_ix2 i]
  refine s_of x0 2 _ _ _ _ ?_ ?_ ?_ ?_ _ _ <;> pointwise

/-- Head 3's queries, as the body gathers them. -/
theorem q3 (x1 : Vec Ideal S1x1024x128 .bf16) : k0_pay15 (View.ld x1 (Rect.unit ![0, 768, 0] ![1, 64, 128] inb_S1x1024x128_S1x64x128_0_768_0)) (View.ld x1 (Rect.unit ![0, 832, 0] ![1, 64, 128] inb_S1x1024x128_S1x64x128_0_832_0)) (View.ld x1 (Rect.unit ![0, 896, 0] ![1, 64, 128] inb_S1x1024x128_S1x64x128_0_896_0)) (View.ld x1 (Rect.unit ![0, 960, 0] ![1, 64, 128] inb_S1x1024x128_S1x64x128_0_960_0)) = vecQ x1 3 := by
  funext i
  rw [eq_ix2 i]
  refine q_of _ _ _ _ x1 3 ?_ ?_ ?_ ?_ _ _ <;> (intro e l; pointwise)

/-- Head 3's keys, as the body gathers them. -/
theorem k3 (x2 x3 x4 : Vec Ideal S128x256 .bf16) (x8 : Vec Ideal S256x256 .bf16) :
    k0_pay26 (View.ld x2 (Rect.unit ![0, 192] ![128, 64] inb_S128x256_S128x64_0_192)) (View.ld x3 (Rect.unit ![0, 192] ![128, 64] inb_S128x256_S128x64_0_192)) (View.ld x4 (Rect.unit ![0, 192] ![128, 64] inb_S128x256_S128x64_0_192)) (View.ld x8 (Rect.unit ![0, 192] ![256, 64] inb_S256x256_S256x64_0_192)) = vecK x2 x3 x4 x8 3 := by
  funext i
  rw [eq_ix2 i]
  refine k_of _ _ _ _ x2 x3 x4 x8 3 ?_ ?_ ?_ ?_ _ _ <;> (intro e l; pointwise)

/-- Head 3's values, as the body gathers them. -/
theorem v3 (x5 x6 x7 : Vec Ideal S1x256x128 .bf16) (x9 : Vec Ideal S1x256x256 .bf16) :
    k0_pay32 (View.ld x5 (Rect.unit ![0, 192, 0] ![1, 64, 128] inb_S1x256x128_S1x64x128_0_192_0)) (View.ld x6 (Rect.unit ![0, 192, 0] ![1, 64, 128] inb_S1x256x128_S1x64x128_0_192_0)) (View.ld x7 (Rect.unit ![0, 192, 0] ![1, 64, 128] inb_S1x256x128_S1x64x128_0_192_0)) (View.ld x9 (Rect.unit ![0, 192, 0] ![1, 64, 256] inb_S1x256x256_S1x64x256_0_192_0)) = vecV x5 x6 x7 x9 3 := by
  funext i
  rw [eq_ix2 i]
  refine v_of _ _ _ _ x5 x6 x7 x9 3 ?_ ?_ ?_ ?_ _ _ <;> (intro e l; pointwise)

/-- Head 3's sinks, as the body gathers them. -/
theorem s3 (x0 : Vec Ideal S16 .f32) (h : 0 < S1.numel) : k0_pay22 (k0_pay21 (View.ld x0 (Rect.unit ![12] ![1] inb_S16_S1_12) (Shape.Idx.first h))) (View.ld x0 (Rect.unit ![13] ![1] inb_S16_S1_13) (Shape.Idx.first h)) (View.ld x0 (Rect.unit ![14] ![1] inb_S16_S1_14) (Shape.Idx.first h)) (View.ld x0 (Rect.unit ![15] ![1] inb_S16_S1_15) (Shape.Idx.first h)) = vecS x0 3 := by
  funext i
  rw [eq_ix2 i]
  refine s_of x0 3 _ _ _ _ ?_ ?_ ?_ ?_ _ _ <;> pointwise

/-- The mask at a key and a query of one grid point, added to the score. -/
def blkM (i : grid0.Coords) (n : Fin 640) (l : Fin 512) : EReal :=
  if n.val < 128 then (if l.val % 128 ≤ n.val ∧ 0 < (i 1).val then 0 else ⊥)
  else if 256 ≤ n.val ∧ n.val - 256 < 128 then (if n.val - 256 ≤ l.val % 128 ∧ (i 1).val < 63 then 0 else ⊥) else 0

/-- What the body stores at channel `f` and row `r` of its block. -/
def blkO (i : grid0.Coords) (x0 : Vec Ideal S16 .f32) (x1 : Vec Ideal S1x1024x128 .bf16) (x2 x3 x4 : Vec Ideal S128x256 .bf16)
    (x5 x6 x7 : Vec Ideal S1x256x128 .bf16) (x8 : Vec Ideal S256x256 .bf16) (x9 : Vec Ideal S1x256x256 .bf16)
    (kv : Fin 4) (d : Fin 64) (l : Fin 512) : EReal :=
  attnEl (fun n => (∑ e : Fin 64, blkK x2 x3 x4 x8 kv n e * blkQ x1 kv e l) + blkM i n l)
    (fun n => blkV x5 x6 x7 x9 kv d n) (blkS x0 kv l)

/-- One stored piece: four rows of 64 channels of one head, at an index. -/
theorem piece_of (i : grid0.Coords) (x0 : Vec Ideal S16 .f32) (x1 : Vec Ideal S1x1024x128 .bf16) (x2 x3 x4 : Vec Ideal S128x256 .bf16)
    (x5 x6 x7 : Vec Ideal S1x256x128 .bf16) (x8 : Vec Ideal S256x256 .bf16) (x9 : Vec Ideal S1x256x256 .bf16)
    (kv g : Fin 4) (o : ℕ) (hsl : S64x512.Slices ![0, o] S64x128) (x : S1x64x128.Idx)
    (kv' : Fin 4) (d : Fin 64) (l : Fin 512) (w : EReal) (hw : blkO i x0 x1 x2 x3 x4 x5 x6 x7 x8 x9 kv' d l = w) (f r : ℕ)
    (hf : f = 256 * kv'.val + 64 * (l.val / 128) + d.val) (hr : r = l.val % 128)
    (hf' : f = 256 * kv.val + 64 * g.val + (x 1).val) (hr' : r = (x 2).val) (ho : o = 128 * g.val := by rfl) :
    shapeCast S1x64x128 (truncf .bf16 (extractStridedSlice S64x128 ![0, o] (headO (k0_pay8 i) (k0_pay9 i) (vecQ x1 kv)
        (vecK x2 x3 x4 x8 kv) (vecV x5 x6 x7 x9 kv) (vecS x0 kv)) hsl) bitsLt_bf16_f32)
      shapeCasts_S64x128_S1x64x128 x = w := by
  have := kv.isLt; have := kv'.isLt; have := g.isLt; have := d.isLt; have := l.isLt
  have h1 : (x 1).val < 64 := (x 1).isLt
  have h2 : (x 2).val < 128 := (x 2).isLt
  have hkv : kv' = kv := Fin.ext (by omega)
  subst hkv hw
  rw [piece o g ho]
  have e1 : x 1 = d := Fin.ext (by show (x 1).val = d.val; omega)
  have e2 : (⟨128 * g.val + (x 2).val, by omega⟩ : Fin 512) = l := Fin.ext (by show 128 * g.val + (x 2).val = l.val; omega)
  rw [e1, e2, headO_apply]
  unfold blkO
  congr 1
  funext n
  rw [scores_apply]
  congr 1
  simp only [mask0_apply, mask1_apply]
  unfold blkM
  split_ifs <;> rfl

variable (m : (ℓ : Loc nD τ sig) → Buf (Elt Ideal) ℓ) (c : Dev nD)

/-- What the body leaves in its output block, from its input blocks. -/
theorem out_apply (t : Fin cfg0.N) (y : S1x1024x128.Idx) (kv : Fin 4) (d : Fin 64) (l : Fin 512)
    (hy1 : (y 1).val = 256 * kv.val + 64 * (l.val / 128) + d.val) (hy2 : (y 2).val = l.val % 128) (w : EReal)
    (hw : blkO (grid0.coords t) (iblk m c 0 t) (iblk m c 1 t) (iblk m c 2 t) (iblk m c 3 t) (iblk m c 4 t) (iblk m c 5 t)
      (iblk m c 6 t) (iblk m c 7 t) (iblk m c 8 t) (iblk m c 9 t) kv d l = w) :
    outsAt0 m c t y = w := by
  unfold outsAt0
  subst hw
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize hw : blkO (grid0.coords t) x0 x1 x2 x3 x4 x5 x6 x7 x8 x9 kv d l = w
  frame_out [q0, q1, q2, q3, k0, k1, k2, k3, v0, v1, v2, v3, s0, s1, s2, s3]
  canon_tiles y h
  · exact piece_of _ _ _ _ _ _ _ _ _ _ _ 3 3 _ _ y _ _ _ _ hw _ _ hy1 hy2 h1 h2
  · exact piece_of _ _ _ _ _ _ _ _ _ _ _ 3 2 _ _ y _ _ _ _ hw _ _ hy1 hy2 h1 h2
  · exact piece_of _ _ _ _ _ _ _ _ _ _ _ 3 1 _ _ y _ _ _ _ hw _ _ hy1 hy2 h1 h2
  · exact piece_of _ _ _ _ _ _ _ _ _ _ _ 3 0 _ _ y _ _ _ _ hw _ _ hy1 hy2 h1 h2
  · exact piece_of _ _ _ _ _ _ _ _ _ _ _ 2 3 _ _ y _ _ _ _ hw _ _ hy1 hy2 h1 h2
  · exact piece_of _ _ _ _ _ _ _ _ _ _ _ 2 2 _ _ y _ _ _ _ hw _ _ hy1 hy2 h1 h2
  · exact piece_of _ _ _ _ _ _ _ _ _ _ _ 2 1 _ _ y _ _ _ _ hw _ _ hy1 hy2 h1 h2
  · exact piece_of _ _ _ _ _ _ _ _ _ _ _ 2 0 _ _ y _ _ _ _ hw _ _ hy1 hy2 h1 h2
  · exact piece_of _ _ _ _ _ _ _ _ _ _ _ 1 3 _ _ y _ _ _ _ hw _ _ hy1 hy2 h1 h2
  · exact piece_of _ _ _ _ _ _ _ _ _ _ _ 1 2 _ _ y _ _ _ _ hw _ _ hy1 hy2 h1 h2
  · exact piece_of _ _ _ _ _ _ _ _ _ _ _ 1 1 _ _ y _ _ _ _ hw _ _ hy1 hy2 h1 h2
  · exact piece_of _ _ _ _ _ _ _ _ _ _ _ 1 0 _ _ y _ _ _ _ hw _ _ hy1 hy2 h1 h2
  · exact piece_of _ _ _ _ _ _ _ _ _ _ _ 0 3 _ _ y _ _ _ _ hw _ _ hy1 hy2 h1 h2
  · exact piece_of _ _ _ _ _ _ _ _ _ _ _ 0 2 _ _ y _ _ _ _ hw _ _ hy1 hy2 h1 h2
  · exact piece_of _ _ _ _ _ _ _ _ _ _ _ 0 1 _ _ y _ _ _ _ hw _ _ hy1 hy2 h1 h2
  · exact piece_of _ _ _ _ _ _ _ _ _ _ _ 0 0 _ _ y _ _ _ _ hw _ _ hy1 hy2 (by simpa using h1) h2

end Cert.AttnBlock
end
-- ==== Proof.AttnKernel.lean ====
module

public import proofs.«01_k».proof.Proof.AttnBlock
public import Idealize.ShloMosaic.Lib.Pipeline.Covers

@[expose] public section

set_option maxRecDepth 16384

noncomputable section

namespace Cert.AttnKernel

open Idealize.ShloMosaic Cert.KernelIdeal Cert.KernelIdeal.Gen Cert.AttnMath Cert.AttnBlock
open Idealize.ShloMosaic.TcCoe

/-- The row of the key at place `n` of the 384 keys around block `j`: the block before, the block, the block after, held inside
    the sequence at its two ends. -/
def keyRow (j n : ℕ) : ℕ := if n < 128 then 128 * (j - 1) + n else if n < 256 then 128 * j + (n - 128) else 128 * min (j + 1) 63 + (n - 256)

theorem keyRow_lt (j n : ℕ) (hj : j < 64) (hn : n < 384) : keyRow j n < 8192 := by
  unfold keyRow
  split_ifs <;> omega

/-- The key at place `n` for query `i` of batch `b` and key-value head `kv`, at channel `e`. -/
def arrK (k : FVec Ideal S65536x256 .bf16) (kc : FVec Ideal S2048x256 .bf16) (b : Fin 8) (kv : Fin 4) (j : Fin 64) (n : Fin 640) (e : Fin 64) : EReal :=
  if h : n.val < 384 then k (ix2 ⟨8192 * b.val + keyRow j n, by have := keyRow_lt j n j.isLt h; omega⟩ ⟨64 * kv.val + e.val, by omega⟩)
  else kc (ix2 ⟨256 * b.val + (n.val - 384), by omega⟩ ⟨64 * kv.val + e.val, by omega⟩)

/-- The value at place `n`, at channel `d`. -/
def arrV (vt : FVec Ideal S8x256x8192 .bf16) (vc : FVec Ideal S8x256x256 .bf16) (b : Fin 8) (kv : Fin 4) (j : Fin 64) (d : Fin 64) (n : Fin 640) : EReal :=
  if h : n.val < 384 then vt (ix3 b ⟨64 * kv.val + d.val, by omega⟩ ⟨keyRow j n, keyRow_lt j n j.isLt h⟩)
  else vc (ix3 b ⟨64 * kv.val + d.val, by omega⟩ ⟨n.val - 384, by omega⟩)

/-- The mask at place `n` for the query at row `r` of block `j`. -/
def arrM (j : Fin 64) (n : Fin 640) (r : ℕ) : EReal :=
  if n.val < 128 then (if r ≤ n.val ∧ 0 < j.val then 0 else ⊥)
  else if 256 ≤ n.val ∧ n.val - 256 < 128 then (if n.val - 256 ≤ r ∧ j.val < 63 then 0 else ⊥) else 0

/-- The kernel's result at batch `b`, channel `64 * (4 * kv + g) + d` and token `128 * j + r`. -/
def arrO (qt : FVec Ideal S8x1024x8192 .bf16) (k : FVec Ideal S65536x256 .bf16) (vt : FVec Ideal S8x256x8192 .bf16)
    (kc : FVec Ideal S2048x256 .bf16) (vc : FVec Ideal S8x256x256 .bf16) (sink : FVec Ideal S16 .f32)
    (b : Fin 8) (kv g : Fin 4) (d : Fin 64) (j : Fin 64) (r : Fin 128) : EReal :=
  attnEl (fun n => (∑ e : Fin 64, arrK k kc b kv j n e
        * qt (ix3 b ⟨256 * kv.val + 64 * g.val + e.val, by omega⟩ ⟨128 * j.val + r.val, by omega⟩)) + arrM j n r.val)
    (fun n => arrV vt vc b kv j d n) (sink (ix1 ⟨4 * kv.val + g.val, by omega⟩) * (((Real.log 2)⁻¹ : ℝ) : EReal))

/-- The kernel's result as an array. -/
def outArr (qt : FVec Ideal S8x1024x8192 .bf16) (k : FVec Ideal S65536x256 .bf16) (vt : FVec Ideal S8x256x8192 .bf16)
    (kc : FVec Ideal S2048x256 .bf16) (vc : FVec Ideal S8x256x256 .bf16) (sink : FVec Ideal S16 .f32) : FVec Ideal S8x1024x8192 .bf16 :=
  fun y => arrO qt k vt kc vc sink (y 0) ⟨(y 1).val / 256, by have : (y 1).val < 1024 := (y 1).isLt; omega⟩
    ⟨(y 1).val / 64 % 4, by omega⟩ ⟨(y 1).val % 64, by omega⟩
    ⟨(y 2).val / 128, by have : (y 2).val < 8192 := (y 2).isLt; omega⟩ ⟨(y 2).val % 128, by omega⟩

/-- The array at a batch, a channel and a token, the channel and the token split. -/
theorem outArr_ix (qt : FVec Ideal S8x1024x8192 .bf16) (k : FVec Ideal S65536x256 .bf16) (vt : FVec Ideal S8x256x8192 .bf16)
    (kc : FVec Ideal S2048x256 .bf16) (vc : FVec Ideal S8x256x256 .bf16) (sink : FVec Ideal S16 .f32)
    (b : Fin 8) (f : Fin 1024) (i : Fin 8192) (kv g : Fin 4) (d : Fin 64) (j : Fin 64) (r : Fin 128)
    (hf : f.val = 256 * kv.val + 64 * g.val + d.val) (hi : i.val = 128 * j.val + r.val) :
    outArr qt k vt kc vc sink (ix3 b f i) = arrO qt k vt kc vc sink b kv g d j r := by
  have e1 : (⟨f.val / 256, by omega⟩ : Fin 4) = kv := Fin.ext (by show f.val / 256 = kv.val; omega)
  have e2 : (⟨f.val / 64 % 4, by omega⟩ : Fin 4) = g := Fin.ext (by show f.val / 64 % 4 = g.val; omega)
  have e3 : (⟨f.val % 64, by omega⟩ : Fin 64) = d := Fin.ext (by show f.val % 64 = d.val; omega)
  have e4 : (⟨i.val / 128, by omega⟩ : Fin 64) = j := Fin.ext (by show i.val / 128 = j.val; omega)
  have e5 : (⟨i.val % 128, by omega⟩ : Fin 128) = r := Fin.ext (by show i.val % 128 = r.val; omega)
  show arrO qt k vt kc vc sink b ⟨f.val / 256, _⟩ ⟨f.val / 64 % 4, _⟩ ⟨f.val % 64, _⟩ ⟨i.val / 128, _⟩ ⟨i.val % 128, _⟩ = _
  rw [e1, e2, e3, e4, e5]

theorem coords1 : ∀ t : Fin cfg0.N, (grid0.coords t 1).val = t.val % 64 := by decide +kernel
theorem i0 : ∀ t : Fin cfg0.N, win0_0.index t = ![0] := by decide +kernel
theorem i1 : ∀ t : Fin cfg0.N, win0_1.index t = ![t.val / 64, 0, t.val % 64] := by decide +kernel
theorem i2 : ∀ t : Fin cfg0.N, win0_2.index t = ![64 * (t.val / 64) + (t.val % 64 - 1), 0] := by decide +kernel
theorem i3 : ∀ t : Fin cfg0.N, win0_3.index t = ![64 * (t.val / 64) + t.val % 64, 0] := by decide +kernel
theorem i4 : ∀ t : Fin cfg0.N, win0_4.index t = ![64 * (t.val / 64) + min (t.val % 64 + 1) 63, 0] := by decide +kernel
theorem i5 : ∀ t : Fin cfg0.N, win0_5.index t = ![t.val / 64, 0, t.val % 64 - 1] := by decide +kernel
theorem i6 : ∀ t : Fin cfg0.N, win0_6.index t = ![t.val / 64, 0, t.val % 64] := by decide +kernel
theorem i7 : ∀ t : Fin cfg0.N, win0_7.index t = ![t.val / 64, 0, min (t.val % 64 + 1) 63] := by decide +kernel
theorem i8 : ∀ t : Fin cfg0.N, win0_8.index t = ![t.val / 64, 0] := by decide +kernel
theorem i9 : ∀ t : Fin cfg0.N, win0_9.index t = ![t.val / 64, 0, 0] := by decide +kernel
theorem i10 : ∀ t : Fin cfg0.N, win0_10.index t = ![t.val / 64, 0, t.val % 64] := by decide +kernel

/-- The output's blocks reach every element of the array. -/
theorem covers : (cfg0.win 10).Covers := by decide +kernel

variable (m : (ℓ : Loc nD τ sig) → Buf (Elt Ideal) ℓ) (c : Dev nD)

/-- Each input block is its array at the block's place. -/
theorem b0 (t : Fin cfg0.N) (n : Fin 16) : iblk m c 0 t (ix1 n) = m ((c : Thread nD τ).loc main_arg5) (ix1 n) := by
  blk_ext [iblk, V, i0 t]
theorem b1 (t : Fin cfg0.N) (f : Fin 1024) (n : Fin 128) :
    iblk m c 1 t (ix3 0 f n) = m ((c : Thread nD τ).loc main_arg0) (ix3 ⟨t.val / 64, by have : t.val < 512 := t.isLt; omega⟩ f ⟨128 * (t.val % 64) + n.val, by have : t.val < 512 := t.isLt; omega⟩) := by
  blk_ext [iblk, V, i1 t]
theorem b2 (t : Fin cfg0.N) (n : Fin 128) (f : Fin 256) (r : Fin 65536) (hr : r.val = 8192 * (t.val / 64) + (128 * (t.val % 64 - 1) + n.val)) :
    iblk m c 2 t (ix2 n f) = m ((c : Thread nD τ).loc main_arg1) (ix2 r f) := by
  blk_ext [iblk, V, i2 t]
theorem b3 (t : Fin cfg0.N) (n : Fin 128) (f : Fin 256) (r : Fin 65536) (hr : r.val = 8192 * (t.val / 64) + (128 * (t.val % 64) + n.val)) :
    iblk m c 3 t (ix2 n f) = m ((c : Thread nD τ).loc main_arg1) (ix2 r f) := by
  blk_ext [iblk, V, i3 t]
theorem b4 (t : Fin cfg0.N) (n : Fin 128) (f : Fin 256) (r : Fin 65536) (hr : r.val = 8192 * (t.val / 64) + (128 * min (t.val % 64 + 1) 63 + n.val)) :
    iblk m c 4 t (ix2 n f) = m ((c : Thread nD τ).loc main_arg1) (ix2 r f) := by
  blk_ext [iblk, V, i4 t]
theorem b5 (t : Fin cfg0.N) (f : Fin 256) (n : Fin 128) (r : Fin 8192) (hr : r.val = 128 * (t.val % 64 - 1) + n.val) :
    iblk m c 5 t (ix3 0 f n) = m ((c : Thread nD τ).loc main_arg2) (ix3 ⟨t.val / 64, by have : t.val < 512 := t.isLt; omega⟩ f r) := by
  blk_ext [iblk, V, i5 t]
theorem b6 (t : Fin cfg0.N) (f : Fin 256) (n : Fin 128) (r : Fin 8192) (hr : r.val = 128 * (t.val % 64) + n.val) :
    iblk m c 6 t (ix3 0 f n) = m ((c : Thread nD τ).loc main_arg2) (ix3 ⟨t.val / 64, by have : t.val < 512 := t.isLt; omega⟩ f r) := by
  blk_ext [iblk, V, i6 t]
theorem b7 (t : Fin cfg0.N) (f : Fin 256) (n : Fin 128) (r : Fin 8192) (hr : r.val = 128 * min (t.val % 64 + 1) 63 + n.val) :
    iblk m c 7 t (ix3 0 f n) = m ((c : Thread nD τ).loc main_arg2) (ix3 ⟨t.val / 64, by have : t.val < 512 := t.isLt; omega⟩ f r) := by
  blk_ext [iblk, V, i7 t]
theorem b8 (t : Fin cfg0.N) (n : Fin 256) (f : Fin 256) (r : Fin 2048) (hr : r.val = 256 * (t.val / 64) + n.val) :
    iblk m c 8 t (ix2 n f) = m ((c : Thread nD τ).loc main_arg3) (ix2 r f) := by
  blk_ext [iblk, V, i8 t]
theorem b9 (t : Fin cfg0.N) (f : Fin 256) (n r : Fin 256) (hr : r.val = n.val) :
    iblk m c 9 t (ix3 0 f n) = m ((c : Thread nD τ).loc main_arg4) (ix3 ⟨t.val / 64, by have : t.val < 512 := t.isLt; omega⟩ f r) := by
  blk_ext [iblk, V, i9 t]

/-- Where an element of the output's block lies in the array. -/
theorem emb10 (t : Fin cfg0.N) (y : S1x1024x128.Idx) : (win0_10.blk t).view.emb y
    = ix3 ⟨t.val / 64, by have : t.val < 512 := t.isLt; omega⟩ (y 1) ⟨128 * (t.val % 64) + (y 2).val, by have : (y 2).val < 128 := (y 2).isLt; omega⟩ := by
  blk_ext [i10 t]

/-- The keys of a block, from the arrays. -/
theorem K_eq (t : Fin cfg0.N) (kv : Fin 4) (n : Fin 640) (e : Fin 64) :
    blkK (iblk m c 2 t) (iblk m c 3 t) (iblk m c 4 t) (iblk m c 8 t) kv n e
      = arrK (m ((c : Thread nD τ).loc main_arg1)) (m ((c : Thread nD τ).loc main_arg3)) ⟨t.val / 64, by have : t.val < 512 := t.isLt; omega⟩ kv ⟨t.val % 64, by omega⟩ n e := by
  unfold blkK arrK
  by_cases h1 : n.val < 128
  · rw [dif_pos h1, dif_pos (by omega)]
    refine b2 m c t _ _ _ ?_
    show 8192 * (t.val / 64) + keyRow (t.val % 64) n.val = _
    unfold keyRow; rw [if_pos h1]
  by_cases h2 : n.val - 128 < 128
  · rw [dif_neg h1, dif_pos h2, dif_pos (by omega)]
    refine b3 m c t _ _ _ ?_
    show 8192 * (t.val / 64) + keyRow (t.val % 64) n.val = _
    unfold keyRow; rw [if_neg h1, if_pos (by omega)]
  by_cases h3 : n.val - 128 - 128 < 128
  · rw [dif_neg h1, dif_neg h2, dif_pos h3, dif_pos (by omega)]
    refine b4 m c t _ _ _ ?_
    show 8192 * (t.val / 64) + keyRow (t.val % 64) n.val = _
    unfold keyRow; rw [if_neg h1, if_neg (by omega)]; dsimp only; rw [Nat.sub_sub]
  · rw [dif_neg h1, dif_neg h2, dif_neg h3, dif_neg (by omega)]
    refine b8 m c t _ _ _ ?_
    show 256 * (t.val / 64) + (n.val - 384) = 256 * (t.val / 64) + (n.val - 128 - 128 - 128)
    omega

/-- The values of a block, from the arrays. -/
theorem V_eq (t : Fin cfg0.N) (kv : Fin 4) (d : Fin 64) (n : Fin 640) :
    blkV (iblk m c 5 t) (iblk m c 6 t) (iblk m c 7 t) (iblk m c 9 t) kv d n
      = arrV (m ((c : Thread nD τ).loc main_arg2)) (m ((c : Thread nD τ).loc main_arg4)) ⟨t.val / 64, by have : t.val < 512 := t.isLt; omega⟩ kv ⟨t.val % 64, by omega⟩ d n := by
  unfold blkV arrV
  by_cases h1 : n.val < 128
  · rw [dif_pos h1, dif_pos (by omega)]
    refine b5 m c t _ _ _ ?_
    show keyRow (t.val % 64) n.val = _
    unfold keyRow; rw [if_pos h1]
  by_cases h2 : n.val - 128 < 128
  · rw [dif_neg h1, dif_pos h2, dif_pos (by omega)]
    refine b6 m c t _ _ _ ?_
    show keyRow (t.val % 64) n.val = _
    unfold keyRow; rw [if_neg h1, if_pos (by omega)]
  by_cases h3 : n.val - 128 - 128 < 128
  · rw [dif_neg h1, dif_neg h2, dif_pos h3, dif_pos (by omega)]
    refine b7 m c t _ _ _ ?_
    show keyRow (t.val % 64) n.val = _
    unfold keyRow; rw [if_neg h1, if_neg (by omega)]; dsimp only; rw [Nat.sub_sub]
  · rw [dif_neg h1, dif_neg h2, dif_neg h3, dif_neg (by omega)]
    refine b9 m c t _ _ _ ?_
    show (n.val - 384) = (n.val - 128 - 128 - 128)
    omega

/-- The kernel's output array after the run. -/
theorem arr_eq : (dats m 0 c).arrAt 10 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 10 _ covers fun t hf y => ?_
  blk_simp
  rw [after0_10]
  have ht : t.val < 512 := t.isLt
  have hy1 : (y 1).val < 1024 := (y 1).isLt
  have hy2 : (y 2).val < 128 := (y 2).isLt
  have hy0 : (y 0).val < 1 := (y 0).isLt
  refine out_apply m c t y ⟨(y 1).val / 256, by omega⟩ ⟨(y 1).val % 64, by omega⟩ ⟨128 * ((y 1).val / 64 % 4) + (y 2).val, by omega⟩
    (by show (y 1).val = 256 * ((y 1).val / 256) + 64 * ((128 * ((y 1).val / 64 % 4) + (y 2).val) / 128) + (y 1).val % 64; omega)
    (by show (y 2).val = (128 * ((y 1).val / 64 % 4) + (y 2).val) % 128; omega) _ ?_
  rw [emb10 t y]
  refine Eq.trans ?_ (outArr_ix _ _ _ _ _ _ _ _ _ ⟨(y 1).val / 256, by omega⟩ ⟨(y 1).val / 64 % 4, by omega⟩ ⟨(y 1).val % 64, by omega⟩
    ⟨t.val % 64, by omega⟩ ⟨(y 2).val, hy2⟩ (by show (y 1).val = 256 * ((y 1).val / 256) + 64 * ((y 1).val / 64 % 4) + (y 1).val % 64; omega) rfl).symm
  have e1 : (128 * ((y 1).val / 64 % 4) + (y 2).val) % 128 = (y 2).val := by omega
  have e2 : (128 * ((y 1).val / 64 % 4) + (y 2).val) / 128 = (y 1).val / 64 % 4 := by omega
  unfold blkO arrO
  congr 1
  · funext n
    congr 1
    · refine Finset.sum_congr rfl fun e _ => ?_
      rw [K_eq]
      congr 1
      unfold blkQ
      rw [b1]
      simp only [e1, e2]
    · unfold blkM arrM
      simp only [e1, coords1]
  · funext n
    rw [V_eq]
  · unfold blkS
    rw [b0]
    simp only [e2]

end Cert.AttnKernel
end
-- ==== Proof.AttnSum.lean ====
module

public import proofs.«01_k».proof.Proof.AttnKernel

@[expose] public section

noncomputable section

namespace Cert.AttnSum

open Idealize.ShloMosaic Cert.AttnMath Cert.AttnKernel

/-- Which of the first 384 places of block `j` the query at row `r` attends to. -/
def Valid (j n r : ℕ) : Prop := (n < 128 → r ≤ n ∧ 0 < j) ∧ (256 ≤ n → n - 256 ≤ r ∧ j < 63)

instance (j n r : ℕ) : Decidable (Valid j n r) := by unfold Valid; infer_instance

/-- Whether the reference lets the query at token `i` attend to the key at token `s`. -/
def Near (i s : ℕ) : Prop := i ≤ s + 128 ∧ s ≤ i + 128

instance (i s : ℕ) : Decidable (Near i s) := by unfold Near; infer_instance

/-- The kernel's mask is zero on the places attended to and minus infinity on the others. -/
theorem arrM_eq (j : Fin 64) (n : Fin 640) (r : ℕ) (hn : n.val < 384) : arrM j n r = if Valid j n r then 0 else ⊥ := by
  unfold arrM
  by_cases h1 : n.val < 128
  · rw [if_pos h1]
    by_cases h : r ≤ n.val ∧ 0 < j.val
    · rw [if_pos h, if_pos]; exact ⟨fun _ => h, fun h' => by omega⟩
    · rw [if_neg h, if_neg]; exact fun h' => h (h'.1 h1)
  rw [if_neg h1]
  by_cases h2 : 256 ≤ n.val ∧ n.val - 256 < 128
  · rw [if_pos h2]
    by_cases h : n.val - 256 ≤ r ∧ j.val < 63
    · rw [if_pos h, if_pos]; exact ⟨fun h' => by omega, fun _ => h⟩
    · rw [if_neg h, if_neg]; exact fun h' => h (h'.2 h2.1)
  · rw [if_neg h2, if_pos]; exact ⟨fun h' => by omega, fun h' => by omega⟩

/-- On the context places there is no mask. -/
theorem arrM_ctx (j : Fin 64) (n : Fin 640) (r : ℕ) (hn : ¬ n.val < 384) : arrM j n r = 0 := by
  unfold arrM
  rw [if_neg (by omega), if_neg (by omega)]

/-- A sum over the kernel's places is the sum over the tokens near the query and the sum over the context. -/
theorem sum_places {M : Type*} [AddCommMonoid M] (j : Fin 64) (r : Fin 128) (i : ℕ) (hi : i = 128 * j.val + r.val)
    (f : Fin 8192 → M) (f' : Fin 256 → M) (F : Fin 640 → M)
    (hF : ∀ (n : Fin 640) (h : n.val < 384), F n = if Valid j n r then f ⟨keyRow j n, keyRow_lt j n j.isLt h⟩ else 0)
    (hF' : ∀ (n : Fin 640) (h : ¬ n.val < 384), F n = f' ⟨n.val - 384, by omega⟩) :
    ∑ n, F n = (∑ s : Fin 8192, if Near i s then f s else 0) + ∑ t, f' t := by
  have e : ∑ n, F n = (∑ n : Fin 384, F ⟨n.val, by omega⟩) + ∑ t : Fin 256, F ⟨384 + t.val, by omega⟩ :=
    Fin.sum_univ_add (a := 384) (b := 256) F
  rw [e]
  refine congrArg₂ (· + ·) ?_ ?_
  · rw [Finset.sum_congr rfl fun (n : Fin 384) _ => hF ⟨n.val, by omega⟩ n.isLt, ← Finset.sum_filter, ← Finset.sum_filter]
    have hj := j.isLt
    have hr := r.isLt
    refine Finset.sum_bij' (fun n _ => ⟨keyRow j n.val, keyRow_lt j n.val j.isLt n.isLt⟩)
      (fun s hs => ⟨s.val + 128 - 128 * j.val, ?_⟩) ?_ ?_ ?_ ?_ ?_
    · have := (Finset.mem_filter.1 hs).2
      unfold Near at this; omega
    · intro n hn
      have h := (Finset.mem_filter.1 hn).2
      refine Finset.mem_filter.2 ⟨Finset.mem_univ _, ?_⟩
      have hn := n.isLt
      unfold Valid at h; unfold Near keyRow
      dsimp only at h ⊢
      split_ifs <;> omega
    · intro s hs
      have h := (Finset.mem_filter.1 hs).2
      refine Finset.mem_filter.2 ⟨Finset.mem_univ _, ?_⟩
      have hs := s.isLt
      unfold Near at h; unfold Valid
      dsimp only at h ⊢
      omega
    · intro n hn
      have h := (Finset.mem_filter.1 hn).2
      have hn := n.isLt
      unfold Valid at h
      refine Fin.ext ?_
      dsimp only at h ⊢
      unfold keyRow
      split_ifs <;> omega
    · intro s hs
      have h := (Finset.mem_filter.1 hs).2
      have hs := s.isLt
      unfold Near at h
      refine Fin.ext ?_
      dsimp only at h ⊢
      unfold keyRow
      split_ifs <;> omega
    · intro n hn
      rfl
  · refine Finset.sum_congr rfl fun t _ => ?_
    rw [hF' _ (by show ¬ 384 + t.val < 384; omega)]
    congr 1
    exact Fin.ext (by show 384 + t.val - 384 = t.val; omega)

/-- The two sides of one element of the attention: the kernel's, over its places, and the reference's, over all tokens, the context and
    the sink. `a` and `a'` are the scores of the tokens and the context, `sk` the sink. -/
theorem attn_eq (j : Fin 64) (r : Fin 128) (i : ℕ) (hi : i = 128 * j.val + r.val)
    (a : Fin 8192 → ℝ) (a' : Fin 256 → ℝ) (sk : ℝ) (w : Fin 8192 → EReal) (w' : Fin 256 → EReal)
    (S v : Fin 640 → EReal)
    (hS : ∀ (n : Fin 640) (h : n.val < 384), S n = (a ⟨keyRow j n, keyRow_lt j n j.isLt h⟩ : EReal) + arrM j n r.val)
    (hS' : ∀ (n : Fin 640) (h : ¬ n.val < 384), S n = (a' ⟨n.val - 384, by omega⟩ : EReal) + arrM j n r.val)
    (hv : ∀ (n : Fin 640) (h : n.val < 384), v n = w ⟨keyRow j n, keyRow_lt j n j.isLt h⟩)
    (hv' : ∀ (n : Fin 640) (h : ¬ n.val < 384), v n = w' ⟨n.val - 384, by omega⟩)
    (R : Fin 8449 → EReal)
    (hR : ∀ (s : Fin 8449) (h : s.val < 8192), R s = if Near i s then ((a ⟨s, h⟩ * Real.log 2 : ℝ) : EReal) else ⊥)
    (hR' : ∀ (s : Fin 8449) (h : ¬ s.val < 8192) (h' : s.val - 8192 < 256), R s = ((a' ⟨s.val - 8192, h'⟩ * Real.log 2 : ℝ) : EReal))
    (hR'' : ∀ (s : Fin 8449), ¬ s.val < 8192 → ¬ s.val - 8192 < 256 → R s = (sk : EReal))
    (P : Fin 8449 → EReal)
    (hP : ∀ s, P s = Ideal.div (Ideal.exp (R s - Finset.univ.fold max ⊥ R)) (∑ k, Ideal.exp (R k - Finset.univ.fold max ⊥ R))) :
    (∑ s : Fin 8192, w s * P ⟨s.val, by omega⟩) + ∑ t : Fin 256, w' t * P ⟨8192 + t.val, by omega⟩
      = attnEl S v ((sk : EReal) * (((Real.log 2)⁻¹ : ℝ) : EReal)) := by
  have hl : Real.log 2 ≠ 0 := (Real.log_pos (by norm_num)).ne'
  -- the weights of the kernel's places
  let gK : Fin 640 → ℝ := fun n =>
    if h : n.val < 384 then (if Valid j n r then Real.exp (a ⟨keyRow j n, keyRow_lt j n j.isLt h⟩ * Real.log 2) else 0)
    else Real.exp (a' ⟨n.val - 384, by omega⟩ * Real.log 2)
  have hgK : ∀ n, Score2 (S n) (gK n) := by
    intro n
    by_cases h : n.val < 384
    · rw [hS n h, arrM_eq j n r h]
      show Score2 _ (dite _ _ _)
      rw [dif_pos h]
      by_cases hV : Valid j n r
      · rw [if_pos hV, if_pos hV, add_zero]; exact Or.inr ⟨_, rfl, rfl⟩
      · rw [if_neg hV, if_neg hV, EReal.add_bot]; exact Or.inl ⟨rfl, rfl⟩
    · rw [hS' n h, arrM_ctx j n r h, add_zero]
      show Score2 _ (dite _ _ _)
      rw [dif_neg h]; exact Or.inr ⟨_, rfl, rfl⟩
  -- the weights of the reference's columns
  let gR : Fin 8449 → ℝ := fun s =>
    if h : s.val < 8192 then (if Near i s then Real.exp (a ⟨s, h⟩ * Real.log 2) else 0)
    else if h' : s.val - 8192 < 256 then Real.exp (a' ⟨s.val - 8192, h'⟩ * Real.log 2) else Real.exp sk
  have hgR : ∀ s, Score (R s) (gR s) := by
    intro s
    show Score _ (dite _ _ _)
    by_cases h : s.val < 8192
    · rw [hR s h, dif_pos h]
      by_cases hV : Near i s
      · rw [if_pos hV, if_pos hV]; exact Or.inr ⟨_, rfl, rfl⟩
      · rw [if_neg hV, if_neg hV]; exact Or.inl ⟨rfl, rfl⟩
    · rw [dif_neg h]
      by_cases h' : s.val - 8192 < 256
      · rw [hR' s h h', dif_pos h']; exact Or.inr ⟨_, rfl, rfl⟩
      · rw [hR'' s h h', dif_neg h']; exact Or.inr ⟨_, rfl, rfl⟩
  have g1 : ∀ s : Fin 8192, gR ⟨s.val, by omega⟩ = if Near i s then Real.exp (a s * Real.log 2) else 0 := fun s => dif_pos s.isLt
  have g2 : ∀ t : Fin 256, gR ⟨8192 + t.val, by omega⟩ = Real.exp (a' t * Real.log 2) := by
    intro t
    have h : ¬ 8192 + t.val < 8192 := by omega
    have h' : 8192 + t.val - 8192 < 256 := by omega
    refine (dif_neg h).trans ((dif_pos h').trans ?_)
    refine congrArg (fun z => Real.exp (a' z * Real.log 2)) ?_
    exact Fin.ext (by show 8192 + t.val - 8192 = t.val; omega)
  have g3 : gR ⟨8448, by omega⟩ = Real.exp sk := (dif_neg (show ¬ (8448 : ℕ) < 8192 by decide)).trans (dif_neg (show ¬ (8448 : ℕ) - 8192 < 256 by decide))
  -- the two totals are the same
  have hG : ∑ s, gR s = (∑ n, gK n) + Real.exp sk := by
    have e : ∑ s, gR s = (∑ s : Fin 8448, gR ⟨s.val, by omega⟩) + gR ⟨8448, by omega⟩ := Fin.sum_univ_castSucc (n := 8448) gR
    have e' : ∑ s : Fin 8448, gR ⟨s.val, by omega⟩ = (∑ s : Fin 8192, gR ⟨s.val, by omega⟩) + ∑ t : Fin 256, gR ⟨8192 + t.val, by omega⟩ :=
      Fin.sum_univ_add (a := 8192) (b := 256) fun s : Fin 8448 => gR ⟨s.val, by omega⟩
    rw [e, e', g3, Finset.sum_congr rfl fun s _ => g1 s, Finset.sum_congr rfl fun t _ => g2 t,
      sum_places j r i hi (fun s => Real.exp (a s * Real.log 2)) (fun t => Real.exp (a' t * Real.log 2)) gK
        (fun n h => dif_pos h) (fun n h => dif_neg h)]
  have hGp : 0 ≤ (∑ s, gR s)⁻¹ := inv_nonneg.2 (Finset.sum_nonneg fun s _ => (hgR s).nonneg)
  have hP' : ∀ s, P s = ((gR s * (∑ k, gR k)⁻¹ : ℝ) : EReal) := by
    intro s
    rw [hP s]
    refine softmax_eq R gR hgR ⟨8448, by omega⟩ ?_ _ rfl s
    rw [hR'' ⟨8448, by omega⟩ (show ¬ (8448 : ℕ) < 8192 by decide) (show ¬ (8448 : ℕ) - 8192 < 256 by decide)]
    exact EReal.coe_ne_bot _
  have hs : (sk : EReal) * (((Real.log 2)⁻¹ : ℝ) : EReal) = ((sk * (Real.log 2)⁻¹ : ℝ) : EReal) := (EReal.coe_mul _ _).symm
  have hs' : sk * (Real.log 2)⁻¹ * Real.log 2 = sk := by field_simp
  rw [hs, attnEl_eq S v _ gK hgK, hs', ← hG]
  have hK : ∑ n, v n * (gK n : EReal) = (∑ s : Fin 8192, w s * (gR ⟨s.val, by omega⟩ : EReal)) + ∑ t : Fin 256, w' t * (gR ⟨8192 + t.val, by omega⟩ : EReal) := by
    rw [sum_places j r i hi (fun s => w s * (Real.exp (a s * Real.log 2) : EReal)) (fun t => w' t * (Real.exp (a' t * Real.log 2) : EReal))
      (fun n => v n * (gK n : EReal)) ?_ ?_]
    · refine congrArg₂ (· + ·) ?_ ?_
      · refine Finset.sum_congr rfl fun s _ => ?_
        rw [g1 s]
        by_cases hV : Near i s
        · rw [if_pos hV, if_pos hV]
        · rw [if_neg hV, if_neg hV, EReal.coe_zero, mul_zero]
      · refine Finset.sum_congr rfl fun t _ => ?_
        rw [g2 t]
    · intro n h
      show v n * ((dite _ _ _ : ℝ) : EReal) = _
      rw [dif_pos h, hv n h]
      by_cases hV : Valid j n r
      · rw [if_pos hV, if_pos hV]
      · rw [if_neg hV, if_neg hV, EReal.coe_zero, mul_zero]
    · intro n h
      show v n * ((dite _ _ _ : ℝ) : EReal) = _
      rw [dif_neg h, hv' n h]
  have t : ∀ (x : EReal) (s : Fin 8449), x * P s = x * (gR s : EReal) * (((∑ k, gR k)⁻¹ : ℝ) : EReal) := by
    intro x s
    rw [hP' s, EReal.coe_mul, mul_assoc]
  rw [hK, Finset.sum_congr rfl fun s _ => t (w s) _, Finset.sum_congr rfl fun s _ => t (w' s) _, ← sum_mul_coe _ _ _ hGp, ← sum_mul_coe _ _ _ hGp]
  exact (EReal.right_distrib_of_nonneg_of_ne_top (EReal.coe_nonneg.2 hGp) (EReal.coe_ne_top _) _ _).symm

end Cert.AttnSum

end
-- ==== Proof.AttnRead.lean ====
module

public import proofs.«01_k».proof.Proof.AttnRef
public import proofs.«01_k».proof.Proof.AttnSum
public import proofs.«01_k».proof.Proof.Gen.ReferenceIdeal.Run
public import proofs.«01_k».proof.Pre_finite
public import Idealize.ShloMosaic.Lib.Tactic.WordOmega
public import Idealize.ShloMosaic.Lib.WordCmp

@[expose] public section

set_option maxRecDepth 16384

noncomputable section

namespace Cert.AttnRead

open Idealize.ShloMosaic Cert.ReferenceIdeal Cert.ReferenceIdeal.Read Cert.AttnMath Cert.AttnSum

variable (x0 : FVec Ideal S8x1024x8192 .bf16) (x1 : FVec Ideal S65536x256 .bf16) (x2 : FVec Ideal S8x256x8192 .bf16)
  (x3 : FVec Ideal S2048x256 .bf16) (x4 : FVec Ideal S8x256x256 .bf16) (x5 : FVec Ideal S16 .f32)

/-- The logarithm of the word two is the logarithm of two. -/
theorem log_two : Ideal.log (Ideal.ofBits .f32 0x40000000#32) = ((Real.log 2 : ℝ) : EReal) := by
  have h : Ideal.ofBits .f32 0x40000000#32 = ((2 : ℝ) : EReal) := by
    have e : Ideal.ofBits .f32 0x40000000#32 = (((8388608 : ℝ) : EReal)) * ((((2 ^ 22 : ℝ)⁻¹ : ℝ)) : EReal) := by simp [Ideal.ofBits, Ideal.ieee]
    rw [e, ← EReal.coe_mul]
    norm_num
  rw [h, Ideal.log_coe, if_neg (by norm_num)]

/-- The difference of two token numbers as words. -/
theorem sub_word (i s : ℕ) (hi : i < 8192) (hs : s < 8192) :
    (IntOp.subi (BitVec.ofNat 32 i) (BitVec.ofNat 32 s)).toNat = (4294967296 - s + i) % 4294967296 := by
  show (BitVec.ofNat 32 i - BitVec.ofNat 32 s).toNat = _
  rw [BitVec.toNat_sub, BitVec.toNat_ofNat, BitVec.toNat_ofNat]
  omega

/-- The reference's logit of the query at token `i` and column `s`: the scaled product inside the window, minus infinity outside of it,
    the scaled product with the context, the sink. -/
theorem logit_apply (b : Fin 8) (kv g : Fin 4) (i : Fin 8192) (s : Fin 8449) :
    val_main_v28 (F := Ideal) x0 x1 x3 x5 (ix5 b kv g i s) =
      if h : s.val < 8192 then
        (if Near i s then ∑ e : Fin 64, x0 (ix3 b ⟨256 * kv.val + 64 * g.val + e.val, by omega⟩ i) * ((Real.log 2 : ℝ) : EReal)
          * x1 (ix2 ⟨8192 * b.val + s.val, by omega⟩ ⟨64 * kv.val + e.val, by omega⟩) else ⊥)
      else if h' : s.val - 8192 < 256 then
        ∑ e : Fin 64, x0 (ix3 b ⟨256 * kv.val + 64 * g.val + e.val, by omega⟩ i) * ((Real.log 2 : ℝ) : EReal)
          * x3 (ix2 ⟨256 * b.val + (s.val - 8192), by omega⟩ ⟨64 * kv.val + e.val, by omega⟩)
      else x5 (ix1 ⟨4 * kv.val + g.val, by omega⟩) := by
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v10, val_main_v9, val_main_v6,
    val_main_v5, val_main_v4, val_main_v3, val_main_v2, val_main_v1, val_main_v0, val_main_call0_v0, val_main_call0_v1, val_main_call0_v2, val_main_c, val_main_c_0, val_main_cst, val_main_cst_1]
  rw [log_two]
  have q : ∀ e : Fin 64, (⟨kv.val * 256 + g.val * 64 + e.val, by omega⟩ : Fin 1024) = ⟨256 * kv.val + 64 * g.val + e.val, by omega⟩ :=
    fun e => Fin.ext (by show kv.val * 256 + g.val * 64 + e.val = 256 * kv.val + 64 * g.val + e.val; omega)
  have k : ∀ e : Fin 64, (⟨kv.val * 64 + e.val, by omega⟩ : Fin 256) = ⟨64 * kv.val + e.val, by omega⟩ :=
    fun e => Fin.ext (by show kv.val * 64 + e.val = 64 * kv.val + e.val; omega)
  by_cases h : s.val < 8192
  · rw [dif_pos h, dif_pos h]
    have r : (⟨b.val * 8192 + s.val, by omega⟩ : Fin 65536) = ⟨8192 * b.val + s.val, by omega⟩ :=
      Fin.ext (by show b.val * 8192 + s.val = 8192 * b.val + s.val; omega)
    have hi := i.isLt
    have w1 := sub_word i s hi h
    have w2 := sub_word s i h hi
    by_cases hN : Near i s
    · rw [if_pos hN]
      unfold Near at hN
      simp only [Scalar.select]
      rw [if_pos (by word_omega)]
      simp only [q, k, r]
    · rw [if_neg hN]
      unfold Near at hN
      simp only [Scalar.select]
      rw [if_neg (by word_omega)]
      exact AttnHead.ofBits_ninf
  rw [dif_neg h, dif_neg h]
  by_cases h' : s.val - 8192 < 256
  · rw [dif_pos h', dif_pos h']
    have r : (⟨b.val * 256 + (s.val - 8192), by omega⟩ : Fin 2048) = ⟨256 * b.val + (s.val - 8192), by omega⟩ :=
      Fin.ext (by show b.val * 256 + (s.val - 8192) = 256 * b.val + (s.val - 8192); omega)
    simp only [q, k, r]
  · rw [dif_neg h', dif_neg h']
    have e : (⟨kv.val * 4 + g.val, by omega⟩ : Fin 16) = ⟨4 * kv.val + g.val, by omega⟩ :=
      Fin.ext (by show kv.val * 4 + g.val = 4 * kv.val + g.val; omega)
    rw [e]

/-- The reference's result at a batch, a channel and a token: the values weighted by the softmax, over the tokens and the context. -/
theorem out_apply (b : Fin 8) (f : Fin 1024) (i : Fin 8192) (kv g : Fin 4) (d : Fin 64) (hf : f.val = 256 * kv.val + 64 * g.val + d.val) :
    val_main_v48 (F := Ideal) x0 x1 x2 x3 x4 x5 (ix3 b f i) =
      (∑ s : Fin 8192, x2 (ix3 b ⟨64 * kv.val + d.val, by omega⟩ s) * val_main_v39 (F := Ideal) x0 x1 x3 x5 (ix5 b kv g i ⟨s.val, by omega⟩))
      + ∑ t : Fin 256, x4 (ix3 b ⟨64 * kv.val + d.val, by omega⟩ t) * val_main_v39 (F := Ideal) x0 x1 x3 x5 (ix5 b kv g i ⟨8192 + t.val, by omega⟩) := by
  have hb : f.val < 1024 := f.isLt
  have e1 : (⟨f.val / 256, by omega⟩ : Fin 4) = kv := Fin.ext (by show f.val / 256 = kv.val; omega)
  have e2 : (⟨f.val / 64 % 4, by omega⟩ : Fin 4) = g := Fin.ext (by show f.val / 64 % 4 = g.val; omega)
  have e3 : (⟨f.val / 256 * 64 + f.val % 64, by omega⟩ : Fin 256) = ⟨64 * kv.val + d.val, by omega⟩ :=
    Fin.ext (by show f.val / 256 * 64 + f.val % 64 = 64 * kv.val + d.val; omega)
  pointwise [val_main_v48, val_main_v47, val_main_v46, val_main_v45, val_main_v44, val_main_v43, val_main_v42, val_main_v41, val_main_v40,
    val_main_v12, val_main_v11, val_main_v8, val_main_v7]
  refine congrArg₂ (· + ·) (Finset.sum_congr rfl fun s _ => ?_) (Finset.sum_congr rfl fun s _ => ?_)
  · exact congrArg₂ (· * ·) (congrArg (fun z => x2 (ix3 b z s)) e3)
      (congrArg₂ (fun z w => val_main_v39 (F := Ideal) x0 x1 x3 x5 (ix5 b z w i ⟨s.val, by omega⟩)) e1 e2)
  · exact congrArg₂ (· * ·) (congrArg (fun z => x4 (ix3 b z s)) e3)
      (congrArg₂ (fun z w => val_main_v39 (F := Ideal) x0 x1 x3 x5 (ix5 b z w i ⟨8192 + s.val, by omega⟩)) e1 e2)

/-- An extended real whose magnitude is below infinity is a real number. -/
theorem real_of_lt (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  have hlt : max x (-x) < ⊤ := by
    by_contra hn
    unfold Ideal.cmp at h
    simp [hn] at h
  rw [max_lt_iff] at hlt
  refine EReal.coe_toReal (ne_of_lt hlt.1) fun e => ?_
  rw [e] at hlt
  simp at hlt

end Cert.AttnRead

end
-- ==== Proof.AttnEq.lean ====
module

public import proofs.«01_k».proof.Proof.AttnRead

@[expose] public section

set_option maxRecDepth 16384

noncomputable section

namespace Cert.AttnEq

open Idealize.ShloMosaic Cert.ReferenceIdeal Cert.ReferenceIdeal.Read Cert.AttnMath Cert.AttnSum Cert.AttnKernel Cert.AttnRead

/-- A sum of products of real numbers, read in the extended reals. -/
theorem dot_coe {n : ℕ} (u v : Fin n → ℝ) : (∑ e, (u e : EReal) * (v e : EReal)) = ((∑ e, u e * v e : ℝ) : EReal) := by
  rw [coe_sum]
  exact Finset.sum_congr rfl fun e _ => (EReal.coe_mul _ _).symm

/-- A sum of products of real numbers, the second factor scaled, read in the extended reals. -/
theorem dot_scaled {n : ℕ} (u v : Fin n → ℝ) (l : ℝ) :
    (∑ e, (v e : EReal) * (l : EReal) * (u e : EReal)) = (((∑ e, u e * v e) * l : ℝ) : EReal) := by
  rw [Finset.sum_mul, coe_sum]
  refine Finset.sum_congr rfl fun e _ => ?_
  rw [← EReal.coe_mul, ← EReal.coe_mul]
  congr 1; ring

/-- For queries, keys, context keys and sinks that are real numbers the reference's result is the kernel's array. The values and the
    context values are any extended reals. -/
theorem ref_eq (qt : S8x1024x8192.Idx → ℝ) (k : S65536x256.Idx → ℝ) (vt : FVec Ideal S8x256x8192 .bf16)
    (kc : S2048x256.Idx → ℝ) (vc : FVec Ideal S8x256x256 .bf16) (sink : S16.Idx → ℝ) :
    val_main_v48 (F := Ideal) (fun y => (qt y : EReal)) (fun y => (k y : EReal)) vt (fun y => (kc y : EReal)) vc (fun y => (sink y : EReal))
      = outArr (fun y => (qt y : EReal)) (fun y => (k y : EReal)) vt (fun y => (kc y : EReal)) vc (fun y => (sink y : EReal)) := by
  funext y
  have hy1 : (y 1).val < 1024 := (y 1).isLt
  have hy2 : (y 2).val < 8192 := (y 2).isLt
  let b : Fin 8 := y 0
  let f : Fin 1024 := y 1
  let i : Fin 8192 := y 2
  let kv : Fin 4 := ⟨(y 1).val / 256, by omega⟩
  let g : Fin 4 := ⟨(y 1).val / 64 % 4, by omega⟩
  let d : Fin 64 := ⟨(y 1).val % 64, by omega⟩
  let j : Fin 64 := ⟨(y 2).val / 128, by omega⟩
  let r : Fin 128 := ⟨(y 2).val % 128, by omega⟩
  have hf : f.val = 256 * kv.val + 64 * g.val + d.val := by
    show (y 1).val = 256 * ((y 1).val / 256) + 64 * ((y 1).val / 64 % 4) + (y 1).val % 64; omega
  have hi : i.val = 128 * j.val + r.val := by
    show (y 2).val = 128 * ((y 2).val / 128) + (y 2).val % 128; omega
  have e : y = ix3 b f i := funext fun a => match a with | ⟨0, _⟩ => rfl | ⟨1, _⟩ => rfl | ⟨2, _⟩ => rfl
  clear_value b f i kv g d j r
  subst e
  rw [AttnRead.out_apply _ _ _ _ _ _ b f i kv g d hf, outArr_ix _ _ _ _ _ _ b f i kv g d j r hf hi]
  have ei : (⟨128 * j.val + r.val, by omega⟩ : Fin 8192) = i := Fin.ext hi.symm
  unfold arrO
  rw [ei]
  refine attn_eq j r i.val hi
    (fun s => ∑ e : Fin 64, k (ix2 ⟨8192 * b.val + s.val, by omega⟩ ⟨64 * kv.val + e.val, by omega⟩)
      * qt (ix3 b ⟨256 * kv.val + 64 * g.val + e.val, by omega⟩ i))
    (fun t => ∑ e : Fin 64, kc (ix2 ⟨256 * b.val + t.val, by omega⟩ ⟨64 * kv.val + e.val, by omega⟩)
      * qt (ix3 b ⟨256 * kv.val + 64 * g.val + e.val, by omega⟩ i))
    (sink (ix1 ⟨4 * kv.val + g.val, by omega⟩)) (fun s => vt (ix3 b ⟨64 * kv.val + d.val, by omega⟩ s))
    (fun t => vc (ix3 b ⟨64 * kv.val + d.val, by omega⟩ t)) _ _ ?_ ?_ ?_ ?_
    (fun s => val_main_v28 (F := Ideal) (fun y => (qt y : EReal)) (fun y => (k y : EReal)) (fun y => (kc y : EReal)) (fun y => (sink y : EReal))
      (ix5 b kv g i s)) ?_ ?_ ?_ (fun s => val_main_v39 (F := Ideal) (fun y => (qt y : EReal)) (fun y => (k y : EReal)) (fun y => (kc y : EReal))
        (fun y => (sink y : EReal)) (ix5 b kv g i s)) ?_
  · intro n h
    refine congrArg (· + _) ?_
    rw [← dot_coe]
    refine Finset.sum_congr rfl fun e _ => congrArg (· * _) ?_
    exact dif_pos h
  · intro n h
    refine congrArg (· + _) ?_
    rw [← dot_coe]
    refine Finset.sum_congr rfl fun e _ => congrArg (· * _) ?_
    exact dif_neg h
  · intro n h
    exact dif_pos h
  · intro n h
    exact dif_neg h
  · intro s h
    dsimp only
    rw [logit_apply, dif_pos h]
    refine if_congr Iff.rfl ?_ rfl
    exact dot_scaled _ _ _
  · intro s h h'
    dsimp only
    rw [logit_apply, dif_neg h, dif_pos h']
    exact dot_scaled _ _ _
  · intro s h h'
    rw [logit_apply, dif_neg h, dif_neg h']
  · intro s
    rw [AttnRef.prob_apply, AttnRef.expo_apply]
    refine congrArg (Ideal.div _) (Finset.sum_congr rfl fun k _ => ?_)
    rw [AttnRef.expo_apply]

variable [Cert.Pre_finite.Facts]

/-- Under the precondition every query, key, context key and sink is a real number. -/
theorem finite_real (x0 : FVec Ideal S8x1024x8192 .bf16) (x1 : FVec Ideal S65536x256 .bf16) (x2 : FVec Ideal S8x256x8192 .bf16)
    (x3 : FVec Ideal S2048x256 .bf16) (x4 : FVec Ideal S8x256x256 .bf16) (x5 : FVec Ideal S16 .f32)
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2 = (fun _ => 1#1)) :
    val_main_v48 (F := Ideal) x0 x1 x2 x3 x4 x5 = outArr x0 x1 x2 x3 x4 x5 := by
  obtain ⟨h0, h1, h3, h5⟩ := h
  have r0 : (fun y => (((x0 y : EReal).toReal : ℝ) : EReal)) = x0 := funext fun y => real_of_lt _ (congrFun h0 y)
  have r1 : (fun y => (((x1 y : EReal).toReal : ℝ) : EReal)) = x1 := funext fun y => real_of_lt _ (congrFun h1 y)
  have r3 : (fun y => (((x3 y : EReal).toReal : ℝ) : EReal)) = x3 := funext fun y => real_of_lt _ (congrFun h3 y)
  have r5 : (fun y => (((x5 y : EReal).toReal : ℝ) : EReal)) = x5 := funext fun y => real_of_lt _ (congrFun h5 y)
  have := ref_eq (fun y => (x0 y : EReal).toReal) (fun y => (x1 y : EReal).toReal) x2 (fun y => (x3 y : EReal).toReal) x4
    (fun y => (x5 y : EReal).toReal)
  rw [r0, r1, r3, r5] at this
  exact this

end Cert.AttnEq

end
-- ==== Proof.AttnClaim.lean ====
module

public import proofs.«01_k».proof.Defs
public import proofs.«01_k».proof.Proof.AttnEq
public import proofs.«01_k».proof.Proof.Gen.Kernel.Frame
public import proofs.«01_k».proof.Proof.Gen.KernelIdeal.Frame
public import proofs.«01_k».proof.Proof.Gen.KernelIdeal.Value
public import Idealize.ShloMosaic.Adequacy
public import Idealize.ShloMosaic.Init

@[expose] public section

noncomputable section

namespace Cert.AttnClaim

open Idealize.ShloMosaic Idealize.SL.Sem

/-- The facts that the precondition's function states. -/
instance facts : Cert.Pre_finite.Facts := ⟨by decide, by decide, by decide, by decide, by decide⟩

/-- The reference of the attention terminates and leaves its arguments and the counters as they were. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two named constants: the mask's value is minus infinity and the factor of the logits is the reciprocal of the logarithm of two. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- The kernel and the reference of the attention end with the same array, from arguments that agree and satisfy the precondition. -/
theorem algebraic : Cert.algebraic_KernelIdeal_ReferenceIdeal_pre_finite := by
  intro m ρ m' ρ' hpre hagree
  refine ⟨fun c => (Cert.KernelIdeal.Gen.dats m 0 c).arrAt 10 Cert.KernelIdeal.cfg0.N, Cert.KernelIdeal.Value.run_blocks (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5⟩ := hagree c
  refine (Cert.ReferenceIdeal.Read.val_main_v48_eq m' c).trans ?_
  rw [e0, e1, e2, e3, e4, e5]
  exact (Cert.AttnEq.finite_real _ _ _ _ _ _ (hpre c)).trans (Cert.AttnKernel.arr_eq m c).symm

end Cert.AttnClaim

end
-- ==== Proof.MixMath.lean ====
module

public import Idealize.ShloMosaic.Lib.Pointwise
public import Idealize.ShloMosaic.PureOps.Ideal.Laws

@[expose] public section

set_option maxRecDepth 16384

noncomputable section

namespace Cert.MixMath

open Idealize.ShloMosaic

/-- The factor of the residual stream. -/
def alpha : EReal := Ideal.ofBits .f32 0x3FD744FD#32

/-- The mean of a row of 1024 entries. -/
def meanEl (v : Fin 1024 → EReal) : EReal := Ideal.div (∑ x, v x) (Ideal.ofBits .f32 0x44800000#32)

/-- The layer norm of a row, at one entry. -/
def normEl (v g b : Fin 1024 → EReal) (d : Fin 1024) : EReal :=
  (v d - meanEl v) * Ideal.rsqrt (meanEl (fun x => (v x - meanEl v) * (v x - meanEl v)) + Ideal.ofBits .f32 0x3727C5AC#32) * g d + b d

/-- The residual stream and a scaled update. -/
def resEl (x s y : Fin 1024 → EReal) (d : Fin 1024) : EReal := alpha * x d + s d * y d

/-- A row after the attention's projection, the residual connection and the first layer norm. -/
def xmEl (inp x : Fin 1024 → EReal) (wo : Fin 1024 → Fin 1024 → EReal) (s g b : Fin 1024 → EReal) : Fin 1024 → EReal :=
  normEl (resEl x s fun d => ∑ f, inp f * wo f d) g b

/-- A row scaled and shifted. -/
def modEl (x sh sc : Fin 1024 → EReal) (d : Fin 1024) : EReal := x d * (1 + sc d) + sh d

/-- A row times one column of a matrix. -/
def dotEl (h w : Fin 1024 → EReal) : EReal := ∑ d, h d * w d

/-- The convolution of three neighbouring gate entries. -/
def convEl (p q r w0 w1 w2 b : EReal) : EReal := w0 * p + w1 * q + w2 * r + b

/-- The gated activation. -/
def gluEl (g v : EReal) : EReal := g * Ideal.logistic g * v

/-- A row of the result, from the activations and the row before them. -/
def outEl (xm : Fin 1024 → EReal) (act : Fin 2816 → EReal) (wd : Fin 2816 → Fin 1024 → EReal) (s g b : Fin 1024 → EReal) : Fin 1024 → EReal :=
  normEl (resEl xm s fun d => ∑ c, act c * wd c d) g b

end Cert.MixMath
end
-- ==== Proof.MixHead.lean ====
module

public import proofs.«01_k».proof.Proof.Gen.MixIdeal.Skeleton
public import proofs.«01_k».proof.Proof.MixMath

@[expose] public section

set_option maxRecDepth 16384

noncomputable section

namespace Cert.MixHead

open Idealize.ShloMosaic Cert.MixIdeal Cert.MixIdeal.Gen Cert.MixMath

/-- The residual sum before the first layer norm. -/
theorem pre_apply (a : Vec Ideal S528x1024 .bf16) (w : Vec Ideal S1024x1024 .bf16) (x : Vec Ideal S528x1024 .f32) (s : Vec Ideal S1x1x1024 .f32)
    (p : Fin 528) (d : Fin 1024) :
    k0_pay7 a w x s (ix2 p d)
      = resEl (fun d => x (ix2 p d)) (fun d => s (ix3 0 0 d)) (fun d => ∑ f, a (ix2 p f) * w (ix2 f d)) d := by
  pointwise [k0_pay7]
  rfl

/-- The first layer norm. -/
theorem norm_apply (v : FVec Ideal S528x1024 .f32) (g : FVec Ideal S1x1024 .f32) (b : Vec Ideal S1x1024 .f32) (p : Fin 528) (d : Fin 1024) :
    k0_pay9 v g b (ix2 p d) = normEl (fun d => v (ix2 p d)) (fun d => g (ix2 0 d)) (fun d => b (ix2 0 d)) d := by
  pointwise [k0_pay9]
  rfl

/-- The scaled and shifted rows. -/
theorem mod_apply (v : FVec Ideal S528x1024 .f32) (g : FVec Ideal S1x1024 .f32) (b : Vec Ideal S1x1024 .f32) (sh sc : Vec Ideal S1x1x1024 .f32)
    (p : Fin 528) (d : Fin 1024) :
    k0_pay11 v g b sh sc (ix2 p d)
      = modEl (fun d => k0_pay9 v g b (ix2 p d)) (fun d => sh (ix3 0 0 d)) (fun d => sc (ix3 0 0 d)) d := by
  generalize hw : modEl (fun d => k0_pay9 v g b (ix2 p d)) (fun d => sh (ix3 0 0 d)) (fun d => sc (ix3 0 0 d)) d = w
  unfold k0_pay11
  generalize k0_pay9 v g b = X at hw ⊢
  subst hw
  pointwise
  rfl

/-- 256 columns of the gated activations, from the rows, their halo and the weights' columns. -/
def chunk (h : FVec Ideal S512x1024 .bf16) (H : FVec Ideal S528x1024 .bf16) (wv wg : Vec Ideal S1024x256 .bf16) (c0 c1 c2 cb : Vec Ideal S1x256 .f32) :
    FVec Ideal S512x256 .bf16 :=
  k0_pay19 (k0_pay16 h wv) (k0_pay17 H wg) (k0_pay18 H wg c0 c1) c2 cb

/-- The activation at a row and a column. -/
theorem chunk_apply (h : FVec Ideal S512x1024 .bf16) (H : FVec Ideal S528x1024 .bf16) (wv wg : Vec Ideal S1024x256 .bf16) (c0 c1 c2 cb : Vec Ideal S1x256 .f32)
    (r : Fin 512) (k : Fin 256) :
    chunk h H wv wg c0 c1 c2 cb (ix2 r k)
      = gluEl (convEl (dotEl (fun d => H (ix2 ⟨7 + r.val, by omega⟩ d)) (fun d => wg (ix2 d k)))
            (dotEl (fun d => H (ix2 ⟨8 + r.val, by omega⟩ d)) (fun d => wg (ix2 d k)))
            (dotEl (fun d => H (ix2 ⟨9 + r.val, by omega⟩ d)) (fun d => wg (ix2 d k)))
            (c0 (ix2 0 k)) (c1 (ix2 0 k)) (c2 (ix2 0 k)) (cb (ix2 0 k)))
          (dotEl (fun d => h (ix2 r d)) (fun d => wv (ix2 d k))) := by
  have e1 : (⟨7 + r.val, by omega⟩ : Fin 528) = ⟨(8 + r.val + 528 - 1) % 528, Nat.mod_lt _ (by decide)⟩ := Fin.ext (by show 7 + r.val = (8 + r.val + 528 - 1) % 528; omega)
  have e2 : (⟨9 + r.val, by omega⟩ : Fin 528) = ⟨(8 + r.val + 528 - 527) % 528, Nat.mod_lt _ (by decide)⟩ := Fin.ext (by show 9 + r.val = (8 + r.val + 528 - 527) % 528; omega)
  rw [e1, e2]
  unfold chunk
  pointwise [k0_pay16, k0_pay17, k0_pay18, k0_pay19]
  rfl

/-- The result's rows. -/
theorem out_apply (act : Vec Ideal S512x2816 .bf16) (wd : Vec Ideal S2816x1024 .bf16) (xm : Vec Ideal S512x1024 .f32) (s : Vec Ideal S1x1x1024 .f32)
    (g b : Vec Ideal S1x1024 .f32) (r : Fin 512) (d : Fin 1024) :
    k0_pay55 act wd xm s g b (ix2 r d)
      = outEl (fun d => xm (ix2 r d)) (fun c => act (ix2 r c)) (fun c d => wd (ix2 c d)) (fun d => s (ix3 0 0 d)) (fun d => g (ix2 0 d)) (fun d => b (ix2 0 d)) d := by
  pointwise [k0_pay55]
  rfl

section chunks
variable (h : FVec Ideal S512x1024 .bf16) (H : FVec Ideal S528x1024 .bf16) (wv wg : Vec Ideal S1024x256 .bf16) (c0 c1 c2 cb : Vec Ideal S1x256 .f32)

theorem chunk0 : k0_pay19 (k0_pay16 h wv) (k0_pay17 H wg) (k0_pay18 H wg c0 c1) c2 cb = chunk h H wv wg c0 c1 c2 cb := rfl
theorem chunk1 : k0_pay23 (k0_pay20 h wv) (k0_pay21 H wg) (k0_pay22 H wg c0 c1) c2 cb = chunk h H wv wg c0 c1 c2 cb := rfl
theorem chunk2 : k0_pay28 (k0_pay24 h wv) (k0_pay26 H wg c0 c1) c2 (k0_pay27 H wg) cb = chunk h H wv wg c0 c1 c2 cb := rfl
theorem chunk3 : k0_pay34 (k0_pay29 h wv) (k0_pay31 H wg c0 c1) (k0_pay32 H wg) (k0_pay33 c2) cb = chunk h H wv wg c0 c1 c2 cb := rfl
theorem chunk4 : k0_pay37 (k0_pay35 h wv) (k0_pay36 H wg c0 c1 c2) cb = chunk h H wv wg c0 c1 c2 cb := rfl
theorem chunk5 : k0_pay40 (k0_pay38 h wv) (k0_pay39 H wg c0 c1 c2) cb = chunk h H wv wg c0 c1 c2 cb := rfl
theorem chunk6 : k0_pay44 (k0_pay41 h wv) (k0_pay42 H wg c0 c1 c2) (k0_pay43 cb) = chunk h H wv wg c0 c1 c2 cb := rfl
theorem chunk7 : k0_pay47 (k0_pay45 h wv) (k0_pay46 H wg c0 c1 c2 cb) = chunk h H wv wg c0 c1 c2 cb := rfl
theorem chunk8 : k0_pay50 (k0_pay48 h wv) (k0_pay49 H wg c0 c1 c2 cb) = chunk h H wv wg c0 c1 c2 cb := rfl
theorem chunk9 : k0_pay52 (k0_pay51 h wv H wg c0 c1 c2 cb) = chunk h H wv wg c0 c1 c2 cb := rfl
theorem chunk10 : k0_pay54 (k0_pay53 h wv H wg c0 c1 c2 cb) = chunk h H wv wg c0 c1 c2 cb := rfl
end chunks

end Cert.MixHead
end
-- ==== Proof.MixRows.lean ====
module

public import proofs.«01_k».proof.Proof.Gen.MixIdeal.Value
public import proofs.«01_k».proof.Proof.MixHead
public import Idealize.ShloMosaic.Lib.Pipeline.ValueKit
public import Idealize.ShloMosaic.Lib.Pipeline.ReadBack

@[expose] public section

set_option maxRecDepth 16384

noncomputable section

namespace Cert.MixBlock

open Idealize.ShloMosaic Cert.MixIdeal Cert.MixIdeal.Gen Cert.MixMath Cert.MixHead

/-- The attention's output at one grid point, one token a row: eight rows before the tile, the tile, eight rows after it. -/
def vecInp (x0 : Vec Ideal S1x1024x512 .bf16) (x1 x2 : Vec Ideal S1x1024x128 .bf16) : FVec Ideal S528x1024 .bf16 := fun i =>
  if h : (i 0).val < 8 then x1 (ix3 0 (i 1) ⟨120 + (i 0).val, by omega⟩)
  else if h' : (i 0).val < 520 then x0 (ix3 0 (i 1) ⟨(i 0).val - 8, by omega⟩)
  else x2 (ix3 0 (i 1) ⟨(i 0).val - 520, by have : (i 0).val < 528 := (i 0).isLt; omega⟩)

/-- The residual stream's rows, in the same order. -/
def vecX (x4 : Vec Ideal S512x1024 .f32) (x5 x6 : Vec Ideal S8x1024 .f32) : FVec Ideal S528x1024 .f32 := fun i =>
  if h : (i 0).val < 8 then x5 (ix2 ⟨(i 0).val, h⟩ (i 1))
  else if h' : (i 0).val < 520 then x4 (ix2 ⟨(i 0).val - 8, by omega⟩ (i 1))
  else x6 (ix2 ⟨(i 0).val - 520, by have : (i 0).val < 528 := (i 0).isLt; omega⟩ (i 1))

/-- One when there is a tile before this one in the sequence, else zero. -/
def hasBefore (v : BitVec 32) : EReal := ((((Scalar.extui (Scalar.cmpi .sgt v 0#32) : BitVec 32).toInt : ℝ)) : EReal)
/-- One when there is a tile after this one in the sequence, else zero. -/
def hasAfter (v : BitVec 32) : EReal := ((((Scalar.extui (Scalar.cmpi .slt v 15#32) : BitVec 32).toInt : ℝ)) : EReal)

/-- The scaled and shifted rows, the halo rows outside the sequence made zero. -/
def vecH (v : BitVec 32) (hm : FVec Ideal S528x1024 .f32) : FVec Ideal S528x1024 .bf16 := fun i =>
  if (i 0).val < 8 then hm i * hasBefore v else if (i 0).val < 520 then hm i else hm i * hasAfter v

/-- The activations of the tile. -/
def vecAct (h : FVec Ideal S512x1024 .bf16) (H : FVec Ideal S528x1024 .bf16) (x10 : Vec Ideal S1024x5632 .bf16) (x11 : Vec Ideal S3x2816 .f32) (x12 : Vec Ideal S1x2816 .f32) :
    FVec Ideal S512x2816 .bf16 := fun i =>
  have h0 : (i 0).val < 512 := (i 0).isLt
  have h1 : (i 1).val < 2816 := (i 1).isLt
  gluEl (convEl (dotEl (fun d => H (ix2 ⟨7 + (i 0).val, by omega⟩ d)) (fun d => x10 (ix2 d ⟨2816 + (i 1).val, by omega⟩)))
        (dotEl (fun d => H (ix2 ⟨8 + (i 0).val, by omega⟩ d)) (fun d => x10 (ix2 d ⟨2816 + (i 1).val, by omega⟩)))
        (dotEl (fun d => H (ix2 ⟨9 + (i 0).val, by omega⟩ d)) (fun d => x10 (ix2 d ⟨2816 + (i 1).val, by omega⟩)))
        (x11 (ix2 0 (i 1))) (x11 (ix2 1 (i 1))) (x11 (ix2 2 (i 1))) (x12 (ix2 0 (i 1))))
    (dotEl (fun d => h (ix2 (i 0) d)) (fun d => x10 (ix2 d ⟨(i 1).val, by omega⟩)))

/-- Three blocks of rows stored into a buffer of 528 rows. -/
theorem rows_eq {e : EltTy} (a : Vec Ideal S512x1024 e) (b c : Vec Ideal S8x1024 e) (G : Vec Ideal S528x1024 e)
    (ha : ∀ (r : Fin 512) (d : Fin 1024), a (ix2 r d) = G (ix2 ⟨8 + r.val, by omega⟩ d))
    (hb : ∀ (r : Fin 8) (d : Fin 1024), b (ix2 r d) = G (ix2 ⟨r.val, by omega⟩ d))
    (hc : ∀ (r : Fin 8) (d : Fin 1024), c (ix2 r d) = G (ix2 ⟨520 + r.val, by omega⟩ d)) :
    View.canon (Val := Elt Ideal) [⟨Rect.unit (s := S528x1024) ![520, 0] S8x1024.size inb_S528x1024_S8x1024_520_0, c⟩, ⟨Rect.unit (s := S528x1024) ![0, 0] S8x1024.size inb_S528x1024_S8x1024_0_0, b⟩,
      ⟨Rect.unit (s := S528x1024) ![8, 0] S512x1024.size inb_S528x1024_S512x1024_8_0, a⟩] = G := by
  funext y
  have hp : (y 0).val < 528 := (y 0).isLt
  have hd : (y 1).val < 1024 := (y 1).isLt
  have cov : ∃ q ∈ ([⟨Rect.unit (s := S528x1024) ![520, 0] S8x1024.size inb_S528x1024_S8x1024_520_0, c⟩, ⟨Rect.unit (s := S528x1024) ![0, 0] S8x1024.size inb_S528x1024_S8x1024_0_0, b⟩,
      ⟨Rect.unit (s := S528x1024) ![8, 0] S512x1024.size inb_S528x1024_S512x1024_8_0, a⟩] : List (View.Piece (Elt Ideal) S528x1024 e)), y ∈ q.1.set := by
    by_cases h : (y 0).val < 8
    · refine ⟨⟨Rect.unit (s := S528x1024) ![0, 0] S8x1024.size inb_S528x1024_S8x1024_0_0, b⟩, List.mem_cons_of_mem _ List.mem_cons_self, ?_⟩
      refine (Rect.mem_set_unit (inb := inb_S528x1024_S8x1024_0_0)).2 ?_
      intro k; fin_cases k
      · exact ⟨Nat.zero_le _, by show (y 0).val < 0 + 8; omega⟩
      · exact ⟨Nat.zero_le _, by show (y 1).val < 0 + 1024; omega⟩
    by_cases h' : (y 0).val < 520
    · refine ⟨⟨Rect.unit (s := S528x1024) ![8, 0] S512x1024.size inb_S528x1024_S512x1024_8_0, a⟩, List.mem_cons_of_mem _ (List.mem_cons_of_mem _ List.mem_cons_self), ?_⟩
      refine (Rect.mem_set_unit (inb := inb_S528x1024_S512x1024_8_0)).2 ?_
      intro k; fin_cases k
      · exact ⟨by show 8 ≤ (y 0).val; omega, by show (y 0).val < 8 + 512; omega⟩
      · exact ⟨Nat.zero_le _, by show (y 1).val < 0 + 1024; omega⟩
    · refine ⟨⟨Rect.unit (s := S528x1024) ![520, 0] S8x1024.size inb_S528x1024_S8x1024_520_0, c⟩, List.mem_cons_self, ?_⟩
      refine (Rect.mem_set_unit (inb := inb_S528x1024_S8x1024_520_0)).2 ?_
      intro k; fin_cases k
      · exact ⟨by show 520 ≤ (y 0).val; omega, by show (y 0).val < 520 + 8; omega⟩
      · exact ⟨Nat.zero_le _, by show (y 1).val < 0 + 1024; omega⟩
  have ey := eq_ix2 (n0 := 528) (n1 := 1024) y
  canon_tiles x h using cov
  · exact (congrArg c (eq_ix2 (n0 := 8) (n1 := 1024) x)).trans ((hc _ _).trans (congrArg G ((congrArg₂ (ix2 (n0 := 528) (n1 := 1024)) (Fin.ext h0.symm) (Fin.ext h1.symm)).trans ey.symm)))
  · exact (congrArg b (eq_ix2 (n0 := 8) (n1 := 1024) x)).trans ((hb _ _).trans (congrArg G ((congrArg₂ (ix2 (n0 := 528) (n1 := 1024)) (Fin.ext h0.symm) (Fin.ext h1.symm)).trans ey.symm)))
  · exact (congrArg a (eq_ix2 (n0 := 512) (n1 := 1024) x)).trans ((ha _ _).trans (congrArg G ((congrArg₂ (ix2 (n0 := 528) (n1 := 1024)) (Fin.ext h0.symm) (Fin.ext h1.symm)).trans ey.symm)))

/-- The attention's output as the body gathers it. -/
theorem inp_eq (x0 : Vec Ideal S1x1024x512 .bf16) (x1 x2 : Vec Ideal S1x1024x128 .bf16) :
    View.canon (Val := Elt Ideal) (e := .bf16) [⟨Rect.unit (s := S528x1024) ![520, 0] S8x1024.size inb_S528x1024_S8x1024_520_0, k0_pay3 x2⟩, ⟨Rect.unit (s := S528x1024) ![0, 0] S8x1024.size inb_S528x1024_S8x1024_0_0, k0_pay2 x1⟩,
      ⟨Rect.unit (s := S528x1024) ![8, 0] S512x1024.size inb_S528x1024_S512x1024_8_0, k0_pay1 x0⟩] = vecInp x0 x1 x2 := by
  refine rows_eq _ _ _ _ ?_ ?_ ?_
  · intro r d
    pointwise [k0_pay1, vecInp]
    rw [dif_pos (show 8 + r.val < 520 by omega)]
    try simp only [Nat.add_sub_cancel_left]
  · intro r d
    pointwise [k0_pay2, vecInp]
  · intro r d
    pointwise [k0_pay3, vecInp]
    rw [dif_neg (show ¬ 520 + r.val < 8 by omega)]

/-- The residual stream's rows as the body gathers them. -/
theorem x_eq (x4 : Vec Ideal S512x1024 .f32) (x5 x6 : Vec Ideal S8x1024 .f32) :
    View.canon (Val := Elt Ideal) (e := .f32) [⟨Rect.unit (s := S528x1024) ![520, 0] S8x1024.size inb_S528x1024_S8x1024_520_0, k0_pay6 x6⟩, ⟨Rect.unit (s := S528x1024) ![0, 0] S8x1024.size inb_S528x1024_S8x1024_0_0, k0_pay5 x5⟩,
      ⟨Rect.unit (s := S528x1024) ![8, 0] S512x1024.size inb_S528x1024_S512x1024_8_0, k0_pay4 x4⟩] = vecX x4 x5 x6 := by
  refine rows_eq _ _ _ _ ?_ ?_ ?_
  · intro r d
    pointwise [k0_pay4, vecX]
    rw [dif_pos (show 8 + r.val < 520 by omega)]
    try simp only [Nat.add_sub_cancel_left]
  · intro r d
    pointwise [k0_pay5, vecX]
  · intro r d
    pointwise [k0_pay6, vecX]
    rw [dif_neg (show ¬ 520 + r.val < 8 by omega)]

/-- The scaled and shifted rows as the body gathers them. -/
theorem h_eq (v : BitVec 32) (P : FVec Ideal S528x1024 .f32) (g : FVec Ideal S1x1024 .f32) (b : Vec Ideal S1x1024 .f32) (sh sc : Vec Ideal S1x1x1024 .f32) :
    View.canon (Val := Elt Ideal) (e := .bf16) [⟨Rect.unit (s := S528x1024) ![520, 0] S8x1024.size inb_S528x1024_S8x1024_520_0, k0_pay15 v (k0_pay11 P g b sh sc)⟩,
      ⟨Rect.unit (s := S528x1024) ![0, 0] S8x1024.size inb_S528x1024_S8x1024_0_0, k0_pay14 v (k0_pay13 P g b sh sc) 0#32⟩,
      ⟨Rect.unit (s := S528x1024) ![8, 0] S512x1024.size inb_S528x1024_S512x1024_8_0, k0_pay12 P g b sh sc⟩] = vecH v (k0_pay11 P g b sh sc) := by
  unfold k0_pay12 k0_pay13
  generalize k0_pay11 P g b sh sc = X
  refine rows_eq _ _ _ _ ?_ ?_ ?_
  · intro r d
    pointwise [vecH]
    exact (if_pos (show 8 + r.val < 520 by omega)).symm
  · intro r d
    pointwise [k0_pay14, vecH]
    rfl
  · intro r d
    pointwise [k0_pay15, vecH]
    exact (if_neg (show ¬ 520 + r.val < 8 by omega)).symm

/-- The whole of the attention's rows, read back. -/
theorem inp_read {sig : RefSig} {κ : Kind} {sp : Space} (V : View sig κ sp S528x1024 .bf16) (x0 : Vec Ideal S1x1024x512 .bf16) (x1 x2 : Vec Ideal S1x1024x128 .bf16) :
    V.readCov (Val := Elt Ideal) [⟨Rect.unit (s := S528x1024) ![520, 0] ![8, 1024] inb_S528x1024_S8x1024_520_0, k0_pay3 x2⟩, ⟨Rect.unit (s := S528x1024) ![0, 0] ![8, 1024] inb_S528x1024_S8x1024_0_0, k0_pay2 x1⟩, ⟨Rect.unit (s := S528x1024) ![8, 0] ![512, 1024] inb_S528x1024_S512x1024_8_0, k0_pay1 x0⟩] (Rect.unit (s := S528x1024) ![0, 0] ![528, 1024] inb_S528x1024_S528x1024_0_0).toLoadRect = vecInp x0 x1 x2 := by
  refine (View.readCov_eq_canon' _ _ _).trans ?_
  exact (congrArg (fun G => View.ld G (Rect.unit (s := S528x1024) ![0, 0] ![528, 1024] inb_S528x1024_S528x1024_0_0)) (inp_eq x0 x1 x2)).trans (View.ld_unit_lit' _ _ (by decide))

/-- The whole of the residual stream's rows, read back. -/
theorem x_read {sig : RefSig} {κ : Kind} {sp : Space} (V : View sig κ sp S528x1024 .f32) (x4 : Vec Ideal S512x1024 .f32) (x5 x6 : Vec Ideal S8x1024 .f32) :
    V.readCov (Val := Elt Ideal) [⟨Rect.unit (s := S528x1024) ![520, 0] ![8, 1024] inb_S528x1024_S8x1024_520_0, k0_pay6 x6⟩, ⟨Rect.unit (s := S528x1024) ![0, 0] ![8, 1024] inb_S528x1024_S8x1024_0_0, k0_pay5 x5⟩, ⟨Rect.unit (s := S528x1024) ![8, 0] ![512, 1024] inb_S528x1024_S512x1024_8_0, k0_pay4 x4⟩] (Rect.unit (s := S528x1024) ![0, 0] ![528, 1024] inb_S528x1024_S528x1024_0_0).toLoadRect = vecX x4 x5 x6 := by
  refine (View.readCov_eq_canon' _ _ _).trans ?_
  exact (congrArg (fun G => View.ld G (Rect.unit (s := S528x1024) ![0, 0] ![528, 1024] inb_S528x1024_S528x1024_0_0)) (x_eq x4 x5 x6)).trans (View.ld_unit_lit' _ _ (by decide))

/-- The whole of the scaled and shifted rows, read back. -/
theorem h_read {sig : RefSig} {κ : Kind} {sp : Space} (V : View sig κ sp S528x1024 .bf16) (v : BitVec 32) (P : FVec Ideal S528x1024 .f32) (g : FVec Ideal S1x1024 .f32) (b : Vec Ideal S1x1024 .f32) (sh sc : Vec Ideal S1x1x1024 .f32) :
    V.readCov (Val := Elt Ideal) [⟨Rect.unit (s := S528x1024) ![520, 0] ![8, 1024] inb_S528x1024_S8x1024_520_0, k0_pay15 v (k0_pay11 P g b sh sc)⟩, ⟨Rect.unit (s := S528x1024) ![0, 0] ![8, 1024] inb_S528x1024_S8x1024_0_0, k0_pay14 v (k0_pay13 P g b sh sc) 0#32⟩, ⟨Rect.unit (s := S528x1024) ![8, 0] ![512, 1024] inb_S528x1024_S512x1024_8_0, k0_pay12 P g b sh sc⟩] (Rect.unit (s := S528x1024) ![0, 0] ![528, 1024] inb_S528x1024_S528x1024_0_0).toLoadRect = vecH v (k0_pay11 P g b sh sc) := by
  refine (View.readCov_eq_canon' _ _ _).trans ?_
  exact (congrArg (fun G => View.ld G (Rect.unit (s := S528x1024) ![0, 0] ![528, 1024] inb_S528x1024_S528x1024_0_0)) (h_eq v P g b sh sc)).trans (View.ld_unit_lit' _ _ (by decide))

end Cert.MixBlock
end
-- ==== Proof.MixAct.lean ====
module

public import proofs.«01_k».proof.Proof.Gen.MixIdeal.Value
public import proofs.«01_k».proof.Proof.MixRows
public import Idealize.ShloMosaic.Lib.Pipeline.ValueKit
public import Idealize.ShloMosaic.Lib.Pipeline.ReadBack

@[expose] public section

set_option maxRecDepth 16384

noncomputable section

namespace Cert.MixBlock

open Idealize.ShloMosaic Cert.MixIdeal Cert.MixIdeal.Gen Cert.MixMath Cert.MixHead

/-- One stored block of activations, at an index. -/
theorem piece_of (h : FVec Ideal S512x1024 .bf16) (H : FVec Ideal S528x1024 .bf16) (x10 : Vec Ideal S1024x5632 .bf16) (x11 : Vec Ideal S3x2816 .f32) (x12 : Vec Ideal S1x2816 .f32)
    (o : ℕ) (ho : o + 256 ≤ 2816) (wv wg : Vec Ideal S1024x256 .bf16) (c0 c1 c2 cb : Vec Ideal S1x256 .f32)
    (hv : ∀ (d : Fin 1024) (k : Fin 256), wv (ix2 d k) = x10 (ix2 d ⟨o + k.val, by omega⟩))
    (hg : ∀ (d : Fin 1024) (k : Fin 256), wg (ix2 d k) = x10 (ix2 d ⟨2816 + (o + k.val), by omega⟩))
    (h0 : ∀ k : Fin 256, c0 (ix2 0 k) = x11 (ix2 0 ⟨o + k.val, by omega⟩))
    (h1 : ∀ k : Fin 256, c1 (ix2 0 k) = x11 (ix2 1 ⟨o + k.val, by omega⟩))
    (h2 : ∀ k : Fin 256, c2 (ix2 0 k) = x11 (ix2 2 ⟨o + k.val, by omega⟩))
    (hb : ∀ k : Fin 256, cb (ix2 0 k) = x12 (ix2 0 ⟨o + k.val, by omega⟩))
    (y : S512x2816.Idx) (x : S512x256.Idx) (e0 : (y 0).val = (x 0).val) (e1 : (y 1).val = o + (x 1).val) :
    chunk h H wv wg c0 c1 c2 cb x = vecAct h H x10 x11 x12 y := by
  have hx0 : (x 0).val < 512 := (x 0).isLt
  have hx1 : (x 1).val < 256 := (x 1).isLt
  have ey : y = ix2 (x 0) ⟨o + (x 1).val, by omega⟩ := (eq_ix2 y).trans (congrArg₂ ix2 (Fin.ext e0) (Fin.ext e1))
  have key : ∀ (r : Fin 512) (k : Fin 256), chunk h H wv wg c0 c1 c2 cb (ix2 r k) = vecAct h H x10 x11 x12 (ix2 r ⟨o + k.val, by omega⟩) := by
    intro r k
    refine (chunk_apply h H wv wg c0 c1 c2 cb r k).trans ?_
    simp only [hv, hg, h0, h1, h2, hb]
    rfl
  exact (congrArg (chunk h H wv wg c0 c1 c2 cb) (eq_ix2 (n0 := 512) (n1 := 256) x)).trans ((key (x 0) (x 1)).trans (congrArg (vecAct h H x10 x11 x12) ey.symm))

/-- The activations as the body stores them, eleven blocks of columns. -/
theorem act_eq (h : FVec Ideal S512x1024 .bf16) (H : FVec Ideal S528x1024 .bf16) (x10 : Vec Ideal S1024x5632 .bf16) (x11 : Vec Ideal S3x2816 .f32) (x12 : Vec Ideal S1x2816 .f32) :
    View.canon (Val := Elt Ideal) (e := .bf16) [⟨Rect.unit (s := S512x2816) ![0, 2560] S512x256.size inb_S512x2816_S512x256_0_2560, chunk h H (View.ld x10 (Rect.unit (s := S1024x5632) ![0, 2560] S1024x256.size inb_S1024x5632_S1024x256_0_2560)) (View.ld x10 (Rect.unit (s := S1024x5632) ![0, 5376] S1024x256.size inb_S1024x5632_S1024x256_0_5376))
        (View.ld x11 (Rect.unit (s := S3x2816) ![0, 2560] S1x256.size inb_S3x2816_S1x256_0_2560)) (View.ld x11 (Rect.unit (s := S3x2816) ![1, 2560] S1x256.size inb_S3x2816_S1x256_1_2560)) (View.ld x11 (Rect.unit (s := S3x2816) ![2, 2560] S1x256.size inb_S3x2816_S1x256_2_2560)) (View.ld x12 (Rect.unit (s := S1x2816) ![0, 2560] S1x256.size inb_S1x2816_S1x256_0_2560))⟩,
      ⟨Rect.unit (s := S512x2816) ![0, 2304] S512x256.size inb_S512x2816_S512x256_0_2304, chunk h H (View.ld x10 (Rect.unit (s := S1024x5632) ![0, 2304] S1024x256.size inb_S1024x5632_S1024x256_0_2304)) (View.ld x10 (Rect.unit (s := S1024x5632) ![0, 5120] S1024x256.size inb_S1024x5632_S1024x256_0_5120))
        (View.ld x11 (Rect.unit (s := S3x2816) ![0, 2304] S1x256.size inb_S3x2816_S1x256_0_2304)) (View.ld x11 (Rect.unit (s := S3x2816) ![1, 2304] S1x256.size inb_S3x2816_S1x256_1_2304)) (View.ld x11 (Rect.unit (s := S3x2816) ![2, 2304] S1x256.size inb_S3x2816_S1x256_2_2304)) (View.ld x12 (Rect.unit (s := S1x2816) ![0, 2304] S1x256.size inb_S1x2816_S1x256_0_2304))⟩,
      ⟨Rect.unit (s := S512x2816) ![0, 2048] S512x256.size inb_S512x2816_S512x256_0_2048, chunk h H (View.ld x10 (Rect.unit (s := S1024x5632) ![0, 2048] S1024x256.size inb_S1024x5632_S1024x256_0_2048)) (View.ld x10 (Rect.unit (s := S1024x5632) ![0, 4864] S1024x256.size inb_S1024x5632_S1024x256_0_4864))
        (View.ld x11 (Rect.unit (s := S3x2816) ![0, 2048] S1x256.size inb_S3x2816_S1x256_0_2048)) (View.ld x11 (Rect.unit (s := S3x2816) ![1, 2048] S1x256.size inb_S3x2816_S1x256_1_2048)) (View.ld x11 (Rect.unit (s := S3x2816) ![2, 2048] S1x256.size inb_S3x2816_S1x256_2_2048)) (View.ld x12 (Rect.unit (s := S1x2816) ![0, 2048] S1x256.size inb_S1x2816_S1x256_0_2048))⟩,
      ⟨Rect.unit (s := S512x2816) ![0, 1792] S512x256.size inb_S512x2816_S512x256_0_1792, chunk h H (View.ld x10 (Rect.unit (s := S1024x5632) ![0, 1792] S1024x256.size inb_S1024x5632_S1024x256_0_1792)) (View.ld x10 (Rect.unit (s := S1024x5632) ![0, 4608] S1024x256.size inb_S1024x5632_S1024x256_0_4608))
        (View.ld x11 (Rect.unit (s := S3x2816) ![0, 1792] S1x256.size inb_S3x2816_S1x256_0_1792)) (View.ld x11 (Rect.unit (s := S3x2816) ![1, 1792] S1x256.size inb_S3x2816_S1x256_1_1792)) (View.ld x11 (Rect.unit (s := S3x2816) ![2, 1792] S1x256.size inb_S3x2816_S1x256_2_1792)) (View.ld x12 (Rect.unit (s := S1x2816) ![0, 1792] S1x256.size inb_S1x2816_S1x256_0_1792))⟩,
      ⟨Rect.unit (s := S512x2816) ![0, 1536] S512x256.size inb_S512x2816_S512x256_0_1536, chunk h H (View.ld x10 (Rect.unit (s := S1024x5632) ![0, 1536] S1024x256.size inb_S1024x5632_S1024x256_0_1536)) (View.ld x10 (Rect.unit (s := S1024x5632) ![0, 4352] S1024x256.size inb_S1024x5632_S1024x256_0_4352))
        (View.ld x11 (Rect.unit (s := S3x2816) ![0, 1536] S1x256.size inb_S3x2816_S1x256_0_1536)) (View.ld x11 (Rect.unit (s := S3x2816) ![1, 1536] S1x256.size inb_S3x2816_S1x256_1_1536)) (View.ld x11 (Rect.unit (s := S3x2816) ![2, 1536] S1x256.size inb_S3x2816_S1x256_2_1536)) (View.ld x12 (Rect.unit (s := S1x2816) ![0, 1536] S1x256.size inb_S1x2816_S1x256_0_1536))⟩,
      ⟨Rect.unit (s := S512x2816) ![0, 1280] S512x256.size inb_S512x2816_S512x256_0_1280, chunk h H (View.ld x10 (Rect.unit (s := S1024x5632) ![0, 1280] S1024x256.size inb_S1024x5632_S1024x256_0_1280)) (View.ld x10 (Rect.unit (s := S1024x5632) ![0, 4096] S1024x256.size inb_S1024x5632_S1024x256_0_4096))
        (View.ld x11 (Rect.unit (s := S3x2816) ![0, 1280] S1x256.size inb_S3x2816_S1x256_0_1280)) (View.ld x11 (Rect.unit (s := S3x2816) ![1, 1280] S1x256.size inb_S3x2816_S1x256_1_1280)) (View.ld x11 (Rect.unit (s := S3x2816) ![2, 1280] S1x256.size inb_S3x2816_S1x256_2_1280)) (View.ld x12 (Rect.unit (s := S1x2816) ![0, 1280] S1x256.size inb_S1x2816_S1x256_0_1280))⟩,
      ⟨Rect.unit (s := S512x2816) ![0, 1024] S512x256.size inb_S512x2816_S512x256_0_1024, chunk h H (View.ld x10 (Rect.unit (s := S1024x5632) ![0, 1024] S1024x256.size inb_S1024x5632_S1024x256_0_1024)) (View.ld x10 (Rect.unit (s := S1024x5632) ![0, 3840] S1024x256.size inb_S1024x5632_S1024x256_0_3840))
        (View.ld x11 (Rect.unit (s := S3x2816) ![0, 1024] S1x256.size inb_S3x2816_S1x256_0_1024)) (View.ld x11 (Rect.unit (s := S3x2816) ![1, 1024] S1x256.size inb_S3x2816_S1x256_1_1024)) (View.ld x11 (Rect.unit (s := S3x2816) ![2, 1024] S1x256.size inb_S3x2816_S1x256_2_1024)) (View.ld x12 (Rect.unit (s := S1x2816) ![0, 1024] S1x256.size inb_S1x2816_S1x256_0_1024))⟩,
      ⟨Rect.unit (s := S512x2816) ![0, 768] S512x256.size inb_S512x2816_S512x256_0_768, chunk h H (View.ld x10 (Rect.unit (s := S1024x5632) ![0, 768] S1024x256.size inb_S1024x5632_S1024x256_0_768)) (View.ld x10 (Rect.unit (s := S1024x5632) ![0, 3584] S1024x256.size inb_S1024x5632_S1024x256_0_3584))
        (View.ld x11 (Rect.unit (s := S3x2816) ![0, 768] S1x256.size inb_S3x2816_S1x256_0_768)) (View.ld x11 (Rect.unit (s := S3x2816) ![1, 768] S1x256.size inb_S3x2816_S1x256_1_768)) (View.ld x11 (Rect.unit (s := S3x2816) ![2, 768] S1x256.size inb_S3x2816_S1x256_2_768)) (View.ld x12 (Rect.unit (s := S1x2816) ![0, 768] S1x256.size inb_S1x2816_S1x256_0_768))⟩,
      ⟨Rect.unit (s := S512x2816) ![0, 512] S512x256.size inb_S512x2816_S512x256_0_512, chunk h H (View.ld x10 (Rect.unit (s := S1024x5632) ![0, 512] S1024x256.size inb_S1024x5632_S1024x256_0_512)) (View.ld x10 (Rect.unit (s := S1024x5632) ![0, 3328] S1024x256.size inb_S1024x5632_S1024x256_0_3328))
        (View.ld x11 (Rect.unit (s := S3x2816) ![0, 512] S1x256.size inb_S3x2816_S1x256_0_512)) (View.ld x11 (Rect.unit (s := S3x2816) ![1, 512] S1x256.size inb_S3x2816_S1x256_1_512)) (View.ld x11 (Rect.unit (s := S3x2816) ![2, 512] S1x256.size inb_S3x2816_S1x256_2_512)) (View.ld x12 (Rect.unit (s := S1x2816) ![0, 512] S1x256.size inb_S1x2816_S1x256_0_512))⟩,
      ⟨Rect.unit (s := S512x2816) ![0, 256] S512x256.size inb_S512x2816_S512x256_0_256, chunk h H (View.ld x10 (Rect.unit (s := S1024x5632) ![0, 256] S1024x256.size inb_S1024x5632_S1024x256_0_256)) (View.ld x10 (Rect.unit (s := S1024x5632) ![0, 3072] S1024x256.size inb_S1024x5632_S1024x256_0_3072))
        (View.ld x11 (Rect.unit (s := S3x2816) ![0, 256] S1x256.size inb_S3x2816_S1x256_0_256)) (View.ld x11 (Rect.unit (s := S3x2816) ![1, 256] S1x256.size inb_S3x2816_S1x256_1_256)) (View.ld x11 (Rect.unit (s := S3x2816) ![2, 256] S1x256.size inb_S3x2816_S1x256_2_256)) (View.ld x12 (Rect.unit (s := S1x2816) ![0, 256] S1x256.size inb_S1x2816_S1x256_0_256))⟩,
      ⟨Rect.unit (s := S512x2816) ![0, 0] S512x256.size inb_S512x2816_S512x256_0_0, chunk h H (View.ld x10 (Rect.unit (s := S1024x5632) ![0, 0] S1024x256.size inb_S1024x5632_S1024x256_0_0)) (View.ld x10 (Rect.unit (s := S1024x5632) ![0, 2816] S1024x256.size inb_S1024x5632_S1024x256_0_2816))
        (View.ld x11 (Rect.unit (s := S3x2816) ![0, 0] S1x256.size inb_S3x2816_S1x256_0_0)) (View.ld x11 (Rect.unit (s := S3x2816) ![1, 0] S1x256.size inb_S3x2816_S1x256_1_0)) (View.ld x11 (Rect.unit (s := S3x2816) ![2, 0] S1x256.size inb_S3x2816_S1x256_2_0)) (View.ld x12 (Rect.unit (s := S1x2816) ![0, 0] S1x256.size inb_S1x2816_S1x256_0_0))⟩]
      = vecAct h H x10 x11 x12 := by
  funext y
  canon_tiles x k
  · refine piece_of h H x10 x11 x12 2560 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 2560 k.val))
    all_goals (intros; pointwise)
  · refine piece_of h H x10 x11 x12 2304 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 2304 k.val))
    all_goals (intros; pointwise)
  · refine piece_of h H x10 x11 x12 2048 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 2048 k.val))
    all_goals (intros; pointwise)
  · refine piece_of h H x10 x11 x12 1792 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 1792 k.val))
    all_goals (intros; pointwise)
  · refine piece_of h H x10 x11 x12 1536 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 1536 k.val))
    all_goals (intros; pointwise)
  · refine piece_of h H x10 x11 x12 1280 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 1280 k.val))
    all_goals (intros; pointwise)
  · refine piece_of h H x10 x11 x12 1024 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 1024 k.val))
    all_goals (intros; pointwise)
  · refine piece_of h H x10 x11 x12 768 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 768 k.val))
    all_goals (intros; pointwise)
  · refine piece_of h H x10 x11 x12 512 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 512 k.val))
    all_goals (intros; pointwise)
  · refine piece_of h H x10 x11 x12 256 (by decide) _ _ _ _ _ _ ?_ ?_ ?_ ?_ ?_ ?_ _ _ ?_ ?_
    rotate_right 2
    · assumption
    · assumption
    rotate_left 1
    · intro d k; pointwise; exact congrArg (fun q : Fin 5632 => x10 (ix2 d q)) (Fin.ext (Nat.add_assoc 2816 256 k.val))
    all_goals (intros; pointwise)
  · refine piece_of h H x10 x11 x12 0 (by decide) _ _ _ _ _ _ ?_ ?_ ?_ ?_ ?_ ?_ _ _ ?_ ?_
    rotate_right 2
    · assumption
    · simpa using ‹_›
    rotate_left 1
    · intro d k; pointwise
    all_goals (intros; pointwise)

/-- The whole of the activations, read back. -/
theorem act_read {sig : RefSig} {κ : Kind} {sp : Space} (V : View sig κ sp S512x2816 .bf16) (h : FVec Ideal S512x1024 .bf16) (H : FVec Ideal S528x1024 .bf16) (x10 : Vec Ideal S1024x5632 .bf16) (x11 : Vec Ideal S3x2816 .f32) (x12 : Vec Ideal S1x2816 .f32) :
    V.readCov (Val := Elt Ideal) [⟨Rect.unit (s := S512x2816) ![0, 2560] ![512, 256] inb_S512x2816_S512x256_0_2560, chunk h H (View.ld x10 (Rect.unit (s := S1024x5632) ![0, 2560] ![1024, 256] inb_S1024x5632_S1024x256_0_2560)) (View.ld x10 (Rect.unit (s := S1024x5632) ![0, 5376] ![1024, 256] inb_S1024x5632_S1024x256_0_5376))
        (View.ld x11 (Rect.unit (s := S3x2816) ![0, 2560] ![1, 256] inb_S3x2816_S1x256_0_2560)) (View.ld x11 (Rect.unit (s := S3x2816) ![1, 2560] ![1, 256] inb_S3x2816_S1x256_1_2560)) (View.ld x11 (Rect.unit (s := S3x2816) ![2, 2560] ![1, 256] inb_S3x2816_S1x256_2_2560)) (View.ld x12 (Rect.unit (s := S1x2816) ![0, 2560] ![1, 256] inb_S1x2816_S1x256_0_2560))⟩,
      ⟨Rect.unit (s := S512x2816) ![0, 2304] ![512, 256] inb_S512x2816_S512x256_0_2304, chunk h H (View.ld x10 (Rect.unit (s := S1024x5632) ![0, 2304] ![1024, 256] inb_S1024x5632_S1024x256_0_2304)) (View.ld x10 (Rect.unit (s := S1024x5632) ![0, 5120] ![1024, 256] inb_S1024x5632_S1024x256_0_5120))
        (View.ld x11 (Rect.unit (s := S3x2816) ![0, 2304] ![1, 256] inb_S3x2816_S1x256_0_2304)) (View.ld x11 (Rect.unit (s := S3x2816) ![1, 2304] ![1, 256] inb_S3x2816_S1x256_1_2304)) (View.ld x11 (Rect.unit (s := S3x2816) ![2, 2304] ![1, 256] inb_S3x2816_S1x256_2_2304)) (View.ld x12 (Rect.unit (s := S1x2816) ![0, 2304] ![1, 256] inb_S1x2816_S1x256_0_2304))⟩,
      ⟨Rect.unit (s := S512x2816) ![0, 2048] ![512, 256] inb_S512x2816_S512x256_0_2048, chunk h H (View.ld x10 (Rect.unit (s := S1024x5632) ![0, 2048] ![1024, 256] inb_S1024x5632_S1024x256_0_2048)) (View.ld x10 (Rect.unit (s := S1024x5632) ![0, 4864] ![1024, 256] inb_S1024x5632_S1024x256_0_4864))
        (View.ld x11 (Rect.unit (s := S3x2816) ![0, 2048] ![1, 256] inb_S3x2816_S1x256_0_2048)) (View.ld x11 (Rect.unit (s := S3x2816) ![1, 2048] ![1, 256] inb_S3x2816_S1x256_1_2048)) (View.ld x11 (Rect.unit (s := S3x2816) ![2, 2048] ![1, 256] inb_S3x2816_S1x256_2_2048)) (View.ld x12 (Rect.unit (s := S1x2816) ![0, 2048] ![1, 256] inb_S1x2816_S1x256_0_2048))⟩,
      ⟨Rect.unit (s := S512x2816) ![0, 1792] ![512, 256] inb_S512x2816_S512x256_0_1792, chunk h H (View.ld x10 (Rect.unit (s := S1024x5632) ![0, 1792] ![1024, 256] inb_S1024x5632_S1024x256_0_1792)) (View.ld x10 (Rect.unit (s := S1024x5632) ![0, 4608] ![1024, 256] inb_S1024x5632_S1024x256_0_4608))
        (View.ld x11 (Rect.unit (s := S3x2816) ![0, 1792] ![1, 256] inb_S3x2816_S1x256_0_1792)) (View.ld x11 (Rect.unit (s := S3x2816) ![1, 1792] ![1, 256] inb_S3x2816_S1x256_1_1792)) (View.ld x11 (Rect.unit (s := S3x2816) ![2, 1792] ![1, 256] inb_S3x2816_S1x256_2_1792)) (View.ld x12 (Rect.unit (s := S1x2816) ![0, 1792] ![1, 256] inb_S1x2816_S1x256_0_1792))⟩,
      ⟨Rect.unit (s := S512x2816) ![0, 1536] ![512, 256] inb_S512x2816_S512x256_0_1536, chunk h H (View.ld x10 (Rect.unit (s := S1024x5632) ![0, 1536] ![1024, 256] inb_S1024x5632_S1024x256_0_1536)) (View.ld x10 (Rect.unit (s := S1024x5632) ![0, 4352] ![1024, 256] inb_S1024x5632_S1024x256_0_4352))
        (View.ld x11 (Rect.unit (s := S3x2816) ![0, 1536] ![1, 256] inb_S3x2816_S1x256_0_1536)) (View.ld x11 (Rect.unit (s := S3x2816) ![1, 1536] ![1, 256] inb_S3x2816_S1x256_1_1536)) (View.ld x11 (Rect.unit (s := S3x2816) ![2, 1536] ![1, 256] inb_S3x2816_S1x256_2_1536)) (View.ld x12 (Rect.unit (s := S1x2816) ![0, 1536] ![1, 256] inb_S1x2816_S1x256_0_1536))⟩,
      ⟨Rect.unit (s := S512x2816) ![0, 1280] ![512, 256] inb_S512x2816_S512x256_0_1280, chunk h H (View.ld x10 (Rect.unit (s := S1024x5632) ![0, 1280] ![1024, 256] inb_S1024x5632_S1024x256_0_1280)) (View.ld x10 (Rect.unit (s := S1024x5632) ![0, 4096] ![1024, 256] inb_S1024x5632_S1024x256_0_4096))
        (View.ld x11 (Rect.unit (s := S3x2816) ![0, 1280] ![1, 256] inb_S3x2816_S1x256_0_1280)) (View.ld x11 (Rect.unit (s := S3x2816) ![1, 1280] ![1, 256] inb_S3x2816_S1x256_1_1280)) (View.ld x11 (Rect.unit (s := S3x2816) ![2, 1280] ![1, 256] inb_S3x2816_S1x256_2_1280)) (View.ld x12 (Rect.unit (s := S1x2816) ![0, 1280] ![1, 256] inb_S1x2816_S1x256_0_1280))⟩,
      ⟨Rect.unit (s := S512x2816) ![0, 1024] ![512, 256] inb_S512x2816_S512x256_0_1024, chunk h H (View.ld x10 (Rect.unit (s := S1024x5632) ![0, 1024] ![1024, 256] inb_S1024x5632_S1024x256_0_1024)) (View.ld x10 (Rect.unit (s := S1024x5632) ![0, 3840] ![1024, 256] inb_S1024x5632_S1024x256_0_3840))
        (View.ld x11 (Rect.unit (s := S3x2816) ![0, 1024] ![1, 256] inb_S3x2816_S1x256_0_1024)) (View.ld x11 (Rect.unit (s := S3x2816) ![1, 1024] ![1, 256] inb_S3x2816_S1x256_1_1024)) (View.ld x11 (Rect.unit (s := S3x2816) ![2, 1024] ![1, 256] inb_S3x2816_S1x256_2_1024)) (View.ld x12 (Rect.unit (s := S1x2816) ![0, 1024] ![1, 256] inb_S1x2816_S1x256_0_1024))⟩,
      ⟨Rect.unit (s := S512x2816) ![0, 768] ![512, 256] inb_S512x2816_S512x256_0_768, chunk h H (View.ld x10 (Rect.unit (s := S1024x5632) ![0, 768] ![1024, 256] inb_S1024x5632_S1024x256_0_768)) (View.ld x10 (Rect.unit (s := S1024x5632) ![0, 3584] ![1024, 256] inb_S1024x5632_S1024x256_0_3584))
        (View.ld x11 (Rect.unit (s := S3x2816) ![0, 768] ![1, 256] inb_S3x2816_S1x256_0_768)) (View.ld x11 (Rect.unit (s := S3x2816) ![1, 768] ![1, 256] inb_S3x2816_S1x256_1_768)) (View.ld x11 (Rect.unit (s := S3x2816) ![2, 768] ![1, 256] inb_S3x2816_S1x256_2_768)) (View.ld x12 (Rect.unit (s := S1x2816) ![0, 768] ![1, 256] inb_S1x2816_S1x256_0_768))⟩,
      ⟨Rect.unit (s := S512x2816) ![0, 512] ![512, 256] inb_S512x2816_S512x256_0_512, chunk h H (View.ld x10 (Rect.unit (s := S1024x5632) ![0, 512] ![1024, 256] inb_S1024x5632_S1024x256_0_512)) (View.ld x10 (Rect.unit (s := S1024x5632) ![0, 3328] ![1024, 256] inb_S1024x5632_S1024x256_0_3328))
        (View.ld x11 (Rect.unit (s := S3x2816) ![0, 512] ![1, 256] inb_S3x2816_S1x256_0_512)) (View.ld x11 (Rect.unit (s := S3x2816) ![1, 512] ![1, 256] inb_S3x2816_S1x256_1_512)) (View.ld x11 (Rect.unit (s := S3x2816) ![2, 512] ![1, 256] inb_S3x2816_S1x256_2_512)) (View.ld x12 (Rect.unit (s := S1x2816) ![0, 512] ![1, 256] inb_S1x2816_S1x256_0_512))⟩,
      ⟨Rect.unit (s := S512x2816) ![0, 256] ![512, 256] inb_S512x2816_S512x256_0_256, chunk h H (View.ld x10 (Rect.unit (s := S1024x5632) ![0, 256] ![1024, 256] inb_S1024x5632_S1024x256_0_256)) (View.ld x10 (Rect.unit (s := S1024x5632) ![0, 3072] ![1024, 256] inb_S1024x5632_S1024x256_0_3072))
        (View.ld x11 (Rect.unit (s := S3x2816) ![0, 256] ![1, 256] inb_S3x2816_S1x256_0_256)) (View.ld x11 (Rect.unit (s := S3x2816) ![1, 256] ![1, 256] inb_S3x2816_S1x256_1_256)) (View.ld x11 (Rect.unit (s := S3x2816) ![2, 256] ![1, 256] inb_S3x2816_S1x256_2_256)) (View.ld x12 (Rect.unit (s := S1x2816) ![0, 256] ![1, 256] inb_S1x2816_S1x256_0_256))⟩,
      ⟨Rect.unit (s := S512x2816) ![0, 0] ![512, 256] inb_S512x2816_S512x256_0_0, chunk h H (View.ld x10 (Rect.unit (s := S1024x5632) ![0, 0] ![1024, 256] inb_S1024x5632_S1024x256_0_0)) (View.ld x10 (Rect.unit (s := S1024x5632) ![0, 2816] ![1024, 256] inb_S1024x5632_S1024x256_0_2816))
        (View.ld x11 (Rect.unit (s := S3x2816) ![0, 0] ![1, 256] inb_S3x2816_S1x256_0_0)) (View.ld x11 (Rect.unit (s := S3x2816) ![1, 0] ![1, 256] inb_S3x2816_S1x256_1_0)) (View.ld x11 (Rect.unit (s := S3x2816) ![2, 0] ![1, 256] inb_S3x2816_S1x256_2_0)) (View.ld x12 (Rect.unit (s := S1x2816) ![0, 0] ![1, 256] inb_S1x2816_S1x256_0_0))⟩] (Rect.unit (s := S512x2816) ![0, 0] ![512, 2816] inb_S512x2816_S512x2816_0_0).toLoadRect
      = vecAct h H x10 x11 x12 := by
  refine (View.readCov_eq_canon' _ _ _).trans ?_
  exact (congrArg (fun G => View.ld G (Rect.unit (s := S512x2816) ![0, 0] ![512, 2816] inb_S512x2816_S512x2816_0_0)) (act_eq h H x10 x11 x12)).trans (View.ld_unit_lit' _ _ (by decide))

end Cert.MixBlock
end
-- ==== Proof.MixBlock.lean ====
module

public import proofs.«01_k».proof.Proof.Gen.MixIdeal.Value
public import proofs.«01_k».proof.Proof.MixAct
public import Idealize.ShloMosaic.Lib.Pipeline.ValueKit
public import Idealize.ShloMosaic.Lib.Pipeline.ReadBack

@[expose] public section

set_option maxRecDepth 16384

noncomputable section

namespace Cert.MixBlock

open Idealize.ShloMosaic Cert.MixIdeal Cert.MixIdeal.Gen Cert.MixMath Cert.MixHead

/-- The residual sums of a grid point's 528 rows. -/
def blkP (x0 : Vec Ideal S1x1024x512 .bf16) (x1 x2 : Vec Ideal S1x1024x128 .bf16) (x3 : Vec Ideal S1024x1024 .bf16) (x4 : Vec Ideal S512x1024 .f32) (x5 x6 : Vec Ideal S8x1024 .f32)
    (x7 : Vec Ideal S1x6x1024 .f32) : FVec Ideal S528x1024 .f32 :=
  k0_pay7 (vecInp x0 x1 x2) x3 (vecX x4 x5 x6) (View.ld x7 (Rect.unit (s := S1x6x1024) ![0, 2, 0] S1x1x1024.size inb_S1x6x1024_S1x1x1024_0_2_0))

/-- The rows after the first layer norm. -/
def blkXm (P : FVec Ideal S528x1024 .f32) (x8 x9 : Vec Ideal S1x1024 .f32) : FVec Ideal S528x1024 .f32 := k0_pay9 P (k0_pay8 x8) x9

/-- The scaled and shifted rows, before the halo is made zero. -/
def blkHm (P : FVec Ideal S528x1024 .f32) (x8 x9 : Vec Ideal S1x1024 .f32) (x7 : Vec Ideal S1x6x1024 .f32) : FVec Ideal S528x1024 .f32 :=
  k0_pay11 P (k0_pay8 x8) x9 (View.ld x7 (Rect.unit (s := S1x6x1024) ![0, 3, 0] S1x1x1024.size inb_S1x6x1024_S1x1x1024_0_3_0)) (View.ld x7 (Rect.unit (s := S1x6x1024) ![0, 4, 0] S1x1x1024.size inb_S1x6x1024_S1x1x1024_0_4_0))

theorem xm_apply (x0 : Vec Ideal S1x1024x512 .bf16) (x1 x2 : Vec Ideal S1x1024x128 .bf16) (x3 : Vec Ideal S1024x1024 .bf16) (x4 : Vec Ideal S512x1024 .f32) (x5 x6 : Vec Ideal S8x1024 .f32)
    (x7 : Vec Ideal S1x6x1024 .f32) (x8 x9 : Vec Ideal S1x1024 .f32) (p : Fin 528) (d : Fin 1024) :
    blkXm (blkP x0 x1 x2 x3 x4 x5 x6 x7) x8 x9 (ix2 p d)
      = xmEl (fun f => vecInp x0 x1 x2 (ix2 p f)) (fun d => vecX x4 x5 x6 (ix2 p d)) (fun f d => x3 (ix2 f d)) (fun d => x7 (ix3 0 2 d)) (fun d => x8 (ix2 0 d)) (fun d => x9 (ix2 0 d)) d := by
  unfold blkXm blkP
  rw [norm_apply]
  unfold xmEl
  have e : ∀ d : Fin 1024, (View.ld x7 (Rect.unit (s := S1x6x1024) ![0, 2, 0] S1x1x1024.size inb_S1x6x1024_S1x1x1024_0_2_0) : Vec Ideal S1x1x1024 .f32) (ix3 0 0 d) = x7 (ix3 0 2 d) := fun d => by pointwise
  have e8 : ∀ d : Fin 1024, k0_pay8 x8 (ix2 0 d) = x8 (ix2 0 d) := fun d => by pointwise [k0_pay8]
  simp only [pre_apply, e, e8]

theorem hm_apply (P : FVec Ideal S528x1024 .f32) (x8 x9 : Vec Ideal S1x1024 .f32) (x7 : Vec Ideal S1x6x1024 .f32) (p : Fin 528) (d : Fin 1024) :
    blkHm P x8 x9 x7 (ix2 p d) = modEl (fun d => blkXm P x8 x9 (ix2 p d)) (fun d => x7 (ix3 0 3 d)) (fun d => x7 (ix3 0 4 d)) d := by
  unfold blkHm blkXm
  rw [mod_apply]
  have e3 : ∀ d : Fin 1024, (View.ld x7 (Rect.unit (s := S1x6x1024) ![0, 3, 0] S1x1x1024.size inb_S1x6x1024_S1x1x1024_0_3_0) : Vec Ideal S1x1x1024 .f32) (ix3 0 0 d) = x7 (ix3 0 3 d) := fun d => by pointwise
  have e4 : ∀ d : Fin 1024, (View.ld x7 (Rect.unit (s := S1x6x1024) ![0, 4, 0] S1x1x1024.size inb_S1x6x1024_S1x1x1024_0_4_0) : Vec Ideal S1x1x1024 .f32) (ix3 0 0 d) = x7 (ix3 0 4 d) := fun d => by pointwise
  simp only [e3, e4]

/-- The tile's own rows, scaled and shifted. -/
def blkH (hm : FVec Ideal S528x1024 .f32) : FVec Ideal S512x1024 .bf16 := fun i => hm (ix2 ⟨8 + (i 0).val, by have : (i 0).val < 512 := (i 0).isLt; omega⟩ (i 1))

theorem h12_eq (P : FVec Ideal S528x1024 .f32) (g : FVec Ideal S1x1024 .f32) (b : Vec Ideal S1x1024 .f32) (sh sc : Vec Ideal S1x1x1024 .f32) :
    k0_pay12 P g b sh sc = blkH (k0_pay11 P g b sh sc) := by
  unfold k0_pay12
  generalize k0_pay11 P g b sh sc = X
  funext y
  rw [eq_ix2 (n0 := 512) (n1 := 1024) y]
  pointwise [blkH]

theorem xm10_eq (P : FVec Ideal S528x1024 .f32) (g : FVec Ideal S1x1024 .f32) (b : Vec Ideal S1x1024 .f32) : k0_pay10 P g b = k0_pay9 P g b := by
  funext y
  rw [eq_ix2 (n0 := 528) (n1 := 1024) y]
  unfold k0_pay10
  generalize k0_pay9 P g b = X
  pointwise

/-- The tile's place in its sequence, as the body computes it. -/
def place (t : Fin cfg0.N) : BitVec 32 :=
  Scalar.select (Scalar.andi (Scalar.xori (Scalar.cmpi .slt (Scalar.remsi (BitVec.ofNat 32 (grid0.coords t 0).val) 16#32) 0#32) 0#1)
      (Scalar.cmpi .ne (Scalar.remsi (BitVec.ofNat 32 (grid0.coords t 0).val) 16#32) 0#32))
    (Scalar.addi (Scalar.remsi (BitVec.ofNat 32 (grid0.coords t 0).val) 16#32) 16#32)
    (Scalar.remsi (BitVec.ofNat 32 (grid0.coords t 0).val) 16#32)

theorem before_word : ∀ t : Fin cfg0.N, (Scalar.extui (Scalar.cmpi .sgt (place t) 0#32) : BitVec 32).toInt = if 0 < t.val % 16 then 1 else 0 := by decide +kernel
theorem after_word : ∀ t : Fin cfg0.N, (Scalar.extui (Scalar.cmpi .slt (place t) 15#32) : BitVec 32).toInt = if t.val % 16 < 15 then 1 else 0 := by decide +kernel

variable (m : (ℓ : Loc nD τ sig) → Buf (Elt Ideal) ℓ) (c : Dev nD)

/-- The residual sums at a grid point. -/
def gP (t : Fin cfg0.N) : FVec Ideal S528x1024 .f32 := blkP (iblk m c 0 t) (iblk m c 1 t) (iblk m c 2 t) (iblk m c 3 t) (iblk m c 4 t) (iblk m c 5 t) (iblk m c 6 t) (iblk m c 7 t)
/-- The rows after the first layer norm at a grid point. -/
def gXm (t : Fin cfg0.N) : FVec Ideal S528x1024 .f32 := blkXm (gP m c t) (iblk m c 8 t) (iblk m c 9 t)
/-- The scaled and shifted rows at a grid point. -/
def gHm (t : Fin cfg0.N) : FVec Ideal S528x1024 .f32 := blkHm (gP m c t) (iblk m c 8 t) (iblk m c 9 t) (iblk m c 7 t)

/-- What the body leaves in its output block, from its input blocks. -/
theorem out_eq (t : Fin cfg0.N) (r : Fin 512) (d : Fin 1024) :
    outsAt0 m c t (ix2 r d) = outEl (fun d => gXm m c t (ix2 ⟨8 + r.val, by omega⟩ d))
      (fun k => vecAct (blkH (gHm m c t)) (vecH (place t) (gHm m c t)) (iblk m c 10 t) (iblk m c 11 t) (iblk m c 12 t) (ix2 r k))
      (fun k d => iblk m c 13 t (ix2 k d)) (fun d => iblk m c 7 t (ix3 0 5 d)) (fun d => iblk m c 14 t (ix2 0 d)) (fun d => iblk m c 15 t (ix2 0 d)) d := by
  unfold outsAt0 gXm gHm gP
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize hw : outEl _ _ _ _ _ _ d = w
  frame_out [View.readCov_skip, View.readCov_cons_toLoadRect, View.readCov_fill, inp_read, x_read, h_read, chunk0, chunk1, chunk2, chunk3, chunk4, chunk5, chunk6, chunk7, chunk8, chunk9, chunk10, act_read]
  simp only [h12_eq, xm10_eq]
  unfold blkXm blkHm blkP place at hw
  subst hw
  have e5 : ∀ d : Fin 1024, (View.ld x7 (Rect.unit (s := S1x6x1024) ![0, 5, 0] S1x1x1024.size inb_S1x6x1024_S1x1x1024_0_5_0) : Vec Ideal S1x1x1024 .f32) (ix3 0 0 d) = x7 (ix3 0 5 d) := fun d => by pointwise
  have e8 : ∀ (X : FVec Ideal S528x1024 .f32) (d : Fin 1024), (View.ld X (Rect.unit (s := S528x1024) ![8, 0] S512x1024.size inb_S528x1024_S512x1024_8_0) : Vec Ideal S512x1024 .f32) (ix2 r d) = X (ix2 ⟨8 + r.val, by omega⟩ d) := fun X d => by pointwise
  rw [MixHead.out_apply]
  simp only [e5]
  refine congrArg (fun u => outEl u _ _ _ _ _ d) ?_
  exact funext fun d => e8 _ d

end Cert.MixBlock
end
-- ==== Proof.MixArr.lean ====
module

public import proofs.«01_k».proof.Proof.Gen.MixIdeal.Skeleton
public import proofs.«01_k».proof.Proof.MixMath

@[expose] public section

set_option maxRecDepth 16384

noncomputable section

namespace Cert.MixArr

open Idealize.ShloMosaic Cert.MixIdeal Cert.MixMath

/-- The arguments of the mixing and feed-forward step. -/
structure Args where
  /-- The attention's output, a channel a row. -/
  inp : FVec Ideal S8x1024x8192 .bf16
  /-- The residual stream. -/
  x : FVec Ideal S8x8192x1024 .f32
  /-- The six modulation rows of each sequence. -/
  mod : FVec Ideal S8x6x1024 .f32
  /-- The attention's output projection. -/
  wo : FVec Ideal S1024x1024 .f32
  /-- The gains of the two layer norms. -/
  lg : FVec Ideal S2x1024 .f32
  /-- The shifts of the two layer norms. -/
  lb : FVec Ideal S2x1024 .f32
  /-- The up projection, values then gates. -/
  wu : FVec Ideal S1024x5632 .f32
  /-- The three taps of the convolution. -/
  cw : FVec Ideal S3x2816 .f32
  /-- The convolution's shift. -/
  cb : FVec Ideal S2816 .f32
  /-- The down projection. -/
  wd : FVec Ideal S2816x1024 .f32

variable (A : Args) (b : Fin 8)

/-- A token's row after the attention's projection, the residual connection and the first layer norm. -/
def xmA (n : Fin 8192) : Fin 1024 → EReal :=
  xmEl (fun f => A.inp (ix3 b f n)) (fun d => A.x (ix3 b n d)) (fun f d => A.wo (ix2 f d)) (fun d => A.mod (ix3 b 2 d)) (fun d => A.lg (ix2 0 d)) (fun d => A.lb (ix2 0 d))

/-- A token's row scaled and shifted. -/
def hA (n : Fin 8192) : Fin 1024 → EReal := modEl (xmA A b n) (fun d => A.mod (ix3 b 3 d)) (fun d => A.mod (ix3 b 4 d))

/-- A token's value. -/
def vA (n : Fin 8192) (k : Fin 2816) : EReal := dotEl (hA A b n) (fun d => A.wu (ix2 d ⟨k.val, by omega⟩))

/-- A token's gate. -/
def gA (n : Fin 8192) (k : Fin 2816) : EReal := dotEl (hA A b n) (fun d => A.wu (ix2 d ⟨2816 + k.val, by omega⟩))

/-- The gates of a sequence with a zero before the first and after the last. -/
def gPad (q : ℕ) (k : Fin 2816) : EReal := if h : 1 ≤ q ∧ q ≤ 8192 then gA A b ⟨q - 1, by omega⟩ k else 0

/-- A token's activation. -/
def actA (n : Fin 8192) (k : Fin 2816) : EReal :=
  gluEl (convEl (gPad A b n.val k) (gPad A b (n.val + 1) k) (gPad A b (n.val + 2) k) (A.cw (ix2 0 k)) (A.cw (ix2 1 k)) (A.cw (ix2 2 k)) (A.cb (ix1 k))) (vA A b n k)

/-- A token's row of the result. -/
def outA (n : Fin 8192) : Fin 1024 → EReal :=
  outEl (xmA A b n) (actA A b n) (fun k d => A.wd (ix2 k d)) (fun d => A.mod (ix3 b 5 d)) (fun d => A.lg (ix2 1 d)) (fun d => A.lb (ix2 1 d))

/-- The result as an array. -/
def outArr : FVec Ideal S65536x1024 .f32 := fun y =>
  outA A ⟨(y 0).val / 8192, by have : (y 0).val < 65536 := (y 0).isLt; omega⟩ ⟨(y 0).val % 8192, by omega⟩ (y 1)

end Cert.MixArr
end
-- ==== Proof.MixKernel.lean ====
module

public import proofs.«01_k».proof.Proof.MixBlock
public import proofs.«01_k».proof.Proof.MixArr
public import Idealize.ShloMosaic.Lib.Pipeline.Covers

@[expose] public section

set_option maxRecDepth 16384

noncomputable section

namespace Cert.MixKernel

open Idealize.ShloMosaic Cert.MixIdeal Cert.MixIdeal.Gen Cert.MixMath Cert.MixBlock Cert.MixArr
open Idealize.ShloMosaic.TcCoe

theorem i0 : ∀ t : Fin cfg0.N, win0_0.index t = ![t.val / 16, 0, t.val % 16] := by decide +kernel
theorem i1 : ∀ t : Fin cfg0.N, win0_1.index t = ![t.val / 16, 0, 4 * (t.val % 16) - 1] := by decide +kernel
theorem i2 : ∀ t : Fin cfg0.N, win0_2.index t = ![t.val / 16, 0, min (4 * (t.val % 16) + 4) 63] := by decide +kernel
theorem i3 : ∀ t : Fin cfg0.N, win0_3.index t = ![0, 0] := by decide +kernel
theorem i4 : ∀ t : Fin cfg0.N, win0_4.index t = ![t.val, 0] := by decide +kernel
theorem i5 : ∀ t : Fin cfg0.N, win0_5.index t = ![64 * t.val - 1, 0] := by decide +kernel
theorem i6 : ∀ t : Fin cfg0.N, win0_6.index t = ![min (64 * t.val + 64) 8191, 0] := by decide +kernel
theorem i7 : ∀ t : Fin cfg0.N, win0_7.index t = ![t.val / 16, 0, 0] := by decide +kernel
theorem i8 : ∀ t : Fin cfg0.N, win0_8.index t = ![0, 0] := by decide +kernel
theorem i9 : ∀ t : Fin cfg0.N, win0_9.index t = ![0, 0] := by decide +kernel
theorem i10 : ∀ t : Fin cfg0.N, win0_10.index t = ![0, 0] := by decide +kernel
theorem i11 : ∀ t : Fin cfg0.N, win0_11.index t = ![0, 0] := by decide +kernel
theorem i12 : ∀ t : Fin cfg0.N, win0_12.index t = ![0, 0] := by decide +kernel
theorem i13 : ∀ t : Fin cfg0.N, win0_13.index t = ![0, 0] := by decide +kernel
theorem i14 : ∀ t : Fin cfg0.N, win0_14.index t = ![0, 0] := by decide +kernel
theorem i15 : ∀ t : Fin cfg0.N, win0_15.index t = ![0, 0] := by decide +kernel
theorem i16 : ∀ t : Fin cfg0.N, win0_16.index t = ![t.val, 0] := by decide +kernel

/-- The output's blocks reach every element of the array. -/
theorem covers : (cfg0.win 16).Covers := by decide +kernel

variable (m : (ℓ : Loc nD τ sig) → Buf (Elt Ideal) ℓ) (c : Dev nD)

/-- Each input block is its array at the block's place. -/
theorem b0 (t : Fin cfg0.N) (f : Fin 1024) (n : Fin 512) (q : Fin 8192) (b : Fin 8) (hb : b.val = t.val / 16) (hq : q.val = 512 * (t.val % 16) + n.val) :
    iblk m c 0 t (ix3 0 f n) = m ((c : Thread nD τ).loc main_arg0) (ix3 b f q) := by
  blk_ext! [iblk, V, i0 t]
theorem b1 (t : Fin cfg0.N) (f : Fin 1024) (n : Fin 128) (q : Fin 8192) (b : Fin 8) (hb : b.val = t.val / 16) (hq : q.val = 128 * (4 * (t.val % 16) - 1) + n.val) :
    iblk m c 1 t (ix3 0 f n) = m ((c : Thread nD τ).loc main_arg0) (ix3 b f q) := by
  blk_ext! [iblk, V, i1 t]
theorem b2 (t : Fin cfg0.N) (f : Fin 1024) (n : Fin 128) (q : Fin 8192) (b : Fin 8) (hb : b.val = t.val / 16) (hq : q.val = 128 * min (4 * (t.val % 16) + 4) 63 + n.val) :
    iblk m c 2 t (ix3 0 f n) = m ((c : Thread nD τ).loc main_arg0) (ix3 b f q) := by
  blk_ext! [iblk, V, i2 t]
theorem b3 (t : Fin cfg0.N) (f d : Fin 1024) : iblk m c 3 t (ix2 f d) = m ((c : Thread nD τ).loc main_arg3) (ix2 f d) := by
  blk_ext! [iblk, V, i3 t]
theorem b4 (t : Fin cfg0.N) (r : Fin 512) (d : Fin 1024) (q : Fin 8192) (b : Fin 8) (hq : 8192 * b.val + q.val = 512 * t.val + r.val) :
    iblk m c 4 t (ix2 r d) = m ((c : Thread nD τ).loc main_arg1) (ix3 b q d) := by
  blk_ext! [iblk, V, i4 t]
theorem b5 (t : Fin cfg0.N) (r : Fin 8) (d : Fin 1024) (q : Fin 8192) (b : Fin 8) (hq : 8192 * b.val + q.val = 8 * (64 * t.val - 1) + r.val) :
    iblk m c 5 t (ix2 r d) = m ((c : Thread nD τ).loc main_arg1) (ix3 b q d) := by
  blk_ext! [iblk, V, i5 t]
theorem b6 (t : Fin cfg0.N) (r : Fin 8) (d : Fin 1024) (q : Fin 8192) (b : Fin 8) (hq : 8192 * b.val + q.val = 8 * min (64 * t.val + 64) 8191 + r.val) :
    iblk m c 6 t (ix2 r d) = m ((c : Thread nD τ).loc main_arg1) (ix3 b q d) := by
  blk_ext! [iblk, V, i6 t]
theorem b7 (t : Fin cfg0.N) (k : Fin 6) (d : Fin 1024) (b : Fin 8) (hb : b.val = t.val / 16) :
    iblk m c 7 t (ix3 0 k d) = m ((c : Thread nD τ).loc main_arg2) (ix3 b k d) := by
  blk_ext! [iblk, V, i7 t]
theorem b8 (t : Fin cfg0.N) (d : Fin 1024) : iblk m c 8 t (ix2 0 d) = m ((c : Thread nD τ).loc main_arg4) (ix2 0 d) := by
  blk_ext! [iblk, V, i8 t]
theorem b9 (t : Fin cfg0.N) (d : Fin 1024) : iblk m c 9 t (ix2 0 d) = m ((c : Thread nD τ).loc main_arg5) (ix2 0 d) := by
  blk_ext! [iblk, V, i9 t]
theorem b10 (t : Fin cfg0.N) (d : Fin 1024) (k : Fin 5632) : iblk m c 10 t (ix2 d k) = m ((c : Thread nD τ).loc main_arg6) (ix2 d k) := by
  blk_ext! [iblk, V, i10 t]
theorem b11 (t : Fin cfg0.N) (j : Fin 3) (k : Fin 2816) : iblk m c 11 t (ix2 j k) = m ((c : Thread nD τ).loc main_arg7) (ix2 j k) := by
  blk_ext! [iblk, V, i11 t]
theorem b12 (t : Fin cfg0.N) (k : Fin 2816) : iblk m c 12 t (ix2 0 k) = m ((c : Thread nD τ).loc main_arg8) (ix1 k) := by
  blk_ext! [iblk, V, i12 t]
theorem b13 (t : Fin cfg0.N) (k : Fin 2816) (d : Fin 1024) : iblk m c 13 t (ix2 k d) = m ((c : Thread nD τ).loc main_arg9) (ix2 k d) := by
  blk_ext! [iblk, V, i13 t]
theorem b14 (t : Fin cfg0.N) (d : Fin 1024) : iblk m c 14 t (ix2 0 d) = m ((c : Thread nD τ).loc main_arg4) (ix2 1 d) := by
  blk_ext! [iblk, V, i14 t]
theorem b15 (t : Fin cfg0.N) (d : Fin 1024) : iblk m c 15 t (ix2 0 d) = m ((c : Thread nD τ).loc main_arg5) (ix2 1 d) := by
  blk_ext! [iblk, V, i15 t]

/-- Where an element of the output's block lies in the array. -/
theorem emb16 (t : Fin cfg0.N) (y : S512x1024.Idx) : (win0_16.blk t).view.emb y
    = ix2 ⟨512 * t.val + (y 0).val, by have : t.val < 128 := t.isLt; have : (y 0).val < 512 := (y 0).isLt; omega⟩ (y 1) := by
  blk_ext [i16 t]

end Cert.MixKernel
end
-- ==== Proof.MixOut.lean ====
module

public import proofs.«01_k».proof.Proof.MixKernel

@[expose] public section

set_option maxRecDepth 16384

noncomputable section

namespace Cert.MixOut

open Idealize.ShloMosaic Cert.MixIdeal Cert.MixIdeal.Gen Cert.MixMath Cert.MixBlock Cert.MixArr Cert.MixKernel
open Idealize.ShloMosaic.TcCoe

variable (m : (ℓ : Loc nD τ sig) → Buf (Elt Ideal) ℓ) (c : Dev nD)

/-- The kernel's arguments. -/
def args : Args where
  inp := m ((c : Thread nD τ).loc main_arg0)
  x := m ((c : Thread nD τ).loc main_arg1)
  mod := m ((c : Thread nD τ).loc main_arg2)
  wo := m ((c : Thread nD τ).loc main_arg3)
  lg := m ((c : Thread nD τ).loc main_arg4)
  lb := m ((c : Thread nD τ).loc main_arg5)
  wu := m ((c : Thread nD τ).loc main_arg6)
  cw := m ((c : Thread nD τ).loc main_arg7)
  cb := m ((c : Thread nD τ).loc main_arg8)
  wd := m ((c : Thread nD τ).loc main_arg9)

section rows
variable (t : Fin cfg0.N) (b : Fin 8) (hb : b.val = t.val / 16)
include hb

/-- The attention's output of a grid point's row. -/
theorem inp_row (p : Fin 528) (f : Fin 1024) (q : Fin 8192) (h7 : 7 ≤ p.val) (h520 : p.val ≤ 520) (hq : q.val + 8 = 512 * (t.val % 16) + p.val) :
    vecInp (iblk m c 0 t) (iblk m c 1 t) (iblk m c 2 t) (ix2 p f) = (args m c).inp (ix3 b f q) := by
  have hq' := q.isLt
  unfold vecInp
  by_cases h1 : p.val < 8
  · exact (dif_pos h1).trans (b1 m c t f ⟨120 + p.val, by omega⟩ q b hb (by show q.val = 128 * (4 * (t.val % 16) - 1) + (120 + p.val); omega))
  by_cases h2 : p.val < 520
  · exact (dif_neg h1).trans ((dif_pos h2).trans (b0 m c t f ⟨p.val - 8, by omega⟩ q b hb (by show q.val = 512 * (t.val % 16) + (p.val - 8); omega)))
  · exact (dif_neg h1).trans ((dif_neg h2).trans (b2 m c t f ⟨p.val - 520, by omega⟩ q b hb (by show q.val = 128 * min (4 * (t.val % 16) + 4) 63 + (p.val - 520); omega)))

/-- The residual stream's entries of a grid point's row. -/
theorem x_row (p : Fin 528) (d : Fin 1024) (q : Fin 8192) (h7 : 7 ≤ p.val) (h520 : p.val ≤ 520) (hq : q.val + 8 = 512 * (t.val % 16) + p.val) :
    vecX (iblk m c 4 t) (iblk m c 5 t) (iblk m c 6 t) (ix2 p d) = (args m c).x (ix3 b q d) := by
  have hq' := q.isLt
  have ht : t.val < 128 := t.isLt
  unfold vecX
  by_cases h1 : p.val < 8
  · exact (dif_pos h1).trans (b5 m c t ⟨p.val, h1⟩ d q b (by show 8192 * b.val + q.val = 8 * (64 * t.val - 1) + p.val; omega))
  by_cases h2 : p.val < 520
  · exact (dif_neg h1).trans ((dif_pos h2).trans (b4 m c t ⟨p.val - 8, by omega⟩ d q b (by show 8192 * b.val + q.val = 512 * t.val + (p.val - 8); omega)))
  · exact (dif_neg h1).trans ((dif_neg h2).trans (b6 m c t ⟨p.val - 520, by omega⟩ d q b (by show 8192 * b.val + q.val = 8 * min (64 * t.val + 64) 8191 + (p.val - 520); omega)))

/-- A grid point's row after the first layer norm. -/
theorem xm_row (p : Fin 528) (d : Fin 1024) (q : Fin 8192) (h7 : 7 ≤ p.val) (h520 : p.val ≤ 520) (hq : q.val + 8 = 512 * (t.val % 16) + p.val) :
    gXm m c t (ix2 p d) = xmA (args m c) b q d := by
  unfold gXm gP
  refine (xm_apply _ _ _ _ _ _ _ _ _ _ p d).trans ?_
  unfold xmA
  have e1 := funext fun f => inp_row m c t b hb p f q h7 h520 hq
  have e2 := funext fun d => x_row m c t b hb p d q h7 h520 hq
  have e3 : (fun f d => iblk m c 3 t (ix2 f d)) = fun f d => (args m c).wo (ix2 f d) := funext fun f => funext fun d => b3 m c t f d
  have e7 : (fun d => iblk m c 7 t (ix3 0 2 d)) = fun d => (args m c).mod (ix3 b 2 d) := funext fun d => b7 m c t 2 d b hb
  have e8 : (fun d => iblk m c 8 t (ix2 0 d)) = fun d => (args m c).lg (ix2 0 d) := funext fun d => b8 m c t d
  have e9 : (fun d => iblk m c 9 t (ix2 0 d)) = fun d => (args m c).lb (ix2 0 d) := funext fun d => b9 m c t d
  rw [e1, e2, e3, e7, e8, e9]

/-- A grid point's row scaled and shifted. -/
theorem hm_row (p : Fin 528) (d : Fin 1024) (q : Fin 8192) (h7 : 7 ≤ p.val) (h520 : p.val ≤ 520) (hq : q.val + 8 = 512 * (t.val % 16) + p.val) :
    gHm m c t (ix2 p d) = hA (args m c) b q d := by
  refine (hm_apply _ _ _ _ p d).trans ?_
  unfold hA
  have e1 : (fun d => blkXm (gP m c t) (iblk m c 8 t) (iblk m c 9 t) (ix2 p d)) = xmA (args m c) b q := funext fun d => xm_row m c t b hb p d q h7 h520 hq
  have e3 : (fun d => iblk m c 7 t (ix3 0 3 d)) = fun d => (args m c).mod (ix3 b 3 d) := funext fun d => b7 m c t 3 d b hb
  have e4 : (fun d => iblk m c 7 t (ix3 0 4 d)) = fun d => (args m c).mod (ix3 b 4 d) := funext fun d => b7 m c t 4 d b hb
  rw [e1, e3, e4]

/-- A gate of a grid point's row, the rows outside the sequence zero. -/
theorem gate_row (p : Fin 528) (k : Fin 2816) (q : ℕ) (h7 : 7 ≤ p.val) (h520 : p.val ≤ 520) (hq : q + 7 = 512 * (t.val % 16) + p.val) :
    dotEl (fun d => vecH (place t) (gHm m c t) (ix2 p d)) (fun d => iblk m c 10 t (ix2 d ⟨2816 + k.val, by omega⟩)) = gPad (args m c) b q k := by
  have hz : ∀ (h : Fin 1024 → EReal) (w : Fin 1024 → EReal), (∀ d, h d = 0) → dotEl h w = 0 := fun h w hh => by
    unfold dotEl
    exact Finset.sum_eq_zero fun d _ => by rw [hh d, zero_mul]
  have hbf : hasBefore (place t) = if 0 < t.val % 16 then 1 else 0 := by
    unfold hasBefore; rw [before_word t]; split_ifs <;> simp
  have haf : hasAfter (place t) = if t.val % 16 < 15 then 1 else 0 := by
    unfold hasAfter; rw [after_word t]; split_ifs <;> simp
  have e10 : ∀ d : Fin 1024, iblk m c 10 t (ix2 d ⟨2816 + k.val, by omega⟩) = (args m c).wu (ix2 d ⟨2816 + k.val, by omega⟩) := fun d => b10 m c t d _
  have live : ∀ (hq1 : 1 ≤ q ∧ q ≤ 8192), (∀ d, vecH (place t) (gHm m c t) (ix2 p d) = gHm m c t (ix2 p d)) →
      dotEl (fun d => vecH (place t) (gHm m c t) (ix2 p d)) (fun d => iblk m c 10 t (ix2 d ⟨2816 + k.val, by omega⟩)) = gPad (args m c) b q k := by
    intro hq1 hv
    unfold gPad
    rw [dif_pos hq1]
    unfold gA dotEl
    refine Finset.sum_congr rfl fun d _ => ?_
    exact congrArg₂ (· * ·) ((hv d).trans (hm_row m c t b hb p d ⟨q - 1, by omega⟩ h7 h520 (by show q - 1 + 8 = _; omega))) (e10 d)
  by_cases h1 : p.val < 8
  · have ev : ∀ d, vecH (place t) (gHm m c t) (ix2 p d) = gHm m c t (ix2 p d) * hasBefore (place t) := fun d => if_pos h1
    by_cases hj : 0 < t.val % 16
    · refine live (by omega) fun d => ?_
      rw [ev d, hbf, if_pos hj, mul_one]
    · rw [hz _ _ fun d => by rw [ev d, hbf, if_neg hj, mul_zero]]
      unfold gPad
      rw [dif_neg (by omega)]
  by_cases h2 : p.val < 520
  · refine live (by omega) fun d => ?_
    exact (if_neg h1).trans (if_pos h2)
  · have ev : ∀ d, vecH (place t) (gHm m c t) (ix2 p d) = gHm m c t (ix2 p d) * hasAfter (place t) := fun d => (if_neg h1).trans (if_neg h2)
    by_cases hj : t.val % 16 < 15
    · refine live (by omega) fun d => ?_
      rw [ev d, haf, if_pos hj, mul_one]
    · rw [hz _ _ fun d => by rw [ev d, haf, if_neg hj, mul_zero]]
      unfold gPad
      rw [dif_neg (by omega)]

/-- An activation of a grid point. -/
theorem act_row (r : Fin 512) (k : Fin 2816) (n : Fin 8192) (hn : n.val = 512 * (t.val % 16) + r.val) :
    vecAct (blkH (gHm m c t)) (vecH (place t) (gHm m c t)) (iblk m c 10 t) (iblk m c 11 t) (iblk m c 12 t) (ix2 r k) = actA (args m c) b n k := by
  have g0 := gate_row m c t b hb ⟨7 + r.val, by omega⟩ k n.val (by show 7 ≤ 7 + r.val; omega) (by show 7 + r.val ≤ 520; omega) (by show n.val + 7 = 512 * (t.val % 16) + (7 + r.val); omega)
  have g1 := gate_row m c t b hb ⟨8 + r.val, by omega⟩ k (n.val + 1) (by show 7 ≤ 8 + r.val; omega) (by show 8 + r.val ≤ 520; omega) (by show n.val + 1 + 7 = 512 * (t.val % 16) + (8 + r.val); omega)
  have g2 := gate_row m c t b hb ⟨9 + r.val, by omega⟩ k (n.val + 2) (by show 7 ≤ 9 + r.val; omega) (by show 9 + r.val ≤ 520; omega) (by show n.val + 2 + 7 = 512 * (t.val % 16) + (9 + r.val); omega)
  have gv : dotEl (fun d => blkH (gHm m c t) (ix2 r d)) (fun d => iblk m c 10 t (ix2 d ⟨k.val, by omega⟩)) = vA (args m c) b n k := by
    unfold vA dotEl
    refine Finset.sum_congr rfl fun d _ => ?_
    refine congrArg₂ (· * ·) (hm_row m c t b hb ⟨8 + r.val, by omega⟩ d n (by show 7 ≤ 8 + r.val; omega) (by show 8 + r.val ≤ 520; omega) (by show n.val + 8 = 512 * (t.val % 16) + (8 + r.val); omega)) (b10 m c t d _)
  unfold actA
  rw [← g0, ← g1, ← g2, ← gv]
  have c0 : iblk m c 11 t (ix2 0 k) = (args m c).cw (ix2 0 k) := b11 m c t 0 k
  have c1 : iblk m c 11 t (ix2 1 k) = (args m c).cw (ix2 1 k) := b11 m c t 1 k
  have c2 : iblk m c 11 t (ix2 2 k) = (args m c).cw (ix2 2 k) := b11 m c t 2 k
  have cb : iblk m c 12 t (ix2 0 k) = (args m c).cb (ix1 k) := b12 m c t k
  rw [← c0, ← c1, ← c2, ← cb]
  rfl

/-- What a grid point leaves in its output block. -/
theorem out_row (r : Fin 512) (d : Fin 1024) (n : Fin 8192) (hn : n.val = 512 * (t.val % 16) + r.val) :
    outsAt0 m c t (ix2 r d) = outA (args m c) b n d := by
  rw [out_eq m c t r d]
  unfold outA
  have e1 : (fun d => gXm m c t (ix2 ⟨8 + r.val, by omega⟩ d)) = xmA (args m c) b n :=
    funext fun d => xm_row m c t b hb ⟨8 + r.val, by omega⟩ d n (by show 7 ≤ 8 + r.val; omega) (by show 8 + r.val ≤ 520; omega) (by show n.val + 8 = 512 * (t.val % 16) + (8 + r.val); omega)
  have e2 : (fun k => vecAct (blkH (gHm m c t)) (vecH (place t) (gHm m c t)) (iblk m c 10 t) (iblk m c 11 t) (iblk m c 12 t) (ix2 r k)) = actA (args m c) b n :=
    funext fun k => act_row m c t b hb r k n hn
  have e3 : (fun k d => iblk m c 13 t (ix2 k d)) = fun k d => (args m c).wd (ix2 k d) := funext fun k => funext fun d => b13 m c t k d
  have e7 : (fun d => iblk m c 7 t (ix3 0 5 d)) = fun d => (args m c).mod (ix3 b 5 d) := funext fun d => b7 m c t 5 d b hb
  have e8 : (fun d => iblk m c 14 t (ix2 0 d)) = fun d => (args m c).lg (ix2 1 d) := funext fun d => b14 m c t d
  have e9 : (fun d => iblk m c 15 t (ix2 0 d)) = fun d => (args m c).lb (ix2 1 d) := funext fun d => b15 m c t d
  rw [e1, e2, e3, e7, e8, e9]
end rows

/-- The kernel's output array after the run. -/
theorem arr_eq : (dats m 0 c).arrAt 16 cfg0.N = outArr (args m c) := by
  refine (dats m 0 c).arrAt_eq_of_covers 16 _ covers fun t hf y => ?_
  blk_simp
  rw [after0_16]
  have ht : t.val < 128 := t.isLt
  have hy0 : (y 0).val < 512 := (y 0).isLt
  rw [emb16 t y]
  refine (congrArg (outsAt0 m c t) (eq_ix2 (n0 := 512) (n1 := 1024) y)).trans ?_
  refine (out_row m c t ⟨t.val / 16, by omega⟩ rfl (y 0) (y 1) ⟨512 * (t.val % 16) + (y 0).val, by omega⟩ rfl).trans ?_
  unfold outArr
  refine congrFun (congrArg₂ (outA (args m c)) (Fin.ext ?_) (Fin.ext ?_)) _
  · show t.val / 16 = (512 * t.val + (y 0).val) / 8192
    omega
  · show 512 * (t.val % 16) + (y 0).val = (512 * t.val + (y 0).val) % 8192
    omega

end Cert.MixOut
end
-- ==== Proof.MixRef.lean ====
module

public import proofs.«01_k».proof.Proof.Gen.MixReferenceIdeal.Read
public import proofs.«01_k».proof.Proof.MixArr
public import Idealize.ShloMosaic.Lib.Pointwise

@[expose] public section

set_option maxRecDepth 16384

noncomputable section

namespace Cert.MixRef

open Idealize.ShloMosaic Cert.MixReferenceIdeal Cert.MixReferenceIdeal.Read Cert.MixMath Cert.MixArr

variable (x0 : FVec Ideal S8x1024x8192 .bf16) (x1 : FVec Ideal S8x8192x1024 .f32) (x2 : FVec Ideal S8x6x1024 .f32)
  (x3 : FVec Ideal S1024x1024 .f32) (x4 x5 : FVec Ideal S2x1024 .f32) (x6 : FVec Ideal S1024x5632 .f32)
  (x7 : FVec Ideal S3x2816 .f32) (x8 : FVec Ideal S2816 .f32) (x9 : FVec Ideal S2816x1024 .f32)
variable (b : Fin 8) (n : Fin 8192) (d : Fin 1024) (k : Fin 2816)

theorem m2 : val_main_v7 (F := Ideal) x2 (ix3 b n d) = x2 (ix3 b 2 d) := by
  pointwise [val_main_v7, val_main_v6, val_main_v5, val_main_v0]
theorem m3 : val_main_v46 (F := Ideal) x2 (ix3 b n d) = x2 (ix3 b 3 d) := by
  pointwise [val_main_v46, val_main_v39, val_main_v38, val_main_v0]
theorem m4 : val_main_v44 (F := Ideal) x2 (ix3 b n d) = 1 + x2 (ix3 b 4 d) := by
  pointwise [val_main_v44, val_main_v43, val_main_v42, val_main_cst_5, val_main_v41, val_main_v40, val_main_v0]
theorem m5 : val_main_v81 (F := Ideal) x2 (ix3 b n d) = x2 (ix3 b 5 d) := by
  pointwise [val_main_v81, val_main_v80, val_main_v79, val_main_v0]
theorem g0 : val_main_v33 (F := Ideal) x4 (ix3 b n d) = x4 (ix2 0 d) := by
  pointwise [val_main_v33, val_main_v32, val_main_v11, val_main_v10]
theorem b0 : val_main_v36 (F := Ideal) x5 (ix3 b n d) = x5 (ix2 0 d) := by
  pointwise [val_main_v36, val_main_v35, val_main_v13, val_main_v12]
theorem g1 : val_main_v107 (F := Ideal) x4 (ix3 b n d) = x4 (ix2 1 d) := by
  pointwise [val_main_v107, val_main_v106, val_main_v85, val_main_v84]
theorem b1 : val_main_v110 (F := Ideal) x5 (ix3 b n d) = x5 (ix2 1 d) := by
  pointwise [val_main_v110, val_main_v109, val_main_v87, val_main_v86]
theorem w0 : val_main_v56 (F := Ideal) x7 (ix3 b n k) = x7 (ix2 0 k) := by
  pointwise [val_main_v56, val_main_v55, val_main_v54, val_main_v53]
theorem w1 : val_main_v61 (F := Ideal) x7 (ix3 b n k) = x7 (ix2 1 k) := by
  pointwise [val_main_v61, val_main_v60, val_main_v59, val_main_v58]
theorem w2 : val_main_v68 (F := Ideal) x7 (ix3 b n k) = x7 (ix2 2 k) := by
  pointwise [val_main_v68, val_main_v67, val_main_v66, val_main_v65]
theorem cb : val_main_v72 (F := Ideal) x8 (ix3 b n k) = x8 (ix1 k) := by
  pointwise [val_main_v72, val_main_v71]
theorem res0 : val_main_v9 (F := Ideal) x0 x1 x2 x3 (ix3 b n d) =
    resEl (fun d => x1 (ix3 b n d)) (fun d => x2 (ix3 b 2 d)) (fun d => ∑ f, x0 (ix3 b f n) * x3 (ix2 f d)) d := by
  rw [val_main_v9_apply, val_main_v8_apply, m2, val_main_v4_apply, val_main_v3_apply, val_main_cst_apply]
  pointwise [val_main_v2, val_main_v1]
  rfl
/-- The gates, a zero row before and after them. -/
theorem padded (q : Fin 8194) : val_main_v51 (F := Ideal) x0 x1 x2 x3 x4 x5 x6 (ix3 b q k) =
    if h : 1 ≤ q.val ∧ q.val ≤ 8192 then val_main_v50 (F := Ideal) x0 x1 x2 x3 x4 x5 x6 (ix3 b ⟨q.val - 1, by omega⟩ k) else 0 := by
  unfold val_main_v51
  generalize val_main_v50 (F := Ideal) x0 x1 x2 x3 x4 x5 x6 = y
  pointwise [val_main_call0_v0, val_main_c]
  have e0 : FloatOps.sitofp (F := Ideal) (w := 32) .f32 0#32 = (0 : EReal) := by
    show (((0#32 : BitVec 32).toInt : ℝ) : EReal) = 0
    simp
  by_cases h : 1 ≤ q.val ∧ q.val ≤ 8192
  · rw [dif_pos h, dif_pos (show 1 ≤ q.val ∧ q.val - 1 < 8192 by omega)]
  · rw [dif_neg h, dif_neg (show ¬(1 ≤ q.val ∧ q.val - 1 < 8192) by omega)]
    exact e0

theorem add_ops (x y : EReal) : FloatOps.addf (F := Ideal) (φ := .f32) x y = x + y := rfl
theorem sub_ops (x y : EReal) : FloatOps.subf (F := Ideal) (φ := .f32) x y = x - y := rfl
theorem mul_ops (x y : EReal) : FloatOps.mulf (F := Ideal) (φ := .f32) x y = x * y := rfl
theorem div_ops (x y : EReal) : FloatOps.hostDivf (F := Ideal) (φ := .f32) x y = Ideal.div x y := rfl
theorem rsqrt_ops (x : EReal) : FloatOps.hostUnary (F := Ideal) (φ := .f32) .rsqrt x = Ideal.rsqrt x := rfl
theorem lit_ops (w : BitVec 32) : FloatOps.ofBits (F := Ideal) .f32 w = Ideal.ofBits .f32 w := rfl
theorem zero_lit : Ideal.ofBits .f32 0x00000000#32 = (0 : EReal) := by simp

theorem first_i15 : idx_main_v15 (ix3 b n (0 : Fin 1)) = ix2 b n := funext fun a => match a with | ⟨0, _⟩ => rfl | ⟨1, _⟩ => rfl
theorem first_i22 : idx_main_v22 (ix3 b n (0 : Fin 1)) = ix2 b n := funext fun a => match a with | ⟨0, _⟩ => rfl | ⟨1, _⟩ => rfl
theorem first_i14 : idx_main_v14 (ix2 b n) d = ix3 b n d := funext fun a => match a with | ⟨0, _⟩ => rfl | ⟨1, _⟩ => rfl | ⟨2, _⟩ => rfl
theorem first_i21 : idx_main_v21 (ix2 b n) d = ix3 b n d := funext fun a => match a with | ⟨0, _⟩ => rfl | ⟨1, _⟩ => rfl | ⟨2, _⟩ => rfl
theorem first_i18 : idx_main_v18 (ix3 b n d) = ix3 b n (0 : Fin 1) := funext fun a => match a with | ⟨0, _⟩ => rfl | ⟨1, _⟩ => rfl | ⟨2, _⟩ => rfl
theorem first_i25 : idx_main_v25 (ix3 b n d) = ix3 b n (0 : Fin 1) := funext fun a => match a with | ⟨0, _⟩ => rfl | ⟨1, _⟩ => rfl | ⟨2, _⟩ => rfl
theorem first_i30 : idx_main_v30 (ix3 b n d) = ix3 b n (0 : Fin 1) := funext fun a => match a with | ⟨0, _⟩ => rfl | ⟨1, _⟩ => rfl | ⟨2, _⟩ => rfl

/-- The mean of a row. -/
theorem first_mean : val_main_v17 (F := Ideal) x0 x1 x2 x3 (ix3 b n (0 : Fin 1)) = meanEl (fun d => val_main_v9 (F := Ideal) x0 x1 x2 x3 (ix3 b n d)) := by
  rw [val_main_v17_apply, val_main_v15_apply, first_i15, val_main_v14_apply, val_main_cst_0_apply, val_main_v16_apply, val_main_cst_1_apply,
    div_ops, lit_ops, lit_ops, zero_lit, zero_add]
  simp only [first_i14]
  rfl

/-- The mean of the squared deviations of a row. -/
theorem first_var : val_main_v24 (F := Ideal) x0 x1 x2 x3 (ix3 b n (0 : Fin 1)) =
    meanEl (fun d => (val_main_v9 (F := Ideal) x0 x1 x2 x3 (ix3 b n d) - meanEl (fun d => val_main_v9 (F := Ideal) x0 x1 x2 x3 (ix3 b n d))) *
      (val_main_v9 (F := Ideal) x0 x1 x2 x3 (ix3 b n d) - meanEl (fun d => val_main_v9 (F := Ideal) x0 x1 x2 x3 (ix3 b n d)))) := by
  rw [val_main_v24_apply, val_main_v22_apply, first_i22, val_main_v21_apply, val_main_cst_2_apply, val_main_v23_apply, val_main_cst_3_apply,
    div_ops, lit_ops, lit_ops, zero_lit, zero_add]
  unfold meanEl
  refine congrArg (fun u => Ideal.div u _) (Finset.sum_congr rfl fun d _ => ?_)
  rw [first_i21, val_main_v20_apply, val_main_v19_apply, val_main_v18_apply, first_i18, first_mean, mul_ops, sub_ops]
  rfl

/-- A row after the layer norm. -/
theorem first_apply : val_main_v37 (F := Ideal) x0 x1 x2 x3 x4 x5 (ix3 b n d) =
    normEl (fun d => val_main_v9 (F := Ideal) x0 x1 x2 x3 (ix3 b n d)) (fun d => x4 (ix2 0 d)) (fun d => x5 (ix2 0 d)) d := by
  rw [val_main_v37_apply, val_main_v34_apply, g0, b0, val_main_v31_apply, val_main_v30_apply, first_i30, val_main_v29_apply, val_main_v28_apply,
    val_main_v27_apply, val_main_cst_4_apply, first_var, val_main_v26_apply, val_main_v25_apply, first_i25, first_mean, add_ops, add_ops, mul_ops, mul_ops, sub_ops,
    rsqrt_ops, lit_ops]
  rfl

/-- The arguments as one. -/
def args : Args := ⟨x0, x1, x2, x3, x4, x5, x6, x7, x8, x9⟩

theorem xm_apply : val_main_v37 (F := Ideal) x0 x1 x2 x3 x4 x5 (ix3 b n d) = xmA (args x0 x1 x2 x3 x4 x5 x6 x7 x8 x9) b n d := by
  rw [first_apply]
  unfold xmA xmEl
  refine congrArg (fun v => normEl v _ _ d) (funext fun d => ?_)
  exact res0 x0 x1 x2 x3 b n d

theorem h_apply : val_main_v47 (F := Ideal) x0 x1 x2 x3 x4 x5 (ix3 b n d) = hA (args x0 x1 x2 x3 x4 x5 x6 x7 x8 x9) b n d := by
  rw [val_main_v47_apply, val_main_v45_apply, m3, m4, xm_apply x0 x1 x2 x3 x4 x5 x6 x7 x8 x9]
  rfl

theorem up_apply (c : Fin 5632) : val_main_v48 (F := Ideal) x0 x1 x2 x3 x4 x5 x6 (ix3 b n c) =
    dotEl (hA (args x0 x1 x2 x3 x4 x5 x6 x7 x8 x9) b n) (fun d => x6 (ix2 d c)) := by
  rw [val_main_v48_apply]
  unfold dotEl
  refine Finset.sum_congr rfl fun d _ => congrArg₂ (· * ·) ?_ ?_
  · refine (congrArg (val_main_v47 (F := Ideal) x0 x1 x2 x3 x4 x5) ?_).trans (h_apply x0 x1 x2 x3 x4 x5 x6 x7 x8 x9 b n d)
    exact funext fun a => match a with | ⟨0, _⟩ => rfl | ⟨1, _⟩ => rfl | ⟨2, _⟩ => rfl
  · exact congrArg x6 (funext fun a => match a with | ⟨0, _⟩ => rfl | ⟨1, _⟩ => rfl)

theorem v_apply : val_main_v49 (F := Ideal) x0 x1 x2 x3 x4 x5 x6 (ix3 b n k) = vA (args x0 x1 x2 x3 x4 x5 x6 x7 x8 x9) b n k := by
  rw [val_main_v49_apply]
  refine (congrArg (val_main_v48 (F := Ideal) x0 x1 x2 x3 x4 x5 x6) ?_).trans (up_apply x0 x1 x2 x3 x4 x5 x6 x7 x8 x9 b n ⟨k.val, by omega⟩)
  exact funext fun a => match a with | ⟨0, _⟩ => rfl | ⟨1, _⟩ => rfl | ⟨2, _⟩ => rfl

theorem g_apply : val_main_v50 (F := Ideal) x0 x1 x2 x3 x4 x5 x6 (ix3 b n k) = gA (args x0 x1 x2 x3 x4 x5 x6 x7 x8 x9) b n k := by
  rw [val_main_v50_apply]
  refine (congrArg (val_main_v48 (F := Ideal) x0 x1 x2 x3 x4 x5 x6) ?_).trans (up_apply x0 x1 x2 x3 x4 x5 x6 x7 x8 x9 b n ⟨2816 + k.val, by omega⟩)
  exact funext fun a => match a with | ⟨0, _⟩ => rfl | ⟨1, _⟩ => rfl | ⟨2, _⟩ => rfl

theorem pad_gate (q : Fin 8194) : val_main_v51 (F := Ideal) x0 x1 x2 x3 x4 x5 x6 (ix3 b q k) = gPad (args x0 x1 x2 x3 x4 x5 x6 x7 x8 x9) b q.val k := by
  rw [padded]
  unfold gPad
  by_cases h : 1 ≤ q.val ∧ q.val ≤ 8192
  · rw [dif_pos h, dif_pos h, g_apply x0 x1 x2 x3 x4 x5 x6 x7 x8 x9]
  · rw [dif_neg h, dif_neg h]

theorem before_gate : val_main_v52 (F := Ideal) x0 x1 x2 x3 x4 x5 x6 (ix3 b n k) = gPad (args x0 x1 x2 x3 x4 x5 x6 x7 x8 x9) b n.val k := by
  rw [val_main_v52_apply]
  refine (congrArg (val_main_v51 (F := Ideal) x0 x1 x2 x3 x4 x5 x6) ?_).trans (pad_gate x0 x1 x2 x3 x4 x5 x6 x7 x8 x9 b k ⟨n.val, by omega⟩)
  exact funext fun a => match a with | ⟨0, _⟩ => rfl | ⟨1, _⟩ => rfl | ⟨2, _⟩ => rfl

theorem own_gate : val_main_v50 (F := Ideal) x0 x1 x2 x3 x4 x5 x6 (ix3 b n k) = gPad (args x0 x1 x2 x3 x4 x5 x6 x7 x8 x9) b (n.val + 1) k := by
  rw [g_apply x0 x1 x2 x3 x4 x5 x6 x7 x8 x9]
  unfold gPad
  rw [dif_pos (show 1 ≤ n.val + 1 ∧ n.val + 1 ≤ 8192 by omega)]
  rfl

theorem after_gate : val_main_v64 (F := Ideal) x0 x1 x2 x3 x4 x5 x6 (ix3 b n k) = gPad (args x0 x1 x2 x3 x4 x5 x6 x7 x8 x9) b (n.val + 2) k := by
  rw [val_main_v64_apply]
  refine (congrArg (val_main_v51 (F := Ideal) x0 x1 x2 x3 x4 x5 x6) ?_).trans ((pad_gate x0 x1 x2 x3 x4 x5 x6 x7 x8 x9 b k ⟨2 + n.val, by omega⟩).trans ?_)
  · exact funext fun a => match a with | ⟨0, _⟩ => rfl | ⟨1, _⟩ => rfl | ⟨2, _⟩ => rfl
  · exact congrArg (fun q => gPad (args x0 x1 x2 x3 x4 x5 x6 x7 x8 x9) b q k) (Nat.add_comm 2 n.val)

theorem conv_apply : val_main_v73 (F := Ideal) x0 x1 x2 x3 x4 x5 x6 x7 x8 (ix3 b n k) =
    convEl (gPad (args x0 x1 x2 x3 x4 x5 x6 x7 x8 x9) b n.val k) (gPad (args x0 x1 x2 x3 x4 x5 x6 x7 x8 x9) b (n.val + 1) k)
      (gPad (args x0 x1 x2 x3 x4 x5 x6 x7 x8 x9) b (n.val + 2) k) (x7 (ix2 0 k)) (x7 (ix2 1 k)) (x7 (ix2 2 k)) (x8 (ix1 k)) := by
  rw [val_main_v73_apply, val_main_v70_apply, val_main_v69_apply, val_main_v63_apply, val_main_v62_apply, val_main_v57_apply, w0, w1, w2, cb,
    before_gate x0 x1 x2 x3 x4 x5 x6 x7 x8 x9, own_gate x0 x1 x2 x3 x4 x5 x6 x7 x8 x9, after_gate x0 x1 x2 x3 x4 x5 x6 x7 x8 x9]
  simp only [add_ops, mul_ops]
  unfold convEl
  rw [mul_comm _ (x7 (ix2 0 k)), mul_comm _ (x7 (ix2 1 k)), mul_comm _ (x7 (ix2 2 k))]

theorem one_lit : Ideal.ofBits .f32 0x3F800000#32 = (1 : EReal) := by simp

theorem act_apply : val_main_v75 (F := Ideal) x0 x1 x2 x3 x4 x5 x6 x7 x8 (ix3 b n k) = actA (args x0 x1 x2 x3 x4 x5 x6 x7 x8 x9) b n k := by
  rw [val_main_v75_apply, val_main_v74_apply, val_main_call1_v5_apply, val_main_call1_v4_apply, val_main_call1_cst_0_apply, val_main_call1_v3_apply,
    val_main_call1_v2_apply, val_main_call1_cst_apply, val_main_call1_v1_apply, val_main_call1_v0_apply, conv_apply x0 x1 x2 x3 x4 x5 x6 x7 x8 x9,
    v_apply x0 x1 x2 x3 x4 x5 x6 x7 x8 x9, lit_ops, one_lit]
  rfl

theorem res1 : val_main_v83 (F := Ideal) x0 x1 x2 x3 x4 x5 x6 x7 x8 x9 (ix3 b n d) =
    resEl (xmA (args x0 x1 x2 x3 x4 x5 x6 x7 x8 x9) b n) (fun d => x2 (ix3 b 5 d))
      (fun d => ∑ k, actA (args x0 x1 x2 x3 x4 x5 x6 x7 x8 x9) b n k * x9 (ix2 k d)) d := by
  rw [val_main_v83_apply, val_main_v82_apply, m5, val_main_v78_apply, val_main_v77_apply, val_main_cst_6_apply, xm_apply x0 x1 x2 x3 x4 x5 x6 x7 x8 x9,
    val_main_v76_apply, add_ops, mul_ops, mul_ops, lit_ops]
  unfold resEl
  refine congrArg (fun u => alpha * xmA (args x0 x1 x2 x3 x4 x5 x6 x7 x8 x9) b n d + x2 (ix3 b 5 d) * u) ?_
  refine Finset.sum_congr rfl fun k _ => congrArg₂ (· * ·) ?_ ?_
  · refine (congrArg (val_main_v75 (F := Ideal) x0 x1 x2 x3 x4 x5 x6 x7 x8) ?_).trans (act_apply x0 x1 x2 x3 x4 x5 x6 x7 x8 x9 b n k)
    exact funext fun a => match a with | ⟨0, _⟩ => rfl | ⟨1, _⟩ => rfl | ⟨2, _⟩ => rfl
  · exact congrArg x9 (funext fun a => match a with | ⟨0, _⟩ => rfl | ⟨1, _⟩ => rfl)

theorem last_i15 : idx_main_v89 (ix3 b n (0 : Fin 1)) = ix2 b n := funext fun a => match a with | ⟨0, _⟩ => rfl | ⟨1, _⟩ => rfl
theorem last_i22 : idx_main_v96 (ix3 b n (0 : Fin 1)) = ix2 b n := funext fun a => match a with | ⟨0, _⟩ => rfl | ⟨1, _⟩ => rfl
theorem last_i14 : idx_main_v88 (ix2 b n) d = ix3 b n d := funext fun a => match a with | ⟨0, _⟩ => rfl | ⟨1, _⟩ => rfl | ⟨2, _⟩ => rfl
theorem last_i21 : idx_main_v95 (ix2 b n) d = ix3 b n d := funext fun a => match a with | ⟨0, _⟩ => rfl | ⟨1, _⟩ => rfl | ⟨2, _⟩ => rfl
theorem last_i18 : idx_main_v92 (ix3 b n d) = ix3 b n (0 : Fin 1) := funext fun a => match a with | ⟨0, _⟩ => rfl | ⟨1, _⟩ => rfl | ⟨2, _⟩ => rfl
theorem last_i25 : idx_main_v99 (ix3 b n d) = ix3 b n (0 : Fin 1) := funext fun a => match a with | ⟨0, _⟩ => rfl | ⟨1, _⟩ => rfl | ⟨2, _⟩ => rfl
theorem last_i30 : idx_main_v104 (ix3 b n d) = ix3 b n (0 : Fin 1) := funext fun a => match a with | ⟨0, _⟩ => rfl | ⟨1, _⟩ => rfl | ⟨2, _⟩ => rfl

/-- The mean of a row. -/
theorem last_mean : val_main_v91 (F := Ideal) x0 x1 x2 x3 x4 x5 x6 x7 x8 x9 (ix3 b n (0 : Fin 1)) = meanEl (fun d => val_main_v83 (F := Ideal) x0 x1 x2 x3 x4 x5 x6 x7 x8 x9 (ix3 b n d)) := by
  rw [val_main_v91_apply, val_main_v89_apply, last_i15, val_main_v88_apply, val_main_cst_7_apply, val_main_v90_apply, val_main_cst_8_apply,
    div_ops, lit_ops, lit_ops, zero_lit, zero_add]
  simp only [last_i14]
  rfl

/-- The mean of the squared deviations of a row. -/
theorem last_var : val_main_v98 (F := Ideal) x0 x1 x2 x3 x4 x5 x6 x7 x8 x9 (ix3 b n (0 : Fin 1)) =
    meanEl (fun d => (val_main_v83 (F := Ideal) x0 x1 x2 x3 x4 x5 x6 x7 x8 x9 (ix3 b n d) - meanEl (fun d => val_main_v83 (F := Ideal) x0 x1 x2 x3 x4 x5 x6 x7 x8 x9 (ix3 b n d))) *
      (val_main_v83 (F := Ideal) x0 x1 x2 x3 x4 x5 x6 x7 x8 x9 (ix3 b n d) - meanEl (fun d => val_main_v83 (F := Ideal) x0 x1 x2 x3 x4 x5 x6 x7 x8 x9 (ix3 b n d)))) := by
  rw [val_main_v98_apply, val_main_v96_apply, last_i22, val_main_v95_apply, val_main_cst_9_apply, val_main_v97_apply, val_main_cst_10_apply,
    div_ops, lit_ops, lit_ops, zero_lit, zero_add]
  unfold meanEl
  refine congrArg (fun u => Ideal.div u _) (Finset.sum_congr rfl fun d _ => ?_)
  rw [last_i21, val_main_v94_apply, val_main_v93_apply, val_main_v92_apply, last_i18, last_mean, mul_ops, sub_ops]
  rfl

/-- A row after the layer norm. -/
theorem last_apply : val_main_v111 (F := Ideal) x0 x1 x2 x3 x4 x5 x6 x7 x8 x9 (ix3 b n d) =
    normEl (fun d => val_main_v83 (F := Ideal) x0 x1 x2 x3 x4 x5 x6 x7 x8 x9 (ix3 b n d)) (fun d => x4 (ix2 1 d)) (fun d => x5 (ix2 1 d)) d := by
  rw [val_main_v111_apply, val_main_v108_apply, g1, b1, val_main_v105_apply, val_main_v104_apply, last_i30, val_main_v103_apply, val_main_v102_apply,
    val_main_v101_apply, val_main_cst_11_apply, last_var, val_main_v100_apply, val_main_v99_apply, last_i25, last_mean, add_ops, add_ops, mul_ops, mul_ops, sub_ops,
    rsqrt_ops, lit_ops]
  rfl

/-- The reference's result. -/
theorem out_eq : val_main_v112 (F := Ideal) x0 x1 x2 x3 x4 x5 x6 x7 x8 x9 = outArr (args x0 x1 x2 x3 x4 x5 x6 x7 x8 x9) := by
  funext y
  have h0 : (y 0).val < 65536 := (y 0).isLt
  have h1 : (y 1).val < 1024 := (y 1).isLt
  rw [val_main_v112_apply]
  refine (congrArg (val_main_v111 (F := Ideal) x0 x1 x2 x3 x4 x5 x6 x7 x8 x9)
    (?_ : _ = ix3 (n0 := 8) (n1 := 8192) (n2 := 1024) ⟨(y 0).val / 8192, by omega⟩ ⟨(y 0).val % 8192, by omega⟩ (y 1))).trans ?_
  · refine funext fun a => match a with
      | ⟨0, _⟩ => Fin.ext ?_
      | ⟨1, _⟩ => Fin.ext ?_
      | ⟨2, _⟩ => Fin.ext ?_
    · show ((y 0).val * 1024 + (y 1).val) / 8388608 = (y 0).val / 8192
      omega
    · show ((y 0).val * 1024 + (y 1).val) / 1024 % 8192 = (y 0).val % 8192
      omega
    · show ((y 0).val * 1024 + (y 1).val) % 1024 = (y 1).val
      omega
  refine (last_apply x0 x1 x2 x3 x4 x5 x6 x7 x8 x9 _ _ _).trans ?_
  unfold outArr outA outEl
  refine congrArg (fun v => normEl v _ _ (y 1)) (funext fun d => ?_)
  exact res1 x0 x1 x2 x3 x4 x5 x6 x7 x8 x9 _ _ d

end Cert.MixRef
end
-- ==== Proof.MixClaim.lean ====
module

public import proofs.«01_k».proof.Defs
public import proofs.«01_k».proof.Proof.MixOut
public import proofs.«01_k».proof.Proof.MixRef
public import proofs.«01_k».proof.Proof.Gen.MixIdeal.Value
public import Idealize.ShloMosaic.Adequacy
public import Idealize.ShloMosaic.Init

@[expose] public section

noncomputable section

namespace Cert.MixClaim

open Idealize.ShloMosaic Idealize.SL.Sem Idealize.ShloMosaic.StableHlo

/-- The reference of the mixing step terminates and leaves its arguments and the counters as they were. -/
theorem frame_ri : Cert.quiescent_MixReferenceIdeal := fun m ρ _ =>
  (θ_run Cert.MixReferenceIdeal.defs _ _).mono (fun r h => ⟨fun c => (h c).2, Idealize.ShloMosaic.sem_eq_zero_of_no_sems (by decide) r.2⟩)
    (Cert.MixReferenceIdeal.Value.run (F := Ideal) m ρ)

/-- The kernel and the reference of the mixing step end with the same array, from arguments that agree. -/
theorem algebraic : Cert.algebraic_MixIdeal_MixReferenceIdeal := by
  intro m ρ m' ρ' _ hagree
  refine ⟨fun c => (Cert.MixIdeal.Gen.dats m 0 c).arrAt 16 Cert.MixIdeal.cfg0.N, Cert.MixIdeal.Value.run_blocks (F := Ideal) m ρ, ?_⟩
  refine (θ_run Cert.MixReferenceIdeal.defs _ _).mono (fun r h c => ⟨(h c).1.trans ?_, (h c).2⟩)
    (Cert.MixReferenceIdeal.Value.run (F := Ideal) m' ρ')
  obtain ⟨e0, e1, e2, e3, e4, e5, e6, e7, e8, e9⟩ := hagree c
  refine (Cert.MixReferenceIdeal.Read.val_main_v112_eq (launchContents m' c)).trans ?_
  have a0 : launchContents m' c (Proc.devRef .tc Cert.MixReferenceIdeal.main_arg0) = _ := e0
  have a1 : launchContents m' c (Proc.devRef .tc Cert.MixReferenceIdeal.main_arg1) = _ := e1
  have a2 : launchContents m' c (Proc.devRef .tc Cert.MixReferenceIdeal.main_arg2) = _ := e2
  have a3 : launchContents m' c (Proc.devRef .tc Cert.MixReferenceIdeal.main_arg3) = _ := e3
  have a4 : launchContents m' c (Proc.devRef .tc Cert.MixReferenceIdeal.main_arg4) = _ := e4
  have a5 : launchContents m' c (Proc.devRef .tc Cert.MixReferenceIdeal.main_arg5) = _ := e5
  have a6 : launchContents m' c (Proc.devRef .tc Cert.MixReferenceIdeal.main_arg6) = _ := e6
  have a7 : launchContents m' c (Proc.devRef .tc Cert.MixReferenceIdeal.main_arg7) = _ := e7
  have a8 : launchContents m' c (Proc.devRef .tc Cert.MixReferenceIdeal.main_arg8) = _ := e8
  have a9 : launchContents m' c (Proc.devRef .tc Cert.MixReferenceIdeal.main_arg9) = _ := e9
  rw [a0, a1, a2, a3, a4, a5, a6, a7, a8, a9]
  exact (Cert.MixRef.out_eq _ _ _ _ _ _ _ _ _ _).trans (Cert.MixOut.arr_eq m c).symm

end Cert.MixClaim

end
-- ==== Proof.GdnMath.lean ====
module

public import proofs.«01_k».proof.Proof.Gen.MixIdeal.Skeleton
public import proofs.«01_k».proof.Proof.MixMath

@[expose] public section

set_option maxRecDepth 16384

noncomputable section

namespace Cert.GdnMath

open Idealize.ShloMosaic

/-- One channel of a head after the root-mean-square norm over the head's 128 channels and the gate. -/
def gatedEl (o w : Fin 128 → EReal) (g : EReal) (e : Fin 128) : EReal :=
  o e * Ideal.rsqrt (Ideal.div (∑ x, o x * o x) (Ideal.ofBits .f32 0x43000000#32) + Ideal.ofBits .f32 0x3727C5AC#32) * w e * (g * Ideal.logistic g)

/-- Eight heads of 128 channels a row, side by side: the channel of a row. -/
def headEl (p q : Fin 8 → Fin 128 → EReal) (w : Fin 128 → EReal) (g : EReal) (f : Fin 1024) : EReal :=
  gatedEl (fun e => p ⟨f.val / 128, by omega⟩ e + q ⟨f.val / 128, by omega⟩ e) w g ⟨f.val % 128, by omega⟩

theorem headEl_at (p q : Fin 8 → Fin 128 → EReal) (w : Fin 128 → EReal) (g : EReal) (f : Fin 1024) (h : Fin 8) (e : Fin 128) (hf : f.val = 128 * h.val + e.val) :
    headEl p q w g f = gatedEl (fun e => p h e + q h e) w g e := by
  have e1 : (⟨f.val / 128, by omega⟩ : Fin 8) = h := Fin.ext (by show f.val / 128 = h.val; omega)
  have e2 : (⟨f.val % 128, by omega⟩ : Fin 128) = e := Fin.ext (by show f.val % 128 = e.val; omega)
  unfold headEl
  rw [e1, e2]

theorem headEl_congr {p p' q q' : Fin 8 → Fin 128 → EReal} {w w' : Fin 128 → EReal} {g g' : EReal} (f : Fin 1024)
    (hp : ∀ h e, p h e = p' h e) (hq : ∀ h e, q h e = q' h e) (hw : ∀ e, w e = w' e) (hg : g = g') : headEl p q w g f = headEl p' q' w' g' f := by
  rw [show p = p' from funext fun h => funext fun e => hp h e, show q = q' from funext fun h => funext fun e => hq h e, show w = w' from funext hw, hg]

end Cert.GdnMath
end
-- ==== Proof.GdnHead.lean ====
module

public import proofs.«01_k».proof.Proof.Gen.GdnIdeal.Skeleton
public import proofs.«01_k».proof.Proof.GdnMath
public import proofs.«01_k».proof.Proof.MixHead

@[expose] public section

set_option maxRecDepth 16384

noncomputable section

namespace Cert.GdnHead

open Idealize.ShloMosaic Cert.GdnIdeal Cert.GdnIdeal.Gen Cert.MixMath Cert.GdnMath

/-- One head of the tile's rows. -/
theorem main_apply (a b : Vec Ideal S1x1x512x128 .bf16) (w : Vec Ideal S1x128 .f32) (g : Vec Ideal S512x128 .bf16) (r : Fin 512) (e : Fin 128) :
    k0_pay1 a b w g (ix2 r e) = gatedEl (fun e => a (ix4 0 0 r e) + b (ix4 0 0 r e)) (fun e => w (ix2 0 e)) (g (ix2 r e)) e := by
  pointwise [k0_pay1]
  rfl

/-- One head of the eight rows before or after the tile. -/
theorem halo_apply (a b : Vec Ideal S1x1x8x128 .bf16) (w : Vec Ideal S1x128 .f32) (g : Vec Ideal S8x128 .bf16) (r : Fin 8) (e : Fin 128) :
    k0_pay14 a b w g (ix2 r e) = gatedEl (fun e => a (ix4 0 0 r e) + b (ix4 0 0 r e)) (fun e => w (ix2 0 e)) (g (ix2 r e)) e := by
  pointwise [k0_pay14]
  rfl

/-- Eight heads of the tile's rows side by side. -/
def wide (p0 p1 p2 p3 p4 p5 p6 p7 : FVec Ideal S512x128 .bf16) : FVec Ideal S512x1024 .bf16 :=
  concatenate S512x1024 1 [⟨S512x128, p0⟩, ⟨S512x128, p1⟩, ⟨S512x128, p2⟩, ⟨S512x128, p3⟩, ⟨S512x128, p4⟩, ⟨S512x128, p5⟩, ⟨S512x128, p6⟩, ⟨S512x128, p7⟩]
    concatenates_S512x128_S512x128_S512x128_S512x128_S512x128_S512x128_S512x128_S512x128_S512x1024_d1

theorem wide_apply (p0 p1 p2 p3 p4 p5 p6 p7 : FVec Ideal S512x128 .bf16) (G : Fin 512 → Fin 1024 → EReal)
    (h0 : ∀ r (e : Fin 128), p0 (ix2 r e) = G r ⟨0 + e.val, by omega⟩) (h1 : ∀ r (e : Fin 128), p1 (ix2 r e) = G r ⟨128 + e.val, by omega⟩)
    (h2 : ∀ r (e : Fin 128), p2 (ix2 r e) = G r ⟨256 + e.val, by omega⟩) (h3 : ∀ r (e : Fin 128), p3 (ix2 r e) = G r ⟨384 + e.val, by omega⟩)
    (h4 : ∀ r (e : Fin 128), p4 (ix2 r e) = G r ⟨512 + e.val, by omega⟩) (h5 : ∀ r (e : Fin 128), p5 (ix2 r e) = G r ⟨640 + e.val, by omega⟩)
    (h6 : ∀ r (e : Fin 128), p6 (ix2 r e) = G r ⟨768 + e.val, by omega⟩) (h7 : ∀ r (e : Fin 128), p7 (ix2 r e) = G r ⟨896 + e.val, by omega⟩)
    (r : Fin 512) (f : Fin 1024) : wide p0 p1 p2 p3 p4 p5 p6 p7 (ix2 r f) = G r f := by
  pointwise [wide]
  by_cases c0 : f.val < 128
  · exact (dif_pos c0).trans ((h0 _ _).trans (congrArg (G r) (Fin.ext (Nat.zero_add _))))
  refine (dif_neg c0).trans ?_
  by_cases c1 : f.val - 128 < 128
  · exact (dif_pos c1).trans ((h1 _ _).trans (congrArg (G r) (Fin.ext (by show 128 + (f.val - 128) = f.val; omega))))
  refine (dif_neg c1).trans ?_
  by_cases c2 : f.val - 128 - 128 < 128
  · exact (dif_pos c2).trans ((h2 _ _).trans (congrArg (G r) (Fin.ext (by show 256 + (f.val - 128 - 128) = f.val; omega))))
  refine (dif_neg c2).trans ?_
  by_cases c3 : f.val - 128 - 128 - 128 < 128
  · exact (dif_pos c3).trans ((h3 _ _).trans (congrArg (G r) (Fin.ext (by show 384 + (f.val - 128 - 128 - 128) = f.val; omega))))
  refine (dif_neg c3).trans ?_
  by_cases c4 : f.val - 128 - 128 - 128 - 128 < 128
  · exact (dif_pos c4).trans ((h4 _ _).trans (congrArg (G r) (Fin.ext (by show 512 + (f.val - 128 - 128 - 128 - 128) = f.val; omega))))
  refine (dif_neg c4).trans ?_
  by_cases c5 : f.val - 128 - 128 - 128 - 128 - 128 < 128
  · exact (dif_pos c5).trans ((h5 _ _).trans (congrArg (G r) (Fin.ext (by show 640 + (f.val - 128 - 128 - 128 - 128 - 128) = f.val; omega))))
  refine (dif_neg c5).trans ?_
  by_cases c6 : f.val - 128 - 128 - 128 - 128 - 128 - 128 < 128
  · exact (dif_pos c6).trans ((h6 _ _).trans (congrArg (G r) (Fin.ext (by show 768 + (f.val - 128 - 128 - 128 - 128 - 128 - 128) = f.val; omega))))
  refine (dif_neg c6).trans ?_
  exact (h7 _ _).trans (congrArg (G r) (Fin.ext (by show 896 + (f.val - 128 - 128 - 128 - 128 - 128 - 128 - 128) = f.val; omega)))

/-- The same of eight rows. -/
def thin (p0 p1 p2 p3 p4 p5 p6 p7 : FVec Ideal S8x128 .bf16) : FVec Ideal S8x1024 .bf16 :=
  concatenate S8x1024 1 [⟨S8x128, p0⟩, ⟨S8x128, p1⟩, ⟨S8x128, p2⟩, ⟨S8x128, p3⟩, ⟨S8x128, p4⟩, ⟨S8x128, p5⟩, ⟨S8x128, p6⟩, ⟨S8x128, p7⟩]
    concatenates_S8x128_S8x128_S8x128_S8x128_S8x128_S8x128_S8x128_S8x128_S8x1024_d1

theorem thin_apply (p0 p1 p2 p3 p4 p5 p6 p7 : FVec Ideal S8x128 .bf16) (G : Fin 8 → Fin 1024 → EReal)
    (h0 : ∀ r (e : Fin 128), p0 (ix2 r e) = G r ⟨0 + e.val, by omega⟩) (h1 : ∀ r (e : Fin 128), p1 (ix2 r e) = G r ⟨128 + e.val, by omega⟩)
    (h2 : ∀ r (e : Fin 128), p2 (ix2 r e) = G r ⟨256 + e.val, by omega⟩) (h3 : ∀ r (e : Fin 128), p3 (ix2 r e) = G r ⟨384 + e.val, by omega⟩)
    (h4 : ∀ r (e : Fin 128), p4 (ix2 r e) = G r ⟨512 + e.val, by omega⟩) (h5 : ∀ r (e : Fin 128), p5 (ix2 r e) = G r ⟨640 + e.val, by omega⟩)
    (h6 : ∀ r (e : Fin 128), p6 (ix2 r e) = G r ⟨768 + e.val, by omega⟩) (h7 : ∀ r (e : Fin 128), p7 (ix2 r e) = G r ⟨896 + e.val, by omega⟩)
    (r : Fin 8) (f : Fin 1024) : thin p0 p1 p2 p3 p4 p5 p6 p7 (ix2 r f) = G r f := by
  pointwise [thin]
  by_cases c0 : f.val < 128
  · exact (dif_pos c0).trans ((h0 _ _).trans (congrArg (G r) (Fin.ext (Nat.zero_add _))))
  refine (dif_neg c0).trans ?_
  by_cases c1 : f.val - 128 < 128
  · exact (dif_pos c1).trans ((h1 _ _).trans (congrArg (G r) (Fin.ext (by show 128 + (f.val - 128) = f.val; omega))))
  refine (dif_neg c1).trans ?_
  by_cases c2 : f.val - 128 - 128 < 128
  · exact (dif_pos c2).trans ((h2 _ _).trans (congrArg (G r) (Fin.ext (by show 256 + (f.val - 128 - 128) = f.val; omega))))
  refine (dif_neg c2).trans ?_
  by_cases c3 : f.val - 128 - 128 - 128 < 128
  · exact (dif_pos c3).trans ((h3 _ _).trans (congrArg (G r) (Fin.ext (by show 384 + (f.val - 128 - 128 - 128) = f.val; omega))))
  refine (dif_neg c3).trans ?_
  by_cases c4 : f.val - 128 - 128 - 128 - 128 < 128
  · exact (dif_pos c4).trans ((h4 _ _).trans (congrArg (G r) (Fin.ext (by show 512 + (f.val - 128 - 128 - 128 - 128) = f.val; omega))))
  refine (dif_neg c4).trans ?_
  by_cases c5 : f.val - 128 - 128 - 128 - 128 - 128 < 128
  · exact (dif_pos c5).trans ((h5 _ _).trans (congrArg (G r) (Fin.ext (by show 640 + (f.val - 128 - 128 - 128 - 128 - 128) = f.val; omega))))
  refine (dif_neg c5).trans ?_
  by_cases c6 : f.val - 128 - 128 - 128 - 128 - 128 - 128 < 128
  · exact (dif_pos c6).trans ((h6 _ _).trans (congrArg (G r) (Fin.ext (by show 768 + (f.val - 128 - 128 - 128 - 128 - 128 - 128) = f.val; omega))))
  refine (dif_neg c6).trans ?_
  exact (h7 _ _).trans (congrArg (G r) (Fin.ext (by show 896 + (f.val - 128 - 128 - 128 - 128 - 128 - 128 - 128) = f.val; omega)))

section chunks
variable (h : FVec Ideal S512x1024 .bf16) (H : FVec Ideal S528x1024 .bf16) (wv wg : Vec Ideal S1024x256 .bf16) (c0 c1 c2 cb : Vec Ideal S1x256 .f32)

theorem chunk0 : k0_pay53 (k0_pay52 h wv) H wg c0 c1 c2 cb = MixHead.chunk h H wv wg c0 c1 c2 cb := rfl
theorem chunk1 : k0_pay55 (k0_pay54 h wv) H wg c0 c1 c2 cb = MixHead.chunk h H wv wg c0 c1 c2 cb := rfl
theorem chunk2 : k0_pay57 (k0_pay56 h wv) H wg c0 c1 c2 cb = MixHead.chunk h H wv wg c0 c1 c2 cb := rfl
theorem chunk3 : k0_pay59 (k0_pay58 h wv) H wg c0 c1 c2 cb = MixHead.chunk h H wv wg c0 c1 c2 cb := rfl
theorem chunk4 : k0_pay62 (k0_pay60 h wv) H (k0_pay61 wg) (constant S528x256 .f32 0x00000000#32) c0 c1 c2 cb = MixHead.chunk h H wv wg c0 c1 c2 cb := rfl
theorem chunk5 : k0_pay65 (k0_pay63 h wv) (k0_pay64 H wg) c0 c1 c2 cb = MixHead.chunk h H wv wg c0 c1 c2 cb := rfl
theorem chunk6 : k0_pay68 (k0_pay66 h wv) (k0_pay67 H wg) c0 c1 c2 cb = MixHead.chunk h H wv wg c0 c1 c2 cb := rfl
theorem chunk7 : k0_pay72 (k0_pay69 h wv) (k0_pay70 H wg) c0 (k0_pay71 H wg) c1 c2 cb = MixHead.chunk h H wv wg c0 c1 c2 cb := rfl
theorem chunk8 : k0_pay77 (k0_pay73 h wv) (k0_pay74 H wg) (k0_pay75 H wg) (k0_pay76 c0) c1 c2 cb = MixHead.chunk h H wv wg c0 c1 c2 cb := rfl
theorem chunk9 : k0_pay81 (k0_pay78 h wv) (k0_pay79 H wg) (k0_pay80 H wg c0) c1 c2 cb = MixHead.chunk h H wv wg c0 c1 c2 cb := rfl
theorem chunk10 : k0_pay85 (k0_pay82 h wv) (k0_pay83 H wg) (k0_pay84 H wg c0) c1 c2 cb = MixHead.chunk h H wv wg c0 c1 c2 cb := rfl
end chunks

section rows
variable (a : Vec Ideal S528x1024 .bf16) (wo : Vec Ideal S1024x1024 .bf16) (x : Vec Ideal S528x1024 .f32) (s sh sc : Vec Ideal S1x1x1024 .f32) (g b : Vec Ideal S1x1024 .f32)
variable (P : FVec Ideal S528x1024 .f32) (G : FVec Ideal S1x1024 .f32) (v : BitVec 32)

theorem x43 (y : Vec Ideal S512x1024 .f32) : k0_pay43 y = Cert.MixIdeal.Gen.k0_pay4 y := rfl
theorem x44 (y : Vec Ideal S8x1024 .f32) : k0_pay44 y = Cert.MixIdeal.Gen.k0_pay5 y := rfl
theorem x45 (y : Vec Ideal S8x1024 .f32) : k0_pay45 y = Cert.MixIdeal.Gen.k0_pay6 y := rfl
theorem xm46 : k0_pay46 a wo x s g b = Cert.MixIdeal.Gen.k0_pay9 (Cert.MixIdeal.Gen.k0_pay7 a wo x s) (Cert.MixIdeal.Gen.k0_pay8 g) b := rfl
theorem xm47 : k0_pay47 a wo x s g b = Cert.MixIdeal.Gen.k0_pay10 (Cert.MixIdeal.Gen.k0_pay7 a wo x s) (Cert.MixIdeal.Gen.k0_pay8 g) b := rfl
theorem h48 : k0_pay48 (Cert.MixIdeal.Gen.k0_pay9 P G b) sh sc = Cert.MixIdeal.Gen.k0_pay11 P G b sh sc := rfl
theorem h49 : k0_pay49 (Cert.MixIdeal.Gen.k0_pay9 P G b) sh sc = Cert.MixIdeal.Gen.k0_pay12 P G b sh sc := rfl
theorem h50 : k0_pay50 v (Cert.MixIdeal.Gen.k0_pay9 P G b) sh sc = Cert.MixIdeal.Gen.k0_pay14 v (Cert.MixIdeal.Gen.k0_pay13 P G b sh sc) 0#32 := rfl
theorem h51 : k0_pay51 v (Cert.MixIdeal.Gen.k0_pay9 P G b) sh sc = Cert.MixIdeal.Gen.k0_pay15 v (Cert.MixIdeal.Gen.k0_pay11 P G b sh sc) := rfl
theorem out89 (act : Vec Ideal S512x2816 .bf16) (wd : Vec Ideal S2816x1024 .bf16) (xm : Vec Ideal S512x1024 .f32) :
    k0_pay89 (k0_pay86 act wd xm s) (k0_pay87 g) (k0_pay88 b) = Cert.MixIdeal.Gen.k0_pay55 act wd xm s g b := rfl
end rows

section heads
variable (w : Vec Ideal S1x128 .f32)

theorem main1 (a b : Vec Ideal S1x1x512x128 .bf16) (g : Vec Ideal S512x128 .bf16) : k0_pay2 a b w g = k0_pay1 a b w g := rfl
theorem main2 (a b : Vec Ideal S1x1x512x128 .bf16) (g : Vec Ideal S512x128 .bf16) : k0_pay5 (k0_pay3 a b) (k0_pay4 a b) w g = k0_pay1 a b w g := rfl
theorem main3 (a b : Vec Ideal S1x1x512x128 .bf16) (g : Vec Ideal S512x128 .bf16) : k0_pay7 (k0_pay6 a b w) g = k0_pay1 a b w g := rfl
theorem main4 (a b : Vec Ideal S1x1x512x128 .bf16) (g : Vec Ideal S512x128 .bf16) : k0_pay8 a b w g = k0_pay1 a b w g := rfl
theorem main5 (a b : Vec Ideal S1x1x512x128 .bf16) (g : Vec Ideal S512x128 .bf16) : k0_pay11 (k0_pay9 a) (k0_pay10 b) w g = k0_pay1 a b w g := rfl
theorem main_wide (p0 p1 p2 p3 p4 p5 : FVec Ideal S512x128 .bf16) (a b a' b' : Vec Ideal S1x1x512x128 .bf16) (g g' : Vec Ideal S512x128 .bf16) :
    k0_pay13 p0 p1 p2 p3 p4 p5 (k0_pay12 a b) w g a' b' w g' = wide p0 p1 p2 p3 p4 p5 (k0_pay1 a b w g) (k0_pay1 a' b' w g') :=
  shapeCast_self (wide p0 p1 p2 p3 p4 p5 (k0_pay1 a b w g) (k0_pay1 a' b' w g')) _
theorem before1 (a b : Vec Ideal S1x1x8x128 .bf16) (g : Vec Ideal S8x128 .bf16) : k0_pay17 (k0_pay15 a b) (k0_pay16 a b) w g = k0_pay14 a b w g := rfl
theorem before2 (a b : Vec Ideal S1x1x8x128 .bf16) (g : Vec Ideal S8x128 .bf16) : k0_pay19 (k0_pay18 a b w) g = k0_pay14 a b w g := rfl
theorem before3 (a b : Vec Ideal S1x1x8x128 .bf16) (g : Vec Ideal S8x128 .bf16) : k0_pay20 a b w g = k0_pay14 a b w g := rfl
theorem before4 (a b : Vec Ideal S1x1x8x128 .bf16) (g : Vec Ideal S8x128 .bf16) : k0_pay22 (k0_pay21 a) b w g = k0_pay14 a b w g := rfl
theorem before5 (a b : Vec Ideal S1x1x8x128 .bf16) (g : Vec Ideal S8x128 .bf16) : k0_pay24 (k0_pay23 a b) w g = k0_pay14 a b w g := rfl
theorem before6 (a b : Vec Ideal S1x1x8x128 .bf16) (g : Vec Ideal S8x128 .bf16) : k0_pay25 a b w g = k0_pay14 a b w g := rfl
theorem before_thin (p0 p1 p2 p3 p4 p5 p6 : FVec Ideal S8x128 .bf16) (a b : Vec Ideal S1x1x8x128 .bf16) (g : Vec Ideal S8x128 .bf16) :
    k0_pay27 p0 p1 p2 p3 p4 p5 p6 (k0_pay26 a) b w g = thin p0 p1 p2 p3 p4 p5 p6 (k0_pay14 a b w g) :=
  shapeCast_self (thin p0 p1 p2 p3 p4 p5 p6 (k0_pay14 a b w g)) _
theorem after0 (a b : Vec Ideal S1x1x8x128 .bf16) (g : Vec Ideal S8x128 .bf16) : k0_pay30 (k0_pay28 a b) (k0_pay29 a b) w g = k0_pay14 a b w g := rfl
theorem after1 (a b : Vec Ideal S1x1x8x128 .bf16) (g : Vec Ideal S8x128 .bf16) : k0_pay32 (k0_pay31 a b w) g = k0_pay14 a b w g := rfl
theorem after2 (a b : Vec Ideal S1x1x8x128 .bf16) (g : Vec Ideal S8x128 .bf16) : k0_pay33 a b w g = k0_pay14 a b w g := rfl
theorem after3 (a b : Vec Ideal S1x1x8x128 .bf16) (g : Vec Ideal S8x128 .bf16) : k0_pay35 (k0_pay34 a) b w g = k0_pay14 a b w g := rfl
theorem after4 (a b : Vec Ideal S1x1x8x128 .bf16) (g : Vec Ideal S8x128 .bf16) : k0_pay37 (k0_pay36 a b) w g = k0_pay14 a b w g := rfl
theorem after5 (a b : Vec Ideal S1x1x8x128 .bf16) (g : Vec Ideal S8x128 .bf16) : k0_pay38 a b w g = k0_pay14 a b w g := rfl
theorem after6 (a b : Vec Ideal S1x1x8x128 .bf16) (g : Vec Ideal S8x128 .bf16) : k0_pay39 a b w g = k0_pay14 a b w g := rfl
theorem after_thin (p0 p1 p2 p3 p4 p5 p6 : FVec Ideal S8x128 .bf16) (a b : Vec Ideal S1x1x8x128 .bf16) (g : Vec Ideal S8x128 .bf16) :
    k0_pay42 p0 p1 p2 p3 p4 p5 p6 (k0_pay40 a b) (k0_pay41 a b) (Scalar.ofBits (F := Ideal) .f32 0x3727C5AC#32) w g = thin p0 p1 p2 p3 p4 p5 p6 (k0_pay14 a b w g) :=
  shapeCast_self (thin p0 p1 p2 p3 p4 p5 p6 (k0_pay14 a b w g)) _
end heads

end Cert.GdnHead
end
-- ==== Proof.GdnRows.lean ====
module

public import proofs.«01_k».proof.Proof.Gen.GdnIdeal.Value
public import proofs.«01_k».proof.Proof.GdnHead
public import proofs.«01_k».proof.Proof.MixBlock
public import Idealize.ShloMosaic.Lib.Pipeline.ValueKit
public import Idealize.ShloMosaic.Lib.Pipeline.ReadBack

@[expose] public section

set_option maxRecDepth 16384

noncomputable section

namespace Cert.GdnBlock

open Idealize.ShloMosaic Cert.GdnIdeal Cert.GdnIdeal.Gen Cert.MixMath Cert.GdnMath Cert.GdnHead

/-- The gated heads of the tile's rows. -/
def tile (a b : Vec Ideal S1x8x512x128 .bf16) (w : Vec Ideal S1x128 .f32) (g : Vec Ideal S512x1024 .bf16) : FVec Ideal S512x1024 .bf16 :=
  wide (k0_pay1 (View.ld a (Rect.unit (s := S1x8x512x128) ![0, 0, 0, 0] ![1, 1, 512, 128] inb_S1x8x512x128_S1x1x512x128_0_0_0_0)) (View.ld b (Rect.unit (s := S1x8x512x128) ![0, 0, 0, 0] ![1, 1, 512, 128] inb_S1x8x512x128_S1x1x512x128_0_0_0_0)) w (View.ld g (Rect.unit (s := S512x1024) ![0, 0] ![512, 128] inb_S512x1024_S512x128_0_0)))
    (k0_pay1 (View.ld a (Rect.unit (s := S1x8x512x128) ![0, 1, 0, 0] ![1, 1, 512, 128] inb_S1x8x512x128_S1x1x512x128_0_1_0_0)) (View.ld b (Rect.unit (s := S1x8x512x128) ![0, 1, 0, 0] ![1, 1, 512, 128] inb_S1x8x512x128_S1x1x512x128_0_1_0_0)) w (View.ld g (Rect.unit (s := S512x1024) ![0, 128] ![512, 128] inb_S512x1024_S512x128_0_128)))
    (k0_pay1 (View.ld a (Rect.unit (s := S1x8x512x128) ![0, 2, 0, 0] ![1, 1, 512, 128] inb_S1x8x512x128_S1x1x512x128_0_2_0_0)) (View.ld b (Rect.unit (s := S1x8x512x128) ![0, 2, 0, 0] ![1, 1, 512, 128] inb_S1x8x512x128_S1x1x512x128_0_2_0_0)) w (View.ld g (Rect.unit (s := S512x1024) ![0, 256] ![512, 128] inb_S512x1024_S512x128_0_256)))
    (k0_pay1 (View.ld a (Rect.unit (s := S1x8x512x128) ![0, 3, 0, 0] ![1, 1, 512, 128] inb_S1x8x512x128_S1x1x512x128_0_3_0_0)) (View.ld b (Rect.unit (s := S1x8x512x128) ![0, 3, 0, 0] ![1, 1, 512, 128] inb_S1x8x512x128_S1x1x512x128_0_3_0_0)) w (View.ld g (Rect.unit (s := S512x1024) ![0, 384] ![512, 128] inb_S512x1024_S512x128_0_384)))
    (k0_pay1 (View.ld a (Rect.unit (s := S1x8x512x128) ![0, 4, 0, 0] ![1, 1, 512, 128] inb_S1x8x512x128_S1x1x512x128_0_4_0_0)) (View.ld b (Rect.unit (s := S1x8x512x128) ![0, 4, 0, 0] ![1, 1, 512, 128] inb_S1x8x512x128_S1x1x512x128_0_4_0_0)) w (View.ld g (Rect.unit (s := S512x1024) ![0, 512] ![512, 128] inb_S512x1024_S512x128_0_512)))
    (k0_pay1 (View.ld a (Rect.unit (s := S1x8x512x128) ![0, 5, 0, 0] ![1, 1, 512, 128] inb_S1x8x512x128_S1x1x512x128_0_5_0_0)) (View.ld b (Rect.unit (s := S1x8x512x128) ![0, 5, 0, 0] ![1, 1, 512, 128] inb_S1x8x512x128_S1x1x512x128_0_5_0_0)) w (View.ld g (Rect.unit (s := S512x1024) ![0, 640] ![512, 128] inb_S512x1024_S512x128_0_640)))
    (k0_pay1 (View.ld a (Rect.unit (s := S1x8x512x128) ![0, 6, 0, 0] ![1, 1, 512, 128] inb_S1x8x512x128_S1x1x512x128_0_6_0_0)) (View.ld b (Rect.unit (s := S1x8x512x128) ![0, 6, 0, 0] ![1, 1, 512, 128] inb_S1x8x512x128_S1x1x512x128_0_6_0_0)) w (View.ld g (Rect.unit (s := S512x1024) ![0, 768] ![512, 128] inb_S512x1024_S512x128_0_768)))
    (k0_pay1 (View.ld a (Rect.unit (s := S1x8x512x128) ![0, 7, 0, 0] ![1, 1, 512, 128] inb_S1x8x512x128_S1x1x512x128_0_7_0_0)) (View.ld b (Rect.unit (s := S1x8x512x128) ![0, 7, 0, 0] ![1, 1, 512, 128] inb_S1x8x512x128_S1x1x512x128_0_7_0_0)) w (View.ld g (Rect.unit (s := S512x1024) ![0, 896] ![512, 128] inb_S512x1024_S512x128_0_896)))

theorem tile_fold (a b : Vec Ideal S1x8x512x128 .bf16) (w : Vec Ideal S1x128 .f32) (g : Vec Ideal S512x1024 .bf16) :
    wide (k0_pay1 (View.ld a (Rect.unit (s := S1x8x512x128) ![0, 0, 0, 0] ![1, 1, 512, 128] inb_S1x8x512x128_S1x1x512x128_0_0_0_0)) (View.ld b (Rect.unit (s := S1x8x512x128) ![0, 0, 0, 0] ![1, 1, 512, 128] inb_S1x8x512x128_S1x1x512x128_0_0_0_0)) w (View.ld g (Rect.unit (s := S512x1024) ![0, 0] ![512, 128] inb_S512x1024_S512x128_0_0)))
    (k0_pay1 (View.ld a (Rect.unit (s := S1x8x512x128) ![0, 1, 0, 0] ![1, 1, 512, 128] inb_S1x8x512x128_S1x1x512x128_0_1_0_0)) (View.ld b (Rect.unit (s := S1x8x512x128) ![0, 1, 0, 0] ![1, 1, 512, 128] inb_S1x8x512x128_S1x1x512x128_0_1_0_0)) w (View.ld g (Rect.unit (s := S512x1024) ![0, 128] ![512, 128] inb_S512x1024_S512x128_0_128)))
    (k0_pay1 (View.ld a (Rect.unit (s := S1x8x512x128) ![0, 2, 0, 0] ![1, 1, 512, 128] inb_S1x8x512x128_S1x1x512x128_0_2_0_0)) (View.ld b (Rect.unit (s := S1x8x512x128) ![0, 2, 0, 0] ![1, 1, 512, 128] inb_S1x8x512x128_S1x1x512x128_0_2_0_0)) w (View.ld g (Rect.unit (s := S512x1024) ![0, 256] ![512, 128] inb_S512x1024_S512x128_0_256)))
    (k0_pay1 (View.ld a (Rect.unit (s := S1x8x512x128) ![0, 3, 0, 0] ![1, 1, 512, 128] inb_S1x8x512x128_S1x1x512x128_0_3_0_0)) (View.ld b (Rect.unit (s := S1x8x512x128) ![0, 3, 0, 0] ![1, 1, 512, 128] inb_S1x8x512x128_S1x1x512x128_0_3_0_0)) w (View.ld g (Rect.unit (s := S512x1024) ![0, 384] ![512, 128] inb_S512x1024_S512x128_0_384)))
    (k0_pay1 (View.ld a (Rect.unit (s := S1x8x512x128) ![0, 4, 0, 0] ![1, 1, 512, 128] inb_S1x8x512x128_S1x1x512x128_0_4_0_0)) (View.ld b (Rect.unit (s := S1x8x512x128) ![0, 4, 0, 0] ![1, 1, 512, 128] inb_S1x8x512x128_S1x1x512x128_0_4_0_0)) w (View.ld g (Rect.unit (s := S512x1024) ![0, 512] ![512, 128] inb_S512x1024_S512x128_0_512)))
    (k0_pay1 (View.ld a (Rect.unit (s := S1x8x512x128) ![0, 5, 0, 0] ![1, 1, 512, 128] inb_S1x8x512x128_S1x1x512x128_0_5_0_0)) (View.ld b (Rect.unit (s := S1x8x512x128) ![0, 5, 0, 0] ![1, 1, 512, 128] inb_S1x8x512x128_S1x1x512x128_0_5_0_0)) w (View.ld g (Rect.unit (s := S512x1024) ![0, 640] ![512, 128] inb_S512x1024_S512x128_0_640)))
    (k0_pay1 (View.ld a (Rect.unit (s := S1x8x512x128) ![0, 6, 0, 0] ![1, 1, 512, 128] inb_S1x8x512x128_S1x1x512x128_0_6_0_0)) (View.ld b (Rect.unit (s := S1x8x512x128) ![0, 6, 0, 0] ![1, 1, 512, 128] inb_S1x8x512x128_S1x1x512x128_0_6_0_0)) w (View.ld g (Rect.unit (s := S512x1024) ![0, 768] ![512, 128] inb_S512x1024_S512x128_0_768)))
    (k0_pay1 (View.ld a (Rect.unit (s := S1x8x512x128) ![0, 7, 0, 0] ![1, 1, 512, 128] inb_S1x8x512x128_S1x1x512x128_0_7_0_0)) (View.ld b (Rect.unit (s := S1x8x512x128) ![0, 7, 0, 0] ![1, 1, 512, 128] inb_S1x8x512x128_S1x1x512x128_0_7_0_0)) w (View.ld g (Rect.unit (s := S512x1024) ![0, 896] ![512, 128] inb_S512x1024_S512x128_0_896))) = tile a b w g := rfl

theorem tile_head (a b : Vec Ideal S1x8x512x128 .bf16) (w : Vec Ideal S1x128 .f32) (g : Vec Ideal S512x1024 .bf16) (h : Fin 8) (p q : Vec Ideal S1x1x512x128 .bf16) (u : Vec Ideal S512x128 .bf16)
    (hp : ∀ (r : Fin 512) (e : Fin 128), p (ix4 0 0 r e) = a (ix4 0 h r e)) (hq : ∀ (r : Fin 512) (e : Fin 128), q (ix4 0 0 r e) = b (ix4 0 h r e))
    (r : Fin 512) (e : Fin 128) (f : Fin 1024) (hu : u (ix2 r e) = g (ix2 r f)) (hf : f.val = 128 * h.val + e.val) :
    k0_pay1 p q w u (ix2 r e) = headEl (fun h e => a (ix4 0 h r e)) (fun h e => b (ix4 0 h r e)) (fun e => w (ix2 0 e)) (g (ix2 r f)) f := by
  rw [main_apply, headEl_at _ _ _ _ f h e hf, hu]
  simp only [hp, hq]

theorem tile_apply (a b : Vec Ideal S1x8x512x128 .bf16) (w : Vec Ideal S1x128 .f32) (g : Vec Ideal S512x1024 .bf16) (r : Fin 512) (f : Fin 1024) :
    tile a b w g (ix2 r f) = headEl (fun h e => a (ix4 0 h r e)) (fun h e => b (ix4 0 h r e)) (fun e => w (ix2 0 e)) (g (ix2 r f)) f := by
  unfold tile
  refine wide_apply _ _ _ _ _ _ _ _ (fun r f => headEl (fun h e => a (ix4 0 h r e)) (fun h e => b (ix4 0 h r e)) (fun e => w (ix2 0 e)) (g (ix2 r f)) f) ?_ ?_ ?_ ?_ ?_ ?_ ?_ ?_ r f
  · exact fun r e => tile_head a b w g 0 _ _ _ (by intros; pointwise) (by intros; pointwise) r e _ (by pointwise) rfl
  · exact fun r e => tile_head a b w g 1 _ _ _ (by intros; pointwise) (by intros; pointwise) r e _ (by pointwise) rfl
  · exact fun r e => tile_head a b w g 2 _ _ _ (by intros; pointwise) (by intros; pointwise) r e _ (by pointwise) rfl
  · exact fun r e => tile_head a b w g 3 _ _ _ (by intros; pointwise) (by intros; pointwise) r e _ (by pointwise) rfl
  · exact fun r e => tile_head a b w g 4 _ _ _ (by intros; pointwise) (by intros; pointwise) r e _ (by pointwise) rfl
  · exact fun r e => tile_head a b w g 5 _ _ _ (by intros; pointwise) (by intros; pointwise) r e _ (by pointwise) rfl
  · exact fun r e => tile_head a b w g 6 _ _ _ (by intros; pointwise) (by intros; pointwise) r e _ (by pointwise) rfl
  · exact fun r e => tile_head a b w g 7 _ _ _ (by intros; pointwise) (by intros; pointwise) r e _ (by pointwise) rfl

/-- The gated heads of eight rows beside the tile. -/
def edge (a b : Vec Ideal S1x8x8x128 .bf16) (w : Vec Ideal S1x128 .f32) (g : Vec Ideal S8x1024 .bf16) : FVec Ideal S8x1024 .bf16 :=
  thin (k0_pay14 (View.ld a (Rect.unit (s := S1x8x8x128) ![0, 0, 0, 0] ![1, 1, 8, 128] inb_S1x8x8x128_S1x1x8x128_0_0_0_0)) (View.ld b (Rect.unit (s := S1x8x8x128) ![0, 0, 0, 0] ![1, 1, 8, 128] inb_S1x8x8x128_S1x1x8x128_0_0_0_0)) w (View.ld g (Rect.unit (s := S8x1024) ![0, 0] ![8, 128] inb_S8x1024_S8x128_0_0)))
    (k0_pay14 (View.ld a (Rect.unit (s := S1x8x8x128) ![0, 1, 0, 0] ![1, 1, 8, 128] inb_S1x8x8x128_S1x1x8x128_0_1_0_0)) (View.ld b (Rect.unit (s := S1x8x8x128) ![0, 1, 0, 0] ![1, 1, 8, 128] inb_S1x8x8x128_S1x1x8x128_0_1_0_0)) w (View.ld g (Rect.unit (s := S8x1024) ![0, 128] ![8, 128] inb_S8x1024_S8x128_0_128)))
    (k0_pay14 (View.ld a (Rect.unit (s := S1x8x8x128) ![0, 2, 0, 0] ![1, 1, 8, 128] inb_S1x8x8x128_S1x1x8x128_0_2_0_0)) (View.ld b (Rect.unit (s := S1x8x8x128) ![0, 2, 0, 0] ![1, 1, 8, 128] inb_S1x8x8x128_S1x1x8x128_0_2_0_0)) w (View.ld g (Rect.unit (s := S8x1024) ![0, 256] ![8, 128] inb_S8x1024_S8x128_0_256)))
    (k0_pay14 (View.ld a (Rect.unit (s := S1x8x8x128) ![0, 3, 0, 0] ![1, 1, 8, 128] inb_S1x8x8x128_S1x1x8x128_0_3_0_0)) (View.ld b (Rect.unit (s := S1x8x8x128) ![0, 3, 0, 0] ![1, 1, 8, 128] inb_S1x8x8x128_S1x1x8x128_0_3_0_0)) w (View.ld g (Rect.unit (s := S8x1024) ![0, 384] ![8, 128] inb_S8x1024_S8x128_0_384)))
    (k0_pay14 (View.ld a (Rect.unit (s := S1x8x8x128) ![0, 4, 0, 0] ![1, 1, 8, 128] inb_S1x8x8x128_S1x1x8x128_0_4_0_0)) (View.ld b (Rect.unit (s := S1x8x8x128) ![0, 4, 0, 0] ![1, 1, 8, 128] inb_S1x8x8x128_S1x1x8x128_0_4_0_0)) w (View.ld g (Rect.unit (s := S8x1024) ![0, 512] ![8, 128] inb_S8x1024_S8x128_0_512)))
    (k0_pay14 (View.ld a (Rect.unit (s := S1x8x8x128) ![0, 5, 0, 0] ![1, 1, 8, 128] inb_S1x8x8x128_S1x1x8x128_0_5_0_0)) (View.ld b (Rect.unit (s := S1x8x8x128) ![0, 5, 0, 0] ![1, 1, 8, 128] inb_S1x8x8x128_S1x1x8x128_0_5_0_0)) w (View.ld g (Rect.unit (s := S8x1024) ![0, 640] ![8, 128] inb_S8x1024_S8x128_0_640)))
    (k0_pay14 (View.ld a (Rect.unit (s := S1x8x8x128) ![0, 6, 0, 0] ![1, 1, 8, 128] inb_S1x8x8x128_S1x1x8x128_0_6_0_0)) (View.ld b (Rect.unit (s := S1x8x8x128) ![0, 6, 0, 0] ![1, 1, 8, 128] inb_S1x8x8x128_S1x1x8x128_0_6_0_0)) w (View.ld g (Rect.unit (s := S8x1024) ![0, 768] ![8, 128] inb_S8x1024_S8x128_0_768)))
    (k0_pay14 (View.ld a (Rect.unit (s := S1x8x8x128) ![0, 7, 0, 0] ![1, 1, 8, 128] inb_S1x8x8x128_S1x1x8x128_0_7_0_0)) (View.ld b (Rect.unit (s := S1x8x8x128) ![0, 7, 0, 0] ![1, 1, 8, 128] inb_S1x8x8x128_S1x1x8x128_0_7_0_0)) w (View.ld g (Rect.unit (s := S8x1024) ![0, 896] ![8, 128] inb_S8x1024_S8x128_0_896)))

theorem edge_fold (a b : Vec Ideal S1x8x8x128 .bf16) (w : Vec Ideal S1x128 .f32) (g : Vec Ideal S8x1024 .bf16) :
    thin (k0_pay14 (View.ld a (Rect.unit (s := S1x8x8x128) ![0, 0, 0, 0] ![1, 1, 8, 128] inb_S1x8x8x128_S1x1x8x128_0_0_0_0)) (View.ld b (Rect.unit (s := S1x8x8x128) ![0, 0, 0, 0] ![1, 1, 8, 128] inb_S1x8x8x128_S1x1x8x128_0_0_0_0)) w (View.ld g (Rect.unit (s := S8x1024) ![0, 0] ![8, 128] inb_S8x1024_S8x128_0_0)))
    (k0_pay14 (View.ld a (Rect.unit (s := S1x8x8x128) ![0, 1, 0, 0] ![1, 1, 8, 128] inb_S1x8x8x128_S1x1x8x128_0_1_0_0)) (View.ld b (Rect.unit (s := S1x8x8x128) ![0, 1, 0, 0] ![1, 1, 8, 128] inb_S1x8x8x128_S1x1x8x128_0_1_0_0)) w (View.ld g (Rect.unit (s := S8x1024) ![0, 128] ![8, 128] inb_S8x1024_S8x128_0_128)))
    (k0_pay14 (View.ld a (Rect.unit (s := S1x8x8x128) ![0, 2, 0, 0] ![1, 1, 8, 128] inb_S1x8x8x128_S1x1x8x128_0_2_0_0)) (View.ld b (Rect.unit (s := S1x8x8x128) ![0, 2, 0, 0] ![1, 1, 8, 128] inb_S1x8x8x128_S1x1x8x128_0_2_0_0)) w (View.ld g (Rect.unit (s := S8x1024) ![0, 256] ![8, 128] inb_S8x1024_S8x128_0_256)))
    (k0_pay14 (View.ld a (Rect.unit (s := S1x8x8x128) ![0, 3, 0, 0] ![1, 1, 8, 128] inb_S1x8x8x128_S1x1x8x128_0_3_0_0)) (View.ld b (Rect.unit (s := S1x8x8x128) ![0, 3, 0, 0] ![1, 1, 8, 128] inb_S1x8x8x128_S1x1x8x128_0_3_0_0)) w (View.ld g (Rect.unit (s := S8x1024) ![0, 384] ![8, 128] inb_S8x1024_S8x128_0_384)))
    (k0_pay14 (View.ld a (Rect.unit (s := S1x8x8x128) ![0, 4, 0, 0] ![1, 1, 8, 128] inb_S1x8x8x128_S1x1x8x128_0_4_0_0)) (View.ld b (Rect.unit (s := S1x8x8x128) ![0, 4, 0, 0] ![1, 1, 8, 128] inb_S1x8x8x128_S1x1x8x128_0_4_0_0)) w (View.ld g (Rect.unit (s := S8x1024) ![0, 512] ![8, 128] inb_S8x1024_S8x128_0_512)))
    (k0_pay14 (View.ld a (Rect.unit (s := S1x8x8x128) ![0, 5, 0, 0] ![1, 1, 8, 128] inb_S1x8x8x128_S1x1x8x128_0_5_0_0)) (View.ld b (Rect.unit (s := S1x8x8x128) ![0, 5, 0, 0] ![1, 1, 8, 128] inb_S1x8x8x128_S1x1x8x128_0_5_0_0)) w (View.ld g (Rect.unit (s := S8x1024) ![0, 640] ![8, 128] inb_S8x1024_S8x128_0_640)))
    (k0_pay14 (View.ld a (Rect.unit (s := S1x8x8x128) ![0, 6, 0, 0] ![1, 1, 8, 128] inb_S1x8x8x128_S1x1x8x128_0_6_0_0)) (View.ld b (Rect.unit (s := S1x8x8x128) ![0, 6, 0, 0] ![1, 1, 8, 128] inb_S1x8x8x128_S1x1x8x128_0_6_0_0)) w (View.ld g (Rect.unit (s := S8x1024) ![0, 768] ![8, 128] inb_S8x1024_S8x128_0_768)))
    (k0_pay14 (View.ld a (Rect.unit (s := S1x8x8x128) ![0, 7, 0, 0] ![1, 1, 8, 128] inb_S1x8x8x128_S1x1x8x128_0_7_0_0)) (View.ld b (Rect.unit (s := S1x8x8x128) ![0, 7, 0, 0] ![1, 1, 8, 128] inb_S1x8x8x128_S1x1x8x128_0_7_0_0)) w (View.ld g (Rect.unit (s := S8x1024) ![0, 896] ![8, 128] inb_S8x1024_S8x128_0_896))) = edge a b w g := rfl

theorem edge_head (a b : Vec Ideal S1x8x8x128 .bf16) (w : Vec Ideal S1x128 .f32) (g : Vec Ideal S8x1024 .bf16) (h : Fin 8) (p q : Vec Ideal S1x1x8x128 .bf16) (u : Vec Ideal S8x128 .bf16)
    (hp : ∀ (r : Fin 8) (e : Fin 128), p (ix4 0 0 r e) = a (ix4 0 h r e)) (hq : ∀ (r : Fin 8) (e : Fin 128), q (ix4 0 0 r e) = b (ix4 0 h r e))
    (r : Fin 8) (e : Fin 128) (f : Fin 1024) (hu : u (ix2 r e) = g (ix2 r f)) (hf : f.val = 128 * h.val + e.val) :
    k0_pay14 p q w u (ix2 r e) = headEl (fun h e => a (ix4 0 h r e)) (fun h e => b (ix4 0 h r e)) (fun e => w (ix2 0 e)) (g (ix2 r f)) f := by
  rw [halo_apply, headEl_at _ _ _ _ f h e hf, hu]
  simp only [hp, hq]

theorem edge_apply (a b : Vec Ideal S1x8x8x128 .bf16) (w : Vec Ideal S1x128 .f32) (g : Vec Ideal S8x1024 .bf16) (r : Fin 8) (f : Fin 1024) :
    edge a b w g (ix2 r f) = headEl (fun h e => a (ix4 0 h r e)) (fun h e => b (ix4 0 h r e)) (fun e => w (ix2 0 e)) (g (ix2 r f)) f := by
  unfold edge
  refine thin_apply _ _ _ _ _ _ _ _ (fun r f => headEl (fun h e => a (ix4 0 h r e)) (fun h e => b (ix4 0 h r e)) (fun e => w (ix2 0 e)) (g (ix2 r f)) f) ?_ ?_ ?_ ?_ ?_ ?_ ?_ ?_ r f
  · exact fun r e => edge_head a b w g 0 _ _ _ (by intros; pointwise) (by intros; pointwise) r e _ (by pointwise) rfl
  · exact fun r e => edge_head a b w g 1 _ _ _ (by intros; pointwise) (by intros; pointwise) r e _ (by pointwise) rfl
  · exact fun r e => edge_head a b w g 2 _ _ _ (by intros; pointwise) (by intros; pointwise) r e _ (by pointwise) rfl
  · exact fun r e => edge_head a b w g 3 _ _ _ (by intros; pointwise) (by intros; pointwise) r e _ (by pointwise) rfl
  · exact fun r e => edge_head a b w g 4 _ _ _ (by intros; pointwise) (by intros; pointwise) r e _ (by pointwise) rfl
  · exact fun r e => edge_head a b w g 5 _ _ _ (by intros; pointwise) (by intros; pointwise) r e _ (by pointwise) rfl
  · exact fun r e => edge_head a b w g 6 _ _ _ (by intros; pointwise) (by intros; pointwise) r e _ (by pointwise) rfl
  · exact fun r e => edge_head a b w g 7 _ _ _ (by intros; pointwise) (by intros; pointwise) r e _ (by pointwise) rfl

/-- The gated heads at one grid point, one token a row: eight rows before the tile, the tile, eight rows after it. -/
def vecInp (x0 x3 : Vec Ideal S1x8x512x128 .bf16) (x1 x2 x4 x5 : Vec Ideal S1x8x8x128 .bf16) (x6 : Vec Ideal S512x1024 .bf16) (x7 x8 : Vec Ideal S8x1024 .bf16) (x9 : Vec Ideal S1x128 .f32) : FVec Ideal S528x1024 .bf16 := fun i =>
  if hp : (i 0).val < 8 then headEl (fun h e => x1 (ix4 0 h ⟨(i 0).val, hp⟩ e)) (fun h e => x4 (ix4 0 h ⟨(i 0).val, hp⟩ e)) (fun e => x9 (ix2 0 e)) (x7 (ix2 ⟨(i 0).val, hp⟩ (i 1))) (i 1)
  else if h' : (i 0).val < 520 then headEl (fun h e => x0 (ix4 0 h ⟨(i 0).val - 8, by omega⟩ e)) (fun h e => x3 (ix4 0 h ⟨(i 0).val - 8, by omega⟩ e)) (fun e => x9 (ix2 0 e)) (x6 (ix2 ⟨(i 0).val - 8, by omega⟩ (i 1))) (i 1)
  else headEl (fun h e => x2 (ix4 0 h ⟨(i 0).val - 520, by have : (i 0).val < 528 := (i 0).isLt; omega⟩ e)) (fun h e => x5 (ix4 0 h ⟨(i 0).val - 520, by have : (i 0).val < 528 := (i 0).isLt; omega⟩ e)) (fun e => x9 (ix2 0 e)) (x8 (ix2 ⟨(i 0).val - 520, by have : (i 0).val < 528 := (i 0).isLt; omega⟩ (i 1))) (i 1)

theorem inp_eq (x0 x3 : Vec Ideal S1x8x512x128 .bf16) (x1 x2 x4 x5 : Vec Ideal S1x8x8x128 .bf16) (x6 : Vec Ideal S512x1024 .bf16) (x7 x8 : Vec Ideal S8x1024 .bf16) (x9 : Vec Ideal S1x128 .f32) :
    View.canon (Val := Elt Ideal) (e := .bf16) [⟨Rect.unit (s := S528x1024) ![520, 0] S8x1024.size inb_S528x1024_S8x1024_520_0, edge x2 x5 x9 x8⟩, ⟨Rect.unit (s := S528x1024) ![0, 0] S8x1024.size inb_S528x1024_S8x1024_0_0, edge x1 x4 x9 x7⟩,
      ⟨Rect.unit (s := S528x1024) ![8, 0] S512x1024.size inb_S528x1024_S512x1024_8_0, tile x0 x3 x9 x6⟩] = vecInp x0 x3 x1 x2 x4 x5 x6 x7 x8 x9 := by
  refine MixBlock.rows_eq _ _ _ _ ?_ ?_ ?_
  · intro r d
    rw [tile_apply]
    refine Eq.symm ((dif_neg (show ¬ 8 + r.val < 8 by omega)).trans ((dif_pos (show 8 + r.val < 520 by omega)).trans ?_))
    have e : (⟨8 + r.val - 8, by omega⟩ : Fin 512) = r := Fin.ext (by show 8 + r.val - 8 = r.val; omega)
    exact congrArg (fun r : Fin 512 => headEl (fun h e => x0 (ix4 0 h r e)) (fun h e => x3 (ix4 0 h r e)) (fun e => x9 (ix2 0 e)) (x6 (ix2 r d)) d) e
  · intro r d
    rw [edge_apply]
    exact Eq.symm (dif_pos (show r.val < 8 from r.isLt))
  · intro r d
    rw [edge_apply]
    refine Eq.symm ((dif_neg (show ¬ 520 + r.val < 8 by omega)).trans ((dif_neg (show ¬ 520 + r.val < 520 by omega)).trans ?_))
    have e : (⟨520 + r.val - 520, by omega⟩ : Fin 8) = r := Fin.ext (by show 520 + r.val - 520 = r.val; omega)
    exact congrArg (fun r : Fin 8 => headEl (fun h e => x2 (ix4 0 h r e)) (fun h e => x5 (ix4 0 h r e)) (fun e => x9 (ix2 0 e)) (x8 (ix2 r d)) d) e

/-- The whole of the gated heads' rows, read back. -/
theorem inp_read {sig : RefSig} {κ : Kind} {sp : Space} (V : View sig κ sp S528x1024 .bf16) (x0 x3 : Vec Ideal S1x8x512x128 .bf16) (x1 x2 x4 x5 : Vec Ideal S1x8x8x128 .bf16) (x6 : Vec Ideal S512x1024 .bf16) (x7 x8 : Vec Ideal S8x1024 .bf16) (x9 : Vec Ideal S1x128 .f32) :
    V.readCov (Val := Elt Ideal) [⟨Rect.unit (s := S528x1024) ![520, 0] ![8, 1024] inb_S528x1024_S8x1024_520_0, edge x2 x5 x9 x8⟩, ⟨Rect.unit (s := S528x1024) ![0, 0] ![8, 1024] inb_S528x1024_S8x1024_0_0, edge x1 x4 x9 x7⟩,
      ⟨Rect.unit (s := S528x1024) ![8, 0] ![512, 1024] inb_S528x1024_S512x1024_8_0, tile x0 x3 x9 x6⟩] (Rect.unit (s := S528x1024) ![0, 0] ![528, 1024] inb_S528x1024_S528x1024_0_0).toLoadRect = vecInp x0 x3 x1 x2 x4 x5 x6 x7 x8 x9 := by
  refine (View.readCov_eq_canon' _ _ _).trans ?_
  exact (congrArg (fun G => View.ld G (Rect.unit (s := S528x1024) ![0, 0] ![528, 1024] inb_S528x1024_S528x1024_0_0)) (inp_eq x0 x3 x1 x2 x4 x5 x6 x7 x8 x9)).trans (View.ld_unit_lit' _ _ (by decide))

end Cert.GdnBlock
end
-- ==== Proof.GdnBlock.lean ====
module

public import proofs.«01_k».proof.Proof.Gen.GdnIdeal.Value
public import proofs.«01_k».proof.Proof.GdnRows
public import Idealize.ShloMosaic.Lib.Pipeline.ValueKit
public import Idealize.ShloMosaic.Lib.Pipeline.ReadBack

@[expose] public section

set_option maxRecDepth 16384

noncomputable section

namespace Cert.GdnBlock

open Idealize.ShloMosaic Cert.GdnIdeal Cert.GdnIdeal.Gen Cert.MixMath Cert.GdnMath Cert.GdnHead

/-- The residual sums of a grid point's 528 rows. -/
def rowsP (inp : FVec Ideal S528x1024 .bf16) (x10 : Vec Ideal S1024x1024 .bf16) (x11 : Vec Ideal S512x1024 .f32) (x12 x13 : Vec Ideal S8x1024 .f32)
    (x14 : Vec Ideal S1x6x1024 .f32) : FVec Ideal S528x1024 .f32 :=
  Cert.MixIdeal.Gen.k0_pay7 inp x10 (MixBlock.vecX x11 x12 x13) (View.ld x14 (Rect.unit (s := S1x6x1024) ![0, 2, 0] S1x1x1024.size inb_S1x6x1024_S1x1x1024_0_2_0))

theorem xm_apply (inp : FVec Ideal S528x1024 .bf16) (x10 : Vec Ideal S1024x1024 .bf16) (x11 : Vec Ideal S512x1024 .f32) (x12 x13 : Vec Ideal S8x1024 .f32)
    (x14 : Vec Ideal S1x6x1024 .f32) (x15 x16 : Vec Ideal S1x1024 .f32) (p : Fin 528) (d : Fin 1024) :
    MixBlock.blkXm (rowsP inp x10 x11 x12 x13 x14) x15 x16 (ix2 p d)
      = xmEl (fun f => inp (ix2 p f)) (fun d => MixBlock.vecX x11 x12 x13 (ix2 p d)) (fun f d => x10 (ix2 f d)) (fun d => x14 (ix3 0 2 d)) (fun d => x15 (ix2 0 d)) (fun d => x16 (ix2 0 d)) d := by
  unfold MixBlock.blkXm rowsP
  rw [MixHead.norm_apply]
  unfold xmEl
  have e : ∀ d : Fin 1024, (View.ld x14 (Rect.unit (s := S1x6x1024) ![0, 2, 0] S1x1x1024.size inb_S1x6x1024_S1x1x1024_0_2_0) : Vec Ideal S1x1x1024 .f32) (ix3 0 0 d) = x14 (ix3 0 2 d) := fun d => by pointwise
  have e8 : ∀ d : Fin 1024, Cert.MixIdeal.Gen.k0_pay8 x15 (ix2 0 d) = x15 (ix2 0 d) := fun d => by pointwise [Cert.MixIdeal.Gen.k0_pay8]
  simp only [MixHead.pre_apply, e, e8]

/-- The tile's place in its sequence, as the body computes it. -/
def place (t : Fin cfg0.N) : BitVec 32 :=
  Scalar.select (Scalar.andi (Scalar.xori (Scalar.cmpi .slt (Scalar.remsi (BitVec.ofNat 32 (grid0.coords t 0).val) 16#32) 0#32) 0#1)
      (Scalar.cmpi .ne (Scalar.remsi (BitVec.ofNat 32 (grid0.coords t 0).val) 16#32) 0#32))
    (Scalar.addi (Scalar.remsi (BitVec.ofNat 32 (grid0.coords t 0).val) 16#32) 16#32)
    (Scalar.remsi (BitVec.ofNat 32 (grid0.coords t 0).val) 16#32)

theorem before_word : ∀ t : Fin cfg0.N, (Scalar.extui (Scalar.cmpi .sgt (place t) 0#32) : BitVec 32).toInt = if 0 < t.val % 16 then 1 else 0 := by decide +kernel
theorem after_word : ∀ t : Fin cfg0.N, (Scalar.extui (Scalar.cmpi .slt (place t) 15#32) : BitVec 32).toInt = if t.val % 16 < 15 then 1 else 0 := by decide +kernel

variable (m : (ℓ : Loc nD τ sig) → Buf (Elt Ideal) ℓ) (c : Dev nD)

/-- The gated heads at a grid point. -/
def gInp (t : Fin cfg0.N) : FVec Ideal S528x1024 .bf16 :=
  vecInp (iblk m c 0 t) (iblk m c 3 t) (iblk m c 1 t) (iblk m c 2 t) (iblk m c 4 t) (iblk m c 5 t) (iblk m c 6 t) (iblk m c 7 t) (iblk m c 8 t) (iblk m c 9 t)
/-- The residual sums at a grid point. -/
def gP (t : Fin cfg0.N) : FVec Ideal S528x1024 .f32 := rowsP (gInp m c t) (iblk m c 10 t) (iblk m c 11 t) (iblk m c 12 t) (iblk m c 13 t) (iblk m c 14 t)
/-- The rows after the first layer norm at a grid point. -/
def gXm (t : Fin cfg0.N) : FVec Ideal S528x1024 .f32 := MixBlock.blkXm (gP m c t) (iblk m c 15 t) (iblk m c 16 t)
/-- The scaled and shifted rows at a grid point. -/
def gHm (t : Fin cfg0.N) : FVec Ideal S528x1024 .f32 := MixBlock.blkHm (gP m c t) (iblk m c 15 t) (iblk m c 16 t) (iblk m c 14 t)

/-- What the body leaves in its output block, from its input blocks. -/
theorem out_eq (t : Fin cfg0.N) (r : Fin 512) (d : Fin 1024) :
    outsAt0 m c t (ix2 r d) = outEl (fun d => gXm m c t (ix2 ⟨8 + r.val, by omega⟩ d))
      (fun k => MixBlock.vecAct (MixBlock.blkH (gHm m c t)) (MixBlock.vecH (place t) (gHm m c t)) (iblk m c 17 t) (iblk m c 18 t) (iblk m c 19 t) (ix2 r k))
      (fun k d => iblk m c 20 t (ix2 k d)) (fun d => iblk m c 14 t (ix3 0 5 d)) (fun d => iblk m c 21 t (ix2 0 d)) (fun d => iblk m c 22 t (ix2 0 d)) d := by
  unfold outsAt0 gXm gHm gP gInp
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  generalize iblk m c 19 t = x19
  generalize iblk m c 20 t = x20
  generalize iblk m c 21 t = x21
  generalize iblk m c 22 t = x22
  generalize hw : outEl _ _ _ _ _ _ d = w
  frame_out [View.readCov_skip, View.readCov_cons_toLoadRect, View.readCov_fill, main1, main2, main3, main4, main5, main_wide, before1, before2, before3, before4, before5, before6, before_thin,
    after0, after1, after2, after3, after4, after5, after6, after_thin, tile_fold, edge_fold, inp_read, x43, x44, x45, MixBlock.x_read, xm46, xm47, h48, h49, h50, h51, MixBlock.h_read,
    chunk0, chunk1, chunk2, chunk3, chunk4, chunk5, chunk6, chunk7, chunk8, chunk9, chunk10, MixBlock.act_read, out89]
  simp only [MixBlock.h12_eq, MixBlock.xm10_eq]
  unfold MixBlock.blkXm MixBlock.blkHm rowsP place at hw
  subst hw
  have e5 : ∀ d : Fin 1024, (View.ld x14 (Rect.unit (s := S1x6x1024) ![0, 5, 0] S1x1x1024.size inb_S1x6x1024_S1x1x1024_0_5_0) : Vec Ideal S1x1x1024 .f32) (ix3 0 0 d) = x14 (ix3 0 5 d) := fun d => by pointwise
  have e8 : ∀ (X : FVec Ideal S528x1024 .f32) (d : Fin 1024), (View.ld X (Rect.unit (s := S528x1024) ![8, 0] S512x1024.size inb_S528x1024_S512x1024_8_0) : Vec Ideal S512x1024 .f32) (ix2 r d) = X (ix2 ⟨8 + r.val, by omega⟩ d) := fun X d => by pointwise
  refine (MixHead.out_apply _ _ _ _ _ _ r d).trans ?_
  simp only [e5]
  refine congrArg (fun u => outEl u _ _ _ _ _ d) ?_
  exact funext fun d => e8 _ d

end Cert.GdnBlock
end
-- ==== Proof.GdnKernel.lean ====
module

public import proofs.«01_k».proof.Proof.GdnBlock
public import proofs.«01_k».proof.Proof.MixArr
public import Idealize.ShloMosaic.Lib.Pipeline.Covers

@[expose] public section

set_option maxRecDepth 16384

noncomputable section

namespace Cert.GdnKernel

open Idealize.ShloMosaic Cert.GdnIdeal Cert.GdnIdeal.Gen Cert.MixMath Cert.GdnBlock Cert.MixArr
open Idealize.ShloMosaic.TcCoe

theorem i0 : ∀ t : Fin cfg0.N, win0_0.index t = ![t.val / 16, 0, t.val % 16, 0] := by decide +kernel
theorem i1 : ∀ t : Fin cfg0.N, win0_1.index t = ![t.val / 16, 0, 64 * (t.val % 16) - 1, 0] := by decide +kernel
theorem i2 : ∀ t : Fin cfg0.N, win0_2.index t = ![t.val / 16, 0, min (64 * (t.val % 16) + 64) 1023, 0] := by decide +kernel
theorem i3 : ∀ t : Fin cfg0.N, win0_3.index t = ![t.val / 16, 0, t.val % 16, 0] := by decide +kernel
theorem i4 : ∀ t : Fin cfg0.N, win0_4.index t = ![t.val / 16, 0, 64 * (t.val % 16) - 1, 0] := by decide +kernel
theorem i5 : ∀ t : Fin cfg0.N, win0_5.index t = ![t.val / 16, 0, min (64 * (t.val % 16) + 64) 1023, 0] := by decide +kernel
theorem i6 : ∀ t : Fin cfg0.N, win0_6.index t = ![t.val, 0] := by decide +kernel
theorem i7 : ∀ t : Fin cfg0.N, win0_7.index t = ![64 * t.val - 1, 0] := by decide +kernel
theorem i8 : ∀ t : Fin cfg0.N, win0_8.index t = ![min (64 * t.val + 64) 8191, 0] := by decide +kernel
theorem i9 : ∀ t : Fin cfg0.N, win0_9.index t = ![0, 0] := by decide +kernel
theorem i10 : ∀ t : Fin cfg0.N, win0_10.index t = ![0, 0] := by decide +kernel
theorem i11 : ∀ t : Fin cfg0.N, win0_11.index t = ![t.val, 0] := by decide +kernel
theorem i12 : ∀ t : Fin cfg0.N, win0_12.index t = ![64 * t.val - 1, 0] := by decide +kernel
theorem i13 : ∀ t : Fin cfg0.N, win0_13.index t = ![min (64 * t.val + 64) 8191, 0] := by decide +kernel
theorem i14 : ∀ t : Fin cfg0.N, win0_14.index t = ![t.val / 16, 0, 0] := by decide +kernel
theorem i15 : ∀ t : Fin cfg0.N, win0_15.index t = ![0, 0] := by decide +kernel
theorem i16 : ∀ t : Fin cfg0.N, win0_16.index t = ![0, 0] := by decide +kernel
theorem i17 : ∀ t : Fin cfg0.N, win0_17.index t = ![0, 0] := by decide +kernel
theorem i18 : ∀ t : Fin cfg0.N, win0_18.index t = ![0, 0] := by decide +kernel
theorem i19 : ∀ t : Fin cfg0.N, win0_19.index t = ![0, 0] := by decide +kernel
theorem i20 : ∀ t : Fin cfg0.N, win0_20.index t = ![0, 0] := by decide +kernel
theorem i21 : ∀ t : Fin cfg0.N, win0_21.index t = ![0, 0] := by decide +kernel
theorem i22 : ∀ t : Fin cfg0.N, win0_22.index t = ![0, 0] := by decide +kernel
theorem i23 : ∀ t : Fin cfg0.N, win0_23.index t = ![t.val, 0] := by decide +kernel

/-- The output's blocks reach every element of the array. -/
theorem covers : (cfg0.win 23).Covers := by decide +kernel

variable (m : (ℓ : Loc nD τ sig) → Buf (Elt Ideal) ℓ) (c : Dev nD)

/-- Each input block is its array at the block's place. -/
theorem b0 (t : Fin cfg0.N) (h : Fin 8) (r : Fin 512) (e : Fin 128) (q : Fin 8192) (b : Fin 8) (hb : b.val = t.val / 16) (hq : q.val = 512 * (t.val % 16) + r.val) :
    iblk m c 0 t (ix4 0 h r e) = m ((c : Thread nD τ).loc main_arg0) (ix4 b h q e) := by
  blk_ext! [iblk, V, i0 t]
theorem b1 (t : Fin cfg0.N) (h : Fin 8) (r : Fin 8) (e : Fin 128) (q : Fin 8192) (b : Fin 8) (hb : b.val = t.val / 16) (hq : q.val = 8 * (64 * (t.val % 16) - 1) + r.val) :
    iblk m c 1 t (ix4 0 h r e) = m ((c : Thread nD τ).loc main_arg0) (ix4 b h q e) := by
  blk_ext! [iblk, V, i1 t]
theorem b2 (t : Fin cfg0.N) (h : Fin 8) (r : Fin 8) (e : Fin 128) (q : Fin 8192) (b : Fin 8) (hb : b.val = t.val / 16) (hq : q.val = 8 * min (64 * (t.val % 16) + 64) 1023 + r.val) :
    iblk m c 2 t (ix4 0 h r e) = m ((c : Thread nD τ).loc main_arg0) (ix4 b h q e) := by
  blk_ext! [iblk, V, i2 t]
theorem b3 (t : Fin cfg0.N) (h : Fin 8) (r : Fin 512) (e : Fin 128) (q : Fin 8192) (b : Fin 8) (hb : b.val = t.val / 16) (hq : q.val = 512 * (t.val % 16) + r.val) :
    iblk m c 3 t (ix4 0 h r e) = m ((c : Thread nD τ).loc main_arg1) (ix4 b h q e) := by
  blk_ext! [iblk, V, i3 t]
theorem b4 (t : Fin cfg0.N) (h : Fin 8) (r : Fin 8) (e : Fin 128) (q : Fin 8192) (b : Fin 8) (hb : b.val = t.val / 16) (hq : q.val = 8 * (64 * (t.val % 16) - 1) + r.val) :
    iblk m c 4 t (ix4 0 h r e) = m ((c : Thread nD τ).loc main_arg1) (ix4 b h q e) := by
  blk_ext! [iblk, V, i4 t]
theorem b5 (t : Fin cfg0.N) (h : Fin 8) (r : Fin 8) (e : Fin 128) (q : Fin 8192) (b : Fin 8) (hb : b.val = t.val / 16) (hq : q.val = 8 * min (64 * (t.val % 16) + 64) 1023 + r.val) :
    iblk m c 5 t (ix4 0 h r e) = m ((c : Thread nD τ).loc main_arg1) (ix4 b h q e) := by
  blk_ext! [iblk, V, i5 t]
theorem b6 (t : Fin cfg0.N) (r : Fin 512) (f : Fin 1024) (q : Fin 65536) (hq : q.val = 512 * t.val + r.val) :
    iblk m c 6 t (ix2 r f) = m ((c : Thread nD τ).loc main_arg2) (ix2 q f) := by
  blk_ext! [iblk, V, i6 t]
theorem b7 (t : Fin cfg0.N) (r : Fin 8) (f : Fin 1024) (q : Fin 65536) (hq : q.val = 8 * (64 * t.val - 1) + r.val) :
    iblk m c 7 t (ix2 r f) = m ((c : Thread nD τ).loc main_arg2) (ix2 q f) := by
  blk_ext! [iblk, V, i7 t]
theorem b8 (t : Fin cfg0.N) (r : Fin 8) (f : Fin 1024) (q : Fin 65536) (hq : q.val = 8 * min (64 * t.val + 64) 8191 + r.val) :
    iblk m c 8 t (ix2 r f) = m ((c : Thread nD τ).loc main_arg2) (ix2 q f) := by
  blk_ext! [iblk, V, i8 t]
theorem b9 (t : Fin cfg0.N) (e : Fin 128) : iblk m c 9 t (ix2 0 e) = m ((c : Thread nD τ).loc main_arg3) (ix1 e) := by
  blk_ext! [iblk, V, i9 t]
theorem b10 (t : Fin cfg0.N) (f d : Fin 1024) : iblk m c 10 t (ix2 f d) = m ((c : Thread nD τ).loc main_arg6) (ix2 f d) := by
  blk_ext! [iblk, V, i10 t]
theorem b11 (t : Fin cfg0.N) (r : Fin 512) (d : Fin 1024) (q : Fin 8192) (b : Fin 8) (hq : 8192 * b.val + q.val = 512 * t.val + r.val) :
    iblk m c 11 t (ix2 r d) = m ((c : Thread nD τ).loc main_arg4) (ix3 b q d) := by
  blk_ext! [iblk, V, i11 t]
theorem b12 (t : Fin cfg0.N) (r : Fin 8) (d : Fin 1024) (q : Fin 8192) (b : Fin 8) (hq : 8192 * b.val + q.val = 8 * (64 * t.val - 1) + r.val) :
    iblk m c 12 t (ix2 r d) = m ((c : Thread nD τ).loc main_arg4) (ix3 b q d) := by
  blk_ext! [iblk, V, i12 t]
theorem b13 (t : Fin cfg0.N) (r : Fin 8) (d : Fin 1024) (q : Fin 8192) (b : Fin 8) (hq : 8192 * b.val + q.val = 8 * min (64 * t.val + 64) 8191 + r.val) :
    iblk m c 13 t (ix2 r d) = m ((c : Thread nD τ).loc main_arg4) (ix3 b q d) := by
  blk_ext! [iblk, V, i13 t]
theorem b14 (t : Fin cfg0.N) (k : Fin 6) (d : Fin 1024) (b : Fin 8) (hb : b.val = t.val / 16) :
    iblk m c 14 t (ix3 0 k d) = m ((c : Thread nD τ).loc main_arg5) (ix3 b k d) := by
  blk_ext! [iblk, V, i14 t]
theorem b15 (t : Fin cfg0.N) (d : Fin 1024) : iblk m c 15 t (ix2 0 d) = m ((c : Thread nD τ).loc main_arg7) (ix2 0 d) := by
  blk_ext! [iblk, V, i15 t]
theorem b16 (t : Fin cfg0.N) (d : Fin 1024) : iblk m c 16 t (ix2 0 d) = m ((c : Thread nD τ).loc main_arg8) (ix2 0 d) := by
  blk_ext! [iblk, V, i16 t]
theorem b17 (t : Fin cfg0.N) (d : Fin 1024) (k : Fin 5632) : iblk m c 17 t (ix2 d k) = m ((c : Thread nD τ).loc main_arg9) (ix2 d k) := by
  blk_ext! [iblk, V, i17 t]
theorem b18 (t : Fin cfg0.N) (j : Fin 3) (k : Fin 2816) : iblk m c 18 t (ix2 j k) = m ((c : Thread nD τ).loc main_arg10) (ix2 j k) := by
  blk_ext! [iblk, V, i18 t]
theorem b19 (t : Fin cfg0.N) (k : Fin 2816) : iblk m c 19 t (ix2 0 k) = m ((c : Thread nD τ).loc main_arg11) (ix1 k) := by
  blk_ext! [iblk, V, i19 t]
theorem b20 (t : Fin cfg0.N) (k : Fin 2816) (d : Fin 1024) : iblk m c 20 t (ix2 k d) = m ((c : Thread nD τ).loc main_arg12) (ix2 k d) := by
  blk_ext! [iblk, V, i20 t]
theorem b21 (t : Fin cfg0.N) (d : Fin 1024) : iblk m c 21 t (ix2 0 d) = m ((c : Thread nD τ).loc main_arg7) (ix2 1 d) := by
  blk_ext! [iblk, V, i21 t]
theorem b22 (t : Fin cfg0.N) (d : Fin 1024) : iblk m c 22 t (ix2 0 d) = m ((c : Thread nD τ).loc main_arg8) (ix2 1 d) := by
  blk_ext! [iblk, V, i22 t]

/-- Where an element of the output's block lies in the array. -/
theorem emb23 (t : Fin cfg0.N) (y : S512x1024.Idx) : (win0_23.blk t).view.emb y
    = ix2 ⟨512 * t.val + (y 0).val, by have : t.val < 128 := t.isLt; have : (y 0).val < 512 := (y 0).isLt; omega⟩ (y 1) := by
  blk_ext [i23 t]

end Cert.GdnKernel
end
-- ==== Proof.GdnArr.lean ====
module

public import proofs.«01_k».proof.Proof.Gen.GdnIdeal.Skeleton
public import proofs.«01_k».proof.Proof.GdnMath
public import proofs.«01_k».proof.Proof.MixArr

@[expose] public section

set_option maxRecDepth 16384

noncomputable section

namespace Cert.GdnArr

open Idealize.ShloMosaic Cert.GdnIdeal Cert.GdnMath

/-- The gated heads of the two scans' sum, a channel a row. -/
def gatedArr (u v : FVec Ideal S8x8x8192x128 .bf16) (g : FVec Ideal S65536x1024 .bf16) (w : FVec Ideal S128 .f32) : FVec Ideal Cert.MixIdeal.S8x1024x8192 .bf16 := fun i =>
  headEl (fun h e => u (ix4 (i 0) h (i 2) e)) (fun h e => v (ix4 (i 0) h (i 2) e)) (fun e => w (ix1 e))
    (g (ix2 ⟨8192 * (i 0).val + (i 2).val, by have : (i 0).val < 8 := (i 0).isLt; have : (i 2).val < 8192 := (i 2).isLt; omega⟩ (i 1))) (i 1)

end Cert.GdnArr
end
-- ==== Proof.GdnOut.lean ====
module

public import proofs.«01_k».proof.Proof.GdnKernel
public import proofs.«01_k».proof.Proof.GdnArr

@[expose] public section

set_option maxRecDepth 16384

noncomputable section

namespace Cert.GdnOut

open Idealize.ShloMosaic Cert.GdnIdeal Cert.GdnIdeal.Gen Cert.MixMath Cert.GdnMath Cert.GdnBlock Cert.MixArr Cert.GdnArr Cert.GdnKernel
open Idealize.ShloMosaic.TcCoe

variable (m : (ℓ : Loc nD τ sig) → Buf (Elt Ideal) ℓ) (c : Dev nD)

/-- The kernel's arguments. -/
def args : Args where
  inp := gatedArr (m ((c : Thread nD τ).loc main_arg0)) (m ((c : Thread nD τ).loc main_arg1)) (m ((c : Thread nD τ).loc main_arg2)) (m ((c : Thread nD τ).loc main_arg3))
  x := m ((c : Thread nD τ).loc main_arg4)
  mod := m ((c : Thread nD τ).loc main_arg5)
  wo := m ((c : Thread nD τ).loc main_arg6)
  lg := m ((c : Thread nD τ).loc main_arg7)
  lb := m ((c : Thread nD τ).loc main_arg8)
  wu := m ((c : Thread nD τ).loc main_arg9)
  cw := m ((c : Thread nD τ).loc main_arg10)
  cb := m ((c : Thread nD τ).loc main_arg11)
  wd := m ((c : Thread nD τ).loc main_arg12)

section rows
variable (t : Fin cfg0.N) (b : Fin 8) (hb : b.val = t.val / 16)
include hb

/-- The gated heads of a grid point's row. -/
theorem inp_row (p : Fin 528) (f : Fin 1024) (q : Fin 8192) (h7 : 7 ≤ p.val) (h520 : p.val ≤ 520) (hq : q.val + 8 = 512 * (t.val % 16) + p.val) :
    gInp m c t (ix2 p f) = (args m c).inp (ix3 b f q) := by
  have hq' := q.isLt
  have ht : t.val < 128 := t.isLt
  unfold gInp vecInp
  by_cases h1 : p.val < 8
  · exact (dif_pos h1).trans (headEl_congr f (fun h e => b1 m c t h ⟨p.val, h1⟩ e q b hb (by show q.val = 8 * (64 * (t.val % 16) - 1) + p.val; omega))
      (fun h e => b4 m c t h ⟨p.val, h1⟩ e q b hb (by show q.val = 8 * (64 * (t.val % 16) - 1) + p.val; omega)) (fun e => b9 m c t e)
      (b7 m c t ⟨p.val, h1⟩ f ⟨8192 * b.val + q.val, by omega⟩ (by show 8192 * b.val + q.val = 8 * (64 * t.val - 1) + p.val; omega)))
  by_cases h2 : p.val < 520
  · exact (dif_neg h1).trans ((dif_pos h2).trans (headEl_congr f (fun h e => b0 m c t h ⟨p.val - 8, by omega⟩ e q b hb (by show q.val = 512 * (t.val % 16) + (p.val - 8); omega))
      (fun h e => b3 m c t h ⟨p.val - 8, by omega⟩ e q b hb (by show q.val = 512 * (t.val % 16) + (p.val - 8); omega)) (fun e => b9 m c t e)
      (b6 m c t ⟨p.val - 8, by omega⟩ f ⟨8192 * b.val + q.val, by omega⟩ (by show 8192 * b.val + q.val = 512 * t.val + (p.val - 8); omega))))
  · exact (dif_neg h1).trans ((dif_neg h2).trans (headEl_congr f (fun h e => b2 m c t h ⟨p.val - 520, by omega⟩ e q b hb (by show q.val = 8 * min (64 * (t.val % 16) + 64) 1023 + (p.val - 520); omega))
      (fun h e => b5 m c t h ⟨p.val - 520, by omega⟩ e q b hb (by show q.val = 8 * min (64 * (t.val % 16) + 64) 1023 + (p.val - 520); omega)) (fun e => b9 m c t e)
      (b8 m c t ⟨p.val - 520, by omega⟩ f ⟨8192 * b.val + q.val, by omega⟩ (by show 8192 * b.val + q.val = 8 * min (64 * t.val + 64) 8191 + (p.val - 520); omega))))

/-- The residual stream's entries of a grid point's row. -/
theorem x_row (p : Fin 528) (d : Fin 1024) (q : Fin 8192) (h7 : 7 ≤ p.val) (h520 : p.val ≤ 520) (hq : q.val + 8 = 512 * (t.val % 16) + p.val) :
    MixBlock.vecX (iblk m c 11 t) (iblk m c 12 t) (iblk m c 13 t) (ix2 p d) = (args m c).x (ix3 b q d) := by
  have hq' := q.isLt
  have ht : t.val < 128 := t.isLt
  unfold MixBlock.vecX
  by_cases h1 : p.val < 8
  · exact (dif_pos h1).trans (b12 m c t ⟨p.val, h1⟩ d q b (by show 8192 * b.val + q.val = 8 * (64 * t.val - 1) + p.val; omega))
  by_cases h2 : p.val < 520
  · exact (dif_neg h1).trans ((dif_pos h2).trans (b11 m c t ⟨p.val - 8, by omega⟩ d q b (by show 8192 * b.val + q.val = 512 * t.val + (p.val - 8); omega)))
  · exact (dif_neg h1).trans ((dif_neg h2).trans (b13 m c t ⟨p.val - 520, by omega⟩ d q b (by show 8192 * b.val + q.val = 8 * min (64 * t.val + 64) 8191 + (p.val - 520); omega)))

/-- A grid point's row after the first layer norm. -/
theorem xm_row (p : Fin 528) (d : Fin 1024) (q : Fin 8192) (h7 : 7 ≤ p.val) (h520 : p.val ≤ 520) (hq : q.val + 8 = 512 * (t.val % 16) + p.val) :
    gXm m c t (ix2 p d) = xmA (args m c) b q d := by
  unfold gXm gP
  refine (xm_apply _ _ _ _ _ _ _ _ p d).trans ?_
  unfold xmA
  have e1 := funext fun f => inp_row m c t b hb p f q h7 h520 hq
  have e2 := funext fun d => x_row m c t b hb p d q h7 h520 hq
  have e3 : (fun f d => iblk m c 10 t (ix2 f d)) = fun f d => (args m c).wo (ix2 f d) := funext fun f => funext fun d => b10 m c t f d
  have e7 : (fun d => iblk m c 14 t (ix3 0 2 d)) = fun d => (args m c).mod (ix3 b 2 d) := funext fun d => b14 m c t 2 d b hb
  have e8 : (fun d => iblk m c 15 t (ix2 0 d)) = fun d => (args m c).lg (ix2 0 d) := funext fun d => b15 m c t d
  have e9 : (fun d => iblk m c 16 t (ix2 0 d)) = fun d => (args m c).lb (ix2 0 d) := funext fun d => b16 m c t d
  rw [e1, e2, e3, e7, e8, e9]

/-- A grid point's row scaled and shifted. -/
theorem hm_row (p : Fin 528) (d : Fin 1024) (q : Fin 8192) (h7 : 7 ≤ p.val) (h520 : p.val ≤ 520) (hq : q.val + 8 = 512 * (t.val % 16) + p.val) :
    gHm m c t (ix2 p d) = hA (args m c) b q d := by
  refine (MixBlock.hm_apply _ _ _ _ p d).trans ?_
  unfold hA
  have e1 : (fun d => MixBlock.blkXm (gP m c t) (iblk m c 15 t) (iblk m c 16 t) (ix2 p d)) = xmA (args m c) b q := funext fun d => xm_row m c t b hb p d q h7 h520 hq
  have e3 : (fun d => iblk m c 14 t (ix3 0 3 d)) = fun d => (args m c).mod (ix3 b 3 d) := funext fun d => b14 m c t 3 d b hb
  have e4 : (fun d => iblk m c 14 t (ix3 0 4 d)) = fun d => (args m c).mod (ix3 b 4 d) := funext fun d => b14 m c t 4 d b hb
  rw [e1, e3, e4]

/-- A gate of a grid point's row, the rows outside the sequence zero. -/
theorem gate_row (p : Fin 528) (k : Fin 2816) (q : ℕ) (h7 : 7 ≤ p.val) (h520 : p.val ≤ 520) (hq : q + 7 = 512 * (t.val % 16) + p.val) :
    dotEl (fun d => MixBlock.vecH (place t) (gHm m c t) (ix2 p d)) (fun d => iblk m c 17 t (ix2 d ⟨2816 + k.val, by omega⟩)) = gPad (args m c) b q k := by
  have hz : ∀ (h : Fin 1024 → EReal) (w : Fin 1024 → EReal), (∀ d, h d = 0) → dotEl h w = 0 := fun h w hh => by
    unfold dotEl
    exact Finset.sum_eq_zero fun d _ => by rw [hh d, zero_mul]
  have hbf : MixBlock.hasBefore (place t) = if 0 < t.val % 16 then 1 else 0 := by
    unfold MixBlock.hasBefore; rw [before_word t]; split_ifs <;> simp
  have haf : MixBlock.hasAfter (place t) = if t.val % 16 < 15 then 1 else 0 := by
    unfold MixBlock.hasAfter; rw [after_word t]; split_ifs <;> simp
  have e10 : ∀ d : Fin 1024, iblk m c 17 t (ix2 d ⟨2816 + k.val, by omega⟩) = (args m c).wu (ix2 d ⟨2816 + k.val, by omega⟩) := fun d => b17 m c t d _
  have live : ∀ (hq1 : 1 ≤ q ∧ q ≤ 8192), (∀ d, MixBlock.vecH (place t) (gHm m c t) (ix2 p d) = gHm m c t (ix2 p d)) →
      dotEl (fun d => MixBlock.vecH (place t) (gHm m c t) (ix2 p d)) (fun d => iblk m c 17 t (ix2 d ⟨2816 + k.val, by omega⟩)) = gPad (args m c) b q k := by
    intro hq1 hv
    unfold gPad
    rw [dif_pos hq1]
    unfold gA dotEl
    refine Finset.sum_congr rfl fun d _ => ?_
    exact congrArg₂ (· * ·) ((hv d).trans (hm_row m c t b hb p d ⟨q - 1, by omega⟩ h7 h520 (by show q - 1 + 8 = _; omega))) (e10 d)
  by_cases h1 : p.val < 8
  · have ev : ∀ d, MixBlock.vecH (place t) (gHm m c t) (ix2 p d) = gHm m c t (ix2 p d) * MixBlock.hasBefore (place t) := fun d => if_pos h1
    by_cases hj : 0 < t.val % 16
    · refine live (by omega) fun d => ?_
      rw [ev d, hbf, if_pos hj, mul_one]
    · rw [hz _ _ fun d => by rw [ev d, hbf, if_neg hj, mul_zero]]
      unfold gPad
      rw [dif_neg (by omega)]
  by_cases h2 : p.val < 520
  · refine live (by omega) fun d => ?_
    exact (if_neg h1).trans (if_pos h2)
  · have ev : ∀ d, MixBlock.vecH (place t) (gHm m c t) (ix2 p d) = gHm m c t (ix2 p d) * MixBlock.hasAfter (place t) := fun d => (if_neg h1).trans (if_neg h2)
    by_cases hj : t.val % 16 < 15
    · refine live (by omega) fun d => ?_
      rw [ev d, haf, if_pos hj, mul_one]
    · rw [hz _ _ fun d => by rw [ev d, haf, if_neg hj, mul_zero]]
      unfold gPad
      rw [dif_neg (by omega)]

/-- An activation of a grid point. -/
theorem act_row (r : Fin 512) (k : Fin 2816) (n : Fin 8192) (hn : n.val = 512 * (t.val % 16) + r.val) :
    MixBlock.vecAct (MixBlock.blkH (gHm m c t)) (MixBlock.vecH (place t) (gHm m c t)) (iblk m c 17 t) (iblk m c 18 t) (iblk m c 19 t) (ix2 r k) = actA (args m c) b n k := by
  have g0 := gate_row m c t b hb ⟨7 + r.val, by omega⟩ k n.val (by show 7 ≤ 7 + r.val; omega) (by show 7 + r.val ≤ 520; omega) (by show n.val + 7 = 512 * (t.val % 16) + (7 + r.val); omega)
  have g1 := gate_row m c t b hb ⟨8 + r.val, by omega⟩ k (n.val + 1) (by show 7 ≤ 8 + r.val; omega) (by show 8 + r.val ≤ 520; omega) (by show n.val + 1 + 7 = 512 * (t.val % 16) + (8 + r.val); omega)
  have g2 := gate_row m c t b hb ⟨9 + r.val, by omega⟩ k (n.val + 2) (by show 7 ≤ 9 + r.val; omega) (by show 9 + r.val ≤ 520; omega) (by show n.val + 2 + 7 = 512 * (t.val % 16) + (9 + r.val); omega)
  have gv : dotEl (fun d => MixBlock.blkH (gHm m c t) (ix2 r d)) (fun d => iblk m c 17 t (ix2 d ⟨k.val, by omega⟩)) = vA (args m c) b n k := by
    unfold vA dotEl
    refine Finset.sum_congr rfl fun d _ => ?_
    refine congrArg₂ (· * ·) (hm_row m c t b hb ⟨8 + r.val, by omega⟩ d n (by show 7 ≤ 8 + r.val; omega) (by show 8 + r.val ≤ 520; omega) (by show n.val + 8 = 512 * (t.val % 16) + (8 + r.val); omega)) (b17 m c t d _)
  unfold actA
  rw [← g0, ← g1, ← g2, ← gv]
  have c0 : iblk m c 18 t (ix2 0 k) = (args m c).cw (ix2 0 k) := b18 m c t 0 k
  have c1 : iblk m c 18 t (ix2 1 k) = (args m c).cw (ix2 1 k) := b18 m c t 1 k
  have c2 : iblk m c 18 t (ix2 2 k) = (args m c).cw (ix2 2 k) := b18 m c t 2 k
  have cb : iblk m c 19 t (ix2 0 k) = (args m c).cb (ix1 k) := b19 m c t k
  rw [← c0, ← c1, ← c2, ← cb]
  rfl

/-- What a grid point leaves in its output block. -/
theorem out_row (r : Fin 512) (d : Fin 1024) (n : Fin 8192) (hn : n.val = 512 * (t.val % 16) + r.val) :
    outsAt0 m c t (ix2 r d) = outA (args m c) b n d := by
  rw [out_eq m c t r d]
  unfold outA
  have e1 : (fun d => gXm m c t (ix2 ⟨8 + r.val, by omega⟩ d)) = xmA (args m c) b n :=
    funext fun d => xm_row m c t b hb ⟨8 + r.val, by omega⟩ d n (by show 7 ≤ 8 + r.val; omega) (by show 8 + r.val ≤ 520; omega) (by show n.val + 8 = 512 * (t.val % 16) + (8 + r.val); omega)
  have e2 : (fun k => MixBlock.vecAct (MixBlock.blkH (gHm m c t)) (MixBlock.vecH (place t) (gHm m c t)) (iblk m c 17 t) (iblk m c 18 t) (iblk m c 19 t) (ix2 r k)) = actA (args m c) b n :=
    funext fun k => act_row m c t b hb r k n hn
  have e3 : (fun k d => iblk m c 20 t (ix2 k d)) = fun k d => (args m c).wd (ix2 k d) := funext fun k => funext fun d => b20 m c t k d
  have e7 : (fun d => iblk m c 14 t (ix3 0 5 d)) = fun d => (args m c).mod (ix3 b 5 d) := funext fun d => b14 m c t 5 d b hb
  have e8 : (fun d => iblk m c 21 t (ix2 0 d)) = fun d => (args m c).lg (ix2 1 d) := funext fun d => b21 m c t d
  have e9 : (fun d => iblk m c 22 t (ix2 0 d)) = fun d => (args m c).lb (ix2 1 d) := funext fun d => b22 m c t d
  rw [e1, e2, e3, e7, e8, e9]
end rows

/-- The kernel's output array after the run. -/
theorem arr_eq : (dats m 0 c).arrAt 23 cfg0.N = outArr (args m c) := by
  refine (dats m 0 c).arrAt_eq_of_covers 23 _ covers fun t hf y => ?_
  blk_simp
  rw [after0_23]
  have ht : t.val < 128 := t.isLt
  have hy0 : (y 0).val < 512 := (y 0).isLt
  rw [emb23 t y]
  refine (congrArg (outsAt0 m c t) (eq_ix2 (n0 := 512) (n1 := 1024) y)).trans ?_
  refine (out_row m c t ⟨t.val / 16, by omega⟩ rfl (y 0) (y 1) ⟨512 * (t.val % 16) + (y 0).val, by omega⟩ rfl).trans ?_
  unfold outArr
  refine congrFun (congrArg₂ (outA (args m c)) (Fin.ext ?_) (Fin.ext ?_)) _
  · show t.val / 16 = (512 * t.val + (y 0).val) / 8192
    omega
  · show 512 * (t.val % 16) + (y 0).val = (512 * t.val + (y 0).val) % 8192
    omega

end Cert.GdnOut
end
-- ==== Proof.GdnRef.lean ====
module

public import proofs.«01_k».proof.Proof.Gen.GdnReferenceIdeal.Read
public import proofs.«01_k».proof.Proof.GdnArr
public import Idealize.ShloMosaic.Lib.Pointwise

@[expose] public section

set_option maxRecDepth 16384

noncomputable section

namespace Cert.GdnRef

open Idealize.ShloMosaic Cert.GdnReferenceIdeal Cert.GdnReferenceIdeal.Read Cert.MixMath Cert.MixArr Cert.GdnMath Cert.GdnArr

variable (x0 x1 : FVec Ideal S8x8x8192x128 .bf16) (x2 : FVec Ideal S65536x1024 .bf16) (x3 : FVec Ideal S128 .f32)
  (x4 : FVec Ideal S8x8192x1024 .f32) (x5 : FVec Ideal S8x6x1024 .f32)
  (x6 : FVec Ideal S1024x1024 .f32) (x7 x8 : FVec Ideal S2x1024 .f32) (x9 : FVec Ideal S1024x5632 .f32)
  (x10 : FVec Ideal S3x2816 .f32) (x11 : FVec Ideal S2816 .f32) (x12 : FVec Ideal S2816x1024 .f32)
variable (b : Fin 8) (n : Fin 8192) (d : Fin 1024) (k : Fin 2816)

theorem m2 : val_main_v28 (F := Ideal) x5 (ix3 b n d) = x5 (ix3 b 2 d) := by
  pointwise [val_main_v28, val_main_v27, val_main_v26, val_main_v21]
theorem m3 : val_main_v67 (F := Ideal) x5 (ix3 b n d) = x5 (ix3 b 3 d) := by
  pointwise [val_main_v67, val_main_v60, val_main_v59, val_main_v21]
theorem m4 : val_main_v65 (F := Ideal) x5 (ix3 b n d) = 1 + x5 (ix3 b 4 d) := by
  pointwise [val_main_v65, val_main_v64, val_main_v63, val_main_cst_8, val_main_v62, val_main_v61, val_main_v21]
theorem m5 : val_main_v102 (F := Ideal) x5 (ix3 b n d) = x5 (ix3 b 5 d) := by
  pointwise [val_main_v102, val_main_v101, val_main_v100, val_main_v21]
theorem g0 : val_main_v54 (F := Ideal) x7 (ix3 b n d) = x7 (ix2 0 d) := by
  pointwise [val_main_v54, val_main_v53, val_main_v32, val_main_v31]
theorem b0 : val_main_v57 (F := Ideal) x8 (ix3 b n d) = x8 (ix2 0 d) := by
  pointwise [val_main_v57, val_main_v56, val_main_v34, val_main_v33]
theorem g1 : val_main_v128 (F := Ideal) x7 (ix3 b n d) = x7 (ix2 1 d) := by
  pointwise [val_main_v128, val_main_v127, val_main_v106, val_main_v105]
theorem b1 : val_main_v131 (F := Ideal) x8 (ix3 b n d) = x8 (ix2 1 d) := by
  pointwise [val_main_v131, val_main_v130, val_main_v108, val_main_v107]
theorem w0 : val_main_v77 (F := Ideal) x10 (ix3 b n k) = x10 (ix2 0 k) := by
  pointwise [val_main_v77, val_main_v76, val_main_v75, val_main_v74]
theorem w1 : val_main_v82 (F := Ideal) x10 (ix3 b n k) = x10 (ix2 1 k) := by
  pointwise [val_main_v82, val_main_v81, val_main_v80, val_main_v79]
theorem w2 : val_main_v89 (F := Ideal) x10 (ix3 b n k) = x10 (ix2 2 k) := by
  pointwise [val_main_v89, val_main_v88, val_main_v87, val_main_v86]
theorem cb : val_main_v93 (F := Ideal) x11 (ix3 b n k) = x11 (ix1 k) := by
  pointwise [val_main_v93, val_main_v92]
/-- The gates, a zero row before and after them. -/
theorem padded (q : Fin 8194) : val_main_v72 (F := Ideal) x0 x1 x2 x3 x4 x5 x6 x7 x8 x9 (ix3 b q k) =
    if h : 1 ≤ q.val ∧ q.val ≤ 8192 then val_main_v71 (F := Ideal) x0 x1 x2 x3 x4 x5 x6 x7 x8 x9 (ix3 b ⟨q.val - 1, by omega⟩ k) else 0 := by
  unfold val_main_v72
  generalize val_main_v71 (F := Ideal) x0 x1 x2 x3 x4 x5 x6 x7 x8 x9 = y
  pointwise [val_main_call1_v0, val_main_c]
  have e0 : FloatOps.sitofp (F := Ideal) (w := 32) .f32 0#32 = (0 : EReal) := by
    show (((0#32 : BitVec 32).toInt : ℝ) : EReal) = 0
    simp
  by_cases h : 1 ≤ q.val ∧ q.val ≤ 8192
  · rw [dif_pos h, dif_pos (show 1 ≤ q.val ∧ q.val - 1 < 8192 by omega)]
  · rw [dif_neg h, dif_neg (show ¬(1 ≤ q.val ∧ q.val - 1 < 8192) by omega)]
    exact e0

theorem add_ops (x y : EReal) : FloatOps.addf (F := Ideal) (φ := .f32) x y = x + y := rfl
theorem sub_ops (x y : EReal) : FloatOps.subf (F := Ideal) (φ := .f32) x y = x - y := rfl
theorem mul_ops (x y : EReal) : FloatOps.mulf (F := Ideal) (φ := .f32) x y = x * y := rfl
theorem div_ops (x y : EReal) : FloatOps.hostDivf (F := Ideal) (φ := .f32) x y = Ideal.div x y := rfl
theorem rsqrt_ops (x : EReal) : FloatOps.hostUnary (F := Ideal) (φ := .f32) .rsqrt x = Ideal.rsqrt x := rfl
theorem lit_ops (w : BitVec 32) : FloatOps.ofBits (F := Ideal) .f32 w = Ideal.ofBits .f32 w := rfl
theorem zero_lit : Ideal.ofBits .f32 0x00000000#32 = (0 : EReal) := by simp

variable (h : Fin 8) (e : Fin 128) (f : Fin 1024)

theorem sum_apply : val_main_v3 (F := Ideal) x0 x1 (ix4 b n h e) = x0 (ix4 b h n e) + x1 (ix4 b h n e) := by
  pointwise [val_main_v3, val_main_v2, val_main_v1, val_main_v0]
theorem gain_apply : val_main_v15 (F := Ideal) x3 (ix4 b n h e) = x3 (ix1 e) := by
  pointwise [val_main_v15, val_main_v14]
theorem gate_apply : val_main_v18 (F := Ideal) x2 (ix4 b n h e) = x2 (ix2 ⟨8192 * b.val + n.val, by omega⟩ ⟨128 * h.val + e.val, by omega⟩) := by
  rw [val_main_v18_apply, val_main_v17_apply]
  refine congrArg x2 (funext fun a => match a with
    | ⟨0, _⟩ => Fin.ext ?_
    | ⟨1, _⟩ => Fin.ext ?_)
  · show (((b.val * 8192 + n.val) * 8 + h.val) * 128 + e.val) / 1024 = 8192 * b.val + n.val
    omega
  · show (((b.val * 8192 + n.val) * 8 + h.val) * 128 + e.val) % 1024 = 128 * h.val + e.val
    omega

theorem head_i6 : idx_main_v6 (ix4 b n h (0 : Fin 1)) = ix3 b n h := funext fun a => match a with | ⟨0, _⟩ => rfl | ⟨1, _⟩ => rfl | ⟨2, _⟩ => rfl
theorem head_i5 : idx_main_v5 (ix3 b n h) e = ix4 b n h e := funext fun a => match a with | ⟨0, _⟩ => rfl | ⟨1, _⟩ => rfl | ⟨2, _⟩ => rfl | ⟨3, _⟩ => rfl
theorem head_i12 : idx_main_v12 (ix4 b n h e) = ix4 b n h (0 : Fin 1) := funext fun a => match a with | ⟨0, _⟩ => rfl | ⟨1, _⟩ => rfl | ⟨2, _⟩ => rfl | ⟨3, _⟩ => rfl

/-- One over the root of the mean of a head's squares. -/
theorem rms_apply : val_main_v11 (F := Ideal) x0 x1 (ix4 b n h (0 : Fin 1)) =
    Ideal.rsqrt (Ideal.div (∑ e, (x0 (ix4 b h n e) + x1 (ix4 b h n e)) * (x0 (ix4 b h n e) + x1 (ix4 b h n e))) (Ideal.ofBits .f32 0x43000000#32) + Ideal.ofBits .f32 0x3727C5AC#32) := by
  rw [val_main_v11_apply, val_main_v10_apply, val_main_v8_apply, val_main_v6_apply, head_i6, val_main_v5_apply, val_main_cst_apply, val_main_v7_apply, val_main_cst_0_apply,
    val_main_v9_apply, val_main_cst_1_apply, rsqrt_ops, add_ops, div_ops, lit_ops, lit_ops, lit_ops, zero_lit, zero_add]
  simp only [head_i5, val_main_v4_apply, sum_apply, mul_ops]

theorem one_bits : Ideal.ofBits .f32 0x3F800000#32 = (1 : EReal) := by simp

/-- One channel of a gated head. -/
theorem gated_apply : val_main_v20 (F := Ideal) x0 x1 x2 x3 (ix4 b n h e) =
    gatedEl (fun e => x0 (ix4 b h n e) + x1 (ix4 b h n e)) (fun e => x3 (ix1 e)) (x2 (ix2 ⟨8192 * b.val + n.val, by omega⟩ ⟨128 * h.val + e.val, by omega⟩)) e := by
  rw [val_main_v20_apply, val_main_v16_apply, val_main_v13_apply, val_main_v12_apply, head_i12, rms_apply, sum_apply, gain_apply, val_main_v19_apply, val_main_call0_v5_apply,
    val_main_call0_v4_apply, val_main_call0_cst_0_apply, val_main_call0_v3_apply, val_main_call0_v2_apply, val_main_call0_cst_apply, val_main_call0_v1_apply,
    val_main_call0_v0_apply, gate_apply, lit_ops, one_bits]
  rfl

/-- The gated heads of a token, side by side. -/
theorem row_apply : val_main_v22 (F := Ideal) x0 x1 x2 x3 (ix3 b n f) = gatedArr x0 x1 x2 x3 (ix3 b f n) := by
  rw [val_main_v22_apply]
  refine (congrArg (val_main_v20 (F := Ideal) x0 x1 x2 x3)
    (?_ : _ = ix4 (n0 := 8) (n1 := 8192) (n2 := 8) (n3 := 128) b n ⟨f.val / 128, by omega⟩ ⟨f.val % 128, by omega⟩)).trans ?_
  · refine funext fun a => match a with
      | ⟨0, _⟩ => Fin.ext ?_
      | ⟨1, _⟩ => Fin.ext ?_
      | ⟨2, _⟩ => Fin.ext ?_
      | ⟨3, _⟩ => Fin.ext ?_
    · show ((b.val * 8192 + n.val) * 1024 + f.val) / 8388608 = b.val
      omega
    · show ((b.val * 8192 + n.val) * 1024 + f.val) / 1024 % 8192 = n.val
      omega
    · show ((b.val * 8192 + n.val) * 1024 + f.val) / 128 % 8 = f.val / 128
      omega
    · show ((b.val * 8192 + n.val) * 1024 + f.val) % 128 = f.val % 128
      omega
  · refine (gated_apply x0 x1 x2 x3 b n _ _).trans ?_
    have ef : (⟨128 * (f.val / 128) + f.val % 128, by omega⟩ : Fin 1024) = f := Fin.ext (by show 128 * (f.val / 128) + f.val % 128 = f.val; omega)
    exact congrArg (fun u : Fin 1024 => gatedEl (fun e => x0 (ix4 b ⟨f.val / 128, by omega⟩ n e) + x1 (ix4 b ⟨f.val / 128, by omega⟩ n e)) (fun e => x3 (ix1 e)) (x2 (ix2 ⟨8192 * b.val + n.val, by omega⟩ u)) ⟨f.val % 128, by omega⟩) ef

theorem res0 : val_main_v30 (F := Ideal) x0 x1 x2 x3 x4 x5 x6 (ix3 b n d) =
    resEl (fun d => x4 (ix3 b n d)) (fun d => x5 (ix3 b 2 d)) (fun d => ∑ f, gatedArr x0 x1 x2 x3 (ix3 b f n) * x6 (ix2 f d)) d := by
  rw [val_main_v30_apply, val_main_v29_apply, m2, val_main_v25_apply, val_main_v24_apply, val_main_cst_2_apply, val_main_v23_apply, add_ops, mul_ops, mul_ops, lit_ops]
  unfold resEl
  refine congrArg (fun u => alpha * x4 (ix3 b n d) + x5 (ix3 b 2 d) * u) ?_
  refine Finset.sum_congr rfl fun f _ => congrArg₂ (· * ·) ?_ ?_
  · refine (congrArg (val_main_v22 (F := Ideal) x0 x1 x2 x3) ?_).trans (row_apply x0 x1 x2 x3 b n f)
    exact funext fun a => match a with | ⟨0, _⟩ => rfl | ⟨1, _⟩ => rfl | ⟨2, _⟩ => rfl
  · exact congrArg x6 (funext fun a => match a with | ⟨0, _⟩ => rfl | ⟨1, _⟩ => rfl)

theorem first_i15 : idx_main_v36 (ix3 b n (0 : Fin 1)) = ix2 b n := funext fun a => match a with | ⟨0, _⟩ => rfl | ⟨1, _⟩ => rfl
theorem first_i22 : idx_main_v43 (ix3 b n (0 : Fin 1)) = ix2 b n := funext fun a => match a with | ⟨0, _⟩ => rfl | ⟨1, _⟩ => rfl
theorem first_i14 : idx_main_v35 (ix2 b n) d = ix3 b n d := funext fun a => match a with | ⟨0, _⟩ => rfl | ⟨1, _⟩ => rfl | ⟨2, _⟩ => rfl
theorem first_i21 : idx_main_v42 (ix2 b n) d = ix3 b n d := funext fun a => match a with | ⟨0, _⟩ => rfl | ⟨1, _⟩ => rfl | ⟨2, _⟩ => rfl
theorem first_i18 : idx_main_v39 (ix3 b n d) = ix3 b n (0 : Fin 1) := funext fun a => match a with | ⟨0, _⟩ => rfl | ⟨1, _⟩ => rfl | ⟨2, _⟩ => rfl
theorem first_i25 : idx_main_v46 (ix3 b n d) = ix3 b n (0 : Fin 1) := funext fun a => match a with | ⟨0, _⟩ => rfl | ⟨1, _⟩ => rfl | ⟨2, _⟩ => rfl
theorem first_i30 : idx_main_v51 (ix3 b n d) = ix3 b n (0 : Fin 1) := funext fun a => match a with | ⟨0, _⟩ => rfl | ⟨1, _⟩ => rfl | ⟨2, _⟩ => rfl

/-- The mean of a row. -/
theorem first_mean : val_main_v38 (F := Ideal) x0 x1 x2 x3 x4 x5 x6 (ix3 b n (0 : Fin 1)) = meanEl (fun d => val_main_v30 (F := Ideal) x0 x1 x2 x3 x4 x5 x6 (ix3 b n d)) := by
  rw [val_main_v38_apply, val_main_v36_apply, first_i15, val_main_v35_apply, val_main_cst_3_apply, val_main_v37_apply, val_main_cst_4_apply,
    div_ops, lit_ops, lit_ops, zero_lit, zero_add]
  simp only [first_i14]
  rfl

/-- The mean of the squared deviations of a row. -/
theorem first_var : val_main_v45 (F := Ideal) x0 x1 x2 x3 x4 x5 x6 (ix3 b n (0 : Fin 1)) =
    meanEl (fun d => (val_main_v30 (F := Ideal) x0 x1 x2 x3 x4 x5 x6 (ix3 b n d) - meanEl (fun d => val_main_v30 (F := Ideal) x0 x1 x2 x3 x4 x5 x6 (ix3 b n d))) *
      (val_main_v30 (F := Ideal) x0 x1 x2 x3 x4 x5 x6 (ix3 b n d) - meanEl (fun d => val_main_v30 (F := Ideal) x0 x1 x2 x3 x4 x5 x6 (ix3 b n d)))) := by
  rw [val_main_v45_apply, val_main_v43_apply, first_i22, val_main_v42_apply, val_main_cst_5_apply, val_main_v44_apply, val_main_cst_6_apply,
    div_ops, lit_ops, lit_ops, zero_lit, zero_add]
  unfold meanEl
  refine congrArg (fun u => Ideal.div u _) (Finset.sum_congr rfl fun d _ => ?_)
  rw [first_i21, val_main_v41_apply, val_main_v40_apply, val_main_v39_apply, first_i18, first_mean, mul_ops, sub_ops]
  rfl

/-- A row after the layer norm. -/
theorem first_apply : val_main_v58 (F := Ideal) x0 x1 x2 x3 x4 x5 x6 x7 x8 (ix3 b n d) =
    normEl (fun d => val_main_v30 (F := Ideal) x0 x1 x2 x3 x4 x5 x6 (ix3 b n d)) (fun d => x7 (ix2 0 d)) (fun d => x8 (ix2 0 d)) d := by
  rw [val_main_v58_apply, val_main_v55_apply, g0, b0, val_main_v52_apply, val_main_v51_apply, first_i30, val_main_v50_apply, val_main_v49_apply,
    val_main_v48_apply, val_main_cst_7_apply, first_var, val_main_v47_apply, val_main_v46_apply, first_i25, first_mean, add_ops, add_ops, mul_ops, mul_ops, sub_ops,
    rsqrt_ops, lit_ops]
  rfl

/-- The arguments as one. -/
def args : Args := ⟨gatedArr x0 x1 x2 x3, x4, x5, x6, x7, x8, x9, x10, x11, x12⟩

theorem xm_apply : val_main_v58 (F := Ideal) x0 x1 x2 x3 x4 x5 x6 x7 x8 (ix3 b n d) = xmA (args x0 x1 x2 x3 x4 x5 x6 x7 x8 x9 x10 x11 x12) b n d := by
  rw [first_apply]
  unfold xmA xmEl
  refine congrArg (fun v => normEl v _ _ d) (funext fun d => ?_)
  exact res0 x0 x1 x2 x3 x4 x5 x6 b n d

theorem h_apply : val_main_v68 (F := Ideal) x0 x1 x2 x3 x4 x5 x6 x7 x8 (ix3 b n d) = hA (args x0 x1 x2 x3 x4 x5 x6 x7 x8 x9 x10 x11 x12) b n d := by
  rw [val_main_v68_apply, val_main_v66_apply, m3, m4, xm_apply x0 x1 x2 x3 x4 x5 x6 x7 x8 x9 x10 x11 x12]
  rfl

theorem up_apply (c : Fin 5632) : val_main_v69 (F := Ideal) x0 x1 x2 x3 x4 x5 x6 x7 x8 x9 (ix3 b n c) =
    dotEl (hA (args x0 x1 x2 x3 x4 x5 x6 x7 x8 x9 x10 x11 x12) b n) (fun d => x9 (ix2 d c)) := by
  rw [val_main_v69_apply]
  unfold dotEl
  refine Finset.sum_congr rfl fun d _ => congrArg₂ (· * ·) ?_ ?_
  · refine (congrArg (val_main_v68 (F := Ideal) x0 x1 x2 x3 x4 x5 x6 x7 x8) ?_).trans (h_apply x0 x1 x2 x3 x4 x5 x6 x7 x8 x9 x10 x11 x12 b n d)
    exact funext fun a => match a with | ⟨0, _⟩ => rfl | ⟨1, _⟩ => rfl | ⟨2, _⟩ => rfl
  · exact congrArg x9 (funext fun a => match a with | ⟨0, _⟩ => rfl | ⟨1, _⟩ => rfl)

theorem v_apply : val_main_v70 (F := Ideal) x0 x1 x2 x3 x4 x5 x6 x7 x8 x9 (ix3 b n k) = vA (args x0 x1 x2 x3 x4 x5 x6 x7 x8 x9 x10 x11 x12) b n k := by
  rw [val_main_v70_apply]
  refine (congrArg (val_main_v69 (F := Ideal) x0 x1 x2 x3 x4 x5 x6 x7 x8 x9) ?_).trans (up_apply x0 x1 x2 x3 x4 x5 x6 x7 x8 x9 x10 x11 x12 b n ⟨k.val, by omega⟩)
  exact funext fun a => match a with | ⟨0, _⟩ => rfl | ⟨1, _⟩ => rfl | ⟨2, _⟩ => rfl

theorem g_apply : val_main_v71 (F := Ideal) x0 x1 x2 x3 x4 x5 x6 x7 x8 x9 (ix3 b n k) = gA (args x0 x1 x2 x3 x4 x5 x6 x7 x8 x9 x10 x11 x12) b n k := by
  rw [val_main_v71_apply]
  refine (congrArg (val_main_v69 (F := Ideal) x0 x1 x2 x3 x4 x5 x6 x7 x8 x9) ?_).trans (up_apply x0 x1 x2 x3 x4 x5 x6 x7 x8 x9 x10 x11 x12 b n ⟨2816 + k.val, by omega⟩)
  exact funext fun a => match a with | ⟨0, _⟩ => rfl | ⟨1, _⟩ => rfl | ⟨2, _⟩ => rfl

theorem pad_gate (q : Fin 8194) : val_main_v72 (F := Ideal) x0 x1 x2 x3 x4 x5 x6 x7 x8 x9 (ix3 b q k) = gPad (args x0 x1 x2 x3 x4 x5 x6 x7 x8 x9 x10 x11 x12) b q.val k := by
  rw [padded]
  unfold gPad
  by_cases h : 1 ≤ q.val ∧ q.val ≤ 8192
  · rw [dif_pos h, dif_pos h, g_apply x0 x1 x2 x3 x4 x5 x6 x7 x8 x9 x10 x11 x12]
  · rw [dif_neg h, dif_neg h]

theorem before_gate : val_main_v73 (F := Ideal) x0 x1 x2 x3 x4 x5 x6 x7 x8 x9 (ix3 b n k) = gPad (args x0 x1 x2 x3 x4 x5 x6 x7 x8 x9 x10 x11 x12) b n.val k := by
  rw [val_main_v73_apply]
  refine (congrArg (val_main_v72 (F := Ideal) x0 x1 x2 x3 x4 x5 x6 x7 x8 x9) ?_).trans (pad_gate x0 x1 x2 x3 x4 x5 x6 x7 x8 x9 x10 x11 x12 b k ⟨n.val, by omega⟩)
  exact funext fun a => match a with | ⟨0, _⟩ => rfl | ⟨1, _⟩ => rfl | ⟨2, _⟩ => rfl

theorem own_gate : val_main_v71 (F := Ideal) x0 x1 x2 x3 x4 x5 x6 x7 x8 x9 (ix3 b n k) = gPad (args x0 x1 x2 x3 x4 x5 x6 x7 x8 x9 x10 x11 x12) b (n.val + 1) k := by
  rw [g_apply x0 x1 x2 x3 x4 x5 x6 x7 x8 x9 x10 x11 x12]
  unfold gPad
  rw [dif_pos (show 1 ≤ n.val + 1 ∧ n.val + 1 ≤ 8192 by omega)]
  rfl

theorem after_gate : val_main_v85 (F := Ideal) x0 x1 x2 x3 x4 x5 x6 x7 x8 x9 (ix3 b n k) = gPad (args x0 x1 x2 x3 x4 x5 x6 x7 x8 x9 x10 x11 x12) b (n.val + 2) k := by
  rw [val_main_v85_apply]
  refine (congrArg (val_main_v72 (F := Ideal) x0 x1 x2 x3 x4 x5 x6 x7 x8 x9) ?_).trans ((pad_gate x0 x1 x2 x3 x4 x5 x6 x7 x8 x9 x10 x11 x12 b k ⟨2 + n.val, by omega⟩).trans ?_)
  · exact funext fun a => match a with | ⟨0, _⟩ => rfl | ⟨1, _⟩ => rfl | ⟨2, _⟩ => rfl
  · exact congrArg (fun q => gPad (args x0 x1 x2 x3 x4 x5 x6 x7 x8 x9 x10 x11 x12) b q k) (Nat.add_comm 2 n.val)

theorem conv_apply : val_main_v94 (F := Ideal) x0 x1 x2 x3 x4 x5 x6 x7 x8 x9 x10 x11 (ix3 b n k) =
    convEl (gPad (args x0 x1 x2 x3 x4 x5 x6 x7 x8 x9 x10 x11 x12) b n.val k) (gPad (args x0 x1 x2 x3 x4 x5 x6 x7 x8 x9 x10 x11 x12) b (n.val + 1) k)
      (gPad (args x0 x1 x2 x3 x4 x5 x6 x7 x8 x9 x10 x11 x12) b (n.val + 2) k) (x10 (ix2 0 k)) (x10 (ix2 1 k)) (x10 (ix2 2 k)) (x11 (ix1 k)) := by
  rw [val_main_v94_apply, val_main_v91_apply, val_main_v90_apply, val_main_v84_apply, val_main_v83_apply, val_main_v78_apply, w0, w1, w2, cb,
    before_gate x0 x1 x2 x3 x4 x5 x6 x7 x8 x9 x10 x11 x12, own_gate x0 x1 x2 x3 x4 x5 x6 x7 x8 x9 x10 x11 x12, after_gate x0 x1 x2 x3 x4 x5 x6 x7 x8 x9 x10 x11 x12]
  simp only [add_ops, mul_ops]
  unfold convEl
  rw [mul_comm _ (x10 (ix2 0 k)), mul_comm _ (x10 (ix2 1 k)), mul_comm _ (x10 (ix2 2 k))]

theorem one_lit : Ideal.ofBits .f32 0x3F800000#32 = (1 : EReal) := by simp

theorem act_apply : val_main_v96 (F := Ideal) x0 x1 x2 x3 x4 x5 x6 x7 x8 x9 x10 x11 (ix3 b n k) = actA (args x0 x1 x2 x3 x4 x5 x6 x7 x8 x9 x10 x11 x12) b n k := by
  rw [val_main_v96_apply, val_main_v95_apply, val_main_call2_v5_apply, val_main_call2_v4_apply, val_main_call2_cst_0_apply, val_main_call2_v3_apply,
    val_main_call2_v2_apply, val_main_call2_cst_apply, val_main_call2_v1_apply, val_main_call2_v0_apply, conv_apply x0 x1 x2 x3 x4 x5 x6 x7 x8 x9 x10 x11 x12,
    v_apply x0 x1 x2 x3 x4 x5 x6 x7 x8 x9 x10 x11 x12, lit_ops, one_lit]
  rfl

theorem res1 : val_main_v104 (F := Ideal) x0 x1 x2 x3 x4 x5 x6 x7 x8 x9 x10 x11 x12 (ix3 b n d) =
    resEl (xmA (args x0 x1 x2 x3 x4 x5 x6 x7 x8 x9 x10 x11 x12) b n) (fun d => x5 (ix3 b 5 d))
      (fun d => ∑ k, actA (args x0 x1 x2 x3 x4 x5 x6 x7 x8 x9 x10 x11 x12) b n k * x12 (ix2 k d)) d := by
  rw [val_main_v104_apply, val_main_v103_apply, m5, val_main_v99_apply, val_main_v98_apply, val_main_cst_9_apply, xm_apply x0 x1 x2 x3 x4 x5 x6 x7 x8 x9 x10 x11 x12,
    val_main_v97_apply, add_ops, mul_ops, mul_ops, lit_ops]
  unfold resEl
  refine congrArg (fun u => alpha * xmA (args x0 x1 x2 x3 x4 x5 x6 x7 x8 x9 x10 x11 x12) b n d + x5 (ix3 b 5 d) * u) ?_
  refine Finset.sum_congr rfl fun k _ => congrArg₂ (· * ·) ?_ ?_
  · refine (congrArg (val_main_v96 (F := Ideal) x0 x1 x2 x3 x4 x5 x6 x7 x8 x9 x10 x11) ?_).trans (act_apply x0 x1 x2 x3 x4 x5 x6 x7 x8 x9 x10 x11 x12 b n k)
    exact funext fun a => match a with | ⟨0, _⟩ => rfl | ⟨1, _⟩ => rfl | ⟨2, _⟩ => rfl
  · exact congrArg x12 (funext fun a => match a with | ⟨0, _⟩ => rfl | ⟨1, _⟩ => rfl)

theorem last_i15 : idx_main_v110 (ix3 b n (0 : Fin 1)) = ix2 b n := funext fun a => match a with | ⟨0, _⟩ => rfl | ⟨1, _⟩ => rfl
theorem last_i22 : idx_main_v117 (ix3 b n (0 : Fin 1)) = ix2 b n := funext fun a => match a with | ⟨0, _⟩ => rfl | ⟨1, _⟩ => rfl
theorem last_i14 : idx_main_v109 (ix2 b n) d = ix3 b n d := funext fun a => match a with | ⟨0, _⟩ => rfl | ⟨1, _⟩ => rfl | ⟨2, _⟩ => rfl
theorem last_i21 : idx_main_v116 (ix2 b n) d = ix3 b n d := funext fun a => match a with | ⟨0, _⟩ => rfl | ⟨1, _⟩ => rfl | ⟨2, _⟩ => rfl
theorem last_i18 : idx_main_v113 (ix3 b n d) = ix3 b n (0 : Fin 1) := funext fun a => match a with | ⟨0, _⟩ => rfl | ⟨1, _⟩ => rfl | ⟨2, _⟩ => rfl
theorem last_i25 : idx_main_v120 (ix3 b n d) = ix3 b n (0 : Fin 1) := funext fun a => match a with | ⟨0, _⟩ => rfl | ⟨1, _⟩ => rfl | ⟨2, _⟩ => rfl
theorem last_i30 : idx_main_v125 (ix3 b n d) = ix3 b n (0 : Fin 1) := funext fun a => match a with | ⟨0, _⟩ => rfl | ⟨1, _⟩ => rfl | ⟨2, _⟩ => rfl

/-- The mean of a row. -/
theorem last_mean : val_main_v112 (F := Ideal) x0 x1 x2 x3 x4 x5 x6 x7 x8 x9 x10 x11 x12 (ix3 b n (0 : Fin 1)) = meanEl (fun d => val_main_v104 (F := Ideal) x0 x1 x2 x3 x4 x5 x6 x7 x8 x9 x10 x11 x12 (ix3 b n d)) := by
  rw [val_main_v112_apply, val_main_v110_apply, last_i15, val_main_v109_apply, val_main_cst_10_apply, val_main_v111_apply, val_main_cst_11_apply,
    div_ops, lit_ops, lit_ops, zero_lit, zero_add]
  simp only [last_i14]
  rfl

/-- The mean of the squared deviations of a row. -/
theorem last_var : val_main_v119 (F := Ideal) x0 x1 x2 x3 x4 x5 x6 x7 x8 x9 x10 x11 x12 (ix3 b n (0 : Fin 1)) =
    meanEl (fun d => (val_main_v104 (F := Ideal) x0 x1 x2 x3 x4 x5 x6 x7 x8 x9 x10 x11 x12 (ix3 b n d) - meanEl (fun d => val_main_v104 (F := Ideal) x0 x1 x2 x3 x4 x5 x6 x7 x8 x9 x10 x11 x12 (ix3 b n d))) *
      (val_main_v104 (F := Ideal) x0 x1 x2 x3 x4 x5 x6 x7 x8 x9 x10 x11 x12 (ix3 b n d) - meanEl (fun d => val_main_v104 (F := Ideal) x0 x1 x2 x3 x4 x5 x6 x7 x8 x9 x10 x11 x12 (ix3 b n d)))) := by
  rw [val_main_v119_apply, val_main_v117_apply, last_i22, val_main_v116_apply, val_main_cst_12_apply, val_main_v118_apply, val_main_cst_13_apply,
    div_ops, lit_ops, lit_ops, zero_lit, zero_add]
  unfold meanEl
  refine congrArg (fun u => Ideal.div u _) (Finset.sum_congr rfl fun d _ => ?_)
  rw [last_i21, val_main_v115_apply, val_main_v114_apply, val_main_v113_apply, last_i18, last_mean, mul_ops, sub_ops]
  rfl

/-- A row after the layer norm. -/
theorem last_apply : val_main_v132 (F := Ideal) x0 x1 x2 x3 x4 x5 x6 x7 x8 x9 x10 x11 x12 (ix3 b n d) =
    normEl (fun d => val_main_v104 (F := Ideal) x0 x1 x2 x3 x4 x5 x6 x7 x8 x9 x10 x11 x12 (ix3 b n d)) (fun d => x7 (ix2 1 d)) (fun d => x8 (ix2 1 d)) d := by
  rw [val_main_v132_apply, val_main_v129_apply, g1, b1, val_main_v126_apply, val_main_v125_apply, last_i30, val_main_v124_apply, val_main_v123_apply,
    val_main_v122_apply, val_main_cst_14_apply, last_var, val_main_v121_apply, val_main_v120_apply, last_i25, last_mean, add_ops, add_ops, mul_ops, mul_ops, sub_ops,
    rsqrt_ops, lit_ops]
  rfl

/-- The reference's result. -/
theorem out_eq : val_main_v133 (F := Ideal) x0 x1 x2 x3 x4 x5 x6 x7 x8 x9 x10 x11 x12 = outArr (args x0 x1 x2 x3 x4 x5 x6 x7 x8 x9 x10 x11 x12) := by
  funext y
  have h0 : (y 0).val < 65536 := (y 0).isLt
  have h1 : (y 1).val < 1024 := (y 1).isLt
  rw [val_main_v133_apply]
  refine (congrArg (val_main_v132 (F := Ideal) x0 x1 x2 x3 x4 x5 x6 x7 x8 x9 x10 x11 x12)
    (?_ : _ = ix3 (n0 := 8) (n1 := 8192) (n2 := 1024) ⟨(y 0).val / 8192, by omega⟩ ⟨(y 0).val % 8192, by omega⟩ (y 1))).trans ?_
  · refine funext fun a => match a with
      | ⟨0, _⟩ => Fin.ext ?_
      | ⟨1, _⟩ => Fin.ext ?_
      | ⟨2, _⟩ => Fin.ext ?_
    · show ((y 0).val * 1024 + (y 1).val) / 8388608 = (y 0).val / 8192
      omega
    · show ((y 0).val * 1024 + (y 1).val) / 1024 % 8192 = (y 0).val % 8192
      omega
    · show ((y 0).val * 1024 + (y 1).val) % 1024 = (y 1).val
      omega
  refine (last_apply x0 x1 x2 x3 x4 x5 x6 x7 x8 x9 x10 x11 x12 _ _ _).trans ?_
  unfold outArr outA outEl
  refine congrArg (fun v => normEl v _ _ (y 1)) (funext fun d => ?_)
  exact res1 x0 x1 x2 x3 x4 x5 x6 x7 x8 x9 x10 x11 x12 _ _ d

end Cert.GdnRef
end
-- ==== Proof.GdnClaim.lean ====
module

public import proofs.«01_k».proof.Defs
public import proofs.«01_k».proof.Proof.GdnOut
public import proofs.«01_k».proof.Proof.GdnRef
public import proofs.«01_k».proof.Proof.Gen.GdnIdeal.Value
public import Idealize.ShloMosaic.Adequacy
public import Idealize.ShloMosaic.Init

@[expose] public section

noncomputable section

namespace Cert.GdnClaim

open Idealize.ShloMosaic Idealize.SL.Sem Idealize.ShloMosaic.StableHlo

/-- The reference of the mixing step after a scan of eight heads terminates and leaves its arguments and the counters as they were. -/
theorem frame_ri : Cert.quiescent_GdnReferenceIdeal := fun m ρ _ =>
  (θ_run Cert.GdnReferenceIdeal.defs _ _).mono (fun r h => ⟨fun c => (h c).2, Idealize.ShloMosaic.sem_eq_zero_of_no_sems (by decide) r.2⟩)
    (Cert.GdnReferenceIdeal.Value.run (F := Ideal) m ρ)

/-- The kernel and the reference of the mixing step after a scan of eight heads end with the same array, from arguments that agree. -/
theorem algebraic : Cert.algebraic_GdnIdeal_GdnReferenceIdeal := by
  intro m ρ m' ρ' _ hagree
  refine ⟨fun c => (Cert.GdnIdeal.Gen.dats m 0 c).arrAt 23 Cert.GdnIdeal.cfg0.N, Cert.GdnIdeal.Value.run_blocks (F := Ideal) m ρ, ?_⟩
  refine (θ_run Cert.GdnReferenceIdeal.defs _ _).mono (fun r h c => ⟨(h c).1.trans ?_, (h c).2⟩)
    (Cert.GdnReferenceIdeal.Value.run (F := Ideal) m' ρ')
  obtain ⟨e0, e1, e2, e3, e4, e5, e6, e7, e8, e9, e10, e11, e12⟩ := hagree c
  refine (Cert.GdnReferenceIdeal.Read.val_main_v133_eq (launchContents m' c)).trans ?_
  have a0 : launchContents m' c (Proc.devRef .tc Cert.GdnReferenceIdeal.main_arg0) = _ := e0
  have a1 : launchContents m' c (Proc.devRef .tc Cert.GdnReferenceIdeal.main_arg1) = _ := e1
  have a2 : launchContents m' c (Proc.devRef .tc Cert.GdnReferenceIdeal.main_arg2) = _ := e2
  have a3 : launchContents m' c (Proc.devRef .tc Cert.GdnReferenceIdeal.main_arg3) = _ := e3
  have a4 : launchContents m' c (Proc.devRef .tc Cert.GdnReferenceIdeal.main_arg4) = _ := e4
  have a5 : launchContents m' c (Proc.devRef .tc Cert.GdnReferenceIdeal.main_arg5) = _ := e5
  have a6 : launchContents m' c (Proc.devRef .tc Cert.GdnReferenceIdeal.main_arg6) = _ := e6
  have a7 : launchContents m' c (Proc.devRef .tc Cert.GdnReferenceIdeal.main_arg7) = _ := e7
  have a8 : launchContents m' c (Proc.devRef .tc Cert.GdnReferenceIdeal.main_arg8) = _ := e8
  have a9 : launchContents m' c (Proc.devRef .tc Cert.GdnReferenceIdeal.main_arg9) = _ := e9
  have a10 : launchContents m' c (Proc.devRef .tc Cert.GdnReferenceIdeal.main_arg10) = _ := e10
  have a11 : launchContents m' c (Proc.devRef .tc Cert.GdnReferenceIdeal.main_arg11) = _ := e11
  have a12 : launchContents m' c (Proc.devRef .tc Cert.GdnReferenceIdeal.main_arg12) = _ := e12
  rw [a0, a1, a2, a3, a4, a5, a6, a7, a8, a9, a10, a11, a12]
  exact (Cert.GdnRef.out_eq _ _ _ _ _ _ _ _ _ _ _ _ _).trans (Cert.GdnOut.arr_eq m c).symm

end Cert.GdnClaim

end
-- ==== Proof.GlaMath.lean ====
module

public import proofs.«01_k».proof.Proof.Gen.MixIdeal.Skeleton
public import proofs.«01_k».proof.Proof.MixMath

@[expose] public section

set_option maxRecDepth 16384

noncomputable section

namespace Cert.GlaMath

open Idealize.ShloMosaic

/-- One channel of a head after the root-mean-square norm over the head's 256 channels and the gate. -/
def gatedEl (o w : Fin 256 → EReal) (g : EReal) (e : Fin 256) : EReal :=
  o e * Ideal.rsqrt (Ideal.div (∑ x, o x * o x) (Ideal.ofBits .f32 0x43800000#32) + Ideal.ofBits .f32 0x3727C5AC#32) * w e * (g * Ideal.logistic g)

/-- Four heads of 256 channels a row, side by side: the channel of a row. -/
def headEl (p q : Fin 4 → Fin 256 → EReal) (w : Fin 256 → EReal) (g : EReal) (f : Fin 1024) : EReal :=
  gatedEl (fun e => p ⟨f.val / 256, by omega⟩ e + q ⟨f.val / 256, by omega⟩ e) w g ⟨f.val % 256, by omega⟩

theorem headEl_at (p q : Fin 4 → Fin 256 → EReal) (w : Fin 256 → EReal) (g : EReal) (f : Fin 1024) (h : Fin 4) (e : Fin 256) (hf : f.val = 256 * h.val + e.val) :
    headEl p q w g f = gatedEl (fun e => p h e + q h e) w g e := by
  have e1 : (⟨f.val / 256, by omega⟩ : Fin 4) = h := Fin.ext (by show f.val / 256 = h.val; omega)
  have e2 : (⟨f.val % 256, by omega⟩ : Fin 256) = e := Fin.ext (by show f.val % 256 = e.val; omega)
  unfold headEl
  rw [e1, e2]

theorem headEl_congr {p p' q q' : Fin 4 → Fin 256 → EReal} {w w' : Fin 256 → EReal} {g g' : EReal} (f : Fin 1024)
    (hp : ∀ h e, p h e = p' h e) (hq : ∀ h e, q h e = q' h e) (hw : ∀ e, w e = w' e) (hg : g = g') : headEl p q w g f = headEl p' q' w' g' f := by
  rw [show p = p' from funext fun h => funext fun e => hp h e, show q = q' from funext fun h => funext fun e => hq h e, show w = w' from funext hw, hg]

end Cert.GlaMath
end
-- ==== Proof.GlaHead.lean ====
module

public import proofs.«01_k».proof.Proof.Gen.GlaIdeal.Skeleton
public import proofs.«01_k».proof.Proof.GlaMath
public import proofs.«01_k».proof.Proof.MixHead

@[expose] public section

set_option maxRecDepth 16384

noncomputable section

namespace Cert.GlaHead

open Idealize.ShloMosaic Cert.GlaIdeal Cert.GlaIdeal.Gen Cert.MixMath Cert.GlaMath

/-- One head of the tile's rows. -/
theorem main_apply (a b : Vec Ideal S1x1x512x256 .bf16) (w : Vec Ideal S1x256 .f32) (g : Vec Ideal S512x256 .bf16) (r : Fin 512) (e : Fin 256) :
    k0_pay2 a b w g (ix2 r e) = gatedEl (fun e => a (ix4 0 0 r e) + b (ix4 0 0 r e)) (fun e => w (ix2 0 e)) (g (ix2 r e)) e := by
  pointwise [k0_pay2]
  rfl

/-- One head of the eight rows before or after the tile. -/
theorem halo_apply (a b : Vec Ideal S1x1x8x256 .bf16) (w : Vec Ideal S1x256 .f32) (g : Vec Ideal S8x256 .bf16) (r : Fin 8) (e : Fin 256) :
    k0_pay9 a b w g (ix2 r e) = gatedEl (fun e => a (ix4 0 0 r e) + b (ix4 0 0 r e)) (fun e => w (ix2 0 e)) (g (ix2 r e)) e := by
  pointwise [k0_pay9]
  rfl

/-- Four heads of the tile's rows side by side. -/
def wide (p0 p1 p2 p3 : FVec Ideal S512x256 .bf16) : FVec Ideal S512x1024 .bf16 :=
  concatenate S512x1024 1 [⟨S512x256, p0⟩, ⟨S512x256, p1⟩, ⟨S512x256, p2⟩, ⟨S512x256, p3⟩] concatenates_S512x256_S512x256_S512x256_S512x256_S512x1024_d1

theorem wide_apply (p0 p1 p2 p3 : FVec Ideal S512x256 .bf16) (G : Fin 512 → Fin 1024 → EReal)
    (h0 : ∀ r (e : Fin 256), p0 (ix2 r e) = G r ⟨0 + e.val, by omega⟩)
    (h1 : ∀ r (e : Fin 256), p1 (ix2 r e) = G r ⟨256 + e.val, by omega⟩)
    (h2 : ∀ r (e : Fin 256), p2 (ix2 r e) = G r ⟨512 + e.val, by omega⟩)
    (h3 : ∀ r (e : Fin 256), p3 (ix2 r e) = G r ⟨768 + e.val, by omega⟩)
    (r : Fin 512) (f : Fin 1024) : wide p0 p1 p2 p3 (ix2 r f) = G r f := by
  pointwise [wide]
  by_cases c0 : f.val < 256
  · exact (dif_pos c0).trans ((h0 _ _).trans (congrArg (G r) (Fin.ext (Nat.zero_add _))))
  refine (dif_neg c0).trans ?_
  by_cases c1 : f.val - 256 < 256
  · exact (dif_pos c1).trans ((h1 _ _).trans (congrArg (G r) (Fin.ext (by show 256 + (f.val - 256) = f.val; omega))))
  refine (dif_neg c1).trans ?_
  by_cases c2 : f.val - 256 - 256 < 256
  · exact (dif_pos c2).trans ((h2 _ _).trans (congrArg (G r) (Fin.ext (by show 512 + (f.val - 256 - 256) = f.val; omega))))
  refine (dif_neg c2).trans ?_
  exact (h3 _ _).trans (congrArg (G r) (Fin.ext (by show 768 + (f.val - 256 - 256 - 256) = f.val; omega)))

/-- The same of eight rows. -/
def thin (p0 p1 p2 p3 : FVec Ideal S8x256 .bf16) : FVec Ideal S8x1024 .bf16 :=
  concatenate S8x1024 1 [⟨S8x256, p0⟩, ⟨S8x256, p1⟩, ⟨S8x256, p2⟩, ⟨S8x256, p3⟩] concatenates_S8x256_S8x256_S8x256_S8x256_S8x1024_d1

theorem thin_apply (p0 p1 p2 p3 : FVec Ideal S8x256 .bf16) (G : Fin 8 → Fin 1024 → EReal)
    (h0 : ∀ r (e : Fin 256), p0 (ix2 r e) = G r ⟨0 + e.val, by omega⟩)
    (h1 : ∀ r (e : Fin 256), p1 (ix2 r e) = G r ⟨256 + e.val, by omega⟩)
    (h2 : ∀ r (e : Fin 256), p2 (ix2 r e) = G r ⟨512 + e.val, by omega⟩)
    (h3 : ∀ r (e : Fin 256), p3 (ix2 r e) = G r ⟨768 + e.val, by omega⟩)
    (r : Fin 8) (f : Fin 1024) : thin p0 p1 p2 p3 (ix2 r f) = G r f := by
  pointwise [thin]
  by_cases c0 : f.val < 256
  · exact (dif_pos c0).trans ((h0 _ _).trans (congrArg (G r) (Fin.ext (Nat.zero_add _))))
  refine (dif_neg c0).trans ?_
  by_cases c1 : f.val - 256 < 256
  · exact (dif_pos c1).trans ((h1 _ _).trans (congrArg (G r) (Fin.ext (by show 256 + (f.val - 256) = f.val; omega))))
  refine (dif_neg c1).trans ?_
  by_cases c2 : f.val - 256 - 256 < 256
  · exact (dif_pos c2).trans ((h2 _ _).trans (congrArg (G r) (Fin.ext (by show 512 + (f.val - 256 - 256) = f.val; omega))))
  refine (dif_neg c2).trans ?_
  exact (h3 _ _).trans (congrArg (G r) (Fin.ext (by show 768 + (f.val - 256 - 256 - 256) = f.val; omega)))

section chunks
variable (h : FVec Ideal S512x1024 .bf16) (H : FVec Ideal S528x1024 .bf16) (wv wg : Vec Ideal S1024x256 .bf16) (c0 c1 c2 cb : Vec Ideal S1x256 .f32)

theorem chunk0 : k0_pay39 (k0_pay36 h wv) (k0_pay37 H wg) (k0_pay38 H wg c0 c1) c2 cb = MixHead.chunk h H wv wg c0 c1 c2 cb := rfl
theorem chunk1 : k0_pay43 (k0_pay40 h wv) (k0_pay41 H wg) (k0_pay42 H wg c0 c1) c2 cb = MixHead.chunk h H wv wg c0 c1 c2 cb := rfl
theorem chunk2 : k0_pay47 (k0_pay44 h wv) (k0_pay45 H wg) (k0_pay46 H wg c0 c1) c2 527#32 cb = MixHead.chunk h H wv wg c0 c1 c2 cb := rfl
theorem chunk3 : k0_pay52 (k0_pay48 h wv) (k0_pay50 H wg c0 c1) c2 (k0_pay51 H wg) cb = MixHead.chunk h H wv wg c0 c1 c2 cb := rfl
theorem chunk4 : k0_pay57 (k0_pay53 h wv) (k0_pay55 H wg c0 c1) (k0_pay56 H wg c2) cb = MixHead.chunk h H wv wg c0 c1 c2 cb := rfl
theorem chunk5 : k0_pay60 (k0_pay58 h wv) (k0_pay59 H wg c0 c1 c2) cb = MixHead.chunk h H wv wg c0 c1 c2 cb := rfl
theorem chunk6 : k0_pay63 (k0_pay61 h wv) (k0_pay62 H wg c0 c1 c2) cb = MixHead.chunk h H wv wg c0 c1 c2 cb := rfl
theorem chunk7 : k0_pay67 (k0_pay64 h wv) (k0_pay65 H wg c0 c1 c2) (k0_pay66 cb) = MixHead.chunk h H wv wg c0 c1 c2 cb := rfl
theorem chunk8 : k0_pay71 (k0_pay68 h wv) (k0_pay69 H wg c0 c1 c2 cb) (k0_pay70 H wg c0 c1 c2 cb) = MixHead.chunk h H wv wg c0 c1 c2 cb := rfl
theorem chunk9 : k0_pay73 (k0_pay72 h wv H wg c0 c1 c2 cb) = MixHead.chunk h H wv wg c0 c1 c2 cb := rfl
theorem chunk10 : k0_pay75 (k0_pay74 h wv H wg c0 c1 c2 cb) = MixHead.chunk h H wv wg c0 c1 c2 cb := rfl
end chunks

section rows
variable (a : Vec Ideal S528x1024 .bf16) (wo : Vec Ideal S1024x1024 .bf16) (x : Vec Ideal S528x1024 .f32) (s sh sc : Vec Ideal S1x1x1024 .f32) (g b : Vec Ideal S1x1024 .f32)
variable (P : FVec Ideal S528x1024 .f32) (G : FVec Ideal S1x1024 .f32) (v : BitVec 32)

theorem x24 (y : Vec Ideal S512x1024 .f32) : k0_pay24 y = Cert.MixIdeal.Gen.k0_pay4 y := rfl
theorem x25 (y : Vec Ideal S8x1024 .f32) : k0_pay25 y = Cert.MixIdeal.Gen.k0_pay5 y := rfl
theorem x26 (y : Vec Ideal S8x1024 .f32) : k0_pay26 y = Cert.MixIdeal.Gen.k0_pay6 y := rfl
theorem p27 : k0_pay27 a wo x s = Cert.MixIdeal.Gen.k0_pay7 a wo x s := rfl
theorem p28 : k0_pay28 g = Cert.MixIdeal.Gen.k0_pay8 g := rfl
theorem xm30 : k0_pay30 P G b = Cert.MixIdeal.Gen.k0_pay10 P G b := rfl
theorem h31 : k0_pay31 P G b sh sc = Cert.MixIdeal.Gen.k0_pay11 P G b sh sc := rfl
theorem h32 : k0_pay32 P G b sh sc = Cert.MixIdeal.Gen.k0_pay12 P G b sh sc := rfl
theorem h33 : k0_pay33 P G b sh sc = Cert.MixIdeal.Gen.k0_pay13 P G b sh sc := rfl
theorem h34 (X : FVec Ideal S8x1024 .f32) : k0_pay34 v X = Cert.MixIdeal.Gen.k0_pay14 v X 0#32 := rfl
theorem h35 : k0_pay35 v P = Cert.MixIdeal.Gen.k0_pay15 v P := rfl
theorem out1 (act : Vec Ideal S512x2816 .bf16) (wd : Vec Ideal S2816x1024 .bf16) (xm : Vec Ideal S512x1024 .f32) :
    k0_pay1 (k0_pay76 act wd xm s g) (k0_pay77 b) = Cert.MixIdeal.Gen.k0_pay55 act wd xm s g b := rfl
end rows

section heads
variable (w : Vec Ideal S1x256 .f32)

theorem main1 (a b : Vec Ideal S1x1x512x256 .bf16) (g : Vec Ideal S512x256 .bf16) : k0_pay3 a b w g = k0_pay2 a b w g := rfl
theorem main2 (a b : Vec Ideal S1x1x512x256 .bf16) (g : Vec Ideal S512x256 .bf16) : k0_pay6 (k0_pay4 a b) (k0_pay5 a b) w g = k0_pay2 a b w g := rfl
theorem main_wide (p0 p1 p2 : FVec Ideal S512x256 .bf16) (a b : Vec Ideal S1x1x512x256 .bf16) (g : Vec Ideal S512x256 .bf16) :
    k0_pay8 p0 p1 p2 (k0_pay7 a b w) g = wide p0 p1 p2 (k0_pay2 a b w g) :=
  shapeCast_self (wide p0 p1 p2 (k0_pay2 a b w g)) _
theorem before1 (a b : Vec Ideal S1x1x8x256 .bf16) (g : Vec Ideal S8x256 .bf16) : k0_pay11 (k0_pay10 a) b w g = k0_pay9 a b w g := rfl
theorem before2 (a b : Vec Ideal S1x1x8x256 .bf16) (g : Vec Ideal S8x256 .bf16) : k0_pay15 (k0_pay12 a b) (k0_pay13 a b) (k0_pay14 (F := Ideal)) w g = k0_pay9 a b w g := rfl
theorem before3 (a b : Vec Ideal S1x1x8x256 .bf16) (g : Vec Ideal S8x256 .bf16) : k0_pay16 a b w g = k0_pay9 a b w g := rfl
theorem before_thin (p0 p1 p2 p3 : FVec Ideal S8x256 .bf16) : k0_pay17 p0 p1 p2 p3 = thin p0 p1 p2 p3 :=
  shapeCast_self (thin p0 p1 p2 p3) _
theorem after0 (a b : Vec Ideal S1x1x8x256 .bf16) (g : Vec Ideal S8x256 .bf16) : k0_pay18 a b w g = k0_pay9 a b w g := rfl
theorem after1 (a b : Vec Ideal S1x1x8x256 .bf16) (g : Vec Ideal S8x256 .bf16) : k0_pay20 (k0_pay19 a) b w g = k0_pay9 a b w g := rfl
theorem after_thin (p0 p1 : FVec Ideal S8x256 .bf16) (a b a' b' : Vec Ideal S1x1x8x256 .bf16) (g g' : Vec Ideal S8x256 .bf16) :
    k0_pay23 (k0_pay22 p0 p1 (k0_pay21 a b) w g a' b' w g') = thin p0 p1 (k0_pay9 a b w g) (k0_pay9 a' b' w g') :=
  shapeCast_self (thin p0 p1 (k0_pay9 a b w g) (k0_pay9 a' b' w g')) _
end heads

end Cert.GlaHead
end
-- ==== Proof.GlaRows.lean ====
module

public import proofs.«01_k».proof.Proof.GlaValueIdeal
public import proofs.«01_k».proof.Proof.GlaHead
public import proofs.«01_k».proof.Proof.MixBlock
public import Idealize.ShloMosaic.Lib.Pipeline.ValueKit
public import Idealize.ShloMosaic.Lib.Pipeline.ReadBack

@[expose] public section

set_option maxRecDepth 16384

noncomputable section

namespace Cert.GlaBlock

open Idealize.ShloMosaic Cert.GlaIdeal Cert.GlaIdeal.Gen Cert.MixMath Cert.GlaMath Cert.GlaHead

/-- The gated heads of the tile's rows. -/
def tile (a b : Vec Ideal S1x4x512x256 .bf16) (w : Vec Ideal S1x256 .f32) (g : Vec Ideal S512x1024 .bf16) : FVec Ideal S512x1024 .bf16 :=
  wide (k0_pay2 (View.ld a (Rect.unit (s := S1x4x512x256) ![0, 0, 0, 0] ![1, 1, 512, 256] inb_S1x4x512x256_S1x1x512x256_0_0_0_0)) (View.ld b (Rect.unit (s := S1x4x512x256) ![0, 0, 0, 0] ![1, 1, 512, 256] inb_S1x4x512x256_S1x1x512x256_0_0_0_0)) w (View.ld g (Rect.unit (s := S512x1024) ![0, 0] ![512, 256] inb_S512x1024_S512x256_0_0)))
    (k0_pay2 (View.ld a (Rect.unit (s := S1x4x512x256) ![0, 1, 0, 0] ![1, 1, 512, 256] inb_S1x4x512x256_S1x1x512x256_0_1_0_0)) (View.ld b (Rect.unit (s := S1x4x512x256) ![0, 1, 0, 0] ![1, 1, 512, 256] inb_S1x4x512x256_S1x1x512x256_0_1_0_0)) w (View.ld g (Rect.unit (s := S512x1024) ![0, 256] ![512, 256] inb_S512x1024_S512x256_0_256)))
    (k0_pay2 (View.ld a (Rect.unit (s := S1x4x512x256) ![0, 2, 0, 0] ![1, 1, 512, 256] inb_S1x4x512x256_S1x1x512x256_0_2_0_0)) (View.ld b (Rect.unit (s := S1x4x512x256) ![0, 2, 0, 0] ![1, 1, 512, 256] inb_S1x4x512x256_S1x1x512x256_0_2_0_0)) w (View.ld g (Rect.unit (s := S512x1024) ![0, 512] ![512, 256] inb_S512x1024_S512x256_0_512)))
    (k0_pay2 (View.ld a (Rect.unit (s := S1x4x512x256) ![0, 3, 0, 0] ![1, 1, 512, 256] inb_S1x4x512x256_S1x1x512x256_0_3_0_0)) (View.ld b (Rect.unit (s := S1x4x512x256) ![0, 3, 0, 0] ![1, 1, 512, 256] inb_S1x4x512x256_S1x1x512x256_0_3_0_0)) w (View.ld g (Rect.unit (s := S512x1024) ![0, 768] ![512, 256] inb_S512x1024_S512x256_0_768)))

theorem tile_fold (a b : Vec Ideal S1x4x512x256 .bf16) (w : Vec Ideal S1x256 .f32) (g : Vec Ideal S512x1024 .bf16) :
    wide (k0_pay2 (View.ld a (Rect.unit (s := S1x4x512x256) ![0, 0, 0, 0] ![1, 1, 512, 256] inb_S1x4x512x256_S1x1x512x256_0_0_0_0)) (View.ld b (Rect.unit (s := S1x4x512x256) ![0, 0, 0, 0] ![1, 1, 512, 256] inb_S1x4x512x256_S1x1x512x256_0_0_0_0)) w (View.ld g (Rect.unit (s := S512x1024) ![0, 0] ![512, 256] inb_S512x1024_S512x256_0_0)))
    (k0_pay2 (View.ld a (Rect.unit (s := S1x4x512x256) ![0, 1, 0, 0] ![1, 1, 512, 256] inb_S1x4x512x256_S1x1x512x256_0_1_0_0)) (View.ld b (Rect.unit (s := S1x4x512x256) ![0, 1, 0, 0] ![1, 1, 512, 256] inb_S1x4x512x256_S1x1x512x256_0_1_0_0)) w (View.ld g (Rect.unit (s := S512x1024) ![0, 256] ![512, 256] inb_S512x1024_S512x256_0_256)))
    (k0_pay2 (View.ld a (Rect.unit (s := S1x4x512x256) ![0, 2, 0, 0] ![1, 1, 512, 256] inb_S1x4x512x256_S1x1x512x256_0_2_0_0)) (View.ld b (Rect.unit (s := S1x4x512x256) ![0, 2, 0, 0] ![1, 1, 512, 256] inb_S1x4x512x256_S1x1x512x256_0_2_0_0)) w (View.ld g (Rect.unit (s := S512x1024) ![0, 512] ![512, 256] inb_S512x1024_S512x256_0_512)))
    (k0_pay2 (View.ld a (Rect.unit (s := S1x4x512x256) ![0, 3, 0, 0] ![1, 1, 512, 256] inb_S1x4x512x256_S1x1x512x256_0_3_0_0)) (View.ld b (Rect.unit (s := S1x4x512x256) ![0, 3, 0, 0] ![1, 1, 512, 256] inb_S1x4x512x256_S1x1x512x256_0_3_0_0)) w (View.ld g (Rect.unit (s := S512x1024) ![0, 768] ![512, 256] inb_S512x1024_S512x256_0_768))) = tile a b w g := rfl

theorem tile_head (a b : Vec Ideal S1x4x512x256 .bf16) (w : Vec Ideal S1x256 .f32) (g : Vec Ideal S512x1024 .bf16) (h : Fin 4) (p q : Vec Ideal S1x1x512x256 .bf16) (u : Vec Ideal S512x256 .bf16)
    (hp : ∀ (r : Fin 512) (e : Fin 256), p (ix4 0 0 r e) = a (ix4 0 h r e)) (hq : ∀ (r : Fin 512) (e : Fin 256), q (ix4 0 0 r e) = b (ix4 0 h r e))
    (r : Fin 512) (e : Fin 256) (f : Fin 1024) (hu : u (ix2 r e) = g (ix2 r f)) (hf : f.val = 256 * h.val + e.val) :
    k0_pay2 p q w u (ix2 r e) = headEl (fun h e => a (ix4 0 h r e)) (fun h e => b (ix4 0 h r e)) (fun e => w (ix2 0 e)) (g (ix2 r f)) f := by
  rw [main_apply, headEl_at _ _ _ _ f h e hf, hu]
  simp only [hp, hq]

theorem tile_apply (a b : Vec Ideal S1x4x512x256 .bf16) (w : Vec Ideal S1x256 .f32) (g : Vec Ideal S512x1024 .bf16) (r : Fin 512) (f : Fin 1024) :
    tile a b w g (ix2 r f) = headEl (fun h e => a (ix4 0 h r e)) (fun h e => b (ix4 0 h r e)) (fun e => w (ix2 0 e)) (g (ix2 r f)) f := by
  unfold tile
  refine wide_apply _ _ _ _ (fun r f => headEl (fun h e => a (ix4 0 h r e)) (fun h e => b (ix4 0 h r e)) (fun e => w (ix2 0 e)) (g (ix2 r f)) f) ?_ ?_ ?_ ?_ r f
  · exact fun r e => tile_head a b w g 0 _ _ _ (by intros; pointwise) (by intros; pointwise) r e _ (by pointwise) rfl
  · exact fun r e => tile_head a b w g 1 _ _ _ (by intros; pointwise) (by intros; pointwise) r e _ (by pointwise) rfl
  · exact fun r e => tile_head a b w g 2 _ _ _ (by intros; pointwise) (by intros; pointwise) r e _ (by pointwise) rfl
  · exact fun r e => tile_head a b w g 3 _ _ _ (by intros; pointwise) (by intros; pointwise) r e _ (by pointwise) rfl

/-- The gated heads of eight rows beside the tile. -/
def edge (a b : Vec Ideal S1x4x8x256 .bf16) (w : Vec Ideal S1x256 .f32) (g : Vec Ideal S8x1024 .bf16) : FVec Ideal S8x1024 .bf16 :=
  thin (k0_pay9 (View.ld a (Rect.unit (s := S1x4x8x256) ![0, 0, 0, 0] ![1, 1, 8, 256] inb_S1x4x8x256_S1x1x8x256_0_0_0_0)) (View.ld b (Rect.unit (s := S1x4x8x256) ![0, 0, 0, 0] ![1, 1, 8, 256] inb_S1x4x8x256_S1x1x8x256_0_0_0_0)) w (View.ld g (Rect.unit (s := S8x1024) ![0, 0] ![8, 256] inb_S8x1024_S8x256_0_0)))
    (k0_pay9 (View.ld a (Rect.unit (s := S1x4x8x256) ![0, 1, 0, 0] ![1, 1, 8, 256] inb_S1x4x8x256_S1x1x8x256_0_1_0_0)) (View.ld b (Rect.unit (s := S1x4x8x256) ![0, 1, 0, 0] ![1, 1, 8, 256] inb_S1x4x8x256_S1x1x8x256_0_1_0_0)) w (View.ld g (Rect.unit (s := S8x1024) ![0, 256] ![8, 256] inb_S8x1024_S8x256_0_256)))
    (k0_pay9 (View.ld a (Rect.unit (s := S1x4x8x256) ![0, 2, 0, 0] ![1, 1, 8, 256] inb_S1x4x8x256_S1x1x8x256_0_2_0_0)) (View.ld b (Rect.unit (s := S1x4x8x256) ![0, 2, 0, 0] ![1, 1, 8, 256] inb_S1x4x8x256_S1x1x8x256_0_2_0_0)) w (View.ld g (Rect.unit (s := S8x1024) ![0, 512] ![8, 256] inb_S8x1024_S8x256_0_512)))
    (k0_pay9 (View.ld a (Rect.unit (s := S1x4x8x256) ![0, 3, 0, 0] ![1, 1, 8, 256] inb_S1x4x8x256_S1x1x8x256_0_3_0_0)) (View.ld b (Rect.unit (s := S1x4x8x256) ![0, 3, 0, 0] ![1, 1, 8, 256] inb_S1x4x8x256_S1x1x8x256_0_3_0_0)) w (View.ld g (Rect.unit (s := S8x1024) ![0, 768] ![8, 256] inb_S8x1024_S8x256_0_768)))

theorem edge_fold (a b : Vec Ideal S1x4x8x256 .bf16) (w : Vec Ideal S1x256 .f32) (g : Vec Ideal S8x1024 .bf16) :
    thin (k0_pay9 (View.ld a (Rect.unit (s := S1x4x8x256) ![0, 0, 0, 0] ![1, 1, 8, 256] inb_S1x4x8x256_S1x1x8x256_0_0_0_0)) (View.ld b (Rect.unit (s := S1x4x8x256) ![0, 0, 0, 0] ![1, 1, 8, 256] inb_S1x4x8x256_S1x1x8x256_0_0_0_0)) w (View.ld g (Rect.unit (s := S8x1024) ![0, 0] ![8, 256] inb_S8x1024_S8x256_0_0)))
    (k0_pay9 (View.ld a (Rect.unit (s := S1x4x8x256) ![0, 1, 0, 0] ![1, 1, 8, 256] inb_S1x4x8x256_S1x1x8x256_0_1_0_0)) (View.ld b (Rect.unit (s := S1x4x8x256) ![0, 1, 0, 0] ![1, 1, 8, 256] inb_S1x4x8x256_S1x1x8x256_0_1_0_0)) w (View.ld g (Rect.unit (s := S8x1024) ![0, 256] ![8, 256] inb_S8x1024_S8x256_0_256)))
    (k0_pay9 (View.ld a (Rect.unit (s := S1x4x8x256) ![0, 2, 0, 0] ![1, 1, 8, 256] inb_S1x4x8x256_S1x1x8x256_0_2_0_0)) (View.ld b (Rect.unit (s := S1x4x8x256) ![0, 2, 0, 0] ![1, 1, 8, 256] inb_S1x4x8x256_S1x1x8x256_0_2_0_0)) w (View.ld g (Rect.unit (s := S8x1024) ![0, 512] ![8, 256] inb_S8x1024_S8x256_0_512)))
    (k0_pay9 (View.ld a (Rect.unit (s := S1x4x8x256) ![0, 3, 0, 0] ![1, 1, 8, 256] inb_S1x4x8x256_S1x1x8x256_0_3_0_0)) (View.ld b (Rect.unit (s := S1x4x8x256) ![0, 3, 0, 0] ![1, 1, 8, 256] inb_S1x4x8x256_S1x1x8x256_0_3_0_0)) w (View.ld g (Rect.unit (s := S8x1024) ![0, 768] ![8, 256] inb_S8x1024_S8x256_0_768))) = edge a b w g := rfl

theorem edge_head (a b : Vec Ideal S1x4x8x256 .bf16) (w : Vec Ideal S1x256 .f32) (g : Vec Ideal S8x1024 .bf16) (h : Fin 4) (p q : Vec Ideal S1x1x8x256 .bf16) (u : Vec Ideal S8x256 .bf16)
    (hp : ∀ (r : Fin 8) (e : Fin 256), p (ix4 0 0 r e) = a (ix4 0 h r e)) (hq : ∀ (r : Fin 8) (e : Fin 256), q (ix4 0 0 r e) = b (ix4 0 h r e))
    (r : Fin 8) (e : Fin 256) (f : Fin 1024) (hu : u (ix2 r e) = g (ix2 r f)) (hf : f.val = 256 * h.val + e.val) :
    k0_pay9 p q w u (ix2 r e) = headEl (fun h e => a (ix4 0 h r e)) (fun h e => b (ix4 0 h r e)) (fun e => w (ix2 0 e)) (g (ix2 r f)) f := by
  rw [halo_apply, headEl_at _ _ _ _ f h e hf, hu]
  simp only [hp, hq]

theorem edge_apply (a b : Vec Ideal S1x4x8x256 .bf16) (w : Vec Ideal S1x256 .f32) (g : Vec Ideal S8x1024 .bf16) (r : Fin 8) (f : Fin 1024) :
    edge a b w g (ix2 r f) = headEl (fun h e => a (ix4 0 h r e)) (fun h e => b (ix4 0 h r e)) (fun e => w (ix2 0 e)) (g (ix2 r f)) f := by
  unfold edge
  refine thin_apply _ _ _ _ (fun r f => headEl (fun h e => a (ix4 0 h r e)) (fun h e => b (ix4 0 h r e)) (fun e => w (ix2 0 e)) (g (ix2 r f)) f) ?_ ?_ ?_ ?_ r f
  · exact fun r e => edge_head a b w g 0 _ _ _ (by intros; pointwise) (by intros; pointwise) r e _ (by pointwise) rfl
  · exact fun r e => edge_head a b w g 1 _ _ _ (by intros; pointwise) (by intros; pointwise) r e _ (by pointwise) rfl
  · exact fun r e => edge_head a b w g 2 _ _ _ (by intros; pointwise) (by intros; pointwise) r e _ (by pointwise) rfl
  · exact fun r e => edge_head a b w g 3 _ _ _ (by intros; pointwise) (by intros; pointwise) r e _ (by pointwise) rfl

/-- The gated heads at one grid point, one token a row: eight rows before the tile, the tile, eight rows after it. -/
def vecInp (x0 x3 : Vec Ideal S1x4x512x256 .bf16) (x1 x2 x4 x5 : Vec Ideal S1x4x8x256 .bf16) (x6 : Vec Ideal S512x1024 .bf16) (x7 x8 : Vec Ideal S8x1024 .bf16) (x9 : Vec Ideal S1x256 .f32) : FVec Ideal S528x1024 .bf16 := fun i =>
  if hp : (i 0).val < 8 then headEl (fun h e => x1 (ix4 0 h ⟨(i 0).val, hp⟩ e)) (fun h e => x4 (ix4 0 h ⟨(i 0).val, hp⟩ e)) (fun e => x9 (ix2 0 e)) (x7 (ix2 ⟨(i 0).val, hp⟩ (i 1))) (i 1)
  else if h' : (i 0).val < 520 then headEl (fun h e => x0 (ix4 0 h ⟨(i 0).val - 8, by omega⟩ e)) (fun h e => x3 (ix4 0 h ⟨(i 0).val - 8, by omega⟩ e)) (fun e => x9 (ix2 0 e)) (x6 (ix2 ⟨(i 0).val - 8, by omega⟩ (i 1))) (i 1)
  else headEl (fun h e => x2 (ix4 0 h ⟨(i 0).val - 520, by have : (i 0).val < 528 := (i 0).isLt; omega⟩ e)) (fun h e => x5 (ix4 0 h ⟨(i 0).val - 520, by have : (i 0).val < 528 := (i 0).isLt; omega⟩ e)) (fun e => x9 (ix2 0 e)) (x8 (ix2 ⟨(i 0).val - 520, by have : (i 0).val < 528 := (i 0).isLt; omega⟩ (i 1))) (i 1)

theorem inp_eq (x0 x3 : Vec Ideal S1x4x512x256 .bf16) (x1 x2 x4 x5 : Vec Ideal S1x4x8x256 .bf16) (x6 : Vec Ideal S512x1024 .bf16) (x7 x8 : Vec Ideal S8x1024 .bf16) (x9 : Vec Ideal S1x256 .f32) :
    View.canon (Val := Elt Ideal) (e := .bf16) [⟨Rect.unit (s := S528x1024) ![520, 0] S8x1024.size inb_S528x1024_S8x1024_520_0, edge x2 x5 x9 x8⟩, ⟨Rect.unit (s := S528x1024) ![0, 0] S8x1024.size inb_S528x1024_S8x1024_0_0, edge x1 x4 x9 x7⟩,
      ⟨Rect.unit (s := S528x1024) ![8, 0] S512x1024.size inb_S528x1024_S512x1024_8_0, tile x0 x3 x9 x6⟩] = vecInp x0 x3 x1 x2 x4 x5 x6 x7 x8 x9 := by
  refine MixBlock.rows_eq _ _ _ _ ?_ ?_ ?_
  · intro r d
    rw [tile_apply]
    refine Eq.symm ((dif_neg (show ¬ 8 + r.val < 8 by omega)).trans ((dif_pos (show 8 + r.val < 520 by omega)).trans ?_))
    have e : (⟨8 + r.val - 8, by omega⟩ : Fin 512) = r := Fin.ext (by show 8 + r.val - 8 = r.val; omega)
    exact congrArg (fun r : Fin 512 => headEl (fun h e => x0 (ix4 0 h r e)) (fun h e => x3 (ix4 0 h r e)) (fun e => x9 (ix2 0 e)) (x6 (ix2 r d)) d) e
  · intro r d
    rw [edge_apply]
    exact Eq.symm (dif_pos (show r.val < 8 from r.isLt))
  · intro r d
    rw [edge_apply]
    refine Eq.symm ((dif_neg (show ¬ 520 + r.val < 8 by omega)).trans ((dif_neg (show ¬ 520 + r.val < 520 by omega)).trans ?_))
    have e : (⟨520 + r.val - 520, by omega⟩ : Fin 8) = r := Fin.ext (by show 520 + r.val - 520 = r.val; omega)
    exact congrArg (fun r : Fin 8 => headEl (fun h e => x2 (ix4 0 h r e)) (fun h e => x5 (ix4 0 h r e)) (fun e => x9 (ix2 0 e)) (x8 (ix2 r d)) d) e

/-- The whole of the gated heads' rows, read back. -/
theorem inp_read {sig : RefSig} {κ : Kind} {sp : Space} (V : View sig κ sp S528x1024 .bf16) (x0 x3 : Vec Ideal S1x4x512x256 .bf16) (x1 x2 x4 x5 : Vec Ideal S1x4x8x256 .bf16) (x6 : Vec Ideal S512x1024 .bf16) (x7 x8 : Vec Ideal S8x1024 .bf16) (x9 : Vec Ideal S1x256 .f32) :
    V.readCov (Val := Elt Ideal) [⟨Rect.unit (s := S528x1024) ![520, 0] ![8, 1024] inb_S528x1024_S8x1024_520_0, edge x2 x5 x9 x8⟩, ⟨Rect.unit (s := S528x1024) ![0, 0] ![8, 1024] inb_S528x1024_S8x1024_0_0, edge x1 x4 x9 x7⟩,
      ⟨Rect.unit (s := S528x1024) ![8, 0] ![512, 1024] inb_S528x1024_S512x1024_8_0, tile x0 x3 x9 x6⟩] (Rect.unit (s := S528x1024) ![0, 0] ![528, 1024] inb_S528x1024_S528x1024_0_0).toLoadRect = vecInp x0 x3 x1 x2 x4 x5 x6 x7 x8 x9 := by
  refine (View.readCov_eq_canon' _ _ _).trans ?_
  exact (congrArg (fun G => View.ld G (Rect.unit (s := S528x1024) ![0, 0] ![528, 1024] inb_S528x1024_S528x1024_0_0)) (inp_eq x0 x3 x1 x2 x4 x5 x6 x7 x8 x9)).trans (View.ld_unit_lit' _ _ (by decide))

end Cert.GlaBlock
end
-- ==== Proof.GlaBlock.lean ====
module

public import proofs.«01_k».proof.Proof.GlaValueIdeal
public import proofs.«01_k».proof.Proof.GlaRows
public import Idealize.ShloMosaic.Lib.Pipeline.ValueKit
public import Idealize.ShloMosaic.Lib.Pipeline.ReadBack

@[expose] public section

set_option maxRecDepth 16384

noncomputable section

namespace Cert.GlaBlock

open Idealize.ShloMosaic Cert.GlaIdeal Cert.GlaIdeal.Gen Cert.MixMath Cert.GlaMath Cert.GlaHead

/-- The residual sums of a grid point's 528 rows. -/
def rowsP (inp : FVec Ideal S528x1024 .bf16) (x10 : Vec Ideal S1024x1024 .bf16) (x11 : Vec Ideal S512x1024 .f32) (x12 x13 : Vec Ideal S8x1024 .f32)
    (x14 : Vec Ideal S1x6x1024 .f32) : FVec Ideal S528x1024 .f32 :=
  Cert.MixIdeal.Gen.k0_pay7 inp x10 (MixBlock.vecX x11 x12 x13) (View.ld x14 (Rect.unit (s := S1x6x1024) ![0, 2, 0] S1x1x1024.size inb_S1x6x1024_S1x1x1024_0_2_0))

theorem xm_apply (inp : FVec Ideal S528x1024 .bf16) (x10 : Vec Ideal S1024x1024 .bf16) (x11 : Vec Ideal S512x1024 .f32) (x12 x13 : Vec Ideal S8x1024 .f32)
    (x14 : Vec Ideal S1x6x1024 .f32) (x15 x16 : Vec Ideal S1x1024 .f32) (p : Fin 528) (d : Fin 1024) :
    MixBlock.blkXm (rowsP inp x10 x11 x12 x13 x14) x15 x16 (ix2 p d)
      = xmEl (fun f => inp (ix2 p f)) (fun d => MixBlock.vecX x11 x12 x13 (ix2 p d)) (fun f d => x10 (ix2 f d)) (fun d => x14 (ix3 0 2 d)) (fun d => x15 (ix2 0 d)) (fun d => x16 (ix2 0 d)) d := by
  unfold MixBlock.blkXm rowsP
  rw [MixHead.norm_apply]
  unfold xmEl
  have e : ∀ d : Fin 1024, (View.ld x14 (Rect.unit (s := S1x6x1024) ![0, 2, 0] S1x1x1024.size inb_S1x6x1024_S1x1x1024_0_2_0) : Vec Ideal S1x1x1024 .f32) (ix3 0 0 d) = x14 (ix3 0 2 d) := fun d => by pointwise
  have e8 : ∀ d : Fin 1024, Cert.MixIdeal.Gen.k0_pay8 x15 (ix2 0 d) = x15 (ix2 0 d) := fun d => by pointwise [Cert.MixIdeal.Gen.k0_pay8]
  simp only [MixHead.pre_apply, e, e8]

/-- The tile's place in its sequence, as the body computes it. -/
def place (t : Fin cfg0.N) : BitVec 32 :=
  Scalar.select (Scalar.andi (Scalar.xori (Scalar.cmpi .slt (Scalar.remsi (BitVec.ofNat 32 (grid0.coords t 0).val) 16#32) 0#32) 0#1)
      (Scalar.cmpi .ne (Scalar.remsi (BitVec.ofNat 32 (grid0.coords t 0).val) 16#32) 0#32))
    (Scalar.addi (Scalar.remsi (BitVec.ofNat 32 (grid0.coords t 0).val) 16#32) 16#32)
    (Scalar.remsi (BitVec.ofNat 32 (grid0.coords t 0).val) 16#32)

theorem before_word : ∀ t : Fin cfg0.N, (Scalar.extui (Scalar.cmpi .sgt (place t) 0#32) : BitVec 32).toInt = if 0 < t.val % 16 then 1 else 0 := by decide +kernel
theorem after_word : ∀ t : Fin cfg0.N, (Scalar.extui (Scalar.cmpi .slt (place t) 15#32) : BitVec 32).toInt = if t.val % 16 < 15 then 1 else 0 := by decide +kernel

variable (m : (ℓ : Loc nD τ sig) → Buf (Elt Ideal) ℓ) (c : Dev nD)

/-- The gated heads at a grid point. -/
def gInp (t : Fin cfg0.N) : FVec Ideal S528x1024 .bf16 :=
  vecInp (iblk m c 0 t) (iblk m c 3 t) (iblk m c 1 t) (iblk m c 2 t) (iblk m c 4 t) (iblk m c 5 t) (iblk m c 6 t) (iblk m c 7 t) (iblk m c 8 t) (iblk m c 9 t)
/-- The residual sums at a grid point. -/
def gP (t : Fin cfg0.N) : FVec Ideal S528x1024 .f32 := rowsP (gInp m c t) (iblk m c 10 t) (iblk m c 11 t) (iblk m c 12 t) (iblk m c 13 t) (iblk m c 14 t)
/-- The rows after the first layer norm at a grid point. -/
def gXm (t : Fin cfg0.N) : FVec Ideal S528x1024 .f32 := MixBlock.blkXm (gP m c t) (iblk m c 15 t) (iblk m c 16 t)
/-- The scaled and shifted rows at a grid point. -/
def gHm (t : Fin cfg0.N) : FVec Ideal S528x1024 .f32 := MixBlock.blkHm (gP m c t) (iblk m c 15 t) (iblk m c 16 t) (iblk m c 14 t)

/-- What the body leaves in its output block, from its input blocks. -/
theorem out_eq (t : Fin cfg0.N) (r : Fin 512) (d : Fin 1024) :
    outsAt0 m c t (ix2 r d) = outEl (fun d => gXm m c t (ix2 ⟨8 + r.val, by omega⟩ d))
      (fun k => MixBlock.vecAct (MixBlock.blkH (gHm m c t)) (MixBlock.vecH (place t) (gHm m c t)) (iblk m c 17 t) (iblk m c 18 t) (iblk m c 19 t) (ix2 r k))
      (fun k d => iblk m c 20 t (ix2 k d)) (fun d => iblk m c 14 t (ix3 0 5 d)) (fun d => iblk m c 21 t (ix2 0 d)) (fun d => iblk m c 22 t (ix2 0 d)) d := by
  unfold outsAt0 gXm gHm gP gInp
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  generalize iblk m c 18 t = x18
  generalize iblk m c 19 t = x19
  generalize iblk m c 20 t = x20
  generalize iblk m c 21 t = x21
  generalize iblk m c 22 t = x22
  generalize hw : outEl _ _ _ _ _ _ d = w
  frame_out [View.readCov_skip, View.readCov_cons_toLoadRect, View.readCov_fill, main1, main2, main_wide, before1, before2, before3, before_thin,
    after0, after1, after_thin, tile_fold, edge_fold, inp_read, x24, x25, x26, MixBlock.x_read, p27, p28, xm30, h31, h32, h33, h34, h35, MixBlock.h_read,
    chunk0, chunk1, chunk2, chunk3, chunk4, chunk5, chunk6, chunk7, chunk8, chunk9, chunk10, MixBlock.act_read, out1]
  simp only [MixBlock.h12_eq, MixBlock.xm10_eq]
  unfold MixBlock.blkXm MixBlock.blkHm rowsP place at hw
  subst hw
  have e5 : ∀ d : Fin 1024, (View.ld x14 (Rect.unit (s := S1x6x1024) ![0, 5, 0] S1x1x1024.size inb_S1x6x1024_S1x1x1024_0_5_0) : Vec Ideal S1x1x1024 .f32) (ix3 0 0 d) = x14 (ix3 0 5 d) := fun d => by pointwise
  have e8 : ∀ (X : FVec Ideal S528x1024 .f32) (d : Fin 1024), (View.ld X (Rect.unit (s := S528x1024) ![8, 0] S512x1024.size inb_S528x1024_S512x1024_8_0) : Vec Ideal S512x1024 .f32) (ix2 r d) = X (ix2 ⟨8 + r.val, by omega⟩ d) := fun X d => by pointwise
  refine (MixHead.out_apply _ _ _ _ _ _ r d).trans ?_
  simp only [e5]
  refine congrArg (fun u => outEl u _ _ _ _ _ d) ?_
  exact funext fun d => e8 _ d

end Cert.GlaBlock
end
-- ==== Proof.GlaKernel.lean ====
module

public import proofs.«01_k».proof.Proof.GlaBlock
public import proofs.«01_k».proof.Proof.MixArr
public import Idealize.ShloMosaic.Lib.Pipeline.Covers

@[expose] public section

set_option maxRecDepth 16384

noncomputable section

namespace Cert.GlaKernel

open Idealize.ShloMosaic Cert.GlaIdeal Cert.GlaIdeal.Gen Cert.MixMath Cert.GlaBlock Cert.MixArr
open Idealize.ShloMosaic.TcCoe

theorem i0 : ∀ t : Fin cfg0.N, win0_0.index t = ![t.val / 16, 0, t.val % 16, 0] := by decide +kernel
theorem i1 : ∀ t : Fin cfg0.N, win0_1.index t = ![t.val / 16, 0, 64 * (t.val % 16) - 1, 0] := by decide +kernel
theorem i2 : ∀ t : Fin cfg0.N, win0_2.index t = ![t.val / 16, 0, min (64 * (t.val % 16) + 64) 1023, 0] := by decide +kernel
theorem i3 : ∀ t : Fin cfg0.N, win0_3.index t = ![t.val / 16, 0, t.val % 16, 0] := by decide +kernel
theorem i4 : ∀ t : Fin cfg0.N, win0_4.index t = ![t.val / 16, 0, 64 * (t.val % 16) - 1, 0] := by decide +kernel
theorem i5 : ∀ t : Fin cfg0.N, win0_5.index t = ![t.val / 16, 0, min (64 * (t.val % 16) + 64) 1023, 0] := by decide +kernel
theorem i6 : ∀ t : Fin cfg0.N, win0_6.index t = ![t.val, 0] := by decide +kernel
theorem i7 : ∀ t : Fin cfg0.N, win0_7.index t = ![64 * t.val - 1, 0] := by decide +kernel
theorem i8 : ∀ t : Fin cfg0.N, win0_8.index t = ![min (64 * t.val + 64) 8191, 0] := by decide +kernel
theorem i9 : ∀ t : Fin cfg0.N, win0_9.index t = ![0, 0] := by decide +kernel
theorem i10 : ∀ t : Fin cfg0.N, win0_10.index t = ![0, 0] := by decide +kernel
theorem i11 : ∀ t : Fin cfg0.N, win0_11.index t = ![t.val, 0] := by decide +kernel
theorem i12 : ∀ t : Fin cfg0.N, win0_12.index t = ![64 * t.val - 1, 0] := by decide +kernel
theorem i13 : ∀ t : Fin cfg0.N, win0_13.index t = ![min (64 * t.val + 64) 8191, 0] := by decide +kernel
theorem i14 : ∀ t : Fin cfg0.N, win0_14.index t = ![t.val / 16, 0, 0] := by decide +kernel
theorem i15 : ∀ t : Fin cfg0.N, win0_15.index t = ![0, 0] := by decide +kernel
theorem i16 : ∀ t : Fin cfg0.N, win0_16.index t = ![0, 0] := by decide +kernel
theorem i17 : ∀ t : Fin cfg0.N, win0_17.index t = ![0, 0] := by decide +kernel
theorem i18 : ∀ t : Fin cfg0.N, win0_18.index t = ![0, 0] := by decide +kernel
theorem i19 : ∀ t : Fin cfg0.N, win0_19.index t = ![0, 0] := by decide +kernel
theorem i20 : ∀ t : Fin cfg0.N, win0_20.index t = ![0, 0] := by decide +kernel
theorem i21 : ∀ t : Fin cfg0.N, win0_21.index t = ![0, 0] := by decide +kernel
theorem i22 : ∀ t : Fin cfg0.N, win0_22.index t = ![0, 0] := by decide +kernel
theorem i23 : ∀ t : Fin cfg0.N, win0_23.index t = ![t.val, 0] := by decide +kernel

/-- The output's blocks reach every element of the array. -/
theorem covers : (cfg0.win 23).Covers := by decide +kernel

variable (m : (ℓ : Loc nD τ sig) → Buf (Elt Ideal) ℓ) (c : Dev nD)

/-- Each input block is its array at the block's place. -/
theorem b0 (t : Fin cfg0.N) (h : Fin 4) (r : Fin 512) (e : Fin 256) (q : Fin 8192) (b : Fin 8) (hb : b.val = t.val / 16) (hq : q.val = 512 * (t.val % 16) + r.val) :
    iblk m c 0 t (ix4 0 h r e) = m ((c : Thread nD τ).loc main_arg0) (ix4 b h q e) := by
  blk_ext! [iblk, V, i0 t]
theorem b1 (t : Fin cfg0.N) (h : Fin 4) (r : Fin 8) (e : Fin 256) (q : Fin 8192) (b : Fin 8) (hb : b.val = t.val / 16) (hq : q.val = 8 * (64 * (t.val % 16) - 1) + r.val) :
    iblk m c 1 t (ix4 0 h r e) = m ((c : Thread nD τ).loc main_arg0) (ix4 b h q e) := by
  blk_ext! [iblk, V, i1 t]
theorem b2 (t : Fin cfg0.N) (h : Fin 4) (r : Fin 8) (e : Fin 256) (q : Fin 8192) (b : Fin 8) (hb : b.val = t.val / 16) (hq : q.val = 8 * min (64 * (t.val % 16) + 64) 1023 + r.val) :
    iblk m c 2 t (ix4 0 h r e) = m ((c : Thread nD τ).loc main_arg0) (ix4 b h q e) := by
  blk_ext! [iblk, V, i2 t]
theorem b3 (t : Fin cfg0.N) (h : Fin 4) (r : Fin 512) (e : Fin 256) (q : Fin 8192) (b : Fin 8) (hb : b.val = t.val / 16) (hq : q.val = 512 * (t.val % 16) + r.val) :
    iblk m c 3 t (ix4 0 h r e) = m ((c : Thread nD τ).loc main_arg1) (ix4 b h q e) := by
  blk_ext! [iblk, V, i3 t]
theorem b4 (t : Fin cfg0.N) (h : Fin 4) (r : Fin 8) (e : Fin 256) (q : Fin 8192) (b : Fin 8) (hb : b.val = t.val / 16) (hq : q.val = 8 * (64 * (t.val % 16) - 1) + r.val) :
    iblk m c 4 t (ix4 0 h r e) = m ((c : Thread nD τ).loc main_arg1) (ix4 b h q e) := by
  blk_ext! [iblk, V, i4 t]
theorem b5 (t : Fin cfg0.N) (h : Fin 4) (r : Fin 8) (e : Fin 256) (q : Fin 8192) (b : Fin 8) (hb : b.val = t.val / 16) (hq : q.val = 8 * min (64 * (t.val % 16) + 64) 1023 + r.val) :
    iblk m c 5 t (ix4 0 h r e) = m ((c : Thread nD τ).loc main_arg1) (ix4 b h q e) := by
  blk_ext! [iblk, V, i5 t]
theorem b6 (t : Fin cfg0.N) (r : Fin 512) (f : Fin 1024) (q : Fin 65536) (hq : q.val = 512 * t.val + r.val) :
    iblk m c 6 t (ix2 r f) = m ((c : Thread nD τ).loc main_arg2) (ix2 q f) := by
  blk_ext! [iblk, V, i6 t]
theorem b7 (t : Fin cfg0.N) (r : Fin 8) (f : Fin 1024) (q : Fin 65536) (hq : q.val = 8 * (64 * t.val - 1) + r.val) :
    iblk m c 7 t (ix2 r f) = m ((c : Thread nD τ).loc main_arg2) (ix2 q f) := by
  blk_ext! [iblk, V, i7 t]
theorem b8 (t : Fin cfg0.N) (r : Fin 8) (f : Fin 1024) (q : Fin 65536) (hq : q.val = 8 * min (64 * t.val + 64) 8191 + r.val) :
    iblk m c 8 t (ix2 r f) = m ((c : Thread nD τ).loc main_arg2) (ix2 q f) := by
  blk_ext! [iblk, V, i8 t]
theorem b9 (t : Fin cfg0.N) (e : Fin 256) : iblk m c 9 t (ix2 0 e) = m ((c : Thread nD τ).loc main_arg3) (ix1 e) := by
  blk_ext! [iblk, V, i9 t]
theorem b10 (t : Fin cfg0.N) (f d : Fin 1024) : iblk m c 10 t (ix2 f d) = m ((c : Thread nD τ).loc main_arg6) (ix2 f d) := by
  blk_ext! [iblk, V, i10 t]
theorem b11 (t : Fin cfg0.N) (r : Fin 512) (d : Fin 1024) (q : Fin 8192) (b : Fin 8) (hq : 8192 * b.val + q.val = 512 * t.val + r.val) :
    iblk m c 11 t (ix2 r d) = m ((c : Thread nD τ).loc main_arg4) (ix3 b q d) := by
  blk_ext! [iblk, V, i11 t]
theorem b12 (t : Fin cfg0.N) (r : Fin 8) (d : Fin 1024) (q : Fin 8192) (b : Fin 8) (hq : 8192 * b.val + q.val = 8 * (64 * t.val - 1) + r.val) :
    iblk m c 12 t (ix2 r d) = m ((c : Thread nD τ).loc main_arg4) (ix3 b q d) := by
  blk_ext! [iblk, V, i12 t]
theorem b13 (t : Fin cfg0.N) (r : Fin 8) (d : Fin 1024) (q : Fin 8192) (b : Fin 8) (hq : 8192 * b.val + q.val = 8 * min (64 * t.val + 64) 8191 + r.val) :
    iblk m c 13 t (ix2 r d) = m ((c : Thread nD τ).loc main_arg4) (ix3 b q d) := by
  blk_ext! [iblk, V, i13 t]
theorem b14 (t : Fin cfg0.N) (k : Fin 6) (d : Fin 1024) (b : Fin 8) (hb : b.val = t.val / 16) :
    iblk m c 14 t (ix3 0 k d) = m ((c : Thread nD τ).loc main_arg5) (ix3 b k d) := by
  blk_ext! [iblk, V, i14 t]
theorem b15 (t : Fin cfg0.N) (d : Fin 1024) : iblk m c 15 t (ix2 0 d) = m ((c : Thread nD τ).loc main_arg7) (ix2 0 d) := by
  blk_ext! [iblk, V, i15 t]
theorem b16 (t : Fin cfg0.N) (d : Fin 1024) : iblk m c 16 t (ix2 0 d) = m ((c : Thread nD τ).loc main_arg8) (ix2 0 d) := by
  blk_ext! [iblk, V, i16 t]
theorem b17 (t : Fin cfg0.N) (d : Fin 1024) (k : Fin 5632) : iblk m c 17 t (ix2 d k) = m ((c : Thread nD τ).loc main_arg9) (ix2 d k) := by
  blk_ext! [iblk, V, i17 t]
theorem b18 (t : Fin cfg0.N) (j : Fin 3) (k : Fin 2816) : iblk m c 18 t (ix2 j k) = m ((c : Thread nD τ).loc main_arg10) (ix2 j k) := by
  blk_ext! [iblk, V, i18 t]
theorem b19 (t : Fin cfg0.N) (k : Fin 2816) : iblk m c 19 t (ix2 0 k) = m ((c : Thread nD τ).loc main_arg11) (ix1 k) := by
  blk_ext! [iblk, V, i19 t]
theorem b20 (t : Fin cfg0.N) (k : Fin 2816) (d : Fin 1024) : iblk m c 20 t (ix2 k d) = m ((c : Thread nD τ).loc main_arg12) (ix2 k d) := by
  blk_ext! [iblk, V, i20 t]
theorem b21 (t : Fin cfg0.N) (d : Fin 1024) : iblk m c 21 t (ix2 0 d) = m ((c : Thread nD τ).loc main_arg7) (ix2 1 d) := by
  blk_ext! [iblk, V, i21 t]
theorem b22 (t : Fin cfg0.N) (d : Fin 1024) : iblk m c 22 t (ix2 0 d) = m ((c : Thread nD τ).loc main_arg8) (ix2 1 d) := by
  blk_ext! [iblk, V, i22 t]

/-- Where an element of the output's block lies in the array. -/
theorem emb23 (t : Fin cfg0.N) (y : S512x1024.Idx) : (win0_23.blk t).view.emb y
    = ix2 ⟨512 * t.val + (y 0).val, by have : t.val < 128 := t.isLt; have : (y 0).val < 512 := (y 0).isLt; omega⟩ (y 1) := by
  blk_ext [i23 t]

end Cert.GlaKernel
end
-- ==== Proof.GlaArr.lean ====
module

public import proofs.«01_k».proof.Proof.Gen.GlaIdeal.Skeleton
public import proofs.«01_k».proof.Proof.GlaMath
public import proofs.«01_k».proof.Proof.MixArr

@[expose] public section

set_option maxRecDepth 16384

noncomputable section

namespace Cert.GlaArr

open Idealize.ShloMosaic Cert.GlaIdeal Cert.GlaMath

/-- The gated heads of the two scans' sum, a channel a row. -/
def gatedArr (u v : FVec Ideal S8x4x8192x256 .bf16) (g : FVec Ideal S65536x1024 .bf16) (w : FVec Ideal S256 .f32) : FVec Ideal Cert.MixIdeal.S8x1024x8192 .bf16 := fun i =>
  headEl (fun h e => u (ix4 (i 0) h (i 2) e)) (fun h e => v (ix4 (i 0) h (i 2) e)) (fun e => w (ix1 e))
    (g (ix2 ⟨8192 * (i 0).val + (i 2).val, by have : (i 0).val < 8 := (i 0).isLt; have : (i 2).val < 8192 := (i 2).isLt; omega⟩ (i 1))) (i 1)

end Cert.GlaArr
end
-- ==== Proof.GlaOut.lean ====
module

public import proofs.«01_k».proof.Proof.GlaKernel
public import proofs.«01_k».proof.Proof.GlaArr

@[expose] public section

set_option maxRecDepth 16384

noncomputable section

namespace Cert.GlaOut

open Idealize.ShloMosaic Cert.GlaIdeal Cert.GlaIdeal.Gen Cert.MixMath Cert.GlaMath Cert.GlaBlock Cert.MixArr Cert.GlaArr Cert.GlaKernel
open Idealize.ShloMosaic.TcCoe

variable (m : (ℓ : Loc nD τ sig) → Buf (Elt Ideal) ℓ) (c : Dev nD)

/-- The kernel's arguments. -/
def args : Args where
  inp := gatedArr (m ((c : Thread nD τ).loc main_arg0)) (m ((c : Thread nD τ).loc main_arg1)) (m ((c : Thread nD τ).loc main_arg2)) (m ((c : Thread nD τ).loc main_arg3))
  x := m ((c : Thread nD τ).loc main_arg4)
  mod := m ((c : Thread nD τ).loc main_arg5)
  wo := m ((c : Thread nD τ).loc main_arg6)
  lg := m ((c : Thread nD τ).loc main_arg7)
  lb := m ((c : Thread nD τ).loc main_arg8)
  wu := m ((c : Thread nD τ).loc main_arg9)
  cw := m ((c : Thread nD τ).loc main_arg10)
  cb := m ((c : Thread nD τ).loc main_arg11)
  wd := m ((c : Thread nD τ).loc main_arg12)

section rows
variable (t : Fin cfg0.N) (b : Fin 8) (hb : b.val = t.val / 16)
include hb

/-- The gated heads of a grid point's row. -/
theorem inp_row (p : Fin 528) (f : Fin 1024) (q : Fin 8192) (h7 : 7 ≤ p.val) (h520 : p.val ≤ 520) (hq : q.val + 8 = 512 * (t.val % 16) + p.val) :
    gInp m c t (ix2 p f) = (args m c).inp (ix3 b f q) := by
  have hq' := q.isLt
  have ht : t.val < 128 := t.isLt
  unfold gInp vecInp
  by_cases h1 : p.val < 8
  · exact (dif_pos h1).trans (headEl_congr f (fun h e => b1 m c t h ⟨p.val, h1⟩ e q b hb (by show q.val = 8 * (64 * (t.val % 16) - 1) + p.val; omega))
      (fun h e => b4 m c t h ⟨p.val, h1⟩ e q b hb (by show q.val = 8 * (64 * (t.val % 16) - 1) + p.val; omega)) (fun e => b9 m c t e)
      (b7 m c t ⟨p.val, h1⟩ f ⟨8192 * b.val + q.val, by omega⟩ (by show 8192 * b.val + q.val = 8 * (64 * t.val - 1) + p.val; omega)))
  by_cases h2 : p.val < 520
  · exact (dif_neg h1).trans ((dif_pos h2).trans (headEl_congr f (fun h e => b0 m c t h ⟨p.val - 8, by omega⟩ e q b hb (by show q.val = 512 * (t.val % 16) + (p.val - 8); omega))
      (fun h e => b3 m c t h ⟨p.val - 8, by omega⟩ e q b hb (by show q.val = 512 * (t.val % 16) + (p.val - 8); omega)) (fun e => b9 m c t e)
      (b6 m c t ⟨p.val - 8, by omega⟩ f ⟨8192 * b.val + q.val, by omega⟩ (by show 8192 * b.val + q.val = 512 * t.val + (p.val - 8); omega))))
  · exact (dif_neg h1).trans ((dif_neg h2).trans (headEl_congr f (fun h e => b2 m c t h ⟨p.val - 520, by omega⟩ e q b hb (by show q.val = 8 * min (64 * (t.val % 16) + 64) 1023 + (p.val - 520); omega))
      (fun h e => b5 m c t h ⟨p.val - 520, by omega⟩ e q b hb (by show q.val = 8 * min (64 * (t.val % 16) + 64) 1023 + (p.val - 520); omega)) (fun e => b9 m c t e)
      (b8 m c t ⟨p.val - 520, by omega⟩ f ⟨8192 * b.val + q.val, by omega⟩ (by show 8192 * b.val + q.val = 8 * min (64 * t.val + 64) 8191 + (p.val - 520); omega))))

/-- The residual stream's entries of a grid point's row. -/
theorem x_row (p : Fin 528) (d : Fin 1024) (q : Fin 8192) (h7 : 7 ≤ p.val) (h520 : p.val ≤ 520) (hq : q.val + 8 = 512 * (t.val % 16) + p.val) :
    MixBlock.vecX (iblk m c 11 t) (iblk m c 12 t) (iblk m c 13 t) (ix2 p d) = (args m c).x (ix3 b q d) := by
  have hq' := q.isLt
  have ht : t.val < 128 := t.isLt
  unfold MixBlock.vecX
  by_cases h1 : p.val < 8
  · exact (dif_pos h1).trans (b12 m c t ⟨p.val, h1⟩ d q b (by show 8192 * b.val + q.val = 8 * (64 * t.val - 1) + p.val; omega))
  by_cases h2 : p.val < 520
  · exact (dif_neg h1).trans ((dif_pos h2).trans (b11 m c t ⟨p.val - 8, by omega⟩ d q b (by show 8192 * b.val + q.val = 512 * t.val + (p.val - 8); omega)))
  · exact (dif_neg h1).trans ((dif_neg h2).trans (b13 m c t ⟨p.val - 520, by omega⟩ d q b (by show 8192 * b.val + q.val = 8 * min (64 * t.val + 64) 8191 + (p.val - 520); omega)))

/-- A grid point's row after the first layer norm. -/
theorem xm_row (p : Fin 528) (d : Fin 1024) (q : Fin 8192) (h7 : 7 ≤ p.val) (h520 : p.val ≤ 520) (hq : q.val + 8 = 512 * (t.val % 16) + p.val) :
    gXm m c t (ix2 p d) = xmA (args m c) b q d := by
  unfold gXm gP
  refine (xm_apply _ _ _ _ _ _ _ _ p d).trans ?_
  unfold xmA
  have e1 := funext fun f => inp_row m c t b hb p f q h7 h520 hq
  have e2 := funext fun d => x_row m c t b hb p d q h7 h520 hq
  have e3 : (fun f d => iblk m c 10 t (ix2 f d)) = fun f d => (args m c).wo (ix2 f d) := funext fun f => funext fun d => b10 m c t f d
  have e7 : (fun d => iblk m c 14 t (ix3 0 2 d)) = fun d => (args m c).mod (ix3 b 2 d) := funext fun d => b14 m c t 2 d b hb
  have e8 : (fun d => iblk m c 15 t (ix2 0 d)) = fun d => (args m c).lg (ix2 0 d) := funext fun d => b15 m c t d
  have e9 : (fun d => iblk m c 16 t (ix2 0 d)) = fun d => (args m c).lb (ix2 0 d) := funext fun d => b16 m c t d
  rw [e1, e2, e3, e7, e8, e9]

/-- A grid point's row scaled and shifted. -/
theorem hm_row (p : Fin 528) (d : Fin 1024) (q : Fin 8192) (h7 : 7 ≤ p.val) (h520 : p.val ≤ 520) (hq : q.val + 8 = 512 * (t.val % 16) + p.val) :
    gHm m c t (ix2 p d) = hA (args m c) b q d := by
  refine (MixBlock.hm_apply _ _ _ _ p d).trans ?_
  unfold hA
  have e1 : (fun d => MixBlock.blkXm (gP m c t) (iblk m c 15 t) (iblk m c 16 t) (ix2 p d)) = xmA (args m c) b q := funext fun d => xm_row m c t b hb p d q h7 h520 hq
  have e3 : (fun d => iblk m c 14 t (ix3 0 3 d)) = fun d => (args m c).mod (ix3 b 3 d) := funext fun d => b14 m c t 3 d b hb
  have e4 : (fun d => iblk m c 14 t (ix3 0 4 d)) = fun d => (args m c).mod (ix3 b 4 d) := funext fun d => b14 m c t 4 d b hb
  rw [e1, e3, e4]

/-- A gate of a grid point's row, the rows outside the sequence zero. -/
theorem gate_row (p : Fin 528) (k : Fin 2816) (q : ℕ) (h7 : 7 ≤ p.val) (h520 : p.val ≤ 520) (hq : q + 7 = 512 * (t.val % 16) + p.val) :
    dotEl (fun d => MixBlock.vecH (place t) (gHm m c t) (ix2 p d)) (fun d => iblk m c 17 t (ix2 d ⟨2816 + k.val, by omega⟩)) = gPad (args m c) b q k := by
  have hz : ∀ (h : Fin 1024 → EReal) (w : Fin 1024 → EReal), (∀ d, h d = 0) → dotEl h w = 0 := fun h w hh => by
    unfold dotEl
    exact Finset.sum_eq_zero fun d _ => by rw [hh d, zero_mul]
  have hbf : MixBlock.hasBefore (place t) = if 0 < t.val % 16 then 1 else 0 := by
    unfold MixBlock.hasBefore; rw [before_word t]; split_ifs <;> simp
  have haf : MixBlock.hasAfter (place t) = if t.val % 16 < 15 then 1 else 0 := by
    unfold MixBlock.hasAfter; rw [after_word t]; split_ifs <;> simp
  have e10 : ∀ d : Fin 1024, iblk m c 17 t (ix2 d ⟨2816 + k.val, by omega⟩) = (args m c).wu (ix2 d ⟨2816 + k.val, by omega⟩) := fun d => b17 m c t d _
  have live : ∀ (hq1 : 1 ≤ q ∧ q ≤ 8192), (∀ d, MixBlock.vecH (place t) (gHm m c t) (ix2 p d) = gHm m c t (ix2 p d)) →
      dotEl (fun d => MixBlock.vecH (place t) (gHm m c t) (ix2 p d)) (fun d => iblk m c 17 t (ix2 d ⟨2816 + k.val, by omega⟩)) = gPad (args m c) b q k := by
    intro hq1 hv
    unfold gPad
    rw [dif_pos hq1]
    unfold gA dotEl
    refine Finset.sum_congr rfl fun d _ => ?_
    exact congrArg₂ (· * ·) ((hv d).trans (hm_row m c t b hb p d ⟨q - 1, by omega⟩ h7 h520 (by show q - 1 + 8 = _; omega))) (e10 d)
  by_cases h1 : p.val < 8
  · have ev : ∀ d, MixBlock.vecH (place t) (gHm m c t) (ix2 p d) = gHm m c t (ix2 p d) * MixBlock.hasBefore (place t) := fun d => if_pos h1
    by_cases hj : 0 < t.val % 16
    · refine live (by omega) fun d => ?_
      rw [ev d, hbf, if_pos hj, mul_one]
    · rw [hz _ _ fun d => by rw [ev d, hbf, if_neg hj, mul_zero]]
      unfold gPad
      rw [dif_neg (by omega)]
  by_cases h2 : p.val < 520
  · refine live (by omega) fun d => ?_
    exact (if_neg h1).trans (if_pos h2)
  · have ev : ∀ d, MixBlock.vecH (place t) (gHm m c t) (ix2 p d) = gHm m c t (ix2 p d) * MixBlock.hasAfter (place t) := fun d => (if_neg h1).trans (if_neg h2)
    by_cases hj : t.val % 16 < 15
    · refine live (by omega) fun d => ?_
      rw [ev d, haf, if_pos hj, mul_one]
    · rw [hz _ _ fun d => by rw [ev d, haf, if_neg hj, mul_zero]]
      unfold gPad
      rw [dif_neg (by omega)]

/-- An activation of a grid point. -/
theorem act_row (r : Fin 512) (k : Fin 2816) (n : Fin 8192) (hn : n.val = 512 * (t.val % 16) + r.val) :
    MixBlock.vecAct (MixBlock.blkH (gHm m c t)) (MixBlock.vecH (place t) (gHm m c t)) (iblk m c 17 t) (iblk m c 18 t) (iblk m c 19 t) (ix2 r k) = actA (args m c) b n k := by
  have g0 := gate_row m c t b hb ⟨7 + r.val, by omega⟩ k n.val (by show 7 ≤ 7 + r.val; omega) (by show 7 + r.val ≤ 520; omega) (by show n.val + 7 = 512 * (t.val % 16) + (7 + r.val); omega)
  have g1 := gate_row m c t b hb ⟨8 + r.val, by omega⟩ k (n.val + 1) (by show 7 ≤ 8 + r.val; omega) (by show 8 + r.val ≤ 520; omega) (by show n.val + 1 + 7 = 512 * (t.val % 16) + (8 + r.val); omega)
  have g2 := gate_row m c t b hb ⟨9 + r.val, by omega⟩ k (n.val + 2) (by show 7 ≤ 9 + r.val; omega) (by show 9 + r.val ≤ 520; omega) (by show n.val + 2 + 7 = 512 * (t.val % 16) + (9 + r.val); omega)
  have gv : dotEl (fun d => MixBlock.blkH (gHm m c t) (ix2 r d)) (fun d => iblk m c 17 t (ix2 d ⟨k.val, by omega⟩)) = vA (args m c) b n k := by
    unfold vA dotEl
    refine Finset.sum_congr rfl fun d _ => ?_
    refine congrArg₂ (· * ·) (hm_row m c t b hb ⟨8 + r.val, by omega⟩ d n (by show 7 ≤ 8 + r.val; omega) (by show 8 + r.val ≤ 520; omega) (by show n.val + 8 = 512 * (t.val % 16) + (8 + r.val); omega)) (b17 m c t d _)
  unfold actA
  rw [← g0, ← g1, ← g2, ← gv]
  have c0 : iblk m c 18 t (ix2 0 k) = (args m c).cw (ix2 0 k) := b18 m c t 0 k
  have c1 : iblk m c 18 t (ix2 1 k) = (args m c).cw (ix2 1 k) := b18 m c t 1 k
  have c2 : iblk m c 18 t (ix2 2 k) = (args m c).cw (ix2 2 k) := b18 m c t 2 k
  have cb : iblk m c 19 t (ix2 0 k) = (args m c).cb (ix1 k) := b19 m c t k
  rw [← c0, ← c1, ← c2, ← cb]
  rfl

/-- What a grid point leaves in its output block. -/
theorem out_row (r : Fin 512) (d : Fin 1024) (n : Fin 8192) (hn : n.val = 512 * (t.val % 16) + r.val) :
    outsAt0 m c t (ix2 r d) = outA (args m c) b n d := by
  rw [out_eq m c t r d]
  unfold outA
  have e1 : (fun d => gXm m c t (ix2 ⟨8 + r.val, by omega⟩ d)) = xmA (args m c) b n :=
    funext fun d => xm_row m c t b hb ⟨8 + r.val, by omega⟩ d n (by show 7 ≤ 8 + r.val; omega) (by show 8 + r.val ≤ 520; omega) (by show n.val + 8 = 512 * (t.val % 16) + (8 + r.val); omega)
  have e2 : (fun k => MixBlock.vecAct (MixBlock.blkH (gHm m c t)) (MixBlock.vecH (place t) (gHm m c t)) (iblk m c 17 t) (iblk m c 18 t) (iblk m c 19 t) (ix2 r k)) = actA (args m c) b n :=
    funext fun k => act_row m c t b hb r k n hn
  have e3 : (fun k d => iblk m c 20 t (ix2 k d)) = fun k d => (args m c).wd (ix2 k d) := funext fun k => funext fun d => b20 m c t k d
  have e7 : (fun d => iblk m c 14 t (ix3 0 5 d)) = fun d => (args m c).mod (ix3 b 5 d) := funext fun d => b14 m c t 5 d b hb
  have e8 : (fun d => iblk m c 21 t (ix2 0 d)) = fun d => (args m c).lg (ix2 1 d) := funext fun d => b21 m c t d
  have e9 : (fun d => iblk m c 22 t (ix2 0 d)) = fun d => (args m c).lb (ix2 1 d) := funext fun d => b22 m c t d
  rw [e1, e2, e3, e7, e8, e9]
end rows

/-- The kernel's output array after the run. -/
theorem arr_eq : (dats m 0 c).arrAt 23 cfg0.N = outArr (args m c) := by
  refine (dats m 0 c).arrAt_eq_of_covers 23 _ covers fun t hf y => ?_
  blk_simp
  rw [after0_23]
  have ht : t.val < 128 := t.isLt
  have hy0 : (y 0).val < 512 := (y 0).isLt
  rw [emb23 t y]
  refine (congrArg (outsAt0 m c t) (eq_ix2 (n0 := 512) (n1 := 1024) y)).trans ?_
  refine (out_row m c t ⟨t.val / 16, by omega⟩ rfl (y 0) (y 1) ⟨512 * (t.val % 16) + (y 0).val, by omega⟩ rfl).trans ?_
  unfold outArr
  refine congrFun (congrArg₂ (outA (args m c)) (Fin.ext ?_) (Fin.ext ?_)) _
  · show t.val / 16 = (512 * t.val + (y 0).val) / 8192
    omega
  · show 512 * (t.val % 16) + (y 0).val = (512 * t.val + (y 0).val) % 8192
    omega

end Cert.GlaOut
end
-- ==== Proof.GlaRef.lean ====
module

public import proofs.«01_k».proof.Proof.Gen.GlaReferenceIdeal.Read
public import proofs.«01_k».proof.Proof.GlaArr
public import Idealize.ShloMosaic.Lib.Pointwise

@[expose] public section

set_option maxRecDepth 16384

noncomputable section

namespace Cert.GlaRef

open Idealize.ShloMosaic Cert.GlaReferenceIdeal Cert.GlaReferenceIdeal.Read Cert.MixMath Cert.MixArr Cert.GlaMath Cert.GlaArr

variable (x0 x1 : FVec Ideal S8x4x8192x256 .bf16) (x2 : FVec Ideal S65536x1024 .bf16) (x3 : FVec Ideal S256 .f32)
  (x4 : FVec Ideal S8x8192x1024 .f32) (x5 : FVec Ideal S8x6x1024 .f32)
  (x6 : FVec Ideal S1024x1024 .f32) (x7 x8 : FVec Ideal S2x1024 .f32) (x9 : FVec Ideal S1024x5632 .f32)
  (x10 : FVec Ideal S3x2816 .f32) (x11 : FVec Ideal S2816 .f32) (x12 : FVec Ideal S2816x1024 .f32)
variable (b : Fin 8) (n : Fin 8192) (d : Fin 1024) (k : Fin 2816)

theorem m2 : val_main_v28 (F := Ideal) x5 (ix3 b n d) = x5 (ix3 b 2 d) := by
  pointwise [val_main_v28, val_main_v27, val_main_v26, val_main_v21]
theorem m3 : val_main_v67 (F := Ideal) x5 (ix3 b n d) = x5 (ix3 b 3 d) := by
  pointwise [val_main_v67, val_main_v60, val_main_v59, val_main_v21]
theorem m4 : val_main_v65 (F := Ideal) x5 (ix3 b n d) = 1 + x5 (ix3 b 4 d) := by
  pointwise [val_main_v65, val_main_v64, val_main_v63, val_main_cst_8, val_main_v62, val_main_v61, val_main_v21]
theorem m5 : val_main_v102 (F := Ideal) x5 (ix3 b n d) = x5 (ix3 b 5 d) := by
  pointwise [val_main_v102, val_main_v101, val_main_v100, val_main_v21]
theorem g0 : val_main_v54 (F := Ideal) x7 (ix3 b n d) = x7 (ix2 0 d) := by
  pointwise [val_main_v54, val_main_v53, val_main_v32, val_main_v31]
theorem b0 : val_main_v57 (F := Ideal) x8 (ix3 b n d) = x8 (ix2 0 d) := by
  pointwise [val_main_v57, val_main_v56, val_main_v34, val_main_v33]
theorem g1 : val_main_v128 (F := Ideal) x7 (ix3 b n d) = x7 (ix2 1 d) := by
  pointwise [val_main_v128, val_main_v127, val_main_v106, val_main_v105]
theorem b1 : val_main_v131 (F := Ideal) x8 (ix3 b n d) = x8 (ix2 1 d) := by
  pointwise [val_main_v131, val_main_v130, val_main_v108, val_main_v107]
theorem w0 : val_main_v77 (F := Ideal) x10 (ix3 b n k) = x10 (ix2 0 k) := by
  pointwise [val_main_v77, val_main_v76, val_main_v75, val_main_v74]
theorem w1 : val_main_v82 (F := Ideal) x10 (ix3 b n k) = x10 (ix2 1 k) := by
  pointwise [val_main_v82, val_main_v81, val_main_v80, val_main_v79]
theorem w2 : val_main_v89 (F := Ideal) x10 (ix3 b n k) = x10 (ix2 2 k) := by
  pointwise [val_main_v89, val_main_v88, val_main_v87, val_main_v86]
theorem cb : val_main_v93 (F := Ideal) x11 (ix3 b n k) = x11 (ix1 k) := by
  pointwise [val_main_v93, val_main_v92]
/-- The gates, a zero row before and after them. -/
theorem padded (q : Fin 8194) : val_main_v72 (F := Ideal) x0 x1 x2 x3 x4 x5 x6 x7 x8 x9 (ix3 b q k) =
    if h : 1 ≤ q.val ∧ q.val ≤ 8192 then val_main_v71 (F := Ideal) x0 x1 x2 x3 x4 x5 x6 x7 x8 x9 (ix3 b ⟨q.val - 1, by omega⟩ k) else 0 := by
  unfold val_main_v72
  generalize val_main_v71 (F := Ideal) x0 x1 x2 x3 x4 x5 x6 x7 x8 x9 = y
  pointwise [val_main_call1_v0, val_main_c]
  have e0 : FloatOps.sitofp (F := Ideal) (w := 32) .f32 0#32 = (0 : EReal) := by
    show (((0#32 : BitVec 32).toInt : ℝ) : EReal) = 0
    simp
  by_cases h : 1 ≤ q.val ∧ q.val ≤ 8192
  · rw [dif_pos h, dif_pos (show 1 ≤ q.val ∧ q.val - 1 < 8192 by omega)]
  · rw [dif_neg h, dif_neg (show ¬(1 ≤ q.val ∧ q.val - 1 < 8192) by omega)]
    exact e0

theorem add_ops (x y : EReal) : FloatOps.addf (F := Ideal) (φ := .f32) x y = x + y := rfl
theorem sub_ops (x y : EReal) : FloatOps.subf (F := Ideal) (φ := .f32) x y = x - y := rfl
theorem mul_ops (x y : EReal) : FloatOps.mulf (F := Ideal) (φ := .f32) x y = x * y := rfl
theorem div_ops (x y : EReal) : FloatOps.hostDivf (F := Ideal) (φ := .f32) x y = Ideal.div x y := rfl
theorem rsqrt_ops (x : EReal) : FloatOps.hostUnary (F := Ideal) (φ := .f32) .rsqrt x = Ideal.rsqrt x := rfl
theorem lit_ops (w : BitVec 32) : FloatOps.ofBits (F := Ideal) .f32 w = Ideal.ofBits .f32 w := rfl
theorem zero_lit : Ideal.ofBits .f32 0x00000000#32 = (0 : EReal) := by simp

variable (h : Fin 4) (e : Fin 256) (f : Fin 1024)

theorem sum_apply : val_main_v3 (F := Ideal) x0 x1 (ix4 b n h e) = x0 (ix4 b h n e) + x1 (ix4 b h n e) := by
  pointwise [val_main_v3, val_main_v2, val_main_v1, val_main_v0]
theorem gain_apply : val_main_v15 (F := Ideal) x3 (ix4 b n h e) = x3 (ix1 e) := by
  pointwise [val_main_v15, val_main_v14]
theorem gate_apply : val_main_v18 (F := Ideal) x2 (ix4 b n h e) = x2 (ix2 ⟨8192 * b.val + n.val, by omega⟩ ⟨256 * h.val + e.val, by omega⟩) := by
  rw [val_main_v18_apply, val_main_v17_apply]
  refine congrArg x2 (funext fun a => match a with
    | ⟨0, _⟩ => Fin.ext ?_
    | ⟨1, _⟩ => Fin.ext ?_)
  · show (((b.val * 8192 + n.val) * 4 + h.val) * 256 + e.val) / 1024 = 8192 * b.val + n.val
    omega
  · show (((b.val * 8192 + n.val) * 4 + h.val) * 256 + e.val) % 1024 = 256 * h.val + e.val
    omega

theorem head_i6 : idx_main_v6 (ix4 b n h (0 : Fin 1)) = ix3 b n h := funext fun a => match a with | ⟨0, _⟩ => rfl | ⟨1, _⟩ => rfl | ⟨2, _⟩ => rfl
theorem head_i5 : idx_main_v5 (ix3 b n h) e = ix4 b n h e := funext fun a => match a with | ⟨0, _⟩ => rfl | ⟨1, _⟩ => rfl | ⟨2, _⟩ => rfl | ⟨3, _⟩ => rfl
theorem head_i12 : idx_main_v12 (ix4 b n h e) = ix4 b n h (0 : Fin 1) := funext fun a => match a with | ⟨0, _⟩ => rfl | ⟨1, _⟩ => rfl | ⟨2, _⟩ => rfl | ⟨3, _⟩ => rfl

/-- One over the root of the mean of a head's squares. -/
theorem rms_apply : val_main_v11 (F := Ideal) x0 x1 (ix4 b n h (0 : Fin 1)) =
    Ideal.rsqrt (Ideal.div (∑ e, (x0 (ix4 b h n e) + x1 (ix4 b h n e)) * (x0 (ix4 b h n e) + x1 (ix4 b h n e))) (Ideal.ofBits .f32 0x43800000#32) + Ideal.ofBits .f32 0x3727C5AC#32) := by
  rw [val_main_v11_apply, val_main_v10_apply, val_main_v8_apply, val_main_v6_apply, head_i6, val_main_v5_apply, val_main_cst_apply, val_main_v7_apply, val_main_cst_0_apply,
    val_main_v9_apply, val_main_cst_1_apply, rsqrt_ops, add_ops, div_ops, lit_ops, lit_ops, lit_ops, zero_lit, zero_add]
  simp only [head_i5, val_main_v4_apply, sum_apply, mul_ops]

theorem one_bits : Ideal.ofBits .f32 0x3F800000#32 = (1 : EReal) := by simp

/-- One channel of a gated head. -/
theorem gated_apply : val_main_v20 (F := Ideal) x0 x1 x2 x3 (ix4 b n h e) =
    gatedEl (fun e => x0 (ix4 b h n e) + x1 (ix4 b h n e)) (fun e => x3 (ix1 e)) (x2 (ix2 ⟨8192 * b.val + n.val, by omega⟩ ⟨256 * h.val + e.val, by omega⟩)) e := by
  rw [val_main_v20_apply, val_main_v16_apply, val_main_v13_apply, val_main_v12_apply, head_i12, rms_apply, sum_apply, gain_apply, val_main_v19_apply, val_main_call0_v5_apply,
    val_main_call0_v4_apply, val_main_call0_cst_0_apply, val_main_call0_v3_apply, val_main_call0_v2_apply, val_main_call0_cst_apply, val_main_call0_v1_apply,
    val_main_call0_v0_apply, gate_apply, lit_ops, one_bits]
  rfl

/-- The gated heads of a token, side by side. -/
theorem row_apply : val_main_v22 (F := Ideal) x0 x1 x2 x3 (ix3 b n f) = gatedArr x0 x1 x2 x3 (ix3 b f n) := by
  rw [val_main_v22_apply]
  refine (congrArg (val_main_v20 (F := Ideal) x0 x1 x2 x3)
    (?_ : _ = ix4 (n0 := 8) (n1 := 8192) (n2 := 4) (n3 := 256) b n ⟨f.val / 256, by omega⟩ ⟨f.val % 256, by omega⟩)).trans ?_
  · refine funext fun a => match a with
      | ⟨0, _⟩ => Fin.ext ?_
      | ⟨1, _⟩ => Fin.ext ?_
      | ⟨2, _⟩ => Fin.ext ?_
      | ⟨3, _⟩ => Fin.ext ?_
    · show ((b.val * 8192 + n.val) * 1024 + f.val) / 8388608 = b.val
      omega
    · show ((b.val * 8192 + n.val) * 1024 + f.val) / 1024 % 8192 = n.val
      omega
    · show ((b.val * 8192 + n.val) * 1024 + f.val) / 256 % 4 = f.val / 256
      omega
    · show ((b.val * 8192 + n.val) * 1024 + f.val) % 256 = f.val % 256
      omega
  · refine (gated_apply x0 x1 x2 x3 b n _ _).trans ?_
    have ef : (⟨256 * (f.val / 256) + f.val % 256, by omega⟩ : Fin 1024) = f := Fin.ext (by show 256 * (f.val / 256) + f.val % 256 = f.val; omega)
    exact congrArg (fun u : Fin 1024 => gatedEl (fun e => x0 (ix4 b ⟨f.val / 256, by omega⟩ n e) + x1 (ix4 b ⟨f.val / 256, by omega⟩ n e)) (fun e => x3 (ix1 e)) (x2 (ix2 ⟨8192 * b.val + n.val, by omega⟩ u)) ⟨f.val % 256, by omega⟩) ef

theorem res0 : val_main_v30 (F := Ideal) x0 x1 x2 x3 x4 x5 x6 (ix3 b n d) =
    resEl (fun d => x4 (ix3 b n d)) (fun d => x5 (ix3 b 2 d)) (fun d => ∑ f, gatedArr x0 x1 x2 x3 (ix3 b f n) * x6 (ix2 f d)) d := by
  rw [val_main_v30_apply, val_main_v29_apply, m2, val_main_v25_apply, val_main_v24_apply, val_main_cst_2_apply, val_main_v23_apply, add_ops, mul_ops, mul_ops, lit_ops]
  unfold resEl
  refine congrArg (fun u => alpha * x4 (ix3 b n d) + x5 (ix3 b 2 d) * u) ?_
  refine Finset.sum_congr rfl fun f _ => congrArg₂ (· * ·) ?_ ?_
  · refine (congrArg (val_main_v22 (F := Ideal) x0 x1 x2 x3) ?_).trans (row_apply x0 x1 x2 x3 b n f)
    exact funext fun a => match a with | ⟨0, _⟩ => rfl | ⟨1, _⟩ => rfl | ⟨2, _⟩ => rfl
  · exact congrArg x6 (funext fun a => match a with | ⟨0, _⟩ => rfl | ⟨1, _⟩ => rfl)

theorem first_i15 : idx_main_v36 (ix3 b n (0 : Fin 1)) = ix2 b n := funext fun a => match a with | ⟨0, _⟩ => rfl | ⟨1, _⟩ => rfl
theorem first_i22 : idx_main_v43 (ix3 b n (0 : Fin 1)) = ix2 b n := funext fun a => match a with | ⟨0, _⟩ => rfl | ⟨1, _⟩ => rfl
theorem first_i14 : idx_main_v35 (ix2 b n) d = ix3 b n d := funext fun a => match a with | ⟨0, _⟩ => rfl | ⟨1, _⟩ => rfl | ⟨2, _⟩ => rfl
theorem first_i21 : idx_main_v42 (ix2 b n) d = ix3 b n d := funext fun a => match a with | ⟨0, _⟩ => rfl | ⟨1, _⟩ => rfl | ⟨2, _⟩ => rfl
theorem first_i18 : idx_main_v39 (ix3 b n d) = ix3 b n (0 : Fin 1) := funext fun a => match a with | ⟨0, _⟩ => rfl | ⟨1, _⟩ => rfl | ⟨2, _⟩ => rfl
theorem first_i25 : idx_main_v46 (ix3 b n d) = ix3 b n (0 : Fin 1) := funext fun a => match a with | ⟨0, _⟩ => rfl | ⟨1, _⟩ => rfl | ⟨2, _⟩ => rfl
theorem first_i30 : idx_main_v51 (ix3 b n d) = ix3 b n (0 : Fin 1) := funext fun a => match a with | ⟨0, _⟩ => rfl | ⟨1, _⟩ => rfl | ⟨2, _⟩ => rfl

/-- The mean of a row. -/
theorem first_mean : val_main_v38 (F := Ideal) x0 x1 x2 x3 x4 x5 x6 (ix3 b n (0 : Fin 1)) = meanEl (fun d => val_main_v30 (F := Ideal) x0 x1 x2 x3 x4 x5 x6 (ix3 b n d)) := by
  rw [val_main_v38_apply, val_main_v36_apply, first_i15, val_main_v35_apply, val_main_cst_3_apply, val_main_v37_apply, val_main_cst_4_apply,
    div_ops, lit_ops, lit_ops, zero_lit, zero_add]
  simp only [first_i14]
  rfl

/-- The mean of the squared deviations of a row. -/
theorem first_var : val_main_v45 (F := Ideal) x0 x1 x2 x3 x4 x5 x6 (ix3 b n (0 : Fin 1)) =
    meanEl (fun d => (val_main_v30 (F := Ideal) x0 x1 x2 x3 x4 x5 x6 (ix3 b n d) - meanEl (fun d => val_main_v30 (F := Ideal) x0 x1 x2 x3 x4 x5 x6 (ix3 b n d))) *
      (val_main_v30 (F := Ideal) x0 x1 x2 x3 x4 x5 x6 (ix3 b n d) - meanEl (fun d => val_main_v30 (F := Ideal) x0 x1 x2 x3 x4 x5 x6 (ix3 b n d)))) := by
  rw [val_main_v45_apply, val_main_v43_apply, first_i22, val_main_v42_apply, val_main_cst_5_apply, val_main_v44_apply, val_main_cst_6_apply,
    div_ops, lit_ops, lit_ops, zero_lit, zero_add]
  unfold meanEl
  refine congrArg (fun u => Ideal.div u _) (Finset.sum_congr rfl fun d _ => ?_)
  rw [first_i21, val_main_v41_apply, val_main_v40_apply, val_main_v39_apply, first_i18, first_mean, mul_ops, sub_ops]
  rfl

/-- A row after the layer norm. -/
theorem first_apply : val_main_v58 (F := Ideal) x0 x1 x2 x3 x4 x5 x6 x7 x8 (ix3 b n d) =
    normEl (fun d => val_main_v30 (F := Ideal) x0 x1 x2 x3 x4 x5 x6 (ix3 b n d)) (fun d => x7 (ix2 0 d)) (fun d => x8 (ix2 0 d)) d := by
  rw [val_main_v58_apply, val_main_v55_apply, g0, b0, val_main_v52_apply, val_main_v51_apply, first_i30, val_main_v50_apply, val_main_v49_apply,
    val_main_v48_apply, val_main_cst_7_apply, first_var, val_main_v47_apply, val_main_v46_apply, first_i25, first_mean, add_ops, add_ops, mul_ops, mul_ops, sub_ops,
    rsqrt_ops, lit_ops]
  rfl

/-- The arguments as one. -/
def args : Args := ⟨gatedArr x0 x1 x2 x3, x4, x5, x6, x7, x8, x9, x10, x11, x12⟩

theorem xm_apply : val_main_v58 (F := Ideal) x0 x1 x2 x3 x4 x5 x6 x7 x8 (ix3 b n d) = xmA (args x0 x1 x2 x3 x4 x5 x6 x7 x8 x9 x10 x11 x12) b n d := by
  rw [first_apply]
  unfold xmA xmEl
  refine congrArg (fun v => normEl v _ _ d) (funext fun d => ?_)
  exact res0 x0 x1 x2 x3 x4 x5 x6 b n d

theorem h_apply : val_main_v68 (F := Ideal) x0 x1 x2 x3 x4 x5 x6 x7 x8 (ix3 b n d) = hA (args x0 x1 x2 x3 x4 x5 x6 x7 x8 x9 x10 x11 x12) b n d := by
  rw [val_main_v68_apply, val_main_v66_apply, m3, m4, xm_apply x0 x1 x2 x3 x4 x5 x6 x7 x8 x9 x10 x11 x12]
  rfl

theorem up_apply (c : Fin 5632) : val_main_v69 (F := Ideal) x0 x1 x2 x3 x4 x5 x6 x7 x8 x9 (ix3 b n c) =
    dotEl (hA (args x0 x1 x2 x3 x4 x5 x6 x7 x8 x9 x10 x11 x12) b n) (fun d => x9 (ix2 d c)) := by
  rw [val_main_v69_apply]
  unfold dotEl
  refine Finset.sum_congr rfl fun d _ => congrArg₂ (· * ·) ?_ ?_
  · refine (congrArg (val_main_v68 (F := Ideal) x0 x1 x2 x3 x4 x5 x6 x7 x8) ?_).trans (h_apply x0 x1 x2 x3 x4 x5 x6 x7 x8 x9 x10 x11 x12 b n d)
    exact funext fun a => match a with | ⟨0, _⟩ => rfl | ⟨1, _⟩ => rfl | ⟨2, _⟩ => rfl
  · exact congrArg x9 (funext fun a => match a with | ⟨0, _⟩ => rfl | ⟨1, _⟩ => rfl)

theorem v_apply : val_main_v70 (F := Ideal) x0 x1 x2 x3 x4 x5 x6 x7 x8 x9 (ix3 b n k) = vA (args x0 x1 x2 x3 x4 x5 x6 x7 x8 x9 x10 x11 x12) b n k := by
  rw [val_main_v70_apply]
  refine (congrArg (val_main_v69 (F := Ideal) x0 x1 x2 x3 x4 x5 x6 x7 x8 x9) ?_).trans (up_apply x0 x1 x2 x3 x4 x5 x6 x7 x8 x9 x10 x11 x12 b n ⟨k.val, by omega⟩)
  exact funext fun a => match a with | ⟨0, _⟩ => rfl | ⟨1, _⟩ => rfl | ⟨2, _⟩ => rfl

theorem g_apply : val_main_v71 (F := Ideal) x0 x1 x2 x3 x4 x5 x6 x7 x8 x9 (ix3 b n k) = gA (args x0 x1 x2 x3 x4 x5 x6 x7 x8 x9 x10 x11 x12) b n k := by
  rw [val_main_v71_apply]
  refine (congrArg (val_main_v69 (F := Ideal) x0 x1 x2 x3 x4 x5 x6 x7 x8 x9) ?_).trans (up_apply x0 x1 x2 x3 x4 x5 x6 x7 x8 x9 x10 x11 x12 b n ⟨2816 + k.val, by omega⟩)
  exact funext fun a => match a with | ⟨0, _⟩ => rfl | ⟨1, _⟩ => rfl | ⟨2, _⟩ => rfl

theorem pad_gate (q : Fin 8194) : val_main_v72 (F := Ideal) x0 x1 x2 x3 x4 x5 x6 x7 x8 x9 (ix3 b q k) = gPad (args x0 x1 x2 x3 x4 x5 x6 x7 x8 x9 x10 x11 x12) b q.val k := by
  rw [padded]
  unfold gPad
  by_cases h : 1 ≤ q.val ∧ q.val ≤ 8192
  · rw [dif_pos h, dif_pos h, g_apply x0 x1 x2 x3 x4 x5 x6 x7 x8 x9 x10 x11 x12]
  · rw [dif_neg h, dif_neg h]

theorem before_gate : val_main_v73 (F := Ideal) x0 x1 x2 x3 x4 x5 x6 x7 x8 x9 (ix3 b n k) = gPad (args x0 x1 x2 x3 x4 x5 x6 x7 x8 x9 x10 x11 x12) b n.val k := by
  rw [val_main_v73_apply]
  refine (congrArg (val_main_v72 (F := Ideal) x0 x1 x2 x3 x4 x5 x6 x7 x8 x9) ?_).trans (pad_gate x0 x1 x2 x3 x4 x5 x6 x7 x8 x9 x10 x11 x12 b k ⟨n.val, by omega⟩)
  exact funext fun a => match a with | ⟨0, _⟩ => rfl | ⟨1, _⟩ => rfl | ⟨2, _⟩ => rfl

theorem own_gate : val_main_v71 (F := Ideal) x0 x1 x2 x3 x4 x5 x6 x7 x8 x9 (ix3 b n k) = gPad (args x0 x1 x2 x3 x4 x5 x6 x7 x8 x9 x10 x11 x12) b (n.val + 1) k := by
  rw [g_apply x0 x1 x2 x3 x4 x5 x6 x7 x8 x9 x10 x11 x12]
  unfold gPad
  rw [dif_pos (show 1 ≤ n.val + 1 ∧ n.val + 1 ≤ 8192 by omega)]
  rfl

theorem after_gate : val_main_v85 (F := Ideal) x0 x1 x2 x3 x4 x5 x6 x7 x8 x9 (ix3 b n k) = gPad (args x0 x1 x2 x3 x4 x5 x6 x7 x8 x9 x10 x11 x12) b (n.val + 2) k := by
  rw [val_main_v85_apply]
  refine (congrArg (val_main_v72 (F := Ideal) x0 x1 x2 x3 x4 x5 x6 x7 x8 x9) ?_).trans ((pad_gate x0 x1 x2 x3 x4 x5 x6 x7 x8 x9 x10 x11 x12 b k ⟨2 + n.val, by omega⟩).trans ?_)
  · exact funext fun a => match a with | ⟨0, _⟩ => rfl | ⟨1, _⟩ => rfl | ⟨2, _⟩ => rfl
  · exact congrArg (fun q => gPad (args x0 x1 x2 x3 x4 x5 x6 x7 x8 x9 x10 x11 x12) b q k) (Nat.add_comm 2 n.val)

theorem conv_apply : val_main_v94 (F := Ideal) x0 x1 x2 x3 x4 x5 x6 x7 x8 x9 x10 x11 (ix3 b n k) =
    convEl (gPad (args x0 x1 x2 x3 x4 x5 x6 x7 x8 x9 x10 x11 x12) b n.val k) (gPad (args x0 x1 x2 x3 x4 x5 x6 x7 x8 x9 x10 x11 x12) b (n.val + 1) k)
      (gPad (args x0 x1 x2 x3 x4 x5 x6 x7 x8 x9 x10 x11 x12) b (n.val + 2) k) (x10 (ix2 0 k)) (x10 (ix2 1 k)) (x10 (ix2 2 k)) (x11 (ix1 k)) := by
  rw [val_main_v94_apply, val_main_v91_apply, val_main_v90_apply, val_main_v84_apply, val_main_v83_apply, val_main_v78_apply, w0, w1, w2, cb,
    before_gate x0 x1 x2 x3 x4 x5 x6 x7 x8 x9 x10 x11 x12, own_gate x0 x1 x2 x3 x4 x5 x6 x7 x8 x9 x10 x11 x12, after_gate x0 x1 x2 x3 x4 x5 x6 x7 x8 x9 x10 x11 x12]
  simp only [add_ops, mul_ops]
  unfold convEl
  rw [mul_comm _ (x10 (ix2 0 k)), mul_comm _ (x10 (ix2 1 k)), mul_comm _ (x10 (ix2 2 k))]

theorem one_lit : Ideal.ofBits .f32 0x3F800000#32 = (1 : EReal) := by simp

theorem act_apply : val_main_v96 (F := Ideal) x0 x1 x2 x3 x4 x5 x6 x7 x8 x9 x10 x11 (ix3 b n k) = actA (args x0 x1 x2 x3 x4 x5 x6 x7 x8 x9 x10 x11 x12) b n k := by
  rw [val_main_v96_apply, val_main_v95_apply, val_main_call2_v5_apply, val_main_call2_v4_apply, val_main_call2_cst_0_apply, val_main_call2_v3_apply,
    val_main_call2_v2_apply, val_main_call2_cst_apply, val_main_call2_v1_apply, val_main_call2_v0_apply, conv_apply x0 x1 x2 x3 x4 x5 x6 x7 x8 x9 x10 x11 x12,
    v_apply x0 x1 x2 x3 x4 x5 x6 x7 x8 x9 x10 x11 x12, lit_ops, one_lit]
  rfl

theorem res1 : val_main_v104 (F := Ideal) x0 x1 x2 x3 x4 x5 x6 x7 x8 x9 x10 x11 x12 (ix3 b n d) =
    resEl (xmA (args x0 x1 x2 x3 x4 x5 x6 x7 x8 x9 x10 x11 x12) b n) (fun d => x5 (ix3 b 5 d))
      (fun d => ∑ k, actA (args x0 x1 x2 x3 x4 x5 x6 x7 x8 x9 x10 x11 x12) b n k * x12 (ix2 k d)) d := by
  rw [val_main_v104_apply, val_main_v103_apply, m5, val_main_v99_apply, val_main_v98_apply, val_main_cst_9_apply, xm_apply x0 x1 x2 x3 x4 x5 x6 x7 x8 x9 x10 x11 x12,
    val_main_v97_apply, add_ops, mul_ops, mul_ops, lit_ops]
  unfold resEl
  refine congrArg (fun u => alpha * xmA (args x0 x1 x2 x3 x4 x5 x6 x7 x8 x9 x10 x11 x12) b n d + x5 (ix3 b 5 d) * u) ?_
  refine Finset.sum_congr rfl fun k _ => congrArg₂ (· * ·) ?_ ?_
  · refine (congrArg (val_main_v96 (F := Ideal) x0 x1 x2 x3 x4 x5 x6 x7 x8 x9 x10 x11) ?_).trans (act_apply x0 x1 x2 x3 x4 x5 x6 x7 x8 x9 x10 x11 x12 b n k)
    exact funext fun a => match a with | ⟨0, _⟩ => rfl | ⟨1, _⟩ => rfl | ⟨2, _⟩ => rfl
  · exact congrArg x12 (funext fun a => match a with | ⟨0, _⟩ => rfl | ⟨1, _⟩ => rfl)

theorem last_i15 : idx_main_v110 (ix3 b n (0 : Fin 1)) = ix2 b n := funext fun a => match a with | ⟨0, _⟩ => rfl | ⟨1, _⟩ => rfl
theorem last_i22 : idx_main_v117 (ix3 b n (0 : Fin 1)) = ix2 b n := funext fun a => match a with | ⟨0, _⟩ => rfl | ⟨1, _⟩ => rfl
theorem last_i14 : idx_main_v109 (ix2 b n) d = ix3 b n d := funext fun a => match a with | ⟨0, _⟩ => rfl | ⟨1, _⟩ => rfl | ⟨2, _⟩ => rfl
theorem last_i21 : idx_main_v116 (ix2 b n) d = ix3 b n d := funext fun a => match a with | ⟨0, _⟩ => rfl | ⟨1, _⟩ => rfl | ⟨2, _⟩ => rfl
theorem last_i18 : idx_main_v113 (ix3 b n d) = ix3 b n (0 : Fin 1) := funext fun a => match a with | ⟨0, _⟩ => rfl | ⟨1, _⟩ => rfl | ⟨2, _⟩ => rfl
theorem last_i25 : idx_main_v120 (ix3 b n d) = ix3 b n (0 : Fin 1) := funext fun a => match a with | ⟨0, _⟩ => rfl | ⟨1, _⟩ => rfl | ⟨2, _⟩ => rfl
theorem last_i30 : idx_main_v125 (ix3 b n d) = ix3 b n (0 : Fin 1) := funext fun a => match a with | ⟨0, _⟩ => rfl | ⟨1, _⟩ => rfl | ⟨2, _⟩ => rfl

/-- The mean of a row. -/
theorem last_mean : val_main_v112 (F := Ideal) x0 x1 x2 x3 x4 x5 x6 x7 x8 x9 x10 x11 x12 (ix3 b n (0 : Fin 1)) = meanEl (fun d => val_main_v104 (F := Ideal) x0 x1 x2 x3 x4 x5 x6 x7 x8 x9 x10 x11 x12 (ix3 b n d)) := by
  rw [val_main_v112_apply, val_main_v110_apply, last_i15, val_main_v109_apply, val_main_cst_10_apply, val_main_v111_apply, val_main_cst_11_apply,
    div_ops, lit_ops, lit_ops, zero_lit, zero_add]
  simp only [last_i14]
  rfl

/-- The mean of the squared deviations of a row. -/
theorem last_var : val_main_v119 (F := Ideal) x0 x1 x2 x3 x4 x5 x6 x7 x8 x9 x10 x11 x12 (ix3 b n (0 : Fin 1)) =
    meanEl (fun d => (val_main_v104 (F := Ideal) x0 x1 x2 x3 x4 x5 x6 x7 x8 x9 x10 x11 x12 (ix3 b n d) - meanEl (fun d => val_main_v104 (F := Ideal) x0 x1 x2 x3 x4 x5 x6 x7 x8 x9 x10 x11 x12 (ix3 b n d))) *
      (val_main_v104 (F := Ideal) x0 x1 x2 x3 x4 x5 x6 x7 x8 x9 x10 x11 x12 (ix3 b n d) - meanEl (fun d => val_main_v104 (F := Ideal) x0 x1 x2 x3 x4 x5 x6 x7 x8 x9 x10 x11 x12 (ix3 b n d)))) := by
  rw [val_main_v119_apply, val_main_v117_apply, last_i22, val_main_v116_apply, val_main_cst_12_apply, val_main_v118_apply, val_main_cst_13_apply,
    div_ops, lit_ops, lit_ops, zero_lit, zero_add]
  unfold meanEl
  refine congrArg (fun u => Ideal.div u _) (Finset.sum_congr rfl fun d _ => ?_)
  rw [last_i21, val_main_v115_apply, val_main_v114_apply, val_main_v113_apply, last_i18, last_mean, mul_ops, sub_ops]
  rfl

/-- A row after the layer norm. -/
theorem last_apply : val_main_v132 (F := Ideal) x0 x1 x2 x3 x4 x5 x6 x7 x8 x9 x10 x11 x12 (ix3 b n d) =
    normEl (fun d => val_main_v104 (F := Ideal) x0 x1 x2 x3 x4 x5 x6 x7 x8 x9 x10 x11 x12 (ix3 b n d)) (fun d => x7 (ix2 1 d)) (fun d => x8 (ix2 1 d)) d := by
  rw [val_main_v132_apply, val_main_v129_apply, g1, b1, val_main_v126_apply, val_main_v125_apply, last_i30, val_main_v124_apply, val_main_v123_apply,
    val_main_v122_apply, val_main_cst_14_apply, last_var, val_main_v121_apply, val_main_v120_apply, last_i25, last_mean, add_ops, add_ops, mul_ops, mul_ops, sub_ops,
    rsqrt_ops, lit_ops]
  rfl

/-- The reference's result. -/
theorem out_eq : val_main_v133 (F := Ideal) x0 x1 x2 x3 x4 x5 x6 x7 x8 x9 x10 x11 x12 = outArr (args x0 x1 x2 x3 x4 x5 x6 x7 x8 x9 x10 x11 x12) := by
  funext y
  have h0 : (y 0).val < 65536 := (y 0).isLt
  have h1 : (y 1).val < 1024 := (y 1).isLt
  rw [val_main_v133_apply]
  refine (congrArg (val_main_v132 (F := Ideal) x0 x1 x2 x3 x4 x5 x6 x7 x8 x9 x10 x11 x12)
    (?_ : _ = ix3 (n0 := 8) (n1 := 8192) (n2 := 1024) ⟨(y 0).val / 8192, by omega⟩ ⟨(y 0).val % 8192, by omega⟩ (y 1))).trans ?_
  · refine funext fun a => match a with
      | ⟨0, _⟩ => Fin.ext ?_
      | ⟨1, _⟩ => Fin.ext ?_
      | ⟨2, _⟩ => Fin.ext ?_
    · show ((y 0).val * 1024 + (y 1).val) / 8388608 = (y 0).val / 8192
      omega
    · show ((y 0).val * 1024 + (y 1).val) / 1024 % 8192 = (y 0).val % 8192
      omega
    · show ((y 0).val * 1024 + (y 1).val) % 1024 = (y 1).val
      omega
  refine (last_apply x0 x1 x2 x3 x4 x5 x6 x7 x8 x9 x10 x11 x12 _ _ _).trans ?_
  unfold outArr outA outEl
  refine congrArg (fun v => normEl v _ _ (y 1)) (funext fun d => ?_)
  exact res1 x0 x1 x2 x3 x4 x5 x6 x7 x8 x9 x10 x11 x12 _ _ d

end Cert.GlaRef
end
-- ==== Proof.GlaClaim.lean ====
module

public import proofs.«01_k».proof.Defs
public import proofs.«01_k».proof.Proof.GlaOut
public import proofs.«01_k».proof.Proof.GlaRef
public import proofs.«01_k».proof.Proof.GlaValueIdeal
public import Idealize.ShloMosaic.Adequacy
public import Idealize.ShloMosaic.Init

@[expose] public section

noncomputable section

namespace Cert.GlaClaim

open Idealize.ShloMosaic Idealize.SL.Sem Idealize.ShloMosaic.StableHlo

/-- The reference of the mixing step after a scan of four heads terminates and leaves its arguments and the counters as they were. -/
theorem frame_ri : Cert.quiescent_GlaReferenceIdeal := fun m ρ _ =>
  (θ_run Cert.GlaReferenceIdeal.defs _ _).mono (fun r h => ⟨fun c => (h c).2, Idealize.ShloMosaic.sem_eq_zero_of_no_sems (by decide) r.2⟩)
    (Cert.GlaReferenceIdeal.Value.run (F := Ideal) m ρ)

/-- The kernel and the reference of the mixing step after a scan of four heads end with the same array, from arguments that agree. -/
theorem algebraic : Cert.algebraic_GlaIdeal_GlaReferenceIdeal := by
  intro m ρ m' ρ' _ hagree
  refine ⟨fun c => (Cert.GlaIdeal.Gen.dats m 0 c).arrAt 23 Cert.GlaIdeal.cfg0.N, Cert.GlaIdeal.Value.run_blocks (F := Ideal) m ρ, ?_⟩
  refine (θ_run Cert.GlaReferenceIdeal.defs _ _).mono (fun r h c => ⟨(h c).1.trans ?_, (h c).2⟩)
    (Cert.GlaReferenceIdeal.Value.run (F := Ideal) m' ρ')
  obtain ⟨e0, e1, e2, e3, e4, e5, e6, e7, e8, e9, e10, e11, e12⟩ := hagree c
  refine (Cert.GlaReferenceIdeal.Read.val_main_v133_eq (launchContents m' c)).trans ?_
  have a0 : launchContents m' c (Proc.devRef .tc Cert.GlaReferenceIdeal.main_arg0) = _ := e0
  have a1 : launchContents m' c (Proc.devRef .tc Cert.GlaReferenceIdeal.main_arg1) = _ := e1
  have a2 : launchContents m' c (Proc.devRef .tc Cert.GlaReferenceIdeal.main_arg2) = _ := e2
  have a3 : launchContents m' c (Proc.devRef .tc Cert.GlaReferenceIdeal.main_arg3) = _ := e3
  have a4 : launchContents m' c (Proc.devRef .tc Cert.GlaReferenceIdeal.main_arg4) = _ := e4
  have a5 : launchContents m' c (Proc.devRef .tc Cert.GlaReferenceIdeal.main_arg5) = _ := e5
  have a6 : launchContents m' c (Proc.devRef .tc Cert.GlaReferenceIdeal.main_arg6) = _ := e6
  have a7 : launchContents m' c (Proc.devRef .tc Cert.GlaReferenceIdeal.main_arg7) = _ := e7
  have a8 : launchContents m' c (Proc.devRef .tc Cert.GlaReferenceIdeal.main_arg8) = _ := e8
  have a9 : launchContents m' c (Proc.devRef .tc Cert.GlaReferenceIdeal.main_arg9) = _ := e9
  have a10 : launchContents m' c (Proc.devRef .tc Cert.GlaReferenceIdeal.main_arg10) = _ := e10
  have a11 : launchContents m' c (Proc.devRef .tc Cert.GlaReferenceIdeal.main_arg11) = _ := e11
  have a12 : launchContents m' c (Proc.devRef .tc Cert.GlaReferenceIdeal.main_arg12) = _ := e12
  rw [a0, a1, a2, a3, a4, a5, a6, a7, a8, a9, a10, a11, a12]
  exact (Cert.GlaRef.out_eq _ _ _ _ _ _ _ _ _ _ _ _ _).trans (Cert.GlaOut.arr_eq m c).symm

end Cert.GlaClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.KernelIdeal.Value
public import proofs.«01_k».proof.Proof.Gen.MixIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Gdn
public import proofs.«01_k».proof.Proof.Gen.Gdn.Skeleton
public import proofs.«01_k».proof.Proof.Gen.Gdn.Launch
public import proofs.«01_k».proof.Proof.Gen.Gdn.Points
public import proofs.«01_k».proof.Proof.Gen.Gdn.Frame
public import proofs.«01_k».proof.Proof.Gen.GdnIdeal
public import proofs.«01_k».proof.Proof.Gen.GdnIdeal.Skeleton
public import proofs.«01_k».proof.Proof.Gen.GdnIdeal.Launch
public import proofs.«01_k».proof.Proof.Gen.GdnIdeal.Points
public import proofs.«01_k».proof.Proof.Gen.GdnIdeal.Frame
public import proofs.«01_k».proof.Proof.Gen.GdnIdeal.Value
public import proofs.«01_k».proof.Proof.Gen.GdnReferenceIdeal
public import proofs.«01_k».proof.Proof.Gen.GdnReferenceIdeal.Run
public import proofs.«01_k».proof.Proof.Gen.GdnReferenceIdeal.Read
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.GlaFrame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.GlaFrameIdeal
public import proofs.«01_k».proof.Proof.GlaValueIdeal
public import proofs.«01_k».proof.Proof.Gen.GlaReferenceIdeal
public import proofs.«01_k».proof.Proof.Gen.GlaReferenceIdeal.Run
public import proofs.«01_k».proof.Proof.Gen.GlaReferenceIdeal.Read
public import proofs.«01_k».proof.Proof.AttnClaim
public import proofs.«01_k».proof.Proof.MixClaim
public import proofs.«01_k».proof.Proof.GdnClaim
public import proofs.«01_k».proof.Proof.GlaClaim
public import Idealize.ShloMosaic.Adequacy
public import Idealize.ShloMosaic.Init

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts, Cert.Mix.Gen.facts, Cert.MixIdeal.Gen.facts,
    Cert.MixReferenceIdeal.Gen.facts, Cert.Gdn.Gen.facts, Cert.GdnIdeal.Gen.facts, Cert.GdnReferenceIdeal.Gen.facts,
    Cert.Gla.Gen.facts, Cert.GlaIdeal.Gen.facts, Cert.GlaReferenceIdeal.Gen.facts, Cert.AttnClaim.facts,
    fun m ρ _ => Cert.Kernel.Gen.frame m ρ, fun m ρ _ => Cert.KernelIdeal.Gen.frame m ρ, fun m ρ _ => Cert.KernelIdeal.Gen.frame m ρ,
    Cert.AttnClaim.frame_ri, fun m ρ _ => Cert.AttnClaim.frame_ri m ρ trivial,
    fun m ρ _ => Cert.Mix.Gen.frame m ρ, fun m ρ _ => Cert.MixIdeal.Gen.frame m ρ, Cert.MixClaim.frame_ri,
    fun m ρ _ => Cert.Gdn.Gen.frame m ρ, fun m ρ _ => Cert.GdnIdeal.Gen.frame m ρ, Cert.GdnClaim.frame_ri,
    fun m ρ _ => Cert.Gla.Gen.frame m ρ, fun m ρ _ => Cert.GlaIdeal.Gen.frame m ρ, Cert.GlaClaim.frame_ri,
    Cert.AttnClaim.preserves, Cert.AttnClaim.algebraic, trivial, Cert.MixClaim.algebraic, trivial, Cert.GdnClaim.algebraic,
    trivial, Cert.GlaClaim.algebraic⟩

end Cert.Proof

end
